-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Yp (m : (ℓ : Loc Cert.Yp.nD Cert.Yp.τ Cert.Yp.sig) → Buf (Elt Bits) ℓ) : Prop :=
  True

def Pre_YpIdeal (m : (ℓ : Loc Cert.YpIdeal.nD Cert.YpIdeal.τ Cert.YpIdeal.sig) → Buf (Elt Ideal) ℓ) : Prop :=
  True

def Pre_YpRefIdeal (m : (ℓ : Loc Cert.YpRefIdeal.nD Cert.YpRefIdeal.τ Cert.YpRefIdeal.sig) → Buf (Elt Ideal) ℓ) : Prop :=
  True

def Pre_Ys (m : (ℓ : Loc Cert.Ys.nD Cert.Ys.τ Cert.Ys.sig) → Buf (Elt Bits) ℓ) : Prop :=
  True

def Pre_YsIdeal (m : (ℓ : Loc Cert.YsIdeal.nD Cert.YsIdeal.τ Cert.YsIdeal.sig) → Buf (Elt Ideal) ℓ) : Prop :=
  True

def Pre_YsRefIdeal (m : (ℓ : Loc Cert.YsRefIdeal.nD Cert.YsRefIdeal.τ Cert.YsRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Ql (m : (ℓ : Loc Cert.Ql.nD Cert.Ql.τ Cert.Ql.sig) → Buf (Elt Bits) ℓ) : Prop :=
  True

def Pre_QlIdeal (m : (ℓ : Loc Cert.QlIdeal.nD Cert.QlIdeal.τ Cert.QlIdeal.sig) → Buf (Elt Ideal) ℓ) : Prop :=
  True

def Pre_QlRefIdeal (m : (ℓ : Loc Cert.QlRefIdeal.nD Cert.QlRefIdeal.τ Cert.QlRefIdeal.sig) → Buf (Elt Ideal) ℓ) : Prop :=
  True

def Pre_Vup (m : (ℓ : Loc Cert.Vup.nD Cert.Vup.τ Cert.Vup.sig) → Buf (Elt Bits) ℓ) : Prop :=
  True

def Pre_VupIdeal (m : (ℓ : Loc Cert.VupIdeal.nD Cert.VupIdeal.τ Cert.VupIdeal.sig) → Buf (Elt Ideal) ℓ) : Prop :=
  True

def Pre_VupRefIdeal (m : (ℓ : Loc Cert.VupRefIdeal.nD Cert.VupRefIdeal.τ Cert.VupRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Scp (m : (ℓ : Loc Cert.Scp.nD Cert.Scp.τ Cert.Scp.sig) → Buf (Elt Bits) ℓ) : Prop :=
  True

def Pre_ScpIdeal (m : (ℓ : Loc Cert.ScpIdeal.nD Cert.ScpIdeal.τ Cert.ScpIdeal.sig) → Buf (Elt Ideal) ℓ) : Prop :=
  True

def Pre_ScpRefIdeal (m : (ℓ : Loc Cert.ScpRefIdeal.nD Cert.ScpRefIdeal.τ Cert.ScpRefIdeal.sig) → Buf (Elt Ideal) ℓ) : Prop :=
  True

def Pre_Scs (m : (ℓ : Loc Cert.Scs.nD Cert.Scs.τ Cert.Scs.sig) → Buf (Elt Bits) ℓ) : Prop :=
  True

def Pre_ScsIdeal (m : (ℓ : Loc Cert.ScsIdeal.nD Cert.ScsIdeal.τ Cert.ScsIdeal.sig) → Buf (Elt Ideal) ℓ) : Prop :=
  True

def Pre_ScsRefIdeal (m : (ℓ : Loc Cert.ScsRefIdeal.nD Cert.ScsRefIdeal.τ Cert.ScsRefIdeal.sig) → Buf (Elt Ideal) ℓ) : Prop :=
  True

def Pre_Cvp (m : (ℓ : Loc Cert.Cvp.nD Cert.Cvp.τ Cert.Cvp.sig) → Buf (Elt Bits) ℓ) : Prop :=
  True

def Pre_CvpIdeal (m : (ℓ : Loc Cert.CvpIdeal.nD Cert.CvpIdeal.τ Cert.CvpIdeal.sig) → Buf (Elt Ideal) ℓ) : Prop :=
  True

def Pre_CvpRefIdeal (m : (ℓ : Loc Cert.CvpRefIdeal.nD Cert.CvpRefIdeal.τ Cert.CvpRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_Yp [hYp : Cert.Yp.Facts] : Prop :=
  ∀ (m : (ℓ : Loc Cert.Yp.nD Cert.Yp.τ Cert.Yp.sig) → Buf (Elt Bits) ℓ) (g : Dev Cert.Yp.nD → PrngReg), Pre_Yp m →
    θ_run (Cert.Yp.defs (F := Bits)) (onTc (τ := Cert.Yp.τ) (Cert.Yp.main (F := Bits))) ⟨m, fun _ => 0, g⟩ (fun r => (∀ c : Dev Cert.Yp.nD,
      r.2.mem ((c.tc : Thread Cert.Yp.nD Cert.Yp.τ).loc Cert.Yp.main_arg0) = m ((c.tc : Thread Cert.Yp.nD Cert.Yp.τ).loc Cert.Yp.main_arg0)
      ∧ r.2.mem ((c.tc : Thread Cert.Yp.nD Cert.Yp.τ).loc Cert.Yp.main_arg1) = m ((c.tc : Thread Cert.Yp.nD Cert.Yp.τ).loc Cert.Yp.main_arg1))
      ∧ r.2.sem = fun _ => 0)

def quiescent_YpIdeal [hYpIdeal : Cert.YpIdeal.Facts] : Prop :=
  ∀ (m : (ℓ : Loc Cert.YpIdeal.nD Cert.YpIdeal.τ Cert.YpIdeal.sig) → Buf (Elt Ideal) ℓ) (g : Dev Cert.YpIdeal.nD → PrngReg), Pre_YpIdeal m →
    θ_run (Cert.YpIdeal.defs (F := Ideal)) (onTc (τ := Cert.YpIdeal.τ) (Cert.YpIdeal.main (F := Ideal))) ⟨m, fun _ => 0, g⟩ (fun r => (∀ c : Dev Cert.YpIdeal.nD,
      r.2.mem ((c.tc : Thread Cert.YpIdeal.nD Cert.YpIdeal.τ).loc Cert.YpIdeal.main_arg0) = m ((c.tc : Thread Cert.YpIdeal.nD Cert.YpIdeal.τ).loc Cert.YpIdeal.main_arg0)
      ∧ r.2.mem ((c.tc : Thread Cert.YpIdeal.nD Cert.YpIdeal.τ).loc Cert.YpIdeal.main_arg1) = m ((c.tc : Thread Cert.YpIdeal.nD Cert.YpIdeal.τ).loc Cert.YpIdeal.main_arg1))
      ∧ r.2.sem = fun _ => 0)

def quiescent_YpRefIdeal [hYpRefIdeal : Cert.YpRefIdeal.Facts] : Prop :=
  ∀ (m : (ℓ : Loc Cert.YpRefIdeal.nD Cert.YpRefIdeal.τ Cert.YpRefIdeal.sig) → Buf (Elt Ideal) ℓ) (g : Dev Cert.YpRefIdeal.nD → PrngReg), Pre_YpRefIdeal m →
    θ_run (Cert.YpRefIdeal.defs (F := Ideal)) (onTc (τ := Cert.YpRefIdeal.τ) (Cert.YpRefIdeal.main (F := Ideal))) ⟨m, fun _ => 0, g⟩ (fun r => (∀ c : Dev Cert.YpRefIdeal.nD,
      r.2.mem ((c.tc : Thread Cert.YpRefIdeal.nD Cert.YpRefIdeal.τ).loc Cert.YpRefIdeal.main_arg0) = m ((c.tc : Thread Cert.YpRefIdeal.nD Cert.YpRefIdeal.τ).loc Cert.YpRefIdeal.main_arg0)
      ∧ r.2.mem ((c.tc : Thread Cert.YpRefIdeal.nD Cert.YpRefIdeal.τ).loc Cert.YpRefIdeal.main_arg1) = m ((c.tc : Thread Cert.YpRefIdeal.nD Cert.YpRefIdeal.τ).loc Cert.YpRefIdeal.main_arg1))
      ∧ r.2.sem = fun _ => 0)

def quiescent_Ys [hYs : Cert.Ys.Facts] : Prop :=
  ∀ (m : (ℓ : Loc Cert.Ys.nD Cert.Ys.τ Cert.Ys.sig) → Buf (Elt Bits) ℓ) (g : Dev Cert.Ys.nD → PrngReg), Pre_Ys m →
    θ_run (Cert.Ys.defs (F := Bits)) (onTc (τ := Cert.Ys.τ) (Cert.Ys.main (F := Bits))) ⟨m, fun _ => 0, g⟩ (fun r => (∀ c : Dev Cert.Ys.nD,
      r.2.mem ((c.tc : Thread Cert.Ys.nD Cert.Ys.τ).loc Cert.Ys.main_arg0) = m ((c.tc : Thread Cert.Ys.nD Cert.Ys.τ).loc Cert.Ys.main_arg0)
      ∧ r.2.mem ((c.tc : Thread Cert.Ys.nD Cert.Ys.τ).loc Cert.Ys.main_arg1) = m ((c.tc : Thread Cert.Ys.nD Cert.Ys.τ).loc Cert.Ys.main_arg1))
      ∧ r.2.sem = fun _ => 0)

def quiescent_YsIdeal [hYsIdeal : Cert.YsIdeal.Facts] : Prop :=
  ∀ (m : (ℓ : Loc Cert.YsIdeal.nD Cert.YsIdeal.τ Cert.YsIdeal.sig) → Buf (Elt Ideal) ℓ) (g : Dev Cert.YsIdeal.nD → PrngReg), Pre_YsIdeal m →
    θ_run (Cert.YsIdeal.defs (F := Ideal)) (onTc (τ := Cert.YsIdeal.τ) (Cert.YsIdeal.main (F := Ideal))) ⟨m, fun _ => 0, g⟩ (fun r => (∀ c : Dev Cert.YsIdeal.nD,
      r.2.mem ((c.tc : Thread Cert.YsIdeal.nD Cert.YsIdeal.τ).loc Cert.YsIdeal.main_arg0) = m ((c.tc : Thread Cert.YsIdeal.nD Cert.YsIdeal.τ).loc Cert.YsIdeal.main_arg0)
      ∧ r.2.mem ((c.tc : Thread Cert.YsIdeal.nD Cert.YsIdeal.τ).loc Cert.YsIdeal.main_arg1) = m ((c.tc : Thread Cert.YsIdeal.nD Cert.YsIdeal.τ).loc Cert.YsIdeal.main_arg1))
      ∧ r.2.sem = fun _ => 0)

def quiescent_YsRefIdeal [hYsRefIdeal : Cert.YsRefIdeal.Facts] : Prop :=
  ∀ (m : (ℓ : Loc Cert.YsRefIdeal.nD Cert.YsRefIdeal.τ Cert.YsRefIdeal.sig) → Buf (Elt Ideal) ℓ) (g : Dev Cert.YsRefIdeal.nD → PrngReg), Pre_YsRefIdeal m →
    θ_run (Cert.YsRefIdeal.defs (F := Ideal)) (onTc (τ := Cert.YsRefIdeal.τ) (Cert.YsRefIdeal.main (F := Ideal))) ⟨m, fun _ => 0, g⟩ (fun r => (∀ c : Dev Cert.YsRefIdeal.nD,
      r.2.mem ((c.tc : Thread Cert.YsRefIdeal.nD Cert.YsRefIdeal.τ).loc Cert.YsRefIdeal.main_arg0) = m ((c.tc : Thread Cert.YsRefIdeal.nD Cert.YsRefIdeal.τ).loc Cert.YsRefIdeal.main_arg0)
      ∧ r.2.mem ((c.tc : Thread Cert.YsRefIdeal.nD Cert.YsRefIdeal.τ).loc Cert.YsRefIdeal.main_arg1) = m ((c.tc : Thread Cert.YsRefIdeal.nD Cert.YsRefIdeal.τ).loc Cert.YsRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_Ql [hQl : Cert.Ql.Facts] : Prop :=
  ∀ (m : (ℓ : Loc Cert.Ql.nD Cert.Ql.τ Cert.Ql.sig) → Buf (Elt Bits) ℓ) (g : Dev Cert.Ql.nD → PrngReg), Pre_Ql m →
    θ_run (Cert.Ql.defs (F := Bits)) (onTc (τ := Cert.Ql.τ) (Cert.Ql.main (F := Bits))) ⟨m, fun _ => 0, g⟩ (fun r => (∀ c : Dev Cert.Ql.nD,
      r.2.mem ((c.tc : Thread Cert.Ql.nD Cert.Ql.τ).loc Cert.Ql.main_arg0) = m ((c.tc : Thread Cert.Ql.nD Cert.Ql.τ).loc Cert.Ql.main_arg0)
      ∧ r.2.mem ((c.tc : Thread Cert.Ql.nD Cert.Ql.τ).loc Cert.Ql.main_arg1) = m ((c.tc : Thread Cert.Ql.nD Cert.Ql.τ).loc Cert.Ql.main_arg1))
      ∧ r.2.sem = fun _ => 0)

def quiescent_QlIdeal [hQlIdeal : Cert.QlIdeal.Facts] : Prop :=
  ∀ (m : (ℓ : Loc Cert.QlIdeal.nD Cert.QlIdeal.τ Cert.QlIdeal.sig) → Buf (Elt Ideal) ℓ) (g : Dev Cert.QlIdeal.nD → PrngReg), Pre_QlIdeal m →
    θ_run (Cert.QlIdeal.defs (F := Ideal)) (onTc (τ := Cert.QlIdeal.τ) (Cert.QlIdeal.main (F := Ideal))) ⟨m, fun _ => 0, g⟩ (fun r => (∀ c : Dev Cert.QlIdeal.nD,
      r.2.mem ((c.tc : Thread Cert.QlIdeal.nD Cert.QlIdeal.τ).loc Cert.QlIdeal.main_arg0) = m ((c.tc : Thread Cert.QlIdeal.nD Cert.QlIdeal.τ).loc Cert.QlIdeal.main_arg0)
      ∧ r.2.mem ((c.tc : Thread Cert.QlIdeal.nD Cert.QlIdeal.τ).loc Cert.QlIdeal.main_arg1) = m ((c.tc : Thread Cert.QlIdeal.nD Cert.QlIdeal.τ).loc Cert.QlIdeal.main_arg1))
      ∧ r.2.sem = fun _ => 0)

def quiescent_QlRefIdeal [hQlRefIdeal : Cert.QlRefIdeal.Facts] : Prop :=
  ∀ (m : (ℓ : Loc Cert.QlRefIdeal.nD Cert.QlRefIdeal.τ Cert.QlRefIdeal.sig) → Buf (Elt Ideal) ℓ) (g : Dev Cert.QlRefIdeal.nD → PrngReg), Pre_QlRefIdeal m →
    θ_run (Cert.QlRefIdeal.defs (F := Ideal)) (onTc (τ := Cert.QlRefIdeal.τ) (Cert.QlRefIdeal.main (F := Ideal))) ⟨m, fun _ => 0, g⟩ (fun r => (∀ c : Dev Cert.QlRefIdeal.nD,
      r.2.mem ((c.tc : Thread Cert.QlRefIdeal.nD Cert.QlRefIdeal.τ).loc Cert.QlRefIdeal.main_arg0) = m ((c.tc : Thread Cert.QlRefIdeal.nD Cert.QlRefIdeal.τ).loc Cert.QlRefIdeal.main_arg0)
      ∧ r.2.mem ((c.tc : Thread Cert.QlRefIdeal.nD Cert.QlRefIdeal.τ).loc Cert.QlRefIdeal.main_arg1) = m ((c.tc : Thread Cert.QlRefIdeal.nD Cert.QlRefIdeal.τ).loc Cert.QlRefIdeal.main_arg1))
      ∧ r.2.sem = fun _ => 0)

def quiescent_Vup [hVup : Cert.Vup.Facts] : Prop :=
  ∀ (m : (ℓ : Loc Cert.Vup.nD Cert.Vup.τ Cert.Vup.sig) → Buf (Elt Bits) ℓ) (g : Dev Cert.Vup.nD → PrngReg), Pre_Vup m →
    θ_run (Cert.Vup.defs (F := Bits)) (onTc (τ := Cert.Vup.τ) (Cert.Vup.main (F := Bits))) ⟨m, fun _ => 0, g⟩ (fun r => (∀ c : Dev Cert.Vup.nD,
      r.2.mem ((c.tc : Thread Cert.Vup.nD Cert.Vup.τ).loc Cert.Vup.main_arg0) = m ((c.tc : Thread Cert.Vup.nD Cert.Vup.τ).loc Cert.Vup.main_arg0)
      ∧ r.2.mem ((c.tc : Thread Cert.Vup.nD Cert.Vup.τ).loc Cert.Vup.main_arg1) = m ((c.tc : Thread Cert.Vup.nD Cert.Vup.τ).loc Cert.Vup.main_arg1))
      ∧ r.2.sem = fun _ => 0)

def quiescent_VupIdeal [hVupIdeal : Cert.VupIdeal.Facts] : Prop :=
  ∀ (m : (ℓ : Loc Cert.VupIdeal.nD Cert.VupIdeal.τ Cert.VupIdeal.sig) → Buf (Elt Ideal) ℓ) (g : Dev Cert.VupIdeal.nD → PrngReg), Pre_VupIdeal m →
    θ_run (Cert.VupIdeal.defs (F := Ideal)) (onTc (τ := Cert.VupIdeal.τ) (Cert.VupIdeal.main (F := Ideal))) ⟨m, fun _ => 0, g⟩ (fun r => (∀ c : Dev Cert.VupIdeal.nD,
      r.2.mem ((c.tc : Thread Cert.VupIdeal.nD Cert.VupIdeal.τ).loc Cert.VupIdeal.main_arg0) = m ((c.tc : Thread Cert.VupIdeal.nD Cert.VupIdeal.τ).loc Cert.VupIdeal.main_arg0)
      ∧ r.2.mem ((c.tc : Thread Cert.VupIdeal.nD Cert.VupIdeal.τ).loc Cert.VupIdeal.main_arg1) = m ((c.tc : Thread Cert.VupIdeal.nD Cert.VupIdeal.τ).loc Cert.VupIdeal.main_arg1))
      ∧ r.2.sem = fun _ => 0)

def quiescent_VupRefIdeal [hVupRefIdeal : Cert.VupRefIdeal.Facts] : Prop :=
  ∀ (m : (ℓ : Loc Cert.VupRefIdeal.nD Cert.VupRefIdeal.τ Cert.VupRefIdeal.sig) → Buf (Elt Ideal) ℓ) (g : Dev Cert.VupRefIdeal.nD → PrngReg), Pre_VupRefIdeal m →
    θ_run (Cert.VupRefIdeal.defs (F := Ideal)) (onTc (τ := Cert.VupRefIdeal.τ) (Cert.VupRefIdeal.main (F := Ideal))) ⟨m, fun _ => 0, g⟩ (fun r => (∀ c : Dev Cert.VupRefIdeal.nD,
      r.2.mem ((c.tc : Thread Cert.VupRefIdeal.nD Cert.VupRefIdeal.τ).loc Cert.VupRefIdeal.main_arg0) = m ((c.tc : Thread Cert.VupRefIdeal.nD Cert.VupRefIdeal.τ).loc Cert.VupRefIdeal.main_arg0)
      ∧ r.2.mem ((c.tc : Thread Cert.VupRefIdeal.nD Cert.VupRefIdeal.τ).loc Cert.VupRefIdeal.main_arg1) = m ((c.tc : Thread Cert.VupRefIdeal.nD Cert.VupRefIdeal.τ).loc Cert.VupRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Scp [hScp : Cert.Scp.Facts] : Prop :=
  ∀ (m : (ℓ : Loc Cert.Scp.nD Cert.Scp.τ Cert.Scp.sig) → Buf (Elt Bits) ℓ) (g : Dev Cert.Scp.nD → PrngReg), Pre_Scp m →
    θ_run (Cert.Scp.defs (F := Bits)) (onTc (τ := Cert.Scp.τ) (Cert.Scp.main (F := Bits))) ⟨m, fun _ => 0, g⟩ (fun r => (∀ c : Dev Cert.Scp.nD,
      r.2.mem ((c.tc : Thread Cert.Scp.nD Cert.Scp.τ).loc Cert.Scp.main_arg0) = m ((c.tc : Thread Cert.Scp.nD Cert.Scp.τ).loc Cert.Scp.main_arg0)
      ∧ r.2.mem ((c.tc : Thread Cert.Scp.nD Cert.Scp.τ).loc Cert.Scp.main_arg1) = m ((c.tc : Thread Cert.Scp.nD Cert.Scp.τ).loc Cert.Scp.main_arg1)
      ∧ r.2.mem ((c.tc : Thread Cert.Scp.nD Cert.Scp.τ).loc Cert.Scp.main_arg2) = m ((c.tc : Thread Cert.Scp.nD Cert.Scp.τ).loc Cert.Scp.main_arg2))
      ∧ r.2.sem = fun _ => 0)

def quiescent_ScpIdeal [hScpIdeal : Cert.ScpIdeal.Facts] : Prop :=
  ∀ (m : (ℓ : Loc Cert.ScpIdeal.nD Cert.ScpIdeal.τ Cert.ScpIdeal.sig) → Buf (Elt Ideal) ℓ) (g : Dev Cert.ScpIdeal.nD → PrngReg), Pre_ScpIdeal m →
    θ_run (Cert.ScpIdeal.defs (F := Ideal)) (onTc (τ := Cert.ScpIdeal.τ) (Cert.ScpIdeal.main (F := Ideal))) ⟨m, fun _ => 0, g⟩ (fun r => (∀ c : Dev Cert.ScpIdeal.nD,
      r.2.mem ((c.tc : Thread Cert.ScpIdeal.nD Cert.ScpIdeal.τ).loc Cert.ScpIdeal.main_arg0) = m ((c.tc : Thread Cert.ScpIdeal.nD Cert.ScpIdeal.τ).loc Cert.ScpIdeal.main_arg0)
      ∧ r.2.mem ((c.tc : Thread Cert.ScpIdeal.nD Cert.ScpIdeal.τ).loc Cert.ScpIdeal.main_arg1) = m ((c.tc : Thread Cert.ScpIdeal.nD Cert.ScpIdeal.τ).loc Cert.ScpIdeal.main_arg1)
      ∧ r.2.mem ((c.tc : Thread Cert.ScpIdeal.nD Cert.ScpIdeal.τ).loc Cert.ScpIdeal.main_arg2) = m ((c.tc : Thread Cert.ScpIdeal.nD Cert.ScpIdeal.τ).loc Cert.ScpIdeal.main_arg2))
      ∧ r.2.sem = fun _ => 0)

def quiescent_ScpRefIdeal [hScpRefIdeal : Cert.ScpRefIdeal.Facts] : Prop :=
  ∀ (m : (ℓ : Loc Cert.ScpRefIdeal.nD Cert.ScpRefIdeal.τ Cert.ScpRefIdeal.sig) → Buf (Elt Ideal) ℓ) (g : Dev Cert.ScpRefIdeal.nD → PrngReg), Pre_ScpRefIdeal m →
    θ_run (Cert.ScpRefIdeal.defs (F := Ideal)) (onTc (τ := Cert.ScpRefIdeal.τ) (Cert.ScpRefIdeal.main (F := Ideal))) ⟨m, fun _ => 0, g⟩ (fun r => (∀ c : Dev Cert.ScpRefIdeal.nD,
      r.2.mem ((c.tc : Thread Cert.ScpRefIdeal.nD Cert.ScpRefIdeal.τ).loc Cert.ScpRefIdeal.main_arg0) = m ((c.tc : Thread Cert.ScpRefIdeal.nD Cert.ScpRefIdeal.τ).loc Cert.ScpRefIdeal.main_arg0)
      ∧ r.2.mem ((c.tc : Thread Cert.ScpRefIdeal.nD Cert.ScpRefIdeal.τ).loc Cert.ScpRefIdeal.main_arg1) = m ((c.tc : Thread Cert.ScpRefIdeal.nD Cert.ScpRefIdeal.τ).loc Cert.ScpRefIdeal.main_arg1)
      ∧ r.2.mem ((c.tc : Thread Cert.ScpRefIdeal.nD Cert.ScpRefIdeal.τ).loc Cert.ScpRefIdeal.main_arg2) = m ((c.tc : Thread Cert.ScpRefIdeal.nD Cert.ScpRefIdeal.τ).loc Cert.ScpRefIdeal.main_arg2))
      ∧ r.2.sem = fun _ => 0)

def quiescent_Scs [hScs : Cert.Scs.Facts] : Prop :=
  ∀ (m : (ℓ : Loc Cert.Scs.nD Cert.Scs.τ Cert.Scs.sig) → Buf (Elt Bits) ℓ) (g : Dev Cert.Scs.nD → PrngReg), Pre_Scs m →
    θ_run (Cert.Scs.defs (F := Bits)) (onTc (τ := Cert.Scs.τ) (Cert.Scs.main (F := Bits))) ⟨m, fun _ => 0, g⟩ (fun r => (∀ c : Dev Cert.Scs.nD,
      r.2.mem ((c.tc : Thread Cert.Scs.nD Cert.Scs.τ).loc Cert.Scs.main_arg0) = m ((c.tc : Thread Cert.Scs.nD Cert.Scs.τ).loc Cert.Scs.main_arg0)
      ∧ r.2.mem ((c.tc : Thread Cert.Scs.nD Cert.Scs.τ).loc Cert.Scs.main_arg1) = m ((c.tc : Thread Cert.Scs.nD Cert.Scs.τ).loc Cert.Scs.main_arg1)
      ∧ r.2.mem ((c.tc : Thread Cert.Scs.nD Cert.Scs.τ).loc Cert.Scs.main_arg2) = m ((c.tc : Thread Cert.Scs.nD Cert.Scs.τ).loc Cert.Scs.main_arg2)
      ∧ r.2.mem ((c.tc : Thread Cert.Scs.nD Cert.Scs.τ).loc Cert.Scs.main_arg3) = m ((c.tc : Thread Cert.Scs.nD Cert.Scs.τ).loc Cert.Scs.main_arg3))
      ∧ r.2.sem = fun _ => 0)

def quiescent_ScsIdeal [hScsIdeal : Cert.ScsIdeal.Facts] : Prop :=
  ∀ (m : (ℓ : Loc Cert.ScsIdeal.nD Cert.ScsIdeal.τ Cert.ScsIdeal.sig) → Buf (Elt Ideal) ℓ) (g : Dev Cert.ScsIdeal.nD → PrngReg), Pre_ScsIdeal m →
    θ_run (Cert.ScsIdeal.defs (F := Ideal)) (onTc (τ := Cert.ScsIdeal.τ) (Cert.ScsIdeal.main (F := Ideal))) ⟨m, fun _ => 0, g⟩ (fun r => (∀ c : Dev Cert.ScsIdeal.nD,
      r.2.mem ((c.tc : Thread Cert.ScsIdeal.nD Cert.ScsIdeal.τ).loc Cert.ScsIdeal.main_arg0) = m ((c.tc : Thread Cert.ScsIdeal.nD Cert.ScsIdeal.τ).loc Cert.ScsIdeal.main_arg0)
      ∧ r.2.mem ((c.tc : Thread Cert.ScsIdeal.nD Cert.ScsIdeal.τ).loc Cert.ScsIdeal.main_arg1) = m ((c.tc : Thread Cert.ScsIdeal.nD Cert.ScsIdeal.τ).loc Cert.ScsIdeal.main_arg1)
      ∧ r.2.mem ((c.tc : Thread Cert.ScsIdeal.nD Cert.ScsIdeal.τ).loc Cert.ScsIdeal.main_arg2) = m ((c.tc : Thread Cert.ScsIdeal.nD Cert.ScsIdeal.τ).loc Cert.ScsIdeal.main_arg2)
      ∧ r.2.mem ((c.tc : Thread Cert.ScsIdeal.nD Cert.ScsIdeal.τ).loc Cert.ScsIdeal.main_arg3) = m ((c.tc : Thread Cert.ScsIdeal.nD Cert.ScsIdeal.τ).loc Cert.ScsIdeal.main_arg3))
      ∧ r.2.sem = fun _ => 0)

def quiescent_ScsRefIdeal [hScsRefIdeal : Cert.ScsRefIdeal.Facts] : Prop :=
  ∀ (m : (ℓ : Loc Cert.ScsRefIdeal.nD Cert.ScsRefIdeal.τ Cert.ScsRefIdeal.sig) → Buf (Elt Ideal) ℓ) (g : Dev Cert.ScsRefIdeal.nD → PrngReg), Pre_ScsRefIdeal m →
    θ_run (Cert.ScsRefIdeal.defs (F := Ideal)) (onTc (τ := Cert.ScsRefIdeal.τ) (Cert.ScsRefIdeal.main (F := Ideal))) ⟨m, fun _ => 0, g⟩ (fun r => (∀ c : Dev Cert.ScsRefIdeal.nD,
      r.2.mem ((c.tc : Thread Cert.ScsRefIdeal.nD Cert.ScsRefIdeal.τ).loc Cert.ScsRefIdeal.main_arg0) = m ((c.tc : Thread Cert.ScsRefIdeal.nD Cert.ScsRefIdeal.τ).loc Cert.ScsRefIdeal.main_arg0)
      ∧ r.2.mem ((c.tc : Thread Cert.ScsRefIdeal.nD Cert.ScsRefIdeal.τ).loc Cert.ScsRefIdeal.main_arg1) = m ((c.tc : Thread Cert.ScsRefIdeal.nD Cert.ScsRefIdeal.τ).loc Cert.ScsRefIdeal.main_arg1)
      ∧ r.2.mem ((c.tc : Thread Cert.ScsRefIdeal.nD Cert.ScsRefIdeal.τ).loc Cert.ScsRefIdeal.main_arg2) = m ((c.tc : Thread Cert.ScsRefIdeal.nD Cert.ScsRefIdeal.τ).loc Cert.ScsRefIdeal.main_arg2)
      ∧ r.2.mem ((c.tc : Thread Cert.ScsRefIdeal.nD Cert.ScsRefIdeal.τ).loc Cert.ScsRefIdeal.main_arg3) = m ((c.tc : Thread Cert.ScsRefIdeal.nD Cert.ScsRefIdeal.τ).loc Cert.ScsRefIdeal.main_arg3))
      ∧ r.2.sem = fun _ => 0)

def quiescent_Cvp [hCvp : Cert.Cvp.Facts] : Prop :=
  ∀ (m : (ℓ : Loc Cert.Cvp.nD Cert.Cvp.τ Cert.Cvp.sig) → Buf (Elt Bits) ℓ) (g : Dev Cert.Cvp.nD → PrngReg), Pre_Cvp m →
    θ_run (Cert.Cvp.defs (F := Bits)) (onTc (τ := Cert.Cvp.τ) (Cert.Cvp.main (F := Bits))) ⟨m, fun _ => 0, g⟩ (fun r => (∀ c : Dev Cert.Cvp.nD,
      r.2.mem ((c.tc : Thread Cert.Cvp.nD Cert.Cvp.τ).loc Cert.Cvp.main_arg0) = m ((c.tc : Thread Cert.Cvp.nD Cert.Cvp.τ).loc Cert.Cvp.main_arg0)
      ∧ r.2.mem ((c.tc : Thread Cert.Cvp.nD Cert.Cvp.τ).loc Cert.Cvp.main_arg1) = m ((c.tc : Thread Cert.Cvp.nD Cert.Cvp.τ).loc Cert.Cvp.main_arg1)
      ∧ r.2.mem ((c.tc : Thread Cert.Cvp.nD Cert.Cvp.τ).loc Cert.Cvp.main_arg2) = m ((c.tc : Thread Cert.Cvp.nD Cert.Cvp.τ).loc Cert.Cvp.main_arg2))
      ∧ r.2.sem = fun _ => 0)

def quiescent_CvpIdeal [hCvpIdeal : Cert.CvpIdeal.Facts] : Prop :=
  ∀ (m : (ℓ : Loc Cert.CvpIdeal.nD Cert.CvpIdeal.τ Cert.CvpIdeal.sig) → Buf (Elt Ideal) ℓ) (g : Dev Cert.CvpIdeal.nD → PrngReg), Pre_CvpIdeal m →
    θ_run (Cert.CvpIdeal.defs (F := Ideal)) (onTc (τ := Cert.CvpIdeal.τ) (Cert.CvpIdeal.main (F := Ideal))) ⟨m, fun _ => 0, g⟩ (fun r => (∀ c : Dev Cert.CvpIdeal.nD,
      r.2.mem ((c.tc : Thread Cert.CvpIdeal.nD Cert.CvpIdeal.τ).loc Cert.CvpIdeal.main_arg0) = m ((c.tc : Thread Cert.CvpIdeal.nD Cert.CvpIdeal.τ).loc Cert.CvpIdeal.main_arg0)
      ∧ r.2.mem ((c.tc : Thread Cert.CvpIdeal.nD Cert.CvpIdeal.τ).loc Cert.CvpIdeal.main_arg1) = m ((c.tc : Thread Cert.CvpIdeal.nD Cert.CvpIdeal.τ).loc Cert.CvpIdeal.main_arg1)
      ∧ r.2.mem ((c.tc : Thread Cert.CvpIdeal.nD Cert.CvpIdeal.τ).loc Cert.CvpIdeal.main_arg2) = m ((c.tc : Thread Cert.CvpIdeal.nD Cert.CvpIdeal.τ).loc Cert.CvpIdeal.main_arg2))
      ∧ r.2.sem = fun _ => 0)

def quiescent_CvpRefIdeal [hCvpRefIdeal : Cert.CvpRefIdeal.Facts] : Prop :=
  ∀ (m : (ℓ : Loc Cert.CvpRefIdeal.nD Cert.CvpRefIdeal.τ Cert.CvpRefIdeal.sig) → Buf (Elt Ideal) ℓ) (g : Dev Cert.CvpRefIdeal.nD → PrngReg), Pre_CvpRefIdeal m →
    θ_run (Cert.CvpRefIdeal.defs (F := Ideal)) (onTc (τ := Cert.CvpRefIdeal.τ) (Cert.CvpRefIdeal.main (F := Ideal))) ⟨m, fun _ => 0, g⟩ (fun r => (∀ c : Dev Cert.CvpRefIdeal.nD,
      r.2.mem ((c.tc : Thread Cert.CvpRefIdeal.nD Cert.CvpRefIdeal.τ).loc Cert.CvpRefIdeal.main_arg0) = m ((c.tc : Thread Cert.CvpRefIdeal.nD Cert.CvpRefIdeal.τ).loc Cert.CvpRefIdeal.main_arg0)
      ∧ r.2.mem ((c.tc : Thread Cert.CvpRefIdeal.nD Cert.CvpRefIdeal.τ).loc Cert.CvpRefIdeal.main_arg1) = m ((c.tc : Thread Cert.CvpRefIdeal.nD Cert.CvpRefIdeal.τ).loc Cert.CvpRefIdeal.main_arg1)
      ∧ r.2.mem ((c.tc : Thread Cert.CvpRefIdeal.nD Cert.CvpRefIdeal.τ).loc Cert.CvpRefIdeal.main_arg2) = m ((c.tc : Thread Cert.CvpRefIdeal.nD Cert.CvpRefIdeal.τ).loc Cert.CvpRefIdeal.main_arg2))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v4) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v7)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v7) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v9) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_Yp_YpIdeal : Prop :=
  True

def algebraic_YpIdeal_YpRefIdeal [hYpIdeal : Cert.YpIdeal.Facts] [hYpRefIdeal : Cert.YpRefIdeal.Facts] : Prop :=
  ∀ (m : (ℓ : Loc Cert.YpIdeal.nD Cert.YpIdeal.τ Cert.YpIdeal.sig) → Buf (Elt Ideal) ℓ) (g : Dev Cert.YpIdeal.nD → PrngReg)
    (m' : (ℓ : Loc Cert.YpRefIdeal.nD Cert.YpRefIdeal.τ Cert.YpRefIdeal.sig) → Buf (Elt Ideal) ℓ) (g' : Dev Cert.YpRefIdeal.nD → PrngReg), Pre_YpIdeal m →
    (∀ c : Dev Cert.YpIdeal.nD,
      m' ((c.tc : Thread Cert.YpRefIdeal.nD Cert.YpRefIdeal.τ).loc Cert.YpRefIdeal.main_arg0) = m ((c.tc : Thread Cert.YpIdeal.nD Cert.YpIdeal.τ).loc Cert.YpIdeal.main_arg0)
      ∧ m' ((c.tc : Thread Cert.YpRefIdeal.nD Cert.YpRefIdeal.τ).loc Cert.YpRefIdeal.main_arg1) = m ((c.tc : Thread Cert.YpIdeal.nD Cert.YpIdeal.τ).loc Cert.YpIdeal.main_arg1)) →
    ∃ (v0 : (c : Dev Cert.YpIdeal.nD) → Buf (Elt Ideal) ((c.tc : Thread Cert.YpIdeal.nD Cert.YpIdeal.τ).loc Cert.YpIdeal.main_v1)),
      θ_run (Cert.YpIdeal.defs (F := Ideal)) (onTc (τ := Cert.YpIdeal.τ) (Cert.YpIdeal.main (F := Ideal))) ⟨m, fun _ => 0, g⟩ (fun r => ∀ c : Dev Cert.YpIdeal.nD,
          r.2.mem ((c.tc : Thread Cert.YpIdeal.nD Cert.YpIdeal.τ).loc Cert.YpIdeal.main_v1) = v0 c
          ∧ r.2.mem ((c.tc : Thread Cert.YpIdeal.nD Cert.YpIdeal.τ).loc Cert.YpIdeal.main_arg0) = m ((c.tc : Thread Cert.YpIdeal.nD Cert.YpIdeal.τ).loc Cert.YpIdeal.main_arg0)
          ∧ r.2.mem ((c.tc : Thread Cert.YpIdeal.nD Cert.YpIdeal.τ).loc Cert.YpIdeal.main_arg1) = m ((c.tc : Thread Cert.YpIdeal.nD Cert.YpIdeal.τ).loc Cert.YpIdeal.main_arg1))
      ∧ θ_run (Cert.YpRefIdeal.defs (F := Ideal)) (onTc (τ := Cert.YpRefIdeal.τ) (Cert.YpRefIdeal.main (F := Ideal))) ⟨m', fun _ => 0, g'⟩ (fun r => ∀ c : Dev Cert.YpRefIdeal.nD,
          r.2.mem ((c.tc : Thread Cert.YpRefIdeal.nD Cert.YpRefIdeal.τ).loc Cert.YpRefIdeal.main_v13) = v0 c
          ∧ r.2.mem ((c.tc : Thread Cert.YpRefIdeal.nD Cert.YpRefIdeal.τ).loc Cert.YpRefIdeal.main_arg0) = m' ((c.tc : Thread Cert.YpRefIdeal.nD Cert.YpRefIdeal.τ).loc Cert.YpRefIdeal.main_arg0)
          ∧ r.2.mem ((c.tc : Thread Cert.YpRefIdeal.nD Cert.YpRefIdeal.τ).loc Cert.YpRefIdeal.main_arg1) = m' ((c.tc : Thread Cert.YpRefIdeal.nD Cert.YpRefIdeal.τ).loc Cert.YpRefIdeal.main_arg1))

def preserves_Ys_YsIdeal : Prop :=
  True

def algebraic_YsIdeal_YsRefIdeal [hYsIdeal : Cert.YsIdeal.Facts] [hYsRefIdeal : Cert.YsRefIdeal.Facts] : Prop :=
  ∀ (m : (ℓ : Loc Cert.YsIdeal.nD Cert.YsIdeal.τ Cert.YsIdeal.sig) → Buf (Elt Ideal) ℓ) (g : Dev Cert.YsIdeal.nD → PrngReg)
    (m' : (ℓ : Loc Cert.YsRefIdeal.nD Cert.YsRefIdeal.τ Cert.YsRefIdeal.sig) → Buf (Elt Ideal) ℓ) (g' : Dev Cert.YsRefIdeal.nD → PrngReg), Pre_YsIdeal m →
    (∀ c : Dev Cert.YsIdeal.nD,
      m' ((c.tc : Thread Cert.YsRefIdeal.nD Cert.YsRefIdeal.τ).loc Cert.YsRefIdeal.main_arg0) = m ((c.tc : Thread Cert.YsIdeal.nD Cert.YsIdeal.τ).loc Cert.YsIdeal.main_arg0)
      ∧ m' ((c.tc : Thread Cert.YsRefIdeal.nD Cert.YsRefIdeal.τ).loc Cert.YsRefIdeal.main_arg1) = m ((c.tc : Thread Cert.YsIdeal.nD Cert.YsIdeal.τ).loc Cert.YsIdeal.main_arg1)) →
    ∃ (v0 : (c : Dev Cert.YsIdeal.nD) → Buf (Elt Ideal) ((c.tc : Thread Cert.YsIdeal.nD Cert.YsIdeal.τ).loc Cert.YsIdeal.main_v1)),
      θ_run (Cert.YsIdeal.defs (F := Ideal)) (onTc (τ := Cert.YsIdeal.τ) (Cert.YsIdeal.main (F := Ideal))) ⟨m, fun _ => 0, g⟩ (fun r => ∀ c : Dev Cert.YsIdeal.nD,
          r.2.mem ((c.tc : Thread Cert.YsIdeal.nD Cert.YsIdeal.τ).loc Cert.YsIdeal.main_v1) = v0 c
          ∧ r.2.mem ((c.tc : Thread Cert.YsIdeal.nD Cert.YsIdeal.τ).loc Cert.YsIdeal.main_arg0) = m ((c.tc : Thread Cert.YsIdeal.nD Cert.YsIdeal.τ).loc Cert.YsIdeal.main_arg0)
          ∧ r.2.mem ((c.tc : Thread Cert.YsIdeal.nD Cert.YsIdeal.τ).loc Cert.YsIdeal.main_arg1) = m ((c.tc : Thread Cert.YsIdeal.nD Cert.YsIdeal.τ).loc Cert.YsIdeal.main_arg1))
      ∧ θ_run (Cert.YsRefIdeal.defs (F := Ideal)) (onTc (τ := Cert.YsRefIdeal.τ) (Cert.YsRefIdeal.main (F := Ideal))) ⟨m', fun _ => 0, g'⟩ (fun r => ∀ c : Dev Cert.YsRefIdeal.nD,
          r.2.mem ((c.tc : Thread Cert.YsRefIdeal.nD Cert.YsRefIdeal.τ).loc Cert.YsRefIdeal.main_v13) = v0 c
          ∧ r.2.mem ((c.tc : Thread Cert.YsRefIdeal.nD Cert.YsRefIdeal.τ).loc Cert.YsRefIdeal.main_arg0) = m' ((c.tc : Thread Cert.YsRefIdeal.nD Cert.YsRefIdeal.τ).loc Cert.YsRefIdeal.main_arg0)
          ∧ r.2.mem ((c.tc : Thread Cert.YsRefIdeal.nD Cert.YsRefIdeal.τ).loc Cert.YsRefIdeal.main_arg1) = m' ((c.tc : Thread Cert.YsRefIdeal.nD Cert.YsRefIdeal.τ).loc Cert.YsRefIdeal.main_arg1))

def preserves_Attn_AttnIdeal : Prop :=
  IdealRules.named_const.Statement Cert.AttnIdeal.κ "scale_log2e" .f32 0x3DD53B95#32 (((Real.sqrt 192)⁻¹ * (Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v43) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v6)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v6) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v8) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_Ql_QlIdeal : Prop :=
  True

def algebraic_QlIdeal_QlRefIdeal [hQlIdeal : Cert.QlIdeal.Facts] [hQlRefIdeal : Cert.QlRefIdeal.Facts] : Prop :=
  ∀ (m : (ℓ : Loc Cert.QlIdeal.nD Cert.QlIdeal.τ Cert.QlIdeal.sig) → Buf (Elt Ideal) ℓ) (g : Dev Cert.QlIdeal.nD → PrngReg)
    (m' : (ℓ : Loc Cert.QlRefIdeal.nD Cert.QlRefIdeal.τ Cert.QlRefIdeal.sig) → Buf (Elt Ideal) ℓ) (g' : Dev Cert.QlRefIdeal.nD → PrngReg), Pre_QlIdeal m →
    (∀ c : Dev Cert.QlIdeal.nD,
      m' ((c.tc : Thread Cert.QlRefIdeal.nD Cert.QlRefIdeal.τ).loc Cert.QlRefIdeal.main_arg0) = m ((c.tc : Thread Cert.QlIdeal.nD Cert.QlIdeal.τ).loc Cert.QlIdeal.main_arg0)
      ∧ m' ((c.tc : Thread Cert.QlRefIdeal.nD Cert.QlRefIdeal.τ).loc Cert.QlRefIdeal.main_arg1) = m ((c.tc : Thread Cert.QlIdeal.nD Cert.QlIdeal.τ).loc Cert.QlIdeal.main_arg1)) →
    ∃ (v0 : (c : Dev Cert.QlIdeal.nD) → Buf (Elt Ideal) ((c.tc : Thread Cert.QlIdeal.nD Cert.QlIdeal.τ).loc Cert.QlIdeal.main_v2)),
      θ_run (Cert.QlIdeal.defs (F := Ideal)) (onTc (τ := Cert.QlIdeal.τ) (Cert.QlIdeal.main (F := Ideal))) ⟨m, fun _ => 0, g⟩ (fun r => ∀ c : Dev Cert.QlIdeal.nD,
          r.2.mem ((c.tc : Thread Cert.QlIdeal.nD Cert.QlIdeal.τ).loc Cert.QlIdeal.main_v2) = v0 c
          ∧ r.2.mem ((c.tc : Thread Cert.QlIdeal.nD Cert.QlIdeal.τ).loc Cert.QlIdeal.main_arg0) = m ((c.tc : Thread Cert.QlIdeal.nD Cert.QlIdeal.τ).loc Cert.QlIdeal.main_arg0)
          ∧ r.2.mem ((c.tc : Thread Cert.QlIdeal.nD Cert.QlIdeal.τ).loc Cert.QlIdeal.main_arg1) = m ((c.tc : Thread Cert.QlIdeal.nD Cert.QlIdeal.τ).loc Cert.QlIdeal.main_arg1))
      ∧ θ_run (Cert.QlRefIdeal.defs (F := Ideal)) (onTc (τ := Cert.QlRefIdeal.τ) (Cert.QlRefIdeal.main (F := Ideal))) ⟨m', fun _ => 0, g'⟩ (fun r => ∀ c : Dev Cert.QlRefIdeal.nD,
          r.2.mem ((c.tc : Thread Cert.QlRefIdeal.nD Cert.QlRefIdeal.τ).loc Cert.QlRefIdeal.main_v5) = v0 c
          ∧ r.2.mem ((c.tc : Thread Cert.QlRefIdeal.nD Cert.QlRefIdeal.τ).loc Cert.QlRefIdeal.main_arg0) = m' ((c.tc : Thread Cert.QlRefIdeal.nD Cert.QlRefIdeal.τ).loc Cert.QlRefIdeal.main_arg0)
          ∧ r.2.mem ((c.tc : Thread Cert.QlRefIdeal.nD Cert.QlRefIdeal.τ).loc Cert.QlRefIdeal.main_arg1) = m' ((c.tc : Thread Cert.QlRefIdeal.nD Cert.QlRefIdeal.τ).loc Cert.QlRefIdeal.main_arg1))

def preserves_Vup_VupIdeal : Prop :=
  True

def algebraic_VupIdeal_VupRefIdeal [hVupIdeal : Cert.VupIdeal.Facts] [hVupRefIdeal : Cert.VupRefIdeal.Facts] : Prop :=
  ∀ (m : (ℓ : Loc Cert.VupIdeal.nD Cert.VupIdeal.τ Cert.VupIdeal.sig) → Buf (Elt Ideal) ℓ) (g : Dev Cert.VupIdeal.nD → PrngReg)
    (m' : (ℓ : Loc Cert.VupRefIdeal.nD Cert.VupRefIdeal.τ Cert.VupRefIdeal.sig) → Buf (Elt Ideal) ℓ) (g' : Dev Cert.VupRefIdeal.nD → PrngReg), Pre_VupIdeal m →
    (∀ c : Dev Cert.VupIdeal.nD,
      m' ((c.tc : Thread Cert.VupRefIdeal.nD Cert.VupRefIdeal.τ).loc Cert.VupRefIdeal.main_arg0) = m ((c.tc : Thread Cert.VupIdeal.nD Cert.VupIdeal.τ).loc Cert.VupIdeal.main_arg0)
      ∧ m' ((c.tc : Thread Cert.VupRefIdeal.nD Cert.VupRefIdeal.τ).loc Cert.VupRefIdeal.main_arg1) = m ((c.tc : Thread Cert.VupIdeal.nD Cert.VupIdeal.τ).loc Cert.VupIdeal.main_arg1)) →
    ∃ (v0 : (c : Dev Cert.VupIdeal.nD) → Buf (Elt Ideal) ((c.tc : Thread Cert.VupIdeal.nD Cert.VupIdeal.τ).loc Cert.VupIdeal.main_v2)),
      θ_run (Cert.VupIdeal.defs (F := Ideal)) (onTc (τ := Cert.VupIdeal.τ) (Cert.VupIdeal.main (F := Ideal))) ⟨m, fun _ => 0, g⟩ (fun r => ∀ c : Dev Cert.VupIdeal.nD,
          r.2.mem ((c.tc : Thread Cert.VupIdeal.nD Cert.VupIdeal.τ).loc Cert.VupIdeal.main_v2) = v0 c
          ∧ r.2.mem ((c.tc : Thread Cert.VupIdeal.nD Cert.VupIdeal.τ).loc Cert.VupIdeal.main_arg0) = m ((c.tc : Thread Cert.VupIdeal.nD Cert.VupIdeal.τ).loc Cert.VupIdeal.main_arg0)
          ∧ r.2.mem ((c.tc : Thread Cert.VupIdeal.nD Cert.VupIdeal.τ).loc Cert.VupIdeal.main_arg1) = m ((c.tc : Thread Cert.VupIdeal.nD Cert.VupIdeal.τ).loc Cert.VupIdeal.main_arg1))
      ∧ θ_run (Cert.VupRefIdeal.defs (F := Ideal)) (onTc (τ := Cert.VupRefIdeal.τ) (Cert.VupRefIdeal.main (F := Ideal))) ⟨m', fun _ => 0, g'⟩ (fun r => ∀ c : Dev Cert.VupRefIdeal.nD,
          r.2.mem ((c.tc : Thread Cert.VupRefIdeal.nD Cert.VupRefIdeal.τ).loc Cert.VupRefIdeal.main_v6) = v0 c
          ∧ r.2.mem ((c.tc : Thread Cert.VupRefIdeal.nD Cert.VupRefIdeal.τ).loc Cert.VupRefIdeal.main_arg0) = m' ((c.tc : Thread Cert.VupRefIdeal.nD Cert.VupRefIdeal.τ).loc Cert.VupRefIdeal.main_arg0)
          ∧ r.2.mem ((c.tc : Thread Cert.VupRefIdeal.nD Cert.VupRefIdeal.τ).loc Cert.VupRefIdeal.main_arg1) = m' ((c.tc : Thread Cert.VupRefIdeal.nD Cert.VupRefIdeal.τ).loc Cert.VupRefIdeal.main_arg1))

def preserves_Mla_MlaIdeal : Prop :=
  True

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v36_0)) (v1 : (c : Dev Cert.MlaIdeal.nD) → Buf (Elt Ideal) ((c.tc : Thread Cert.MlaIdeal.nD Cert.MlaIdeal.τ).loc Cert.MlaIdeal.main_v36_1)) (v2 : (c : Dev Cert.MlaIdeal.nD) → Buf (Elt Ideal) ((c.tc : Thread Cert.MlaIdeal.nD Cert.MlaIdeal.τ).loc Cert.MlaIdeal.main_v36_2)) (v3 : (c : Dev Cert.MlaIdeal.nD) → Buf (Elt Ideal) ((c.tc : Thread Cert.MlaIdeal.nD Cert.MlaIdeal.τ).loc Cert.MlaIdeal.main_v36_3)) (v4 : (c : Dev Cert.MlaIdeal.nD) → Buf (Elt Ideal) ((c.tc : Thread Cert.MlaIdeal.nD Cert.MlaIdeal.τ).loc Cert.MlaIdeal.main_v36_4)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v36_0) = v0 c
          ∧ r.2.mem ((c.tc : Thread Cert.MlaIdeal.nD Cert.MlaIdeal.τ).loc Cert.MlaIdeal.main_v36_1) = v1 c
          ∧ r.2.mem ((c.tc : Thread Cert.MlaIdeal.nD Cert.MlaIdeal.τ).loc Cert.MlaIdeal.main_v36_2) = v2 c
          ∧ r.2.mem ((c.tc : Thread Cert.MlaIdeal.nD Cert.MlaIdeal.τ).loc Cert.MlaIdeal.main_v36_3) = v3 c
          ∧ r.2.mem ((c.tc : Thread Cert.MlaIdeal.nD Cert.MlaIdeal.τ).loc Cert.MlaIdeal.main_v36_4) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v101) = v0 c
          ∧ r.2.mem ((c.tc : Thread Cert.MlaRefIdeal.nD Cert.MlaRefIdeal.τ).loc Cert.MlaRefIdeal.main_v32) = v1 c
          ∧ r.2.mem ((c.tc : Thread Cert.MlaRefIdeal.nD Cert.MlaRefIdeal.τ).loc Cert.MlaRefIdeal.main_v102) = v2 c
          ∧ r.2.mem ((c.tc : Thread Cert.MlaRefIdeal.nD Cert.MlaRefIdeal.τ).loc Cert.MlaRefIdeal.main_v100) = v3 c
          ∧ r.2.mem ((c.tc : Thread Cert.MlaRefIdeal.nD Cert.MlaRefIdeal.τ).loc Cert.MlaRefIdeal.main_v103) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Scp_ScpIdeal : Prop :=
  True

def algebraic_ScpIdeal_ScpRefIdeal [hScpIdeal : Cert.ScpIdeal.Facts] [hScpRefIdeal : Cert.ScpRefIdeal.Facts] : Prop :=
  ∀ (m : (ℓ : Loc Cert.ScpIdeal.nD Cert.ScpIdeal.τ Cert.ScpIdeal.sig) → Buf (Elt Ideal) ℓ) (g : Dev Cert.ScpIdeal.nD → PrngReg)
    (m' : (ℓ : Loc Cert.ScpRefIdeal.nD Cert.ScpRefIdeal.τ Cert.ScpRefIdeal.sig) → Buf (Elt Ideal) ℓ) (g' : Dev Cert.ScpRefIdeal.nD → PrngReg), Pre_ScpIdeal m →
    (∀ c : Dev Cert.ScpIdeal.nD,
      m' ((c.tc : Thread Cert.ScpRefIdeal.nD Cert.ScpRefIdeal.τ).loc Cert.ScpRefIdeal.main_arg0) = m ((c.tc : Thread Cert.ScpIdeal.nD Cert.ScpIdeal.τ).loc Cert.ScpIdeal.main_arg0)
      ∧ m' ((c.tc : Thread Cert.ScpRefIdeal.nD Cert.ScpRefIdeal.τ).loc Cert.ScpRefIdeal.main_arg1) = m ((c.tc : Thread Cert.ScpIdeal.nD Cert.ScpIdeal.τ).loc Cert.ScpIdeal.main_arg1)
      ∧ m' ((c.tc : Thread Cert.ScpRefIdeal.nD Cert.ScpRefIdeal.τ).loc Cert.ScpRefIdeal.main_arg2) = m ((c.tc : Thread Cert.ScpIdeal.nD Cert.ScpIdeal.τ).loc Cert.ScpIdeal.main_arg2)) →
    ∃ (v0 : (c : Dev Cert.ScpIdeal.nD) → Buf (Elt Ideal) ((c.tc : Thread Cert.ScpIdeal.nD Cert.ScpIdeal.τ).loc Cert.ScpIdeal.main_v2_0)) (v1 : (c : Dev Cert.ScpIdeal.nD) → Buf (Elt Ideal) ((c.tc : Thread Cert.ScpIdeal.nD Cert.ScpIdeal.τ).loc Cert.ScpIdeal.main_v2_1)),
      θ_run (Cert.ScpIdeal.defs (F := Ideal)) (onTc (τ := Cert.ScpIdeal.τ) (Cert.ScpIdeal.main (F := Ideal))) ⟨m, fun _ => 0, g⟩ (fun r => ∀ c : Dev Cert.ScpIdeal.nD,
          r.2.mem ((c.tc : Thread Cert.ScpIdeal.nD Cert.ScpIdeal.τ).loc Cert.ScpIdeal.main_v2_0) = v0 c
          ∧ r.2.mem ((c.tc : Thread Cert.ScpIdeal.nD Cert.ScpIdeal.τ).loc Cert.ScpIdeal.main_v2_1) = v1 c
          ∧ r.2.mem ((c.tc : Thread Cert.ScpIdeal.nD Cert.ScpIdeal.τ).loc Cert.ScpIdeal.main_arg0) = m ((c.tc : Thread Cert.ScpIdeal.nD Cert.ScpIdeal.τ).loc Cert.ScpIdeal.main_arg0)
          ∧ r.2.mem ((c.tc : Thread Cert.ScpIdeal.nD Cert.ScpIdeal.τ).loc Cert.ScpIdeal.main_arg1) = m ((c.tc : Thread Cert.ScpIdeal.nD Cert.ScpIdeal.τ).loc Cert.ScpIdeal.main_arg1)
          ∧ r.2.mem ((c.tc : Thread Cert.ScpIdeal.nD Cert.ScpIdeal.τ).loc Cert.ScpIdeal.main_arg2) = m ((c.tc : Thread Cert.ScpIdeal.nD Cert.ScpIdeal.τ).loc Cert.ScpIdeal.main_arg2))
      ∧ θ_run (Cert.ScpRefIdeal.defs (F := Ideal)) (onTc (τ := Cert.ScpRefIdeal.τ) (Cert.ScpRefIdeal.main (F := Ideal))) ⟨m', fun _ => 0, g'⟩ (fun r => ∀ c : Dev Cert.ScpRefIdeal.nD,
          r.2.mem ((c.tc : Thread Cert.ScpRefIdeal.nD Cert.ScpRefIdeal.τ).loc Cert.ScpRefIdeal.main_v37) = v0 c
          ∧ r.2.mem ((c.tc : Thread Cert.ScpRefIdeal.nD Cert.ScpRefIdeal.τ).loc Cert.ScpRefIdeal.main_v32) = v1 c
          ∧ r.2.mem ((c.tc : Thread Cert.ScpRefIdeal.nD Cert.ScpRefIdeal.τ).loc Cert.ScpRefIdeal.main_arg0) = m' ((c.tc : Thread Cert.ScpRefIdeal.nD Cert.ScpRefIdeal.τ).loc Cert.ScpRefIdeal.main_arg0)
          ∧ r.2.mem ((c.tc : Thread Cert.ScpRefIdeal.nD Cert.ScpRefIdeal.τ).loc Cert.ScpRefIdeal.main_arg1) = m' ((c.tc : Thread Cert.ScpRefIdeal.nD Cert.ScpRefIdeal.τ).loc Cert.ScpRefIdeal.main_arg1)
          ∧ r.2.mem ((c.tc : Thread Cert.ScpRefIdeal.nD Cert.ScpRefIdeal.τ).loc Cert.ScpRefIdeal.main_arg2) = m' ((c.tc : Thread Cert.ScpRefIdeal.nD Cert.ScpRefIdeal.τ).loc Cert.ScpRefIdeal.main_arg2))

def preserves_Scs_ScsIdeal : Prop :=
  True

def algebraic_ScsIdeal_ScsRefIdeal [hScsIdeal : Cert.ScsIdeal.Facts] [hScsRefIdeal : Cert.ScsRefIdeal.Facts] : Prop :=
  ∀ (m : (ℓ : Loc Cert.ScsIdeal.nD Cert.ScsIdeal.τ Cert.ScsIdeal.sig) → Buf (Elt Ideal) ℓ) (g : Dev Cert.ScsIdeal.nD → PrngReg)
    (m' : (ℓ : Loc Cert.ScsRefIdeal.nD Cert.ScsRefIdeal.τ Cert.ScsRefIdeal.sig) → Buf (Elt Ideal) ℓ) (g' : Dev Cert.ScsRefIdeal.nD → PrngReg), Pre_ScsIdeal m →
    (∀ c : Dev Cert.ScsIdeal.nD,
      m' ((c.tc : Thread Cert.ScsRefIdeal.nD Cert.ScsRefIdeal.τ).loc Cert.ScsRefIdeal.main_arg0) = m ((c.tc : Thread Cert.ScsIdeal.nD Cert.ScsIdeal.τ).loc Cert.ScsIdeal.main_arg0)
      ∧ m' ((c.tc : Thread Cert.ScsRefIdeal.nD Cert.ScsRefIdeal.τ).loc Cert.ScsRefIdeal.main_arg1) = m ((c.tc : Thread Cert.ScsIdeal.nD Cert.ScsIdeal.τ).loc Cert.ScsIdeal.main_arg1)
      ∧ m' ((c.tc : Thread Cert.ScsRefIdeal.nD Cert.ScsRefIdeal.τ).loc Cert.ScsRefIdeal.main_arg2) = m ((c.tc : Thread Cert.ScsIdeal.nD Cert.ScsIdeal.τ).loc Cert.ScsIdeal.main_arg2)
      ∧ m' ((c.tc : Thread Cert.ScsRefIdeal.nD Cert.ScsRefIdeal.τ).loc Cert.ScsRefIdeal.main_arg3) = m ((c.tc : Thread Cert.ScsIdeal.nD Cert.ScsIdeal.τ).loc Cert.ScsIdeal.main_arg3)) →
    ∃ (v0 : (c : Dev Cert.ScsIdeal.nD) → Buf (Elt Ideal) ((c.tc : Thread Cert.ScsIdeal.nD Cert.ScsIdeal.τ).loc Cert.ScsIdeal.main_v5_0)) (v1 : (c : Dev Cert.ScsIdeal.nD) → Buf (Elt Ideal) ((c.tc : Thread Cert.ScsIdeal.nD Cert.ScsIdeal.τ).loc Cert.ScsIdeal.main_v5_1)),
      θ_run (Cert.ScsIdeal.defs (F := Ideal)) (onTc (τ := Cert.ScsIdeal.τ) (Cert.ScsIdeal.main (F := Ideal))) ⟨m, fun _ => 0, g⟩ (fun r => ∀ c : Dev Cert.ScsIdeal.nD,
          r.2.mem ((c.tc : Thread Cert.ScsIdeal.nD Cert.ScsIdeal.τ).loc Cert.ScsIdeal.main_v5_0) = v0 c
          ∧ r.2.mem ((c.tc : Thread Cert.ScsIdeal.nD Cert.ScsIdeal.τ).loc Cert.ScsIdeal.main_v5_1) = v1 c
          ∧ r.2.mem ((c.tc : Thread Cert.ScsIdeal.nD Cert.ScsIdeal.τ).loc Cert.ScsIdeal.main_arg0) = m ((c.tc : Thread Cert.ScsIdeal.nD Cert.ScsIdeal.τ).loc Cert.ScsIdeal.main_arg0)
          ∧ r.2.mem ((c.tc : Thread Cert.ScsIdeal.nD Cert.ScsIdeal.τ).loc Cert.ScsIdeal.main_arg1) = m ((c.tc : Thread Cert.ScsIdeal.nD Cert.ScsIdeal.τ).loc Cert.ScsIdeal.main_arg1)
          ∧ r.2.mem ((c.tc : Thread Cert.ScsIdeal.nD Cert.ScsIdeal.τ).loc Cert.ScsIdeal.main_arg2) = m ((c.tc : Thread Cert.ScsIdeal.nD Cert.ScsIdeal.τ).loc Cert.ScsIdeal.main_arg2)
          ∧ r.2.mem ((c.tc : Thread Cert.ScsIdeal.nD Cert.ScsIdeal.τ).loc Cert.ScsIdeal.main_arg3) = m ((c.tc : Thread Cert.ScsIdeal.nD Cert.ScsIdeal.τ).loc Cert.ScsIdeal.main_arg3))
      ∧ θ_run (Cert.ScsRefIdeal.defs (F := Ideal)) (onTc (τ := Cert.ScsRefIdeal.τ) (Cert.ScsRefIdeal.main (F := Ideal))) ⟨m', fun _ => 0, g'⟩ (fun r => ∀ c : Dev Cert.ScsRefIdeal.nD,
          r.2.mem ((c.tc : Thread Cert.ScsRefIdeal.nD Cert.ScsRefIdeal.τ).loc Cert.ScsRefIdeal.main_v38) = v0 c
          ∧ r.2.mem ((c.tc : Thread Cert.ScsRefIdeal.nD Cert.ScsRefIdeal.τ).loc Cert.ScsRefIdeal.main_v39) = v1 c
          ∧ r.2.mem ((c.tc : Thread Cert.ScsRefIdeal.nD Cert.ScsRefIdeal.τ).loc Cert.ScsRefIdeal.main_arg0) = m' ((c.tc : Thread Cert.ScsRefIdeal.nD Cert.ScsRefIdeal.τ).loc Cert.ScsRefIdeal.main_arg0)
          ∧ r.2.mem ((c.tc : Thread Cert.ScsRefIdeal.nD Cert.ScsRefIdeal.τ).loc Cert.ScsRefIdeal.main_arg1) = m' ((c.tc : Thread Cert.ScsRefIdeal.nD Cert.ScsRefIdeal.τ).loc Cert.ScsRefIdeal.main_arg1)
          ∧ r.2.mem ((c.tc : Thread Cert.ScsRefIdeal.nD Cert.ScsRefIdeal.τ).loc Cert.ScsRefIdeal.main_arg2) = m' ((c.tc : Thread Cert.ScsRefIdeal.nD Cert.ScsRefIdeal.τ).loc Cert.ScsRefIdeal.main_arg2)
          ∧ r.2.mem ((c.tc : Thread Cert.ScsRefIdeal.nD Cert.ScsRefIdeal.τ).loc Cert.ScsRefIdeal.main_arg3) = m' ((c.tc : Thread Cert.ScsRefIdeal.nD Cert.ScsRefIdeal.τ).loc Cert.ScsRefIdeal.main_arg3))

def preserves_Cvp_CvpIdeal : Prop :=
  True

def algebraic_CvpIdeal_CvpRefIdeal [hCvpIdeal : Cert.CvpIdeal.Facts] [hCvpRefIdeal : Cert.CvpRefIdeal.Facts] : Prop :=
  ∀ (m : (ℓ : Loc Cert.CvpIdeal.nD Cert.CvpIdeal.τ Cert.CvpIdeal.sig) → Buf (Elt Ideal) ℓ) (g : Dev Cert.CvpIdeal.nD → PrngReg)
    (m' : (ℓ : Loc Cert.CvpRefIdeal.nD Cert.CvpRefIdeal.τ Cert.CvpRefIdeal.sig) → Buf (Elt Ideal) ℓ) (g' : Dev Cert.CvpRefIdeal.nD → PrngReg), Pre_CvpIdeal m →
    (∀ c : Dev Cert.CvpIdeal.nD,
      m' ((c.tc : Thread Cert.CvpRefIdeal.nD Cert.CvpRefIdeal.τ).loc Cert.CvpRefIdeal.main_arg0) = m ((c.tc : Thread Cert.CvpIdeal.nD Cert.CvpIdeal.τ).loc Cert.CvpIdeal.main_arg0)
      ∧ m' ((c.tc : Thread Cert.CvpRefIdeal.nD Cert.CvpRefIdeal.τ).loc Cert.CvpRefIdeal.main_arg1) = m ((c.tc : Thread Cert.CvpIdeal.nD Cert.CvpIdeal.τ).loc Cert.CvpIdeal.main_arg1)
      ∧ m' ((c.tc : Thread Cert.CvpRefIdeal.nD Cert.CvpRefIdeal.τ).loc Cert.CvpRefIdeal.main_arg2) = m ((c.tc : Thread Cert.CvpIdeal.nD Cert.CvpIdeal.τ).loc Cert.CvpIdeal.main_arg2)) →
    ∃ (v0 : (c : Dev Cert.CvpIdeal.nD) → Buf (Elt Ideal) ((c.tc : Thread Cert.CvpIdeal.nD Cert.CvpIdeal.τ).loc Cert.CvpIdeal.main_v5_0)) (v1 : (c : Dev Cert.CvpIdeal.nD) → Buf (Elt Ideal) ((c.tc : Thread Cert.CvpIdeal.nD Cert.CvpIdeal.τ).loc Cert.CvpIdeal.main_v5_1)),
      θ_run (Cert.CvpIdeal.defs (F := Ideal)) (onTc (τ := Cert.CvpIdeal.τ) (Cert.CvpIdeal.main (F := Ideal))) ⟨m, fun _ => 0, g⟩ (fun r => ∀ c : Dev Cert.CvpIdeal.nD,
          r.2.mem ((c.tc : Thread Cert.CvpIdeal.nD Cert.CvpIdeal.τ).loc Cert.CvpIdeal.main_v5_0) = v0 c
          ∧ r.2.mem ((c.tc : Thread Cert.CvpIdeal.nD Cert.CvpIdeal.τ).loc Cert.CvpIdeal.main_v5_1) = v1 c
          ∧ r.2.mem ((c.tc : Thread Cert.CvpIdeal.nD Cert.CvpIdeal.τ).loc Cert.CvpIdeal.main_arg0) = m ((c.tc : Thread Cert.CvpIdeal.nD Cert.CvpIdeal.τ).loc Cert.CvpIdeal.main_arg0)
          ∧ r.2.mem ((c.tc : Thread Cert.CvpIdeal.nD Cert.CvpIdeal.τ).loc Cert.CvpIdeal.main_arg1) = m ((c.tc : Thread Cert.CvpIdeal.nD Cert.CvpIdeal.τ).loc Cert.CvpIdeal.main_arg1)
          ∧ r.2.mem ((c.tc : Thread Cert.CvpIdeal.nD Cert.CvpIdeal.τ).loc Cert.CvpIdeal.main_arg2) = m ((c.tc : Thread Cert.CvpIdeal.nD Cert.CvpIdeal.τ).loc Cert.CvpIdeal.main_arg2))
      ∧ θ_run (Cert.CvpRefIdeal.defs (F := Ideal)) (onTc (τ := Cert.CvpRefIdeal.τ) (Cert.CvpRefIdeal.main (F := Ideal))) ⟨m', fun _ => 0, g'⟩ (fun r => ∀ c : Dev Cert.CvpRefIdeal.nD,
          r.2.mem ((c.tc : Thread Cert.CvpRefIdeal.nD Cert.CvpRefIdeal.τ).loc Cert.CvpRefIdeal.main_v43) = v0 c
          ∧ r.2.mem ((c.tc : Thread Cert.CvpRefIdeal.nD Cert.CvpRefIdeal.τ).loc Cert.CvpRefIdeal.main_v36) = v1 c
          ∧ r.2.mem ((c.tc : Thread Cert.CvpRefIdeal.nD Cert.CvpRefIdeal.τ).loc Cert.CvpRefIdeal.main_arg0) = m' ((c.tc : Thread Cert.CvpRefIdeal.nD Cert.CvpRefIdeal.τ).loc Cert.CvpRefIdeal.main_arg0)
          ∧ r.2.mem ((c.tc : Thread Cert.CvpRefIdeal.nD Cert.CvpRefIdeal.τ).loc Cert.CvpRefIdeal.main_arg1) = m' ((c.tc : Thread Cert.CvpRefIdeal.nD Cert.CvpRefIdeal.τ).loc Cert.CvpRefIdeal.main_arg1)
          ∧ r.2.mem ((c.tc : Thread Cert.CvpRefIdeal.nD Cert.CvpRefIdeal.τ).loc Cert.CvpRefIdeal.main_arg2) = m' ((c.tc : Thread Cert.CvpRefIdeal.nD Cert.CvpRefIdeal.τ).loc Cert.CvpRefIdeal.main_arg2))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v22_0)) (v1 : (c : Dev Cert.PreIdeal.nD) → Buf (Elt Ideal) ((c.tc : Thread Cert.PreIdeal.nD Cert.PreIdeal.τ).loc Cert.PreIdeal.main_v22_1)) (v2 : (c : Dev Cert.PreIdeal.nD) → Buf (Elt Ideal) ((c.tc : Thread Cert.PreIdeal.nD Cert.PreIdeal.τ).loc Cert.PreIdeal.main_v22_2)) (v3 : (c : Dev Cert.PreIdeal.nD) → Buf (Elt Ideal) ((c.tc : Thread Cert.PreIdeal.nD Cert.PreIdeal.τ).loc Cert.PreIdeal.main_v22_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v22_0) = v0 c
          ∧ r.2.mem ((c.tc : Thread Cert.PreIdeal.nD Cert.PreIdeal.τ).loc Cert.PreIdeal.main_v22_1) = v1 c
          ∧ r.2.mem ((c.tc : Thread Cert.PreIdeal.nD Cert.PreIdeal.τ).loc Cert.PreIdeal.main_v22_2) = v2 c
          ∧ r.2.mem ((c.tc : Thread Cert.PreIdeal.nD Cert.PreIdeal.τ).loc Cert.PreIdeal.main_v22_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v44) = v0 c
          ∧ r.2.mem ((c.tc : Thread Cert.PreRefIdeal.nD Cert.PreRefIdeal.τ).loc Cert.PreRefIdeal.main_v67) = v1 c
          ∧ r.2.mem ((c.tc : Thread Cert.PreRefIdeal.nD Cert.PreRefIdeal.τ).loc Cert.PreRefIdeal.main_v69) = v2 c
          ∧ r.2.mem ((c.tc : Thread Cert.PreRefIdeal.nD Cert.PreRefIdeal.τ).loc Cert.PreRefIdeal.main_v71) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)) →
    ∃ (v0 : (c : Dev Cert.StepIdeal.nD) → Buf (Elt Ideal) ((c.tc : Thread Cert.StepIdeal.nD Cert.StepIdeal.τ).loc Cert.StepIdeal.main_v6_0)) (v1 : (c : Dev Cert.StepIdeal.nD) → Buf (Elt Ideal) ((c.tc : Thread Cert.StepIdeal.nD Cert.StepIdeal.τ).loc Cert.StepIdeal.main_v6_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v6_0) = v0 c
          ∧ r.2.mem ((c.tc : Thread Cert.StepIdeal.nD Cert.StepIdeal.τ).loc Cert.StepIdeal.main_v6_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v25) = v0 c
          ∧ r.2.mem ((c.tc : Thread Cert.StepRefIdeal.nD Cert.StepRefIdeal.τ).loc Cert.StepRefIdeal.main_v27) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v34) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesRefIdeal : Cert.GatesRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hQ : Cert.Q.Facts) (hQIdeal : Cert.QIdeal.Facts) (hQRefIdeal : Cert.QRefIdeal.Facts) (hYp : Cert.Yp.Facts) (hYpIdeal : Cert.YpIdeal.Facts) (hYpRefIdeal : Cert.YpRefIdeal.Facts) (hYs : Cert.Ys.Facts) (hYsIdeal : Cert.YsIdeal.Facts) (hYsRefIdeal : Cert.YsRefIdeal.Facts) (hAttn : Cert.Attn.Facts) (hAttnIdeal : Cert.AttnIdeal.Facts) (hAttnRefIdeal : Cert.AttnRefIdeal.Facts) (hSmall : Cert.Small.Facts) (hSmallIdeal : Cert.SmallIdeal.Facts) (hSmallRefIdeal : Cert.SmallRefIdeal.Facts) (hQl : Cert.Ql.Facts) (hQlIdeal : Cert.QlIdeal.Facts) (hQlRefIdeal : Cert.QlRefIdeal.Facts) (hVup : Cert.Vup.Facts) (hVupIdeal : Cert.VupIdeal.Facts) (hVupRefIdeal : Cert.VupRefIdeal.Facts) (hMla : Cert.Mla.Facts) (hMlaIdeal : Cert.MlaIdeal.Facts) (hMlaRefIdeal : Cert.MlaRefIdeal.Facts) (hScp : Cert.Scp.Facts) (hScpIdeal : Cert.ScpIdeal.Facts) (hScpRefIdeal : Cert.ScpRefIdeal.Facts) (hScs : Cert.Scs.Facts) (hScsIdeal : Cert.ScsIdeal.Facts) (hScsRefIdeal : Cert.ScsRefIdeal.Facts) (hCvp : Cert.Cvp.Facts) (hCvpIdeal : Cert.CvpIdeal.Facts) (hCvpRefIdeal : Cert.CvpRefIdeal.Facts) (hPre : Cert.Pre.Facts) (hPreIdeal : Cert.PreIdeal.Facts) (hPreRefIdeal : Cert.PreRefIdeal.Facts) (hStep : Cert.Step.Facts) (hStepIdeal : Cert.StepIdeal.Facts) (hStepRefIdeal : Cert.StepRefIdeal.Facts) (hPost : Cert.Post.Facts) (hPostIdeal : Cert.PostIdeal.Facts) (hPostRefIdeal : Cert.PostRefIdeal.Facts) (hNorm : Cert.Norm.Facts) (hNormIdeal : Cert.NormIdeal.Facts) (hNormRefIdeal : Cert.NormRefIdeal.Facts) (hPre_attn_finite : Cert.Pre_attn_finite.Facts),
    quiescent_Kernel (hKernel := hKernel)
    ∧ quiescent_KernelIdeal (hKernelIdeal := hKernelIdeal)
    ∧ quiescent_ReferenceIdeal (hReferenceIdeal := hReferenceIdeal)
    ∧ quiescent_Gates (hGates := hGates)
    ∧ quiescent_GatesIdeal (hGatesIdeal := hGatesIdeal)
    ∧ quiescent_GatesRefIdeal (hGatesRefIdeal := hGatesRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Q (hQ := hQ)
    ∧ quiescent_QIdeal (hQIdeal := hQIdeal)
    ∧ quiescent_QRefIdeal (hQRefIdeal := hQRefIdeal)
    ∧ quiescent_Yp (hYp := hYp)
    ∧ quiescent_YpIdeal (hYpIdeal := hYpIdeal)
    ∧ quiescent_YpRefIdeal (hYpRefIdeal := hYpRefIdeal)
    ∧ quiescent_Ys (hYs := hYs)
    ∧ quiescent_YsIdeal (hYsIdeal := hYsIdeal)
    ∧ quiescent_YsRefIdeal (hYsRefIdeal := hYsRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Small (hSmall := hSmall)
    ∧ quiescent_SmallIdeal (hSmallIdeal := hSmallIdeal)
    ∧ quiescent_SmallRefIdeal (hSmallRefIdeal := hSmallRefIdeal)
    ∧ quiescent_Ql (hQl := hQl)
    ∧ quiescent_QlIdeal (hQlIdeal := hQlIdeal)
    ∧ quiescent_QlRefIdeal (hQlRefIdeal := hQlRefIdeal)
    ∧ quiescent_Vup (hVup := hVup)
    ∧ quiescent_VupIdeal (hVupIdeal := hVupIdeal)
    ∧ quiescent_VupRefIdeal (hVupRefIdeal := hVupRefIdeal)
    ∧ quiescent_Mla (hMla := hMla)
    ∧ quiescent_MlaIdeal (hMlaIdeal := hMlaIdeal)
    ∧ quiescent_MlaRefIdeal (hMlaRefIdeal := hMlaRefIdeal)
    ∧ quiescent_Scp (hScp := hScp)
    ∧ quiescent_ScpIdeal (hScpIdeal := hScpIdeal)
    ∧ quiescent_ScpRefIdeal (hScpRefIdeal := hScpRefIdeal)
    ∧ quiescent_Scs (hScs := hScs)
    ∧ quiescent_ScsIdeal (hScsIdeal := hScsIdeal)
    ∧ quiescent_ScsRefIdeal (hScsRefIdeal := hScsRefIdeal)
    ∧ quiescent_Cvp (hCvp := hCvp)
    ∧ quiescent_CvpIdeal (hCvpIdeal := hCvpIdeal)
    ∧ quiescent_CvpRefIdeal (hCvpRefIdeal := hCvpRefIdeal)
    ∧ quiescent_Pre (hPre := hPre)
    ∧ quiescent_PreIdeal (hPreIdeal := hPreIdeal)
    ∧ quiescent_PreRefIdeal (hPreRefIdeal := hPreRefIdeal)
    ∧ quiescent_Step (hStep := hStep)
    ∧ quiescent_StepIdeal (hStepIdeal := hStepIdeal)
    ∧ quiescent_StepRefIdeal (hStepRefIdeal := hStepRefIdeal)
    ∧ quiescent_Post (hPost := hPost)
    ∧ quiescent_PostIdeal (hPostIdeal := hPostIdeal)
    ∧ quiescent_PostRefIdeal (hPostRefIdeal := hPostRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal (hKernelIdeal := hKernelIdeal) (hReferenceIdeal := hReferenceIdeal)
    ∧ preserves_Gates_GatesIdeal
    ∧ algebraic_GatesIdeal_GatesRefIdeal (hGatesIdeal := hGatesIdeal) (hGatesRefIdeal := hGatesRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Q_QIdeal
    ∧ algebraic_QIdeal_QRefIdeal (hQIdeal := hQIdeal) (hQRefIdeal := hQRefIdeal)
    ∧ preserves_Yp_YpIdeal
    ∧ algebraic_YpIdeal_YpRefIdeal (hYpIdeal := hYpIdeal) (hYpRefIdeal := hYpRefIdeal)
    ∧ preserves_Ys_YsIdeal
    ∧ algebraic_YsIdeal_YsRefIdeal (hYsIdeal := hYsIdeal) (hYsRefIdeal := hYsRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Small_SmallIdeal
    ∧ algebraic_SmallIdeal_SmallRefIdeal (hSmallIdeal := hSmallIdeal) (hSmallRefIdeal := hSmallRefIdeal)
    ∧ preserves_Ql_QlIdeal
    ∧ algebraic_QlIdeal_QlRefIdeal (hQlIdeal := hQlIdeal) (hQlRefIdeal := hQlRefIdeal)
    ∧ preserves_Vup_VupIdeal
    ∧ algebraic_VupIdeal_VupRefIdeal (hVupIdeal := hVupIdeal) (hVupRefIdeal := hVupRefIdeal)
    ∧ preserves_Mla_MlaIdeal
    ∧ algebraic_MlaIdeal_MlaRefIdeal (hMlaIdeal := hMlaIdeal) (hMlaRefIdeal := hMlaRefIdeal)
    ∧ preserves_Scp_ScpIdeal
    ∧ algebraic_ScpIdeal_ScpRefIdeal (hScpIdeal := hScpIdeal) (hScpRefIdeal := hScpRefIdeal)
    ∧ preserves_Scs_ScsIdeal
    ∧ algebraic_ScsIdeal_ScsRefIdeal (hScsIdeal := hScsIdeal) (hScsRefIdeal := hScsRefIdeal)
    ∧ preserves_Cvp_CvpIdeal
    ∧ algebraic_CvpIdeal_CvpRefIdeal (hCvpIdeal := hCvpIdeal) (hCvpRefIdeal := hCvpRefIdeal)
    ∧ preserves_Pre_PreIdeal
    ∧ algebraic_PreIdeal_PreRefIdeal (hPreIdeal := hPreIdeal) (hPreRefIdeal := hPreRefIdeal)
    ∧ preserves_Step_StepIdeal
    ∧ algebraic_StepIdeal_StepRefIdeal (hStepIdeal := hStepIdeal) (hStepRefIdeal := hStepRefIdeal)
    ∧ preserves_Post_PostIdeal
    ∧ algebraic_PostIdeal_PostRefIdeal (hPostIdeal := hPostIdeal) (hPostRefIdeal := hPostRefIdeal)
    ∧ preserves_Norm_NormIdeal
    ∧ algebraic_NormIdeal_NormRefIdeal (hNormIdeal := hNormIdeal) (hNormRefIdeal := hNormRefIdeal)
-- ==== Pre_attn_finite.lean ====
abbrev S16x8320x256 : Shape := ⟨3, ![16, 8320, 256]⟩
abbrev S16x8320x64 : Shape := ⟨3, ![16, 8320, 64]⟩
abbrev S8320x256 : Shape := ⟨2, ![8320, 256]⟩
abbrev S8320x64 : Shape := ⟨2, ![8320, 64]⟩
abbrev S_ : Shape := ⟨0, ![]⟩

class Facts : Prop where
  bitsLt_bf16_f32 : FTy.bits .bf16 < FTy.bits .f32
  bcast_S_S16x8320x256 : S_.BroadcastsInDim S16x8320x256 (![] : Fin 0 → Fin S16x8320x256.rank)
  reducesTo_S16x8320x256_S_d0_1_2 : S16x8320x256.ReducesTo [0, 1, 2] S_
  h_S_ : 0 < S_.numel
  bcast_S_S16x8320x64 : S_.BroadcastsInDim S16x8320x64 (![] : Fin 0 → Fin S16x8320x64.rank)
  reducesTo_S16x8320x64_S_d0_1_2 : S16x8320x64.ReducesTo [0, 1, 2] S_
  bcast_S_S8320x256 : S_.BroadcastsInDim S8320x256 (![] : Fin 0 → Fin S8320x256.rank)
  reducesTo_S8320x256_S_d0_1 : S8320x256.ReducesTo [0, 1] S_
  bcast_S_S8320x64 : S_.BroadcastsInDim S8320x64 (![] : Fin 0 → Fin S8320x64.rank)
  reducesTo_S8320x64_S_d0_1 : S8320x64.ReducesTo [0, 1] S_

variable [Facts]

def fn_part1 {F : FTy → Type} [FloatOps F] (main_v16 : IVec S_ 1) (main_v17 : FVec F S8320x64 .f32) : IVec S_ 1 :=
  let main_v18 : FVec F S8320x64 .f32 := Host.absf main_v17
  let main_cst_4 : FVec F S_ .f32 := constant S_ .f32 0x7F800000#32
  let main_v19 : FVec F S8320x64 .f32 := broadcastInDim S8320x64 ![] bcast_S_S8320x64 main_cst_4
  let main_v20 : IVec S8320x64 1 := cmpf .olt main_v18 main_v19
  let main_c_5 : IVec S_ 1 := constantI S_ 1 1#1
  let main_v21 : IVec S_ 1 := (fun x v => Host.reduce IntOp.andi x v reducesTo_S8320x64_S_d0_1 h_S_) main_v20 main_c_5
  let main_v22 : IVec S_ 1 := andi main_v16 main_v21
  main_v22

def fn {F : FTy → Type} [FloatOps F] (main_arg0 : FVec F S16x8320x256 .bf16) (main_arg1 : FVec F S16x8320x64 .bf16) (main_arg2 : FVec F S8320x256 .bf16) (main_arg3 : FVec F S8320x64 .bf16) (main_arg4 : FVec F S16x8320x256 .bf16) : IVec S_ 1 :=
  let main_v0 : FVec F S16x8320x256 .f32 := (extf .f32 · bitsLt_bf16_f32) main_arg0
  let main_v1 : FVec F S16x8320x256 .f32 := Host.absf main_v0
  let main_cst : FVec F S_ .f32 := constant S_ .f32 0x7F800000#32
  let main_v2 : FVec F S16x8320x256 .f32 := broadcastInDim S16x8320x256 ![] bcast_S_S16x8320x256 main_cst
  let main_v3 : IVec S16x8320x256 1 := cmpf .olt main_v1 main_v2
  let main_c : IVec S_ 1 := constantI S_ 1 1#1
  let main_v4 : IVec S_ 1 := (fun x v => Host.reduce IntOp.andi x v reducesTo_S16x8320x256_S_d0_1_2 h_S_) main_v3 main_c
  let main_v5 : FVec F S16x8320x64 .f32 := (extf .f32 · bitsLt_bf16_f32) main_arg1
  let main_v6 : FVec F S16x8320x64 .f32 := Host.absf main_v5
  let main_cst_0 : FVec F S_ .f32 := constant S_ .f32 0x7F800000#32
  let main_v7 : FVec F S16x8320x64 .f32 := broadcastInDim S16x8320x64 ![] bcast_S_S16x8320x64 main_cst_0
  let main_v8 : IVec S16x8320x64 1 := cmpf .olt main_v6 main_v7
  let main_c_1 : IVec S_ 1 := constantI S_ 1 1#1
  let main_v9 : IVec S_ 1 := (fun x v => Host.reduce IntOp.andi x v reducesTo_S16x8320x64_S_d0_1_2 h_S_) main_v8 main_c_1
  let main_v10 : IVec S_ 1 := andi main_v4 main_v9
  let main_v11 : FVec F S8320x256 .f32 := (extf .f32 · bitsLt_bf16_f32) main_arg2
  let main_v12 : FVec F S8320x256 .f32 := Host.absf main_v11
  let main_cst_2 : FVec F S_ .f32 := constant S_ .f32 0x7F800000#32
  let main_v13 : FVec F S8320x256 .f32 := broadcastInDim S8320x256 ![] bcast_S_S8320x256 main_cst_2
  let main_v14 : IVec S8320x256 1 := cmpf .olt main_v12 main_v13
  let main_c_3 : IVec S_ 1 := constantI S_ 1 1#1
  let main_v15 : IVec S_ 1 := (fun x v => Host.reduce IntOp.andi x v reducesTo_S8320x256_S_d0_1 h_S_) main_v14 main_c_3
  let main_v16 : IVec S_ 1 := andi main_v10 main_v15
  let main_v17 : FVec F S8320x64 .f32 := (extf .f32 · bitsLt_bf16_f32) main_arg3
  fn_part1 (F := F) main_v16 main_v17
-- ==== Kernel.lean ====
abbrev S8320x4096 : Shape := ⟨2, ![8320, 4096]⟩
abbrev S4x4096x25952 : Shape := ⟨3, ![4, 4096, 25952]⟩
abbrev S4x25952x4096 : Shape := ⟨3, ![4, 25952, 4096]⟩
abbrev S8320x12288 : Shape := ⟨2, ![8320, 12288]⟩
abbrev S2080x4096 : Shape := ⟨2, ![2080, 4096]⟩
abbrev S1x512x4096 : Shape := ⟨3, ![1, 512, 4096]⟩
abbrev S2080x512 : Shape := ⟨2, ![2080, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S4x4096x25952, .f32⟩
  | .hbm, ⟨2, _⟩ => ⟨S4x25952x4096, .f32⟩
  | .hbm, ⟨3, _⟩ => ⟨S8320x12288, .f32⟩
  | .local _ .vmem, ⟨0, _⟩ => ⟨S2080x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2080x512, .f32⟩
  | .local _ .vmem, ⟨4, _⟩ => ⟨S2080x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c1_i32 : BitVec 32 := 1#32
  let c0_i32_0 : BitVec 32 := 0#32
  let c0_i32_1 : BitVec 32 := 0#32
  ![c1_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8320x4096 : Shape := ⟨2, ![8320, 4096]⟩
abbrev S4x4096x25952 : Shape := ⟨3, ![4, 4096, 25952]⟩
abbrev S1x4096x25952 : Shape := ⟨3, ![1, 4096, 25952]⟩
abbrev S4096x25952 : Shape := ⟨2, ![4096, 25952]⟩
abbrev S8320x25952 : Shape := ⟨2, ![8320, 25952]⟩
abbrev S8320x12288 : Shape := ⟨2, ![8320, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4x4096x25952, .f32⟩
  | .hbm, ⟨2, _⟩ => ⟨S8320x4096, .f32⟩
  | .hbm, ⟨3, _⟩ => ⟨S1x4096x25952, .f32⟩
  | .hbm, ⟨4, _⟩ => ⟨S4096x25952, .f32⟩
  | .hbm, ⟨5, _⟩ => ⟨S8320x25952, .f32⟩
  | .hbm, ⟨6, _⟩ => ⟨S8320x12288, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gates.lean ====
abbrev S8320x4096 : Shape := ⟨2, ![8320, 4096]⟩
abbrev S4x4096x25952 : Shape := ⟨3, ![4, 4096, 25952]⟩
abbrev S4x25952x4096 : Shape := ⟨3, ![4, 25952, 4096]⟩
abbrev S8320x12288 : Shape := ⟨2, ![8320, 12288]⟩
abbrev S2080x4096 : Shape := ⟨2, ![2080, 4096]⟩
abbrev S1x512x4096 : Shape := ⟨3, ![1, 512, 4096]⟩
abbrev S2080x512 : Shape := ⟨2, ![2080, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S4x4096x25952, .f32⟩
  | .hbm, ⟨2, _⟩ => ⟨S4x25952x4096, .f32⟩
  | .hbm, ⟨3, _⟩ => ⟨S8320x12288, .f32⟩
  | .local _ .vmem, ⟨0, _⟩ => ⟨S2080x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2080x512, .f32⟩
  | .local _ .vmem, ⟨4, _⟩ => ⟨S2080x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let c13664_i32 : BitVec 32 := 13664#32
  let arg1 : BitVec 32 := BitVec.ofNat 32 (i 1).val
  let c512_i32 : BitVec 32 := 512#32
  let v0 : BitVec 32 := Scalar.muli arg1 c512_i32
  let v1 : BitVec 32 := Scalar.addi c13664_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c13664_i32 : BitVec 32 := 13664#32
  let v1 : BitVec 32 := Scalar.addi c13664_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8320x4096 : Shape := ⟨2, ![8320, 4096]⟩
abbrev S4x4096x25952 : Shape := ⟨3, ![4, 4096, 25952]⟩
abbrev S1x4096x25952 : Shape := ⟨3, ![1, 4096, 25952]⟩
abbrev S4096x25952 : Shape := ⟨2, ![4096, 25952]⟩
abbrev S8320x25952 : Shape := ⟨2, ![8320, 25952]⟩
abbrev S8320x12288 : Shape := ⟨2, ![8320, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4x4096x25952, .f32⟩
  | .hbm, ⟨2, _⟩ => ⟨S8320x4096, .f32⟩
  | .hbm, ⟨3, _⟩ => ⟨S1x4096x25952, .f32⟩
  | .hbm, ⟨4, _⟩ => ⟨S4096x25952, .f32⟩
  | .hbm, ⟨5, _⟩ => ⟨S8320x25952, .f32⟩
  | .hbm, ⟨6, _⟩ => ⟨S8320x12288, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S8320x4096 : Shape := ⟨2, ![8320, 4096]⟩
abbrev S4x4096x16384 : Shape := ⟨3, ![4, 4096, 16384]⟩
abbrev S8320x16384 : Shape := ⟨2, ![8320, 16384]⟩
abbrev S2080x4096 : Shape := ⟨2, ![2080, 4096]⟩
abbrev S1x4096x512 : Shape := ⟨3, ![1, 4096, 512]⟩
abbrev S2080x512 : Shape := ⟨2, ![2080, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S4x4096x16384, .f32⟩
  | .hbm, ⟨2, _⟩ => ⟨S8320x16384, .bf16⟩
  | .local _ .vmem, ⟨0, _⟩ => ⟨S2080x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2080x512, .bf16⟩
  | .local _ .vmem, ⟨4, _⟩ => ⟨S2080x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8320x4096 : Shape := ⟨2, ![8320, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S8320x16384 : Shape := ⟨2, ![8320, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4x4096x16384, .f32⟩
  | .hbm, ⟨2, _⟩ => ⟨S8320x4096, .f32⟩
  | .hbm, ⟨3, _⟩ => ⟨S1x4096x16384, .f32⟩
  | .hbm, ⟨4, _⟩ => ⟨S4096x16384, .f32⟩
  | .hbm, ⟨5, _⟩ => ⟨S8320x16384, .f32⟩
  | .hbm, ⟨6, _⟩ => ⟨S_, .f32⟩
  | .hbm, ⟨7, _⟩ => ⟨S8320x16384, .f32⟩
  | .hbm, ⟨8, _⟩ => ⟨S8320x16384, .f32⟩
  | .hbm, ⟨9, _⟩ => ⟨S8320x16384, .f32⟩
  | .hbm, ⟨10, _⟩ => ⟨S8320x16384, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S8320x16384 : Shape := ⟨2, ![8320, 16384]⟩
abbrev S4x16384x4096 : Shape := ⟨3, ![4, 16384, 4096]⟩
abbrev S8320x4096 : Shape := ⟨2, ![8320, 4096]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8320x16384, .bf16⟩
  | .hbm, ⟨1, _⟩ => ⟨S4x16384x4096, .f32⟩
  | .hbm, ⟨2, _⟩ => ⟨S8320x4096, .f32⟩
  | .hbm, ⟨3, _⟩ => ⟨S4x16384x4096, .bf16⟩
  | .hbm, ⟨4, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8320x16384 : Shape := ⟨2, ![8320, 16384]⟩
abbrev S4x16384x4096 : Shape := ⟨3, ![4, 16384, 4096]⟩
abbrev S8320x4096 : Shape := ⟨2, ![8320, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x16384, .bf16⟩
  | .hbm, ⟨1, _⟩ => ⟨S4x16384x4096, .f32⟩
  | .hbm, ⟨2, _⟩ => ⟨S8320x4096, .f32⟩
  | .hbm, ⟨3, _⟩ => ⟨S8320x16384, .f32⟩
  | .hbm, ⟨4, _⟩ => ⟨S1x16384x4096, .f32⟩
  | .hbm, ⟨5, _⟩ => ⟨S16384x4096, .f32⟩
  | .hbm, ⟨6, _⟩ => ⟨S8320x4096, .f32⟩
  | .hbm, ⟨7, _⟩ => ⟨S8320x4096, .f32⟩
  | _, _ => ⟨S8320x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S8320x2048 : Shape := ⟨2, ![8320, 2048]⟩
abbrev S4x2048x4096 : Shape := ⟨3, ![4, 2048, 4096]⟩
abbrev S8320x12288 : Shape := ⟨2, ![8320, 12288]⟩
abbrev S4x3x4096 : Shape := ⟨3, ![4, 3, 4096]⟩
abbrev S8320x4096 : Shape := ⟨2, ![8320, 4096]⟩
abbrev S1040x2048 : Shape := ⟨2, ![1040, 2048]⟩
abbrev S1x2048x256 : Shape := ⟨3, ![1, 2048, 256]⟩
abbrev S1040x256 : Shape := ⟨2, ![1040, 256]⟩
abbrev S1x3x256 : Shape := ⟨3, ![1, 3, 256]⟩
abbrev S2048x256 : Shape := ⟨2, ![2048, 256]⟩
abbrev S1x1x256 : Shape := ⟨3, ![1, 1, 256]⟩
abbrev S1x256 : Shape := ⟨2, ![1, 256]⟩

abbrev nBuf : Space → Nat
  | .hbm => 9
  | .vmem => 19
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .bf16⟩
  | .hbm, ⟨3, _⟩ => ⟨S4x2048x4096, .f32⟩
  | .hbm, ⟨4, _⟩ => ⟨S4x2048x4096, .f32⟩
  | .hbm, ⟨5, _⟩ => ⟨S4x2048x4096, .f32⟩
  | .hbm, ⟨6, _⟩ => ⟨S8320x12288, .f32⟩
  | .hbm, ⟨7, _⟩ => ⟨S4x3x4096, .f32⟩
  | .hbm, ⟨8, _⟩ => ⟨S8320x4096, .bf16⟩
  | .local _ .vmem, ⟨0, _⟩ => ⟨S1040x2048, .bf16⟩
  | .local _ .vmem, ⟨1, _⟩ => ⟨S1040x2048, .bf16⟩
  | .local _ .vmem, ⟨2, _⟩ => ⟨S1040x2048, .bf16⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1040x256, .f32⟩
  | .local _ .vmem, ⟨10, _⟩ => ⟨S1040x256, .f32⟩
  | .local _ .vmem, ⟨11, _⟩ => ⟨S1040x256, .f32⟩
  | .local _ .vmem, ⟨12, _⟩ => ⟨S1040x256, .f32⟩
  | .local _ .vmem, ⟨13, _⟩ => ⟨S1040x256, .f32⟩
  | .local _ .vmem, ⟨14, _⟩ => ⟨S1040x256, .f32⟩
  | .local _ .vmem, ⟨15, _⟩ => ⟨S1x3x256, .f32⟩
  | .local _ .vmem, ⟨16, _⟩ => ⟨S1x3x256, .f32⟩
  | .local _ .vmem, ⟨17, _⟩ => ⟨S1040x256, .bf16⟩
  | .local _ .vmem, ⟨18, _⟩ => ⟨S1040x256, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1040x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1040x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1040x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1040x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1040x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1040x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1040x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8320x2048 : Shape := ⟨2, ![8320, 2048]⟩
abbrev S4x2048x4096 : Shape := ⟨3, ![4, 2048, 4096]⟩
abbrev S8320x12288 : Shape := ⟨2, ![8320, 12288]⟩
abbrev S4x3x4096 : Shape := ⟨3, ![4, 3, 4096]⟩
abbrev S1x2048x4096 : Shape := ⟨3, ![1, 2048, 4096]⟩
abbrev S2048x4096 : Shape := ⟨2, ![2048, 4096]⟩
abbrev S8320x4096 : Shape := ⟨2, ![8320, 4096]⟩
abbrev S8320x3x4096 : Shape := ⟨3, ![8320, 3, 4096]⟩
abbrev S1x3x4096 : Shape := ⟨3, ![1, 3, 4096]⟩
abbrev S3x4096 : Shape := ⟨2, ![3, 4096]⟩
abbrev S_ : Shape := ⟨0, ![]⟩
abbrev S8320x1x4096 : Shape := ⟨3, ![8320, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .bf16⟩
  | .hbm, ⟨3, _⟩ => ⟨S4x2048x4096, .f32⟩
  | .hbm, ⟨4, _⟩ => ⟨S4x2048x4096, .f32⟩
  | .hbm, ⟨5, _⟩ => ⟨S4x2048x4096, .f32⟩
  | .hbm, ⟨6, _⟩ => ⟨S8320x12288, .f32⟩
  | .hbm, ⟨7, _⟩ => ⟨S4x3x4096, .f32⟩
  | .hbm, ⟨8, _⟩ => ⟨S8320x2048, .f32⟩
  | .hbm, ⟨9, _⟩ => ⟨S1x2048x4096, .f32⟩
  | .hbm, ⟨10, _⟩ => ⟨S2048x4096, .f32⟩
  | .hbm, ⟨11, _⟩ => ⟨S8320x4096, .f32⟩
  | .hbm, ⟨12, _⟩ => ⟨S8320x2048, .f32⟩
  | .hbm, ⟨13, _⟩ => ⟨S1x2048x4096, .f32⟩
  | .hbm, ⟨14, _⟩ => ⟨S2048x4096, .f32⟩
  | .hbm, ⟨15, _⟩ => ⟨S8320x4096, .f32⟩
  | .hbm, ⟨16, _⟩ => ⟨S8320x2048, .f32⟩
  | .hbm, ⟨17, _⟩ => ⟨S1x2048x4096, .f32⟩
  | .hbm, ⟨18, _⟩ => ⟨S2048x4096, .f32⟩
  | .hbm, ⟨19, _⟩ => ⟨S8320x4096, .f32⟩
  | .hbm, ⟨20, _⟩ => ⟨S8320x3x4096, .f32⟩
  | .hbm, ⟨21, _⟩ => ⟨S1x3x4096, .f32⟩
  | .hbm, ⟨22, _⟩ => ⟨S3x4096, .f32⟩
  | .hbm, ⟨23, _⟩ => ⟨S1x3x4096, .f32⟩
  | .hbm, ⟨24, _⟩ => ⟨S8320x3x4096, .f32⟩
  | .hbm, ⟨25, _⟩ => ⟨S8320x3x4096, .f32⟩
  | .hbm, ⟨26, _⟩ => ⟨S8320x3x4096, .f32⟩
  | .hbm, ⟨27, _⟩ => ⟨S8320x3x4096, .f32⟩
  | .hbm, ⟨28, _⟩ => ⟨S_, .f32⟩
  | .hbm, ⟨29, _⟩ => ⟨S8320x3x4096, .f32⟩
  | .hbm, ⟨30, _⟩ => ⟨S8320x3x4096, .f32⟩
  | .hbm, ⟨31, _⟩ => ⟨S_, .f32⟩
  | .hbm, ⟨32, _⟩ => ⟨S8320x3x4096, .f32⟩
  | .hbm, ⟨33, _⟩ => ⟨S8320x3x4096, .f32⟩
  | .hbm, ⟨34, _⟩ => ⟨S8320x1x4096, .f32⟩
  | .hbm, ⟨35, _⟩ => ⟨S8320x4096, .f32⟩
  | .hbm, ⟨36, _⟩ => ⟨S8320x4096, .f32⟩
  | .hbm, ⟨37, _⟩ => ⟨S8320x1x4096, .f32⟩
  | .hbm, ⟨38, _⟩ => ⟨S8320x4096, .f32⟩
  | .hbm, ⟨39, _⟩ => ⟨S8320x4096, .f32⟩
  | .hbm, ⟨40, _⟩ => ⟨S8320x4096, .f32⟩
  | .hbm, ⟨41, _⟩ => ⟨S8320x1x4096, .f32⟩
  | .hbm, ⟨42, _⟩ => ⟨S8320x4096, .f32⟩
  | .hbm, ⟨43, _⟩ => ⟨S8320x4096, .f32⟩
  | .hbm, ⟨44, _⟩ => ⟨S8320x4096, .f32⟩
  | .hbm, ⟨45, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Out.lean ====
abbrev S8320x4096 : Shape := ⟨2, ![8320, 4096]⟩
abbrev S4x4096x4096 : Shape := ⟨3, ![4, 4096, 4096]⟩
abbrev S2080x4096 : Shape := ⟨2, ![2080, 4096]⟩
abbrev S1x4096x256 : Shape := ⟨3, ![1, 4096, 256]⟩
abbrev S2080x256 : Shape := ⟨2, ![2080, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4x4096x4096, .f32⟩
  | .hbm, ⟨2, _⟩ => ⟨S8320x4096, .f32⟩
  | .hbm, ⟨3, _⟩ => ⟨S8320x4096, .f32⟩
  | .local _ .vmem, ⟨0, _⟩ => ⟨S2080x4096, .bf16⟩
  | .local _ .vmem, ⟨1, _⟩ => ⟨S1x4096x256, .f32⟩
  | .local _ .vmem, ⟨2, _⟩ => ⟨S1x4096x256, .f32⟩
  | .local _ .vmem, ⟨3, _⟩ => ⟨S2080x256, .f32⟩
  | .local _ .vmem, ⟨4, _⟩ => ⟨S2080x256, .f32⟩
  | .local _ .vmem, ⟨5, _⟩ => ⟨S2080x256, .f32⟩
  | .local _ .vmem, ⟨6, _⟩ => ⟨S2080x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2080x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8320x4096 : Shape := ⟨2, ![8320, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4x4096x4096, .f32⟩
  | .hbm, ⟨2, _⟩ => ⟨S8320x4096, .f32⟩
  | .hbm, ⟨3, _⟩ => ⟨S8320x4096, .f32⟩
  | .hbm, ⟨4, _⟩ => ⟨S1x4096x4096, .f32⟩
  | .hbm, ⟨5, _⟩ => ⟨S4096x4096, .f32⟩
  | .hbm, ⟨6, _⟩ => ⟨S8320x4096, .f32⟩
  | .hbm, ⟨7, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Q.lean ====
abbrev S8320x1024 : Shape := ⟨2, ![8320, 1024]⟩
abbrev S4x1024x3072 : Shape := ⟨3, ![4, 1024, 3072]⟩
abbrev S4x1024x16x192 : Shape := ⟨4, ![4, 1024, 16, 192]⟩
abbrev S4x1024x16x128 : Shape := ⟨4, ![4, 1024, 16, 128]⟩
abbrev S4x1024x2048 : Shape := ⟨3, ![4, 1024, 2048]⟩
abbrev S4x1024x16x64 : Shape := ⟨4, ![4, 1024, 16, 64]⟩
abbrev S4x1024x1024 : Shape := ⟨3, ![4, 1024, 1024]⟩
abbrev S8320x3072 : Shape := ⟨2, ![8320, 3072]⟩
abbrev S2080x1024 : Shape := ⟨2, ![2080, 1024]⟩
abbrev S1x1024x1024 : Shape := ⟨3, ![1, 1024, 1024]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S4x1024x3072, .f32⟩
  | .hbm, ⟨2, _⟩ => ⟨S4x1024x16x192, .f32⟩
  | .hbm, ⟨3, _⟩ => ⟨S4x1024x16x128, .f32⟩
  | .hbm, ⟨4, _⟩ => ⟨S4x1024x2048, .f32⟩
  | .hbm, ⟨5, _⟩ => ⟨S4x1024x16x64, .f32⟩
  | .hbm, ⟨6, _⟩ => ⟨S4x1024x1024, .f32⟩
  | .hbm, ⟨7, _⟩ => ⟨S4x1024x3072, .f32⟩
  | .hbm, ⟨8, _⟩ => ⟨S4x1024x3072, .bf16⟩
  | .hbm, ⟨9, _⟩ => ⟨S8320x3072, .f32⟩
  | .local _ .vmem, ⟨0, _⟩ => ⟨S2080x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2080x1024, .f32⟩
  | .local _ .vmem, ⟨4, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QRefIdeal.lean ====
abbrev S8320x1024 : Shape := ⟨2, ![8320, 1024]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S8320x3072 : Shape := ⟨2, ![8320, 3072]⟩
abbrev S8320x16x192 : Shape := ⟨3, ![8320, 16, 192]⟩
abbrev S8320x16x128 : Shape := ⟨3, ![8320, 16, 128]⟩
abbrev S8320x2048 : Shape := ⟨2, ![8320, 2048]⟩
abbrev S8320x16x64 : Shape := ⟨3, ![8320, 16, 64]⟩

abbrev nBuf : Space → Nat
  | .hbm => 12
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S4x1024x3072, .f32⟩
  | .hbm, ⟨2, _⟩ => ⟨S8320x1024, .f32⟩
  | .hbm, ⟨3, _⟩ => ⟨S1x1024x3072, .f32⟩
  | .hbm, ⟨4, _⟩ => ⟨S1024x3072, .f32⟩
  | .hbm, ⟨5, _⟩ => ⟨S8320x3072, .f32⟩
  | .hbm, ⟨6, _⟩ => ⟨S8320x16x192, .f32⟩
  | .hbm, ⟨7, _⟩ => ⟨S8320x16x128, .f32⟩
  | .hbm, ⟨8, _⟩ => ⟨S8320x2048, .f32⟩
  | .hbm, ⟨9, _⟩ => ⟨S8320x16x64, .f32⟩
  | .hbm, ⟨10, _⟩ => ⟨S8320x1024, .f32⟩
  | .hbm, ⟨11, _⟩ => ⟨S8320x3072, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Yp.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== YpRefIdeal.lean ====
abbrev S8320x4096 : Shape := ⟨2, ![8320, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ys.lean ====
abbrev S8320x4096 : Shape := ⟨2, ![8320, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== YsRefIdeal.lean ====
abbrev S8320x4096 : Shape := ⟨2, ![8320, 4096]⟩
abbrev S4096 : Shape := ⟨1, ![4096]⟩
abbrev S128x4096 : Shape := ⟨2, ![128, 4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x4096, .f32⟩
  | .hbm, ⟨15, _⟩ => ⟨S128x4096, .f32⟩
  | .hbm, ⟨16, _⟩ => ⟨S1x4096, .f32⟩
  | .hbm, ⟨17, _⟩ => ⟨S128x4096, .f32⟩
  | .hbm, ⟨18, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Attn.lean ====
abbrev S16x8320x256 : Shape := ⟨3, ![16, 8320, 256]⟩
abbrev S16x8320x64 : Shape := ⟨3, ![16, 8320, 64]⟩
abbrev S8320x256 : Shape := ⟨2, ![8320, 256]⟩
abbrev S8320x64 : Shape := ⟨2, ![8320, 64]⟩
abbrev S16x256x256 : Shape := ⟨3, ![16, 256, 256]⟩
abbrev S16x256x64 : Shape := ⟨3, ![16, 256, 64]⟩
abbrev S2048x256 : Shape := ⟨2, ![2048, 256]⟩
abbrev S2048x64 : Shape := ⟨2, ![2048, 64]⟩
abbrev S4096x128 : Shape := ⟨2, ![4096, 128]⟩
abbrev S4096x256 : Shape := ⟨2, ![4096, 256]⟩
abbrev S4096x64 : Shape := ⟨2, ![4096, 64]⟩
abbrev S256x256 : Shape := ⟨2, ![256, 256]⟩
abbrev S256x64 : Shape := ⟨2, ![256, 64]⟩
abbrev S4096 : Shape := ⟨1, ![4096]⟩
abbrev S4096x1 : Shape := ⟨2, ![4096, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x8320x256, .bf16⟩
  | .hbm, ⟨1, _⟩ => ⟨S16x8320x64, .bf16⟩
  | .hbm, ⟨2, _⟩ => ⟨S8320x256, .bf16⟩
  | .hbm, ⟨3, _⟩ => ⟨S8320x64, .bf16⟩
  | .hbm, ⟨4, _⟩ => ⟨S16x8320x256, .bf16⟩
  | .hbm, ⟨5, _⟩ => ⟨S16x8320x256, .bf16⟩
  | .local _ .vmem, ⟨0, _⟩ => ⟨S16x256x256, .bf16⟩
  | .local _ .vmem, ⟨1, _⟩ => ⟨S16x256x256, .bf16⟩
  | .local _ .vmem, ⟨2, _⟩ => ⟨S16x256x64, .bf16⟩
  | .local _ .vmem, ⟨3, _⟩ => ⟨S16x256x64, .bf16⟩
  | .local _ .vmem, ⟨4, _⟩ => ⟨S2048x256, .bf16⟩
  | .local _ .vmem, ⟨5, _⟩ => ⟨S2048x256, .bf16⟩
  | .local _ .vmem, ⟨6, _⟩ => ⟨S2048x64, .bf16⟩
  | .local _ .vmem, ⟨7, _⟩ => ⟨S2048x64, .bf16⟩
  | .local _ .vmem, ⟨8, _⟩ => ⟨S16x256x256, .bf16⟩
  | .local _ .vmem, ⟨9, _⟩ => ⟨S16x256x256, .bf16⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | _, _ => ⟨S16x8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_7 : BitVec 32 := 0#32
  let arg1 : BitVec 32 := BitVec.ofNat 32 (i 1).val
  let v8 : BitVec 32 := Scalar.subi arg1 c0_i32_7
  let c1_i32 : BitVec 32 := 1#32
  let v10 : BitVec 32 := Scalar.divsi v8 c1_i32
  let v11 : BitVec 32 := Scalar.muli v10 c1_i32
  let v12 : BitVec 32 := Scalar.addi c0_i32_7 v11
  let c1_i32_8 : BitVec 32 := 1#32
  ⟨c0_i32_7, v12, c1_i32_8⟩
def k0_mult1 (i : grid0.Coords) (k0_t1 : Fin (k0_t1_loop i).trips) : BitVec 32 :=
  let c0_i32_7 : BitVec 32 := 0#32
  let c1_i32_8 : BitVec 32 := 1#32
  let arg11 : BitVec 32 := Scf.iv c0_i32_7 c1_i32_8 k0_t1
  let c256_i32_61 : BitVec 32 := 256#32
  let v104 : BitVec 32 := Scalar.muli arg11 c256_i32_61
  v104
def k0_off1 (i : grid0.Coords) (k0_t1 : Fin (k0_t1_loop i).trips) : Fin 2 → Nat :=
  let c0_i32_7 : BitVec 32 := 0#32
  let c1_i32_8 : BitVec 32 := 1#32
  let arg11 : BitVec 32 := Scf.iv c0_i32_7 c1_i32_8 k0_t1
  let c256_i32_61 : BitVec 32 := 256#32
  let v104 : BitVec 32 := Scalar.muli arg11 c256_i32_61
  let v105 : BitVec 32 := v104
  let v106 : Index := Scalar.indexCast v105
  let c0_62 : Index := 0#32
  ![v106.toNat, 0]
def k0_off2 (i : grid0.Coords) (k0_t1 : Fin (k0_t1_loop i).trips) : Fin 2 → Nat :=
  let c0_i32_7 : BitVec 32 := 0#32
  let c1_i32_8 : BitVec 32 := 1#32
  let arg11 : BitVec 32 := Scf.iv c0_i32_7 c1_i32_8 k0_t1
  let c256_i32_61 : BitVec 32 := 256#32
  let v104 : BitVec 32 := Scalar.muli arg11 c256_i32_61
  let v105 : BitVec 32 := v104
  let v108 : Index := Scalar.indexCast v105
  let c0_63 : Index := 0#32
  ![v108.toNat, 0]
@[reducible] def k0_t2_loop (i : grid0.Coords) : Scf.Loop 32 :=
  let c0_i32_7 : BitVec 32 := 0#32
  let arg1 : BitVec 32 := BitVec.ofNat 32 (i 1).val
  let v8 : BitVec 32 := Scalar.subi arg1 c0_i32_7
  let c1_i32 : BitVec 32 := 1#32
  let v10 : BitVec 32 := Scalar.divsi v8 c1_i32
  let v11 : BitVec 32 := Scalar.muli v10 c1_i32
  let v12 : BitVec 32 := Scalar.addi c0_i32_7 v11
  let v9 : BitVec 32 := Scalar.addi c0_i32_7 v8
  let c1_i32_9 : BitVec 32 := 1#32
  ⟨v12, v9, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let v8 : BitVec 32 := Scalar.subi arg1 c0_i32_7
  let c1_i32 : BitVec 32 := 1#32
  let v10 : BitVec 32 := Scalar.divsi v8 c1_i32
  let v11 : BitVec 32 := Scalar.muli v10 c1_i32
  let v12 : BitVec 32 := Scalar.addi c0_i32_7 v11
  let c1_i32_9 : BitVec 32 := 1#32
  let arg11 : BitVec 32 := Scf.iv v12 c1_i32_9 k0_t2
  let c256_i32_61 : BitVec 32 := 256#32
  let v104 : BitVec 32 := Scalar.muli arg11 c256_i32_61
  v104
def k0_off3 (i : grid0.Coords) (k0_t2 : Fin (k0_t2_loop i).trips) : Fin 2 → Nat :=
  let c0_i32_7 : BitVec 32 := 0#32
  let arg1 : BitVec 32 := BitVec.ofNat 32 (i 1).val
  let v8 : BitVec 32 := Scalar.subi arg1 c0_i32_7
  let c1_i32 : BitVec 32 := 1#32
  let v10 : BitVec 32 := Scalar.divsi v8 c1_i32
  let v11 : BitVec 32 := Scalar.muli v10 c1_i32
  let v12 : BitVec 32 := Scalar.addi c0_i32_7 v11
  let c1_i32_9 : BitVec 32 := 1#32
  let arg11 : BitVec 32 := Scf.iv v12 c1_i32_9 k0_t2
  let c256_i32_61 : BitVec 32 := 256#32
  let v104 : BitVec 32 := Scalar.muli arg11 c256_i32_61
  let v105 : BitVec 32 := v104
  let v106 : Index := Scalar.indexCast v105
  let c0_62 : Index := 0#32
  ![v106.toNat, 0]
def k0_off4 (i : grid0.Coords) (k0_t2 : Fin (k0_t2_loop i).trips) : Fin 2 → Nat :=
  let c0_i32_7 : BitVec 32 := 0#32
  let arg1 : BitVec 32 := BitVec.ofNat 32 (i 1).val
  let v8 : BitVec 32 := Scalar.subi arg1 c0_i32_7
  let c1_i32 : BitVec 32 := 1#32
  let v10 : BitVec 32 := Scalar.divsi v8 c1_i32
  let v11 : BitVec 32 := Scalar.muli v10 c1_i32
  let v12 : BitVec 32 := Scalar.addi c0_i32_7 v11
  let c1_i32_9 : BitVec 32 := 1#32
  let arg11 : BitVec 32 := Scf.iv v12 c1_i32_9 k0_t2
  let c256_i32_61 : BitVec 32 := 256#32
  let v104 : BitVec 32 := Scalar.muli arg11 c256_i32_61
  let v105 : BitVec 32 := v104
  let v108 : Index := Scalar.indexCast v105
  let c0_63 : Index := 0#32
  ![v108.toNat, 0]
def k0_mult3 (i : grid0.Coords) : BitVec 32 :=
  let arg1 : BitVec 32 := BitVec.ofNat 32 (i 1).val
  let c256_i32 : BitVec 32 := 256#32
  let v13 : BitVec 32 := Scalar.muli arg1 c256_i32
  v13
def k0_off5 (i : grid0.Coords) : Fin 2 → Nat :=
  let arg1 : BitVec 32 := BitVec.ofNat 32 (i 1).val
  let c256_i32 : BitVec 32 := 256#32
  let v13 : BitVec 32 := Scalar.muli arg1 c256_i32
  let v14 : BitVec 32 := v13
  let v15 : Index := Scalar.indexCast v14
  let c0_10 : Index := 0#32
  ![v15.toNat, 0]
def k0_off6 (i : grid0.Coords) : Fin 2 → Nat :=
  let arg1 : BitVec 32 := BitVec.ofNat 32 (i 1).val
  let c256_i32 : BitVec 32 := 256#32
  let v13 : BitVec 32 := Scalar.muli arg1 c256_i32
  let v14 : BitVec 32 := v13
  let v17 : Index := Scalar.indexCast v14
  let c0_11 : Index := 0#32
  ![v17.toNat, 0]
@[reducible] def k0_t3_loop (i : grid0.Coords) : Scf.Loop 32 :=
  let c0_i32_31 : BitVec 32 := 0#32
  let arg1 : BitVec 32 := BitVec.ofNat 32 (i 1).val
  let v53 : BitVec 32 := Scalar.subi arg1 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_33 : BitVec 32 := 1#32
  ⟨c0_i32_31, v57, c1_i32_33⟩
def k0_mult4 (i : grid0.Coords) (k0_t3 : Fin (k0_t3_loop i).trips) : BitVec 32 :=
  let c0_i32_31 : BitVec 32 := 0#32
  let c1_i32_33 : BitVec 32 := 1#32
  let arg11 : BitVec 32 := Scf.iv c0_i32_31 c1_i32_33 k0_t3
  let c256_i32_61 : BitVec 32 := 256#32
  let v104 : BitVec 32 := Scalar.muli arg11 c256_i32_61
  v104
def k0_off7 (i : grid0.Coords) (k0_t3 : Fin (k0_t3_loop i).trips) : Fin 2 → Nat :=
  let c0_i32_31 : BitVec 32 := 0#32
  let c1_i32_33 : BitVec 32 := 1#32
  let arg11 : BitVec 32 := Scf.iv c0_i32_31 c1_i32_33 k0_t3
  let c256_i32_61 : BitVec 32 := 256#32
  let v104 : BitVec 32 := Scalar.muli arg11 c256_i32_61
  let v105 : BitVec 32 := v104
  let v106 : Index := Scalar.indexCast v105
  let c0_62 : Index := 0#32
  ![v106.toNat, 0]
def k0_off8 (i : grid0.Coords) (k0_t3 : Fin (k0_t3_loop i).trips) : Fin 2 → Nat :=
  let c0_i32_31 : BitVec 32 := 0#32
  let c1_i32_33 : BitVec 32 := 1#32
  let arg11 : BitVec 32 := Scf.iv c0_i32_31 c1_i32_33 k0_t3
  let c256_i32_61 : BitVec 32 := 256#32
  let v104 : BitVec 32 := Scalar.muli arg11 c256_i32_61
  let v105 : BitVec 32 := v104
  let v108 : Index := Scalar.indexCast v105
  let c0_63 : Index := 0#32
  ![v108.toNat, 0]
@[reducible] def k0_t4_loop (i : grid0.Coords) : Scf.Loop 32 :=
  let c0_i32_31 : BitVec 32 := 0#32
  let arg1 : BitVec 32 := BitVec.ofNat 32 (i 1).val
  let v53 : BitVec 32 := Scalar.subi arg1 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let v54 : BitVec 32 := Scalar.addi c0_i32_31 v53
  let c1_i32_34 : BitVec 32 := 1#32
  ⟨v57, v54, c1_i32_34⟩
def k0_mult5 (i : grid0.Coords) (k0_t4 : Fin (k0_t4_loop i).trips) : BitVec 32 :=
  let c0_i32_31 : BitVec 32 := 0#32
  let arg1 : BitVec 32 := BitVec.ofNat 32 (i 1).val
  let v53 : BitVec 32 := Scalar.subi arg1 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_34 : BitVec 32 := 1#32
  let arg11 : BitVec 32 := Scf.iv v57 c1_i32_34 k0_t4
  let c256_i32_61 : BitVec 32 := 256#32
  let v104 : BitVec 32 := Scalar.muli arg11 c256_i32_61
  v104
def k0_off9 (i : grid0.Coords) (k0_t4 : Fin (k0_t4_loop i).trips) : Fin 2 → Nat :=
  let c0_i32_31 : BitVec 32 := 0#32
  let arg1 : BitVec 32 := BitVec.ofNat 32 (i 1).val
  let v53 : BitVec 32 := Scalar.subi arg1 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_34 : BitVec 32 := 1#32
  let arg11 : BitVec 32 := Scf.iv v57 c1_i32_34 k0_t4
  let c256_i32_61 : BitVec 32 := 256#32
  let v104 : BitVec 32 := Scalar.muli arg11 c256_i32_61
  let v105 : BitVec 32 := v104
  let v106 : Index := Scalar.indexCast v105
  let c0_62 : Index := 0#32
  ![v106.toNat, 0]
def k0_off10 (i : grid0.Coords) (k0_t4 : Fin (k0_t4_loop i).trips) : Fin 2 → Nat :=
  let c0_i32_31 : BitVec 32 := 0#32
  let arg1 : BitVec 32 := BitVec.ofNat 32 (i 1).val
  let v53 : BitVec 32 := Scalar.subi arg1 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_34 : BitVec 32 := 1#32
  let arg11 : BitVec 32 := Scf.iv v57 c1_i32_34 k0_t4
  let c256_i32_61 : BitVec 32 := 256#32
  let v104 : BitVec 32 := Scalar.muli arg11 c256_i32_61
  let v105 : BitVec 32 := v104
  let v108 : Index := Scalar.indexCast v105
  let c0_63 : Index := 0#32
  ![v108.toNat, 0]
def k0_mult6 (i : grid0.Coords) : BitVec 32 :=
  let arg1 : BitVec 32 := BitVec.ofNat 32 (i 1).val
  let c256_i32_35 : BitVec 32 := 256#32
  let v58 : BitVec 32 := Scalar.muli arg1 c256_i32_35
  v58
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "scale_log2e" => some (((Real.sqrt 192)⁻¹ * (Real.log 2)⁻¹ : ℝ) : EReal)
  | _ => none
-- ==== AttnRefIdeal.lean ====
abbrev S16x8320x256 : Shape := ⟨3, ![16, 8320, 256]⟩
abbrev S16x8320x64 : Shape := ⟨3, ![16, 8320, 64]⟩
abbrev S8320x256 : Shape := ⟨2, ![8320, 256]⟩
abbrev S8320x64 : Shape := ⟨2, ![8320, 64]⟩
abbrev S16x8192x256 : Shape := ⟨3, ![16, 8192, 256]⟩
abbrev S16x4x2048x256 : Shape := ⟨4, ![16, 4, 2048, 256]⟩
abbrev S16x8192x64 : Shape := ⟨3, ![16, 8192, 64]⟩
abbrev S16x4x2048x64 : Shape := ⟨4, ![16, 4, 2048, 64]⟩
abbrev S8192x256 : Shape := ⟨2, ![8192, 256]⟩
abbrev S4x2048x256 : Shape := ⟨3, ![4, 2048, 256]⟩
abbrev S8192x64 : Shape := ⟨2, ![8192, 64]⟩
abbrev S4x2048x64 : Shape := ⟨3, ![4, 2048, 64]⟩
abbrev S2048 : Shape := ⟨1, ![2048]⟩
abbrev S4x2048x16x2048 : Shape := ⟨4, ![4, 2048, 16, 2048]⟩
abbrev S16x4x2048x2048 : Shape := ⟨4, ![16, 4, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x4x2048 : Shape := ⟨3, ![16, 4, 2048]⟩
abbrev S16x4x2048x1 : Shape := ⟨4, ![16, 4, 2048, 1]⟩
abbrev S4x256x16x2048 : Shape := ⟨4, ![4, 256, 16, 2048]⟩
abbrev S16x128x256 : Shape := ⟨3, ![16, 128, 256]⟩

abbrev nBuf : Space → Nat
  | .hbm => 57
  | .vmem => 0
  | .smem => 0
  | _ => 0

abbrev bufTy : (tb : Table) → Fin (tcTables nBuf tb) → BufTy
  | .hbm, ⟨0, _⟩ => ⟨S16x8320x256, .bf16⟩
  | .hbm, ⟨1, _⟩ => ⟨S16x8320x64, .bf16⟩
  | .hbm, ⟨2, _⟩ => ⟨S8320x256, .bf16⟩
  | .hbm, ⟨3, _⟩ => ⟨S8320x64, .bf16⟩
  | .hbm, ⟨4, _⟩ => ⟨S16x8320x256, .bf16⟩
  | .hbm, ⟨5, _⟩ => ⟨S16x8192x256, .bf16⟩
  | .hbm, ⟨6, _⟩ => ⟨S16x8192x256, .f32⟩
  | .hbm, ⟨7, _⟩ => ⟨S16x4x2048x256, .f32⟩
  | .hbm, ⟨8, _⟩ => ⟨S16x8192x64, .bf16⟩
  | .hbm, ⟨9, _⟩ => ⟨S16x8192x64, .f32⟩
  | .hbm, ⟨10, _⟩ => ⟨S16x4x2048x64, .f32⟩
  | .hbm, ⟨11, _⟩ => ⟨S8192x256, .bf16⟩
  | .hbm, ⟨12, _⟩ => ⟨S8192x256, .f32⟩
  | .hbm, ⟨13, _⟩ => ⟨S4x2048x256, .f32⟩
  | .hbm, ⟨14, _⟩ => ⟨S8192x64, .bf16⟩
  | .hbm, ⟨15, _⟩ => ⟨S8192x64, .f32⟩
  | .hbm, ⟨16, _⟩ => ⟨S4x2048x64, .f32⟩
  | .hbm, ⟨17, _⟩ => ⟨S2048, .i32⟩
  | .hbm, ⟨18, _⟩ => ⟨S4x2048x16x2048, .f32⟩
  | .hbm, ⟨19, _⟩ => ⟨S16x4x2048x2048, .f32⟩
  | .hbm, ⟨20, _⟩ => ⟨S4x2048x16x2048, .f32⟩
  | .hbm, ⟨21, _⟩ => ⟨S16x4x2048x2048, .f32⟩
  | .hbm, ⟨22, _⟩ => ⟨S16x4x2048x2048, .f32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S16x4x2048x2048, .f32⟩
  | .hbm, ⟨31, _⟩ => ⟨S16x4x2048x2048, .f32⟩
  | .hbm, ⟨32, _⟩ => ⟨S_, .f32⟩
  | .hbm, ⟨33, _⟩ => ⟨S_, .f32⟩
  | .hbm, ⟨34, _⟩ => ⟨S16x4x2048x2048, .i1⟩
  | .hbm, ⟨35, _⟩ => ⟨S16x4x2048x2048, .f32⟩
  | .hbm, ⟨36, _⟩ => ⟨S16x4x2048x2048, .f32⟩
  | .hbm, ⟨37, _⟩ => ⟨S_, .f32⟩
  | .hbm, ⟨38, _⟩ => ⟨S16x4x2048, .f32⟩
  | .hbm, ⟨39, _⟩ => ⟨S_, .f32⟩
  | .hbm, ⟨40, _⟩ => ⟨S16x4x2048, .f32⟩
  | .hbm, ⟨41, _⟩ => ⟨S16x4x2048, .f32⟩
  | .hbm, ⟨42, _⟩ => ⟨S16x4x2048x1, .f32⟩
  | .hbm, ⟨43, _⟩ => ⟨S16x4x2048x2048, .f32⟩
  | .hbm, ⟨44, _⟩ => ⟨S16x4x2048x2048, .f32⟩
  | .hbm, ⟨45, _⟩ => ⟨S16x4x2048x2048, .f32⟩
  | .hbm, ⟨46, _⟩ => ⟨S_, .f32⟩
  | .hbm, ⟨47, _⟩ => ⟨S16x4x2048, .f32⟩
  | .hbm, ⟨48, _⟩ => ⟨S16x4x2048x1, .f32⟩
  | .hbm, ⟨49, _⟩ => ⟨S16x4x2048x2048, .f32⟩
  | .hbm, ⟨50, _⟩ => ⟨S16x4x2048x2048, .f32⟩
  | .hbm, ⟨51, _⟩ => ⟨S4x256x16x2048, .f32⟩
  | .hbm, ⟨52, _⟩ => ⟨S16x4x2048x256, .f32⟩
  | .hbm, ⟨53, _⟩ => ⟨S16x8192x256, .f32⟩
  | .hbm, ⟨54, _⟩ => ⟨S16x8192x256, .bf16⟩
  | .hbm, ⟨55, _⟩ => ⟨S16x128x256, .bf16⟩
  | .hbm, ⟨56, _⟩ => ⟨S16x8320x256, .bf16⟩
  | _, _ => ⟨S16x8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Small.lean ====
abbrev S8320x4096 : Shape := ⟨2, ![8320, 4096]⟩
abbrev S4x4096x25952 : Shape := ⟨3, ![4, 4096, 25952]⟩
abbrev S4x4096x1344 : Shape := ⟨3, ![4, 4096, 1344]⟩
abbrev S_ : Shape := ⟨0, ![]⟩
abbrev S4x4096x64 : Shape := ⟨3, ![4, 4096, 64]⟩
abbrev S4x4096x32 : Shape := ⟨3, ![4, 4096, 32]⟩
abbrev S4x4096x96 : Shape := ⟨3, ![4, 4096, 96]⟩
abbrev S4x4096x1536 : Shape := ⟨3, ![4, 4096, 1536]⟩
abbrev S8320x1536 : Shape := ⟨2, ![8320, 1536]⟩
abbrev S2080x4096 : Shape := ⟨2, ![2080, 4096]⟩
abbrev S1x4096x512 : Shape := ⟨3, ![1, 4096, 512]⟩
abbrev S2080x512 : Shape := ⟨2, ![2080, 512]⟩
abbrev S4096x512 : Shape := ⟨2, ![4096, 512]⟩

abbrev nBuf : Space → Nat
  | .hbm => 11
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S4x4096x25952, .f32⟩
  | .hbm, ⟨2, _⟩ => ⟨S4x4096x1344, .f32⟩
  | .hbm, ⟨3, _⟩ => ⟨S_, .f32⟩
  | .hbm, ⟨4, _⟩ => ⟨S4x4096x64, .f32⟩
  | .hbm, ⟨5, _⟩ => ⟨S4x4096x32, .f32⟩
  | .hbm, ⟨6, _⟩ => ⟨S_, .f32⟩
  | .hbm, ⟨7, _⟩ => ⟨S4x4096x96, .f32⟩
  | .hbm, ⟨8, _⟩ => ⟨S4x4096x1536, .f32⟩
  | .hbm, ⟨9, _⟩ => ⟨S4x4096x1536, .bf16⟩
  | .hbm, ⟨10, _⟩ => ⟨S8320x1536, .f32⟩
  | .local _ .vmem, ⟨0, _⟩ => ⟨S2080x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S2080x512, .f32⟩
  | .local _ .vmem, ⟨4, _⟩ => ⟨S2080x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmallRefIdeal.lean ====
abbrev S8320x4096 : Shape := ⟨2, ![8320, 4096]⟩
abbrev S4x4096x25952 : Shape := ⟨3, ![4, 4096, 25952]⟩
abbrev S1x4096x25952 : Shape := ⟨3, ![1, 4096, 25952]⟩
abbrev S4096x25952 : Shape := ⟨2, ![4096, 25952]⟩
abbrev S8320x25952 : Shape := ⟨2, ![8320, 25952]⟩
abbrev S8320x1344 : Shape := ⟨2, ![8320, 1344]⟩
abbrev S_ : Shape := ⟨0, ![]⟩
abbrev S8320x64 : Shape := ⟨2, ![8320, 64]⟩
abbrev S8320x32 : Shape := ⟨2, ![8320, 32]⟩
abbrev S8320x96 : Shape := ⟨2, ![8320, 96]⟩
abbrev S8320x1536 : Shape := ⟨2, ![8320, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4x4096x25952, .f32⟩
  | .hbm, ⟨2, _⟩ => ⟨S8320x4096, .f32⟩
  | .hbm, ⟨3, _⟩ => ⟨S1x4096x25952, .f32⟩
  | .hbm, ⟨4, _⟩ => ⟨S4096x25952, .f32⟩
  | .hbm, ⟨5, _⟩ => ⟨S8320x25952, .f32⟩
  | .hbm, ⟨6, _⟩ => ⟨S8320x1344, .f32⟩
  | .hbm, ⟨7, _⟩ => ⟨S_, .f32⟩
  | .hbm, ⟨8, _⟩ => ⟨S8320x64, .f32⟩
  | .hbm, ⟨9, _⟩ => ⟨S8320x32, .f32⟩
  | .hbm, ⟨10, _⟩ => ⟨S_, .f32⟩
  | .hbm, ⟨11, _⟩ => ⟨S8320x96, .f32⟩
  | .hbm, ⟨12, _⟩ => ⟨S8320x1536, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ql.lean ====
abbrev S8320x3072 : Shape := ⟨2, ![8320, 3072]⟩
abbrev S4x256x16x128 : Shape := ⟨4, ![4, 256, 16, 128]⟩
abbrev S4x16x128x256 : Shape := ⟨4, ![4, 16, 128, 256]⟩
abbrev S16x8320x256 : Shape := ⟨3, ![16, 8320, 256]⟩
abbrev S1040x2048 : Shape := ⟨2, ![1040, 2048]⟩
abbrev S1x16x128x256 : Shape := ⟨4, ![1, 16, 128, 256]⟩
abbrev S16x1040x256 : Shape := ⟨3, ![16, 1040, 256]⟩
abbrev S1040x128 : Shape := ⟨2, ![1040, 128]⟩
abbrev S1x1x128x256 : Shape := ⟨4, ![1, 1, 128, 256]⟩
abbrev S128x256 : Shape := ⟨2, ![128, 256]⟩
abbrev S1040x256 : Shape := ⟨2, ![1040, 256]⟩
abbrev S1x1040x256 : Shape := ⟨3, ![1, 1040, 256]⟩

abbrev nBuf : Space → Nat
  | .hbm => 5
  | .vmem => 5
  | .smem => 0
  | _ => 0

abbrev bufTy : (tb : Table) → Fin (tcTables nBuf tb) → BufTy
  | .hbm, ⟨0, _⟩ => ⟨S8320x3072, .f32⟩
  | .hbm, ⟨1, _⟩ => ⟨S4x256x16x128, .f32⟩
  | .hbm, ⟨2, _⟩ => ⟨S4x16x128x256, .f32⟩
  | .hbm, ⟨3, _⟩ => ⟨S4x16x128x256, .bf16⟩
  | .hbm, ⟨4, _⟩ => ⟨S16x8320x256, .bf16⟩
  | .local _ .vmem, ⟨0, _⟩ => ⟨S1040x2048, .f32⟩
  | .local _ .vmem, ⟨1, _⟩ => ⟨S1040x2048, .f32⟩
  | .local _ .vmem, ⟨2, _⟩ => ⟨S1x16x128x256, .bf16⟩
  | .local _ .vmem, ⟨3, _⟩ => ⟨S16x1040x256, .bf16⟩
  | .local _ .vmem, ⟨4, _⟩ => ⟨S16x1040x256, .bf16⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1040x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QlRefIdeal.lean ====
abbrev S8320x3072 : Shape := ⟨2, ![8320, 3072]⟩
abbrev S4x256x16x128 : Shape := ⟨4, ![4, 256, 16, 128]⟩
abbrev S8320x2048 : Shape := ⟨2, ![8320, 2048]⟩
abbrev S8320x16x128 : Shape := ⟨3, ![8320, 16, 128]⟩
abbrev S1x256x16x128 : Shape := ⟨4, ![1, 256, 16, 128]⟩
abbrev S256x16x128 : Shape := ⟨3, ![256, 16, 128]⟩
abbrev S16x8320x256 : Shape := ⟨3, ![16, 8320, 256]⟩

abbrev nBuf : Space → Nat
  | .hbm => 8
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S4x256x16x128, .f32⟩
  | .hbm, ⟨2, _⟩ => ⟨S8320x2048, .f32⟩
  | .hbm, ⟨3, _⟩ => ⟨S8320x16x128, .f32⟩
  | .hbm, ⟨4, _⟩ => ⟨S1x256x16x128, .f32⟩
  | .hbm, ⟨5, _⟩ => ⟨S256x16x128, .f32⟩
  | .hbm, ⟨6, _⟩ => ⟨S16x8320x256, .f32⟩
  | .hbm, ⟨7, _⟩ => ⟨S16x8320x256, .bf16⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Vup.lean ====
abbrev S16x8320x256 : Shape := ⟨3, ![16, 8320, 256]⟩
abbrev S4x256x16x128 : Shape := ⟨4, ![4, 256, 16, 128]⟩
abbrev S4x16x256x128 : Shape := ⟨4, ![4, 16, 256, 128]⟩
abbrev S8320x2048 : Shape := ⟨2, ![8320, 2048]⟩
abbrev S16x1040x256 : Shape := ⟨3, ![16, 1040, 256]⟩
abbrev S1x16x256x128 : Shape := ⟨4, ![1, 16, 256, 128]⟩
abbrev S1040x2048 : Shape := ⟨2, ![1040, 2048]⟩
abbrev S1x1040x256 : Shape := ⟨3, ![1, 1040, 256]⟩
abbrev S1040x256 : Shape := ⟨2, ![1040, 256]⟩
abbrev S1x1x256x128 : Shape := ⟨4, ![1, 1, 256, 128]⟩
abbrev S256x128 : Shape := ⟨2, ![256, 128]⟩
abbrev S1040x128 : Shape := ⟨2, ![1040, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x8320x256, .bf16⟩
  | .hbm, ⟨1, _⟩ => ⟨S4x256x16x128, .f32⟩
  | .hbm, ⟨2, _⟩ => ⟨S4x16x256x128, .f32⟩
  | .hbm, ⟨3, _⟩ => ⟨S4x16x256x128, .bf16⟩
  | .hbm, ⟨4, _⟩ => ⟨S8320x2048, .bf16⟩
  | .local _ .vmem, ⟨0, _⟩ => ⟨S16x1040x256, .bf16⟩
  | .local _ .vmem, ⟨1, _⟩ => ⟨S16x1040x256, .bf16⟩
  | .local _ .vmem, ⟨2, _⟩ => ⟨S1x16x256x128, .bf16⟩
  | .local _ .vmem, ⟨3, _⟩ => ⟨S1040x2048, .bf16⟩
  | .local _ .vmem, ⟨4, _⟩ => ⟨S1040x2048, .bf16⟩
  | _, _ => ⟨S16x8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1040x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1040x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== VupRefIdeal.lean ====
abbrev S16x8320x256 : Shape := ⟨3, ![16, 8320, 256]⟩
abbrev S4x256x16x128 : Shape := ⟨4, ![4, 256, 16, 128]⟩
abbrev S1x256x16x128 : Shape := ⟨4, ![1, 256, 16, 128]⟩
abbrev S256x16x128 : Shape := ⟨3, ![256, 16, 128]⟩
abbrev S16x128x8320 : Shape := ⟨3, ![16, 128, 8320]⟩
abbrev S8320x16x128 : Shape := ⟨3, ![8320, 16, 128]⟩
abbrev S8320x2048 : Shape := ⟨2, ![8320, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16x8320x256, .bf16⟩
  | .hbm, ⟨1, _⟩ => ⟨S4x256x16x128, .f32⟩
  | .hbm, ⟨2, _⟩ => ⟨S16x8320x256, .f32⟩
  | .hbm, ⟨3, _⟩ => ⟨S1x256x16x128, .f32⟩
  | .hbm, ⟨4, _⟩ => ⟨S256x16x128, .f32⟩
  | .hbm, ⟨5, _⟩ => ⟨S16x128x8320, .f32⟩
  | .hbm, ⟨6, _⟩ => ⟨S8320x16x128, .f32⟩
  | .hbm, ⟨7, _⟩ => ⟨S8320x2048, .f32⟩
  | .hbm, ⟨8, _⟩ => ⟨S8320x2048, .bf16⟩
  | _, _ => ⟨S16x8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Mla.lean ====
abbrev S8320x1536 : Shape := ⟨2, ![8320, 1536]⟩
abbrev S4x1024 : Shape := ⟨2, ![4, 1024]⟩
abbrev S4x256 : Shape := ⟨2, ![4, 256]⟩
abbrev S2048 : Shape := ⟨1, ![2048]⟩
abbrev S_ : Shape := ⟨0, ![]⟩
abbrev S128 : Shape := ⟨1, ![128]⟩
abbrev S2176 : Shape := ⟨1, ![2176]⟩
abbrev S32 : Shape := ⟨1, ![32]⟩
abbrev S2176x1 : Shape := ⟨2, ![2176, 1]⟩
abbrev S1x32 : Shape := ⟨2, ![1, 32]⟩
abbrev S2176x32 : Shape := ⟨2, ![2176, 32]⟩
abbrev S2176x64 : Shape := ⟨2, ![2176, 64]⟩
abbrev S1x2176x1x64 : Shape := ⟨4, ![1, 2176, 1, 64]⟩
abbrev S2176x128 : Shape := ⟨2, ![2176, 128]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S8320x1024 : Shape := ⟨2, ![8320, 1024]⟩
abbrev S8320x256 : Shape := ⟨2, ![8320, 256]⟩
abbrev S8320x64 : Shape := ⟨2, ![8320, 64]⟩
abbrev S128x1536 : Shape := ⟨2, ![128, 1536]⟩
abbrev S128x128 : Shape := ⟨2, ![128, 128]⟩
abbrev S128x1024 : Shape := ⟨2, ![128, 1024]⟩
abbrev S128x256 : Shape := ⟨2, ![128, 256]⟩
abbrev S128x64 : Shape := ⟨2, ![128, 64]⟩
abbrev S128x1 : Shape := ⟨2, ![128, 1]⟩

abbrev nBuf : Space → Nat
  | .hbm => 48
  | .vmem => 18
  | .smem => 0
  | _ => 0

abbrev bufTy : (tb : Table) → Fin (tcTables nBuf tb) → BufTy
  | .hbm, ⟨0, _⟩ => ⟨S8320x1536, .f32⟩
  | .hbm, ⟨1, _⟩ => ⟨S4x1024, .f32⟩
  | .hbm, ⟨2, _⟩ => ⟨S4x256, .f32⟩
  | .hbm, ⟨3, _⟩ => ⟨S2048, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S2176, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2176, .f32⟩
  | .hbm, ⟨17, _⟩ => ⟨S2176x1, .f32⟩
  | .hbm, ⟨18, _⟩ => ⟨S1x32, .f32⟩
  | .hbm, ⟨19, _⟩ => ⟨S2176x32, .f32⟩
  | .hbm, ⟨20, _⟩ => ⟨S2176x32, .f32⟩
  | .hbm, ⟨21, _⟩ => ⟨S2176x32, .f32⟩
  | .hbm, ⟨22, _⟩ => ⟨S2176x32, .f32⟩
  | .hbm, ⟨23, _⟩ => ⟨S2176x32, .f32⟩
  | .hbm, ⟨24, _⟩ => ⟨S2176x64, .f32⟩
  | .hbm, ⟨25, _⟩ => ⟨S2176x32, .f32⟩
  | .hbm, ⟨26, _⟩ => ⟨S2176x64, .f32⟩
  | .hbm, ⟨27, _⟩ => ⟨S1x2176x1x64, .f32⟩
  | .hbm, ⟨28, _⟩ => ⟨S1x2176x1x64, .f32⟩
  | .hbm, ⟨29, _⟩ => ⟨S2176x64, .f32⟩
  | .hbm, ⟨30, _⟩ => ⟨S1x2176x1x64, .f32⟩
  | .hbm, ⟨31, _⟩ => ⟨S1x2176x1x64, .f32⟩
  | .hbm, ⟨32, _⟩ => ⟨S2176x64, .f32⟩
  | .hbm, ⟨33, _⟩ => ⟨S_, .f32⟩
  | .hbm, ⟨34, _⟩ => ⟨S2176x64, .f32⟩
  | .hbm, ⟨35, _⟩ => ⟨S2176x128, .f32⟩
  | .hbm, ⟨36, _⟩ => ⟨S2176x128, .f32⟩
  | .hbm, ⟨37, _⟩ => ⟨S1x1024, .f32⟩
  | .hbm, ⟨38, _⟩ => ⟨S1024, .f32⟩
  | .hbm, ⟨39, _⟩ => ⟨S1x256, .f32⟩
  | .hbm, ⟨40, _⟩ => ⟨S256, .f32⟩
  | .hbm, ⟨41, _⟩ => ⟨S1x1024, .f32⟩
  | .hbm, ⟨42, _⟩ => ⟨S1x256, .f32⟩
  | .hbm, ⟨43, _⟩ => ⟨S8320x1024, .bf16⟩
  | .hbm, ⟨44, _⟩ => ⟨S8320x256, .f32⟩
  | .hbm, ⟨45, _⟩ => ⟨S8320x256, .bf16⟩
  | .hbm, ⟨46, _⟩ => ⟨S8320x64, .f32⟩
  | .hbm, ⟨47, _⟩ => ⟨S8320x64, .bf16⟩
  | .local _ .vmem, ⟨0, _⟩ => ⟨S128x1536, .f32⟩
  | .local _ .vmem, ⟨1, _⟩ => ⟨S128x1536, .f32⟩
  | .local _ .vmem, ⟨2, _⟩ => ⟨S1x1024, .f32⟩
  | .local _ .vmem, ⟨3, _⟩ => ⟨S1x256, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x1024, .bf16⟩
  | .local _ .vmem, ⟨9, _⟩ => ⟨S128x1024, .bf16⟩
  | .local _ .vmem, ⟨10, _⟩ => ⟨S128x256, .f32⟩
  | .local _ .vmem, ⟨11, _⟩ => ⟨S128x256, .f32⟩
  | .local _ .vmem, ⟨12, _⟩ => ⟨S128x256, .bf16⟩
  | .local _ .vmem, ⟨13, _⟩ => ⟨S128x256, .bf16⟩
  | .local _ .vmem, ⟨14, _⟩ => ⟨S128x64, .f32⟩
  | .local _ .vmem, ⟨15, _⟩ => ⟨S128x64, .f32⟩
  | .local _ .vmem, ⟨16, _⟩ => ⟨S128x64, .bf16⟩
  | .local _ .vmem, ⟨17, _⟩ => ⟨S128x64, .bf16⟩
  | _, _ => ⟨S8320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev main_v36_3 : Ref sig .tc := ⟨.hbm, 46, rfl⟩
abbrev main_v36_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaRefIdeal.lean ====
abbrev S8320x1536 : Shape := ⟨2, ![8320, 1536]⟩
abbrev S4x1024 : Shape := ⟨2, ![4, 1024]⟩
abbrev S4x256 : Shape := ⟨2, ![4, 256]⟩
abbrev S8320x1024 : Shape := ⟨2, ![8320, 1024]⟩
abbrev S8320x256 : Shape := ⟨2, ![8320, 256]⟩
abbrev S8320x64 : Shape := ⟨2, ![8320, 64]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S8192x64 : Shape := ⟨2, ![8192, 64]⟩
abbrev S4x2048x64 : Shape := ⟨3, ![4, 2048, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x32 : Shape := ⟨3, ![1, 2048, 32]⟩
abbrev S4x2048x32 : Shape := ⟨3, ![4, 2048, 32]⟩
abbrev S128x64 : Shape := ⟨2, ![128, 64]⟩
abbrev S128x1x64 : Shape := ⟨3, ![128, 1, 64]⟩
abbrev S1 : Shape := ⟨1, ![1]⟩
abbrev S1x1 : Shape := ⟨2, ![1, 1]⟩
abbrev S1x1x32 : Shape := ⟨3, ![1, 1, 32]⟩
abbrev S128x1x32 : Shape := ⟨3, ![128, 1, 32]⟩

abbrev nBuf : Space → Nat
  | .hbm => 118
  | .vmem => 0
  | .smem => 0
  | _ => 0

abbrev bufTy : (tb : Table) → Fin (tcTables nBuf tb) → BufTy
  | .hbm, ⟨0, _⟩ => ⟨S8320x1536, .f32⟩
  | .hbm, ⟨1, _⟩ => ⟨S4x1024, .f32⟩
  | .hbm, ⟨2, _⟩ => ⟨S4x256, .f32⟩
  | .hbm, ⟨3, _⟩ => ⟨S8320x1024, .f32⟩
  | .hbm, ⟨4, _⟩ => ⟨S8320x256, .f32⟩
  | .hbm, ⟨5, _⟩ => ⟨S8320x64, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1024, .f32⟩
  | .hbm, ⟨18, _⟩ => ⟨S8320x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8320x1024, .f32⟩
  | .hbm, ⟨23, _⟩ => ⟨S8320x1024, .f32⟩
  | .hbm, ⟨24, _⟩ => ⟨S8320x256, .f32⟩
  | .hbm, ⟨25, _⟩ => ⟨S_, .f32⟩
  | .hbm, ⟨26, _⟩ => ⟨S8320, .f32⟩
  | .hbm, ⟨27, _⟩ => ⟨S8320x1, .f32⟩
  | .hbm, ⟨28, _⟩ => ⟨S_, .f32⟩
  | .hbm, ⟨29, _⟩ => ⟨S8320x1, .f32⟩
  | .hbm, ⟨30, _⟩ => ⟨S8320x1, .f32⟩
  | .hbm, ⟨31, _⟩ => ⟨S_, .f32⟩
  | .hbm, ⟨32, _⟩ => ⟨S8320x1, .f32⟩
  | .hbm, ⟨33, _⟩ => ⟨S8320x1, .f32⟩
  | .hbm, ⟨34, _⟩ => ⟨S8320x1, .f32⟩
  | .hbm, ⟨35, _⟩ => ⟨S8320x256, .f32⟩
  | .hbm, ⟨36, _⟩ => ⟨S8320x256, .f32⟩
  | .hbm, ⟨37, _⟩ => ⟨S1x256, .f32⟩
  | .hbm, ⟨38, _⟩ => ⟨S256, .f32⟩
  | .hbm, ⟨39, _⟩ => ⟨S1x256, .f32⟩
  | .hbm, ⟨40, _⟩ => ⟨S8320x256, .f32⟩
  | .hbm, ⟨41, _⟩ => ⟨S8320x256, .f32⟩
  | .hbm, ⟨42, _⟩ => ⟨S8192x64, .f32⟩
  | .hbm, ⟨43, _⟩ => ⟨S4x2048x64, .f32⟩
  | .hbm, ⟨44, _⟩ => ⟨S2048, .i32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S2048, .f32⟩
  | .hbm, ⟨54, _⟩ => ⟨S2048x1, .f32⟩
  | .hbm, ⟨55, _⟩ => ⟨S1x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S1x2048x32, .f32⟩
  | .hbm, ⟨61, _⟩ => ⟨S2048x32, .f32⟩
  | .hbm, ⟨62, _⟩ => ⟨S1x2048x32, .f32⟩
  | .hbm, ⟨63, _⟩ => ⟨S4x2048x32, .f32⟩
  | .hbm, ⟨64, _⟩ => ⟨S4x2048x32, .f32⟩
  | .hbm, ⟨65, _⟩ => ⟨S4x2048x32, .f32⟩
  | .hbm, ⟨66, _⟩ => ⟨S4x2048x32, .f32⟩
  | .hbm, ⟨67, _⟩ => ⟨S4x2048x32, .f32⟩
  | .hbm, ⟨68, _⟩ => ⟨S4x2048x32, .f32⟩
  | .hbm, ⟨69, _⟩ => ⟨S4x2048x32, .f32⟩
  | .hbm, ⟨70, _⟩ => ⟨S4x2048x32, .f32⟩
  | .hbm, ⟨71, _⟩ => ⟨S4x2048x32, .f32⟩
  | .hbm, ⟨72, _⟩ => ⟨S4x2048x32, .f32⟩
  | .hbm, ⟨73, _⟩ => ⟨S4x2048x32, .f32⟩
  | .hbm, ⟨74, _⟩ => ⟨S4x2048x32, .f32⟩
  | .hbm, ⟨75, _⟩ => ⟨S4x2048x64, .f32⟩
  | .hbm, ⟨76, _⟩ => ⟨S128x64, .f32⟩
  | .hbm, ⟨77, _⟩ => ⟨S128x1x64, .f32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S1, .i32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S1, .f32⟩
  | .hbm, ⟨91, _⟩ => ⟨S1x1, .f32⟩
  | .hbm, ⟨92, _⟩ => ⟨S1x32, .f32⟩
  | .hbm, ⟨93, _⟩ => ⟨S1x32, .f32⟩
  | .hbm, ⟨94, _⟩ => ⟨S1x32, .f32⟩
  | .hbm, ⟨95, _⟩ => ⟨S1x32, .f32⟩
  | .hbm, ⟨96, _⟩ => ⟨S1x1x32, .f32⟩
  | .hbm, ⟨97, _⟩ => ⟨S1x32, .f32⟩
  | .hbm, ⟨98, _⟩ => ⟨S1x1x32, .f32⟩
  | .hbm, ⟨99, _⟩ => ⟨S128x1x32, .f32⟩
  | .hbm, ⟨100, _⟩ => ⟨S128x1x32, .f32⟩
  | .hbm, ⟨101, _⟩ => ⟨S128x1x32, .f32⟩
  | .hbm, ⟨102, _⟩ => ⟨S128x1x32, .f32⟩
  | .hbm, ⟨103, _⟩ => ⟨S128x1x32, .f32⟩
  | .hbm, ⟨104, _⟩ => ⟨S128x1x32, .f32⟩
  | .hbm, ⟨105, _⟩ => ⟨S128x1x32, .f32⟩
  | .hbm, ⟨106, _⟩ => ⟨S128x1x32, .f32⟩
  | .hbm, ⟨107, _⟩ => ⟨S128x1x32, .f32⟩
  | .hbm, ⟨108, _⟩ => ⟨S128x1x32, .f32⟩
  | .hbm, ⟨109, _⟩ => ⟨S128x1x32, .f32⟩
  | .hbm, ⟨110, _⟩ => ⟨S128x1x32, .f32⟩
  | .hbm, ⟨111, _⟩ => ⟨S128x1x64, .f32⟩
  | .hbm, ⟨112, _⟩ => ⟨S8192x64, .f32⟩
  | .hbm, ⟨113, _⟩ => ⟨S128x64, .f32⟩
  | .hbm, ⟨114, _⟩ => ⟨S8320x64, .f32⟩
  | .hbm, ⟨115, _⟩ => ⟨S8320x1024, .bf16⟩
  | .hbm, ⟨116, _⟩ => ⟨S8320x256, .bf16⟩
  | .hbm, ⟨117, _⟩ => ⟨S8320x64, .bf16⟩
  | _, _ => ⟨S8320x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_c : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_v73 : Ref sig .tc := ⟨.hbm, 86, rfl⟩
abbrev main_cst_8 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩

abbrev nD : Nat := 1
abbrev τ : Topo := Topo.v7x

variable {F : FTy → Type} [FloatOps F]
-- ==== Scp.lean ====
abbrev S8320x12288 : Shape := ⟨2, ![8320, 12288]⟩
abbrev S4x3x2048 : Shape := ⟨3, ![4, 3, 2048]⟩
abbrev S8320x2048 : Shape := ⟨2, ![8320, 2048]⟩
abbrev S1x3x2048 : Shape := ⟨3, ![1, 3, 2048]⟩
abbrev S3x2048 : Shape := ⟨2, ![3, 2048]⟩
abbrev S4x2x2048 : Shape := ⟨3, ![4, 2, 2048]⟩
abbrev S2048x512 : Shape := ⟨2, ![2048, 512]⟩
abbrev S3x512 : Shape := ⟨2, ![3, 512]⟩
abbrev S1x2x512 : Shape := ⟨3, ![1, 2, 512]⟩
abbrev S1x512 : Shape := ⟨2, ![1, 512]⟩
abbrev S2x512 : Shape := ⟨2, ![2, 512]⟩

abbrev nBuf : Space → Nat
  | .hbm => 7
  | .vmem => 12
  | .smem => 0
  | _ => 0

abbrev bufTy : (tb : Table) → Fin (tcTables nBuf tb) → BufTy
  | .hbm, ⟨0, _⟩ => ⟨S8320x12288, .f32⟩
  | .hbm, ⟨1, _⟩ => ⟨S4x3x2048, .f32⟩
  | .hbm, ⟨2, _⟩ => ⟨S8320x2048, .bf16⟩
  | .hbm, ⟨3, _⟩ => ⟨S1x3x2048, .f32⟩
  | .hbm, ⟨4, _⟩ => ⟨S3x2048, .f32⟩
  | .hbm, ⟨5, _⟩ => ⟨S8320x2048, .bf16⟩
  | .hbm, ⟨6, _⟩ => ⟨S4x2x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S2048x512, .bf16⟩
  | .local _ .vmem, ⟨9, _⟩ => ⟨S2048x512, .bf16⟩
  | .local _ .vmem, ⟨10, _⟩ => ⟨S1x2x512, .f32⟩
  | .local _ .vmem, ⟨11, _⟩ => ⟨S1x2x512, .f32⟩
  | _, _ => ⟨S8320x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ScpRefIdeal.lean ====
abbrev S8320x12288 : Shape := ⟨2, ![8320, 12288]⟩
abbrev S4x3x2048 : Shape := ⟨3, ![4, 3, 2048]⟩
abbrev S8320x2048 : Shape := ⟨2, ![8320, 2048]⟩
abbrev S8192x12288 : Shape := ⟨2, ![8192, 12288]⟩
abbrev S4x2048x12288 : Shape := ⟨3, ![4, 2048, 12288]⟩
abbrev S4x2048x2048 : Shape := ⟨3, ![4, 2048, 2048]⟩
abbrev S_ : Shape := ⟨0, ![]⟩
abbrev S4x2x2048 : Shape := ⟨3, ![4, 2, 2048]⟩
abbrev S1x3x2048 : Shape := ⟨3, ![1, 3, 2048]⟩
abbrev S3x2048 : Shape := ⟨2, ![3, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩
abbrev S128x2048 : Shape := ⟨2, ![128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8320x12288, .f32⟩
  | .hbm, ⟨1, _⟩ => ⟨S4x3x2048, .f32⟩
  | .hbm, ⟨2, _⟩ => ⟨S8320x2048, .bf16⟩
  | .hbm, ⟨3, _⟩ => ⟨S8192x12288, .f32⟩
  | .hbm, ⟨4, _⟩ => ⟨S4x2048x12288, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2x2048, .f32⟩
  | .hbm, ⟨11, _⟩ => ⟨S1x3x2048, .f32⟩
  | .hbm, ⟨12, _⟩ => ⟨S3x2048, .f32⟩
  | .hbm, ⟨13, _⟩ => ⟨S4x2050x2048, .f32⟩
  | .hbm, ⟨14, _⟩ => ⟨S4x2048x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2x2048, .f32⟩
  | .hbm, ⟨38, _⟩ => ⟨S4x2048x2048, .f32⟩
  | .hbm, ⟨39, _⟩ => ⟨S8192x2048, .f32⟩
  | .hbm, ⟨40, _⟩ => ⟨S8192x2048, .bf16⟩
  | .hbm, ⟨41, _⟩ => ⟨S128x2048, .bf16⟩
  | .hbm, ⟨42, _⟩ => ⟨S8320x2048, .bf16⟩
  | _, _ => ⟨S8320x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Scs.lean ====
abbrev S8320x12288 : Shape := ⟨2, ![8320, 12288]⟩
abbrev S4x128x2x2048 : Shape := ⟨4, ![4, 128, 2, 2048]⟩
abbrev S4x3x2048 : Shape := ⟨3, ![4, 3, 2048]⟩
abbrev S8320x2048 : Shape := ⟨2, ![8320, 2048]⟩
abbrev S1x128x2x2048 : Shape := ⟨4, ![1, 128, 2, 2048]⟩
abbrev S128x2x2048 : Shape := ⟨3, ![128, 2, 2048]⟩
abbrev S2x128x2048 : Shape := ⟨3, ![2, 128, 2048]⟩
abbrev S1x3x2048 : Shape := ⟨3, ![1, 3, 2048]⟩
abbrev S3x2048 : Shape := ⟨2, ![3, 2048]⟩
abbrev S128x2048 : Shape := ⟨2, ![128, 2048]⟩
abbrev S1x128x2048 : Shape := ⟨3, ![1, 128, 2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S8320x12288, .f32⟩
  | .hbm, ⟨1, _⟩ => ⟨S4x128x2x2048, .f32⟩
  | .hbm, ⟨2, _⟩ => ⟨S4x3x2048, .f32⟩
  | .hbm, ⟨3, _⟩ => ⟨S8320x2048, .bf16⟩
  | .hbm, ⟨4, _⟩ => ⟨S1x128x2x2048, .f32⟩
  | .hbm, ⟨5, _⟩ => ⟨S128x2x2048, .f32⟩
  | .hbm, ⟨6, _⟩ => ⟨S2x128x2048, .f32⟩
  | .hbm, ⟨7, _⟩ => ⟨S1x3x2048, .f32⟩
  | .hbm, ⟨8, _⟩ => ⟨S3x2048, .f32⟩
  | .hbm, ⟨9, _⟩ => ⟨S8320x2048, .bf16⟩
  | .hbm, ⟨10, _⟩ => ⟨S2x128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S2x128x2048, .f32⟩
  | .local _ .vmem, ⟨4, _⟩ => ⟨S3x2048, .f32⟩
  | .local _ .vmem, ⟨5, _⟩ => ⟨S128x2048, .bf16⟩
  | .local _ .vmem, ⟨6, _⟩ => ⟨S2x128x2048, .f32⟩
  | _, _ => ⟨S8320x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_1 (i : grid0.Coords) : Fin 2 → Nat :=
  let arg0 : BitVec 32 := BitVec.ofNat 32 (i 0).val
  let c64_i32 : BitVec 32 := 64#32
  let c1_i32 : BitVec 32 := 1#32
  let c0_i32 : BitVec 32 := 0#32
  ![c64_i32.toNat, c1_i32.toNat]

def cc0_transform_2 (i : grid0.Coords) : Fin 2 → Nat :=
  let arg0 : BitVec 32 := BitVec.ofNat 32 (i 0).val
  let c64_i32 : BitVec 32 := 64#32
  let c2_i32 : BitVec 32 := 2#32
  let c0_i32 : BitVec 32 := 0#32
  ![c64_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ScsRefIdeal.lean ====
abbrev S8320x12288 : Shape := ⟨2, ![8320, 12288]⟩
abbrev S4x128x2x2048 : Shape := ⟨4, ![4, 128, 2, 2048]⟩
abbrev S4x3x2048 : Shape := ⟨3, ![4, 3, 2048]⟩
abbrev S8320x2048 : Shape := ⟨2, ![8320, 2048]⟩
abbrev S128x12288 : Shape := ⟨2, ![128, 12288]⟩
abbrev S128x1x12288 : Shape := ⟨3, ![128, 1, 12288]⟩
abbrev S128x1x2048 : Shape := ⟨3, ![128, 1, 2048]⟩
abbrev S1x128x2x2048 : Shape := ⟨4, ![1, 128, 2, 2048]⟩
abbrev S128x2x2048 : Shape := ⟨3, ![128, 2, 2048]⟩
abbrev S1x3x2048 : Shape := ⟨3, ![1, 3, 2048]⟩
abbrev S3x2048 : Shape := ⟨2, ![3, 2048]⟩
abbrev S128x3x2048 : Shape := ⟨3, ![128, 3, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S128x2048 : Shape := ⟨2, ![128, 2048]⟩
abbrev S8192x2048 : Shape := ⟨2, ![8192, 2048]⟩
abbrev S2x128x2048 : Shape := ⟨3, ![2, 128, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8320x12288, .f32⟩
  | .hbm, ⟨1, _⟩ => ⟨S4x128x2x2048, .f32⟩
  | .hbm, ⟨2, _⟩ => ⟨S4x3x2048, .f32⟩
  | .hbm, ⟨3, _⟩ => ⟨S8320x2048, .bf16⟩
  | .hbm, ⟨4, _⟩ => ⟨S128x12288, .f32⟩
  | .hbm, ⟨5, _⟩ => ⟨S128x1x12288, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S1x128x2x2048, .f32⟩
  | .hbm, ⟨11, _⟩ => ⟨S128x2x2048, .f32⟩
  | .hbm, ⟨12, _⟩ => ⟨S1x3x2048, .f32⟩
  | .hbm, ⟨13, _⟩ => ⟨S3x2048, .f32⟩
  | .hbm, ⟨14, _⟩ => ⟨S128x3x2048, .f32⟩
  | .hbm, ⟨15, _⟩ => ⟨S128x1x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S128x1x2048, .f32⟩
  | .hbm, ⟨20, _⟩ => ⟨S128x1x2048, .f32⟩
  | .hbm, ⟨21, _⟩ => ⟨S_, .f32⟩
  | .hbm, ⟨22, _⟩ => ⟨S128x1x2048, .f32⟩
  | .hbm, ⟨23, _⟩ => ⟨S128x1x2048, .f32⟩
  | .hbm, ⟨24, _⟩ => ⟨S128x1x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S128x1x2048, .f32⟩
  | .hbm, ⟨29, _⟩ => ⟨S128x1x2048, .f32⟩
  | .hbm, ⟨30, _⟩ => ⟨S128x1x2048, .f32⟩
  | .hbm, ⟨31, _⟩ => ⟨S128x1x2048, .f32⟩
  | .hbm, ⟨32, _⟩ => ⟨S1x2048, .f32⟩
  | .hbm, ⟨33, _⟩ => ⟨S2048, .f32⟩
  | .hbm, ⟨34, _⟩ => ⟨S1x1x2048, .f32⟩
  | .hbm, ⟨35, _⟩ => ⟨S128x1x2048, .f32⟩
  | .hbm, ⟨36, _⟩ => ⟨S128x1x2048, .f32⟩
  | .hbm, ⟨37, _⟩ => ⟨S128x1x2048, .f32⟩
  | .hbm, ⟨38, _⟩ => ⟨S128x2x2048, .f32⟩
  | .hbm, ⟨39, _⟩ => ⟨S128x1x2048, .f32⟩
  | .hbm, ⟨40, _⟩ => ⟨S128x2048, .f32⟩
  | .hbm, ⟨41, _⟩ => ⟨S128x2048, .bf16⟩
  | .hbm, ⟨42, _⟩ => ⟨S8192x2048, .bf16⟩
  | .hbm, ⟨43, _⟩ => ⟨S8320x2048, .bf16⟩
  | .hbm, ⟨44, _⟩ => ⟨S2x128x2048, .f32⟩
  | _, _ => ⟨S8320x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Cvp.lean ====
abbrev S8320x12288 : Shape := ⟨2, ![8320, 12288]⟩
abbrev S4x4x4096 : Shape := ⟨3, ![4, 4, 4096]⟩
abbrev S4x4096 : Shape := ⟨2, ![4, 4096]⟩
abbrev S1x4x4096 : Shape := ⟨3, ![1, 4, 4096]⟩
abbrev S1x4096 : Shape := ⟨2, ![1, 4096]⟩
abbrev S4096 : Shape := ⟨1, ![4096]⟩
abbrev S8192x4096 : Shape := ⟨2, ![8192, 4096]⟩
abbrev S4x3x4096 : Shape := ⟨3, ![4, 3, 4096]⟩
abbrev S2048x512 : Shape := ⟨2, ![2048, 512]⟩
abbrev S4x512 : Shape := ⟨2, ![4, 512]⟩
abbrev S1x512 : Shape := ⟨2, ![1, 512]⟩
abbrev S1x3x512 : Shape := ⟨3, ![1, 3, 512]⟩
abbrev S3x512 : Shape := ⟨2, ![3, 512]⟩

abbrev nBuf : Space → Nat
  | .hbm => 10
  | .vmem => 10
  | .smem => 0
  | _ => 0

abbrev bufTy : (tb : Table) → Fin (tcTables nBuf tb) → BufTy
  | .hbm, ⟨0, _⟩ => ⟨S8320x12288, .f32⟩
  | .hbm, ⟨1, _⟩ => ⟨S4x4x4096, .f32⟩
  | .hbm, ⟨2, _⟩ => ⟨S4x4096, .f32⟩
  | .hbm, ⟨3, _⟩ => ⟨S1x4x4096, .f32⟩
  | .hbm, ⟨4, _⟩ => ⟨S4x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S8192x4096, .f32⟩
  | .hbm, ⟨9, _⟩ => ⟨S4x3x4096, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S1x3x512, .f32⟩
  | .local _ .vmem, ⟨9, _⟩ => ⟨S1x3x512, .f32⟩
  | _, _ => ⟨S8320x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CvpRefIdeal.lean ====
abbrev S8320x12288 : Shape := ⟨2, ![8320, 12288]⟩
abbrev S4x4x4096 : Shape := ⟨3, ![4, 4, 4096]⟩
abbrev S4x4096 : Shape := ⟨2, ![4, 4096]⟩
abbrev S8192x12288 : Shape := ⟨2, ![8192, 12288]⟩
abbrev S4x2048x12288 : Shape := ⟨3, ![4, 2048, 12288]⟩
abbrev S4x2048x4096 : Shape := ⟨3, ![4, 2048, 4096]⟩
abbrev S_ : Shape := ⟨0, ![]⟩
abbrev S4x3x4096 : Shape := ⟨3, ![4, 3, 4096]⟩
abbrev S1x4x4096 : Shape := ⟨3, ![1, 4, 4096]⟩
abbrev S4x2051x4096 : Shape := ⟨3, ![4, 2051, 4096]⟩
abbrev S1x4096 : Shape := ⟨2, ![1, 4096]⟩
abbrev S4096 : Shape := ⟨1, ![4096]⟩
abbrev S1x1x4096 : Shape := ⟨3, ![1, 1, 4096]⟩
abbrev S8192x4096 : Shape := ⟨2, ![8192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8320x12288, .f32⟩
  | .hbm, ⟨1, _⟩ => ⟨S4x4x4096, .f32⟩
  | .hbm, ⟨2, _⟩ => ⟨S4x4096, .f32⟩
  | .hbm, ⟨3, _⟩ => ⟨S8192x12288, .f32⟩
  | .hbm, ⟨4, _⟩ => ⟨S4x2048x12288, .f32⟩
  | .hbm, ⟨5, _⟩ => ⟨S4x2048x4096, .f32⟩
  | .hbm, ⟨6, _⟩ => ⟨S_, .f32⟩
  | .hbm, ⟨7, _⟩ => ⟨S4x3x4096, .f32⟩
  | .hbm, ⟨8, _⟩ => ⟨S1x4x4096, .f32⟩
  | .hbm, ⟨9, _⟩ => ⟨S4x4096, .f32⟩
  | .hbm, ⟨10, _⟩ => ⟨S4x2051x4096, .f32⟩
  | .hbm, ⟨11, _⟩ => ⟨S4x2048x4096, .f32⟩
  | .hbm, ⟨12, _⟩ => ⟨S1x4096, .f32⟩
  | .hbm, ⟨13, _⟩ => ⟨S4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S1x4096, .f32⟩
  | .hbm, ⟨22, _⟩ => ⟨S4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S1x4096, .f32⟩
  | .hbm, ⟨29, _⟩ => ⟨S4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S1x4096, .f32⟩
  | .hbm, ⟨36, _⟩ => ⟨S4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x3x4096, .f32⟩
  | .hbm, ⟨42, _⟩ => ⟨S1x4096, .f32⟩
  | .hbm, ⟨43, _⟩ => ⟨S4096, .f32⟩
  | .hbm, ⟨44, _⟩ => ⟨S1x1x4096, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S_, .f32⟩
  | .hbm, ⟨50, _⟩ => ⟨S4x2048x4096, .f32⟩
  | .hbm, ⟨51, _⟩ => ⟨S4x2048x4096, .f32⟩
  | .hbm, ⟨52, _⟩ => ⟨S_, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S8192x4096, .f32⟩
  | _, _ => ⟨S8320x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Pre.lean ====
abbrev S8320x12288 : Shape := ⟨2, ![8320, 12288]⟩
abbrev S8320x1536 : Shape := ⟨2, ![8320, 1536]⟩
abbrev S4x128x3x4096 : Shape := ⟨4, ![4, 128, 3, 4096]⟩
abbrev S4x4x4096 : Shape := ⟨3, ![4, 4, 4096]⟩
abbrev S4x4096 : Shape := ⟨2, ![4, 4096]⟩
abbrev S4x32 : Shape := ⟨2, ![4, 32]⟩
abbrev S1x128x3x4096 : Shape := ⟨4, ![1, 128, 3, 4096]⟩
abbrev S128x3x4096 : Shape := ⟨3, ![128, 3, 4096]⟩
abbrev S3x128x4096 : Shape := ⟨3, ![3, 128, 4096]⟩
abbrev S1x4x4096 : Shape := ⟨3, ![1, 4, 4096]⟩
abbrev S1x4096 : Shape := ⟨2, ![1, 4096]⟩
abbrev S4096 : Shape := ⟨1, ![4096]⟩
abbrev S1x32 : Shape := ⟨2, ![1, 32]⟩
abbrev S32 : Shape := ⟨1, ![32]⟩
abbrev S_ : Shape := ⟨0, ![]⟩
abbrev S1x128 : Shape := ⟨2, ![1, 128]⟩
abbrev S1 : Shape := ⟨1, ![1]⟩
abbrev S2 : Shape := ⟨1, ![2]⟩
abbrev S128x4096 : Shape := ⟨2, ![128, 4096]⟩
abbrev S2048x128 : Shape := ⟨2, ![2048, 128]⟩
abbrev S128x128 : Shape := ⟨2, ![128, 128]⟩
abbrev S1x128x4096 : Shape := ⟨3, ![1, 128, 4096]⟩
abbrev S128x2048 : Shape := ⟨2, ![128, 2048]⟩
abbrev S64x128 : Shape := ⟨2, ![64, 128]⟩

abbrev nBuf : Space → Nat
  | .hbm => 39
  | .vmem => 11
  | .smem => 0
  | _ => 0

abbrev bufTy : (tb : Table) → Fin (tcTables nBuf tb) → BufTy
  | .hbm, ⟨0, _⟩ => ⟨S8320x12288, .f32⟩
  | .hbm, ⟨1, _⟩ => ⟨S8320x1536, .f32⟩
  | .hbm, ⟨2, _⟩ => ⟨S4x128x3x4096, .f32⟩
  | .hbm, ⟨3, _⟩ => ⟨S4x4x4096, .f32⟩
  | .hbm, ⟨4, _⟩ => ⟨S4x4096, .f32⟩
  | .hbm, ⟨5, _⟩ => ⟨S4x32, .f32⟩
  | .hbm, ⟨6, _⟩ => ⟨S4x32, .f32⟩
  | .hbm, ⟨7, _⟩ => ⟨S1x128x3x4096, .f32⟩
  | .hbm, ⟨8, _⟩ => ⟨S128x3x4096, .f32⟩
  | .hbm, ⟨9, _⟩ => ⟨S3x128x4096, .f32⟩
  | .hbm, ⟨10, _⟩ => ⟨S1x4x4096, .f32⟩
  | .hbm, ⟨11, _⟩ => ⟨S4x4096, .f32⟩
  | .hbm, ⟨12, _⟩ => ⟨S1x4096, .f32⟩
  | .hbm, ⟨13, _⟩ => ⟨S4096, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S1x4096, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S128x4096, .f32⟩
  | .hbm, ⟨36, _⟩ => ⟨S3x128x4096, .f32⟩
  | .hbm, ⟨37, _⟩ => ⟨S2048x128, .f32⟩
  | .hbm, ⟨38, _⟩ => ⟨S2048x128, .f32⟩
  | .local _ .vmem, ⟨0, _⟩ => ⟨S128x4096, .f32⟩
  | .local _ .vmem, ⟨1, _⟩ => ⟨S3x128x4096, .f32⟩
  | .local _ .vmem, ⟨2, _⟩ => ⟨S4x4096, .f32⟩
  | .local _ .vmem, ⟨3, _⟩ => ⟨S1x4096, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S128x4096, .f32⟩
  | .local _ .vmem, ⟨8, _⟩ => ⟨S3x128x4096, .f32⟩
  | .local _ .vmem, ⟨9, _⟩ => ⟨S2048x128, .f32⟩
  | .local _ .vmem, ⟨10, _⟩ => ⟨S2048x128, .f32⟩
  | _, _ => ⟨S8320x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c2_i32 : BitVec 32 := 2#32
  let c0_i32 : BitVec 32 := 0#32
  ![c64_i32.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let c11_i32 : BitVec 32 := 11#32
  let c0_i32 : BitVec 32 := 0#32
  ![c64_i32.toNat, c11_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PreRefIdeal.lean ====
abbrev S8320x12288 : Shape := ⟨2, ![8320, 12288]⟩
abbrev S8320x1536 : Shape := ⟨2, ![8320, 1536]⟩
abbrev S4x128x3x4096 : Shape := ⟨4, ![4, 128, 3, 4096]⟩
abbrev S4x4x4096 : Shape := ⟨3, ![4, 4, 4096]⟩
abbrev S4x4096 : Shape := ⟨2, ![4, 4096]⟩
abbrev S4x32 : Shape := ⟨2, ![4, 32]⟩
abbrev S128x12288 : Shape := ⟨2, ![128, 12288]⟩
abbrev S128x1x12288 : Shape := ⟨3, ![128, 1, 12288]⟩
abbrev S128x1x4096 : Shape := ⟨3, ![128, 1, 4096]⟩
abbrev S1x128x3x4096 : Shape := ⟨4, ![1, 128, 3, 4096]⟩
abbrev S128x3x4096 : Shape := ⟨3, ![128, 3, 4096]⟩
abbrev S1x4x4096 : Shape := ⟨3, ![1, 4, 4096]⟩
abbrev S128x4x4096 : Shape := ⟨3, ![128, 4, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S128x4096 : Shape := ⟨2, ![128, 4096]⟩
abbrev S128x32 : Shape := ⟨2, ![128, 32]⟩
abbrev S1x32 : Shape := ⟨2, ![1, 32]⟩
abbrev S32 : Shape := ⟨1, ![32]⟩
abbrev S128x32x1 : Shape := ⟨3, ![128, 32, 1]⟩
abbrev S128x2048 : Shape := ⟨2, ![128, 2048]⟩
abbrev S128x32x64 : Shape := ⟨3, ![128, 32, 64]⟩
abbrev S3x128x4096 : Shape := ⟨3, ![3, 128, 4096]⟩
abbrev S2048x128 : Shape := ⟨2, ![2048, 128]⟩

abbrev nBuf : Space → Nat
  | .hbm => 101
  | .vmem => 0
  | .smem => 0
  | _ => 0

abbrev bufTy : (tb : Table) → Fin (tcTables nBuf tb) → BufTy
  | .hbm, ⟨0, _⟩ => ⟨S8320x12288, .f32⟩
  | .hbm, ⟨1, _⟩ => ⟨S8320x1536, .f32⟩
  | .hbm, ⟨2, _⟩ => ⟨S4x128x3x4096, .f32⟩
  | .hbm, ⟨3, _⟩ => ⟨S4x4x4096, .f32⟩
  | .hbm, ⟨4, _⟩ => ⟨S4x4096, .f32⟩
  | .hbm, ⟨5, _⟩ => ⟨S4x32, .f32⟩
  | .hbm, ⟨6, _⟩ => ⟨S4x32, .f32⟩
  | .hbm, ⟨7, _⟩ => ⟨S128x12288, .f32⟩
  | .hbm, ⟨8, _⟩ => ⟨S128x1x12288, .f32⟩
  | .hbm, ⟨9, _⟩ => ⟨S128x1x4096, .f32⟩
  | .hbm, ⟨10, _⟩ => ⟨S1x128x3x4096, .f32⟩
  | .hbm, ⟨11, _⟩ => ⟨S128x3x4096, .f32⟩
  | .hbm, ⟨12, _⟩ => ⟨S1x4x4096, .f32⟩
  | .hbm, ⟨13, _⟩ => ⟨S4x4096, .f32⟩
  | .hbm, ⟨14, _⟩ => ⟨S128x4x4096, .f32⟩
  | .hbm, ⟨15, _⟩ => ⟨S128x1x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S128x1x4096, .f32⟩
  | .hbm, ⟨20, _⟩ => ⟨S128x1x4096, .f32⟩
  | .hbm, ⟨21, _⟩ => ⟨S_, .f32⟩
  | .hbm, ⟨22, _⟩ => ⟨S128x1x4096, .f32⟩
  | .hbm, ⟨23, _⟩ => ⟨S128x1x4096, .f32⟩
  | .hbm, ⟨24, _⟩ => ⟨S128x1x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S128x1x4096, .f32⟩
  | .hbm, ⟨29, _⟩ => ⟨S128x1x4096, .f32⟩
  | .hbm, ⟨30, _⟩ => ⟨S128x1x4096, .f32⟩
  | .hbm, ⟨31, _⟩ => ⟨S128x1x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S128x1x4096, .f32⟩
  | .hbm, ⟨36, _⟩ => ⟨S128x1x4096, .f32⟩
  | .hbm, ⟨37, _⟩ => ⟨S128x1x4096, .f32⟩
  | .hbm, ⟨38, _⟩ => ⟨S128x1x4096, .f32⟩
  | .hbm, ⟨39, _⟩ => ⟨S1x4096, .f32⟩
  | .hbm, ⟨40, _⟩ => ⟨S4096, .f32⟩
  | .hbm, ⟨41, _⟩ => ⟨S1x1x4096, .f32⟩
  | .hbm, ⟨42, _⟩ => ⟨S128x1x4096, .f32⟩
  | .hbm, ⟨43, _⟩ => ⟨S128x1x4096, .f32⟩
  | .hbm, ⟨44, _⟩ => ⟨S128x1x4096, .f32⟩
  | .hbm, ⟨45, _⟩ => ⟨S128x3x4096, .f32⟩
  | .hbm, ⟨46, _⟩ => ⟨S1x4096, .f32⟩
  | .hbm, ⟨47, _⟩ => ⟨S4096, .f32⟩
  | .hbm, ⟨48, _⟩ => ⟨S1x1x4096, .f32⟩
  | .hbm, ⟨49, _⟩ => ⟨S128x1x4096, .f32⟩
  | .hbm, ⟨50, _⟩ => ⟨S128x1x4096, .f32⟩
  | .hbm, ⟨51, _⟩ => ⟨S128x1x4096, .f32⟩
  | .hbm, ⟨52, _⟩ => ⟨S128x1x4096, .f32⟩
  | .hbm, ⟨53, _⟩ => ⟨S_, .f32⟩
  | .hbm, ⟨54, _⟩ => ⟨S128x1x4096, .f32⟩
  | .hbm, ⟨55, _⟩ => ⟨S128x1x4096, .f32⟩
  | .hbm, ⟨56, _⟩ => ⟨S_, .f32⟩
  | .hbm, ⟨57, _⟩ => ⟨S128x1x4096, .f32⟩
  | .hbm, ⟨58, _⟩ => ⟨S128x1x4096, .f32⟩
  | .hbm, ⟨59, _⟩ => ⟨S128x1x4096, .f32⟩
  | .hbm, ⟨60, _⟩ => ⟨S128x4096, .f32⟩
  | .hbm, ⟨61, _⟩ => ⟨S128x32, .f32⟩
  | .hbm, ⟨62, _⟩ => ⟨S1x32, .f32⟩
  | .hbm, ⟨63, _⟩ => ⟨S32, .f32⟩
  | .hbm, ⟨64, _⟩ => ⟨S1x32, .f32⟩
  | .hbm, ⟨65, _⟩ => ⟨S128x32, .f32⟩
  | .hbm, ⟨66, _⟩ => ⟨S128x32, .f32⟩
  | .hbm, ⟨67, _⟩ => ⟨S_, .f32⟩
  | .hbm, ⟨68, _⟩ => ⟨S128x32, .f32⟩
  | .hbm, ⟨69, _⟩ => ⟨S128x32, .f32⟩
  | .hbm, ⟨70, _⟩ => ⟨S128x32, .f32⟩
  | .hbm, ⟨71, _⟩ => ⟨S128x32, .f32⟩
  | .hbm, ⟨72, _⟩ => ⟨S128x32, .i1⟩
  | .hbm, ⟨73, _⟩ => ⟨S128x32, .f32⟩
  | .hbm, ⟨74, _⟩ => ⟨S128x32, .f32⟩
  | .hbm, ⟨75, _⟩ => ⟨S128x32, .f32⟩
  | .hbm, ⟨76, _⟩ => ⟨S128x32, .f32⟩
  | .hbm, ⟨77, _⟩ => ⟨S128x32, .f32⟩
  | .hbm, ⟨78, _⟩ => ⟨S128x32, .f32⟩
  | .hbm, ⟨79, _⟩ => ⟨S128x32, .f32⟩
  | .hbm, ⟨80, _⟩ => ⟨S128x32, .f32⟩
  | .hbm, ⟨81, _⟩ => ⟨S1x32, .f32⟩
  | .hbm, ⟨82, _⟩ => ⟨S32, .f32⟩
  | .hbm, ⟨83, _⟩ => ⟨S32, .f32⟩
  | .hbm, ⟨84, _⟩ => ⟨S32, .f32⟩
  | .hbm, ⟨85, _⟩ => ⟨S1x32, .f32⟩
  | .hbm, ⟨86, _⟩ => ⟨S128x32, .f32⟩
  | .hbm, ⟨87, _⟩ => ⟨S128x32, .f32⟩
  | .hbm, ⟨88, _⟩ => ⟨S128x32, .f32⟩
  | .hbm, ⟨89, _⟩ => ⟨S128x32x1, .f32⟩
  | .hbm, ⟨90, _⟩ => ⟨S128x2048, .f32⟩
  | .hbm, ⟨91, _⟩ => ⟨S128x32x64, .f32⟩
  | .hbm, ⟨92, _⟩ => ⟨S128x32x64, .f32⟩
  | .hbm, ⟨93, _⟩ => ⟨S128x32x64, .f32⟩
  | .hbm, ⟨94, _⟩ => ⟨S128x32x1, .f32⟩
  | .hbm, ⟨95, _⟩ => ⟨S128x32x64, .f32⟩
  | .hbm, ⟨96, _⟩ => ⟨S3x128x4096, .f32⟩
  | .hbm, ⟨97, _⟩ => ⟨S128x2048, .f32⟩
  | .hbm, ⟨98, _⟩ => ⟨S2048x128, .f32⟩
  | .hbm, ⟨99, _⟩ => ⟨S128x2048, .f32⟩
  | .hbm, ⟨100, _⟩ => ⟨S2048x128, .f32⟩
  | _, _ => ⟨S8320x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Step.lean ====
abbrev S4x128x32x64x128 : Shape := ⟨5, ![4, 128, 32, 64, 128]⟩
abbrev S2048x128 : Shape := ⟨2, ![2048, 128]⟩
abbrev S128x4096 : Shape := ⟨2, ![128, 4096]⟩
abbrev S4x128x2048x128 : Shape := ⟨4, ![4, 128, 2048, 128]⟩
abbrev S128x1024 : Shape := ⟨2, ![128, 1024]⟩
abbrev S128x8x128 : Shape := ⟨3, ![128, 8, 128]⟩
abbrev S1x1x2048x128 : Shape := ⟨4, ![1, 1, 2048, 128]⟩
abbrev S1x8x128 : Shape := ⟨3, ![1, 8, 128]⟩
abbrev S2048 : Shape := ⟨1, ![2048]⟩
abbrev S2048x1 : Shape := ⟨2, ![2048, 1]⟩
abbrev S8x128 : Shape := ⟨2, ![8, 128]⟩
abbrev S8x1x128 : Shape := ⟨3, ![8, 1, 128]⟩
abbrev S8x256x128 : Shape := ⟨3, ![8, 256, 128]⟩

abbrev nBuf : Space → Nat
  | .hbm => 13
  | .vmem => 11
  | .smem => 0
  | _ => 0

abbrev bufTy : (tb : Table) → Fin (tcTables nBuf tb) → BufTy
  | .hbm, ⟨0, _⟩ => ⟨S4x128x32x64x128, .f32⟩
  | .hbm, ⟨1, _⟩ => ⟨S2048x128, .f32⟩
  | .hbm, ⟨2, _⟩ => ⟨S2048x128, .f32⟩
  | .hbm, ⟨3, _⟩ => ⟨S128x4096, .f32⟩
  | .hbm, ⟨4, _⟩ => ⟨S4x128x32x64x128, .f32⟩
  | .hbm, ⟨5, _⟩ => ⟨S4x128x2048x128, .f32⟩
  | .hbm, ⟨6, _⟩ => ⟨S128x1024, .f32⟩
  | .hbm, ⟨7, _⟩ => ⟨S128x8x128, .f32⟩
  | .hbm, ⟨8, _⟩ => ⟨S128x1024, .f32⟩
  | .hbm, ⟨9, _⟩ => ⟨S128x8x128, .f32⟩
  | .hbm, ⟨10, _⟩ => ⟨S4x128x2048x128, .f32⟩
  | .hbm, ⟨11, _⟩ => ⟨S4x128x2048x128, .f32⟩
  | .hbm, ⟨12, _⟩ => ⟨S2048x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S2048x128, .f32⟩
  | .local _ .vmem, ⟨3, _⟩ => ⟨S2048x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S2048x128, .f32⟩
  | _, _ => ⟨S4x128x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== StepRefIdeal.lean ====
abbrev S4x128x32x64x128 : Shape := ⟨5, ![4, 128, 32, 64, 128]⟩
abbrev S2048x128 : Shape := ⟨2, ![2048, 128]⟩
abbrev S128x4096 : Shape := ⟨2, ![128, 4096]⟩
abbrev S128x2048 : Shape := ⟨2, ![128, 2048]⟩
abbrev S128x8x4x64 : Shape := ⟨4, ![128, 8, 4, 64]⟩
abbrev S128x1024 : Shape := ⟨2, ![128, 1024]⟩
abbrev S128x8x128 : Shape := ⟨3, ![128, 8, 128]⟩
abbrev S1x128x32x64x128 : Shape := ⟨5, ![1, 128, 32, 64, 128]⟩
abbrev S128x32x64x128 : Shape := ⟨4, ![128, 32, 64, 128]⟩
abbrev S128x8x4x64x128 : Shape := ⟨5, ![128, 8, 4, 64, 128]⟩
abbrev S128x8x4x64x1 : Shape := ⟨5, ![128, 8, 4, 64, 1]⟩
abbrev S128x8x1x1x128 : Shape := ⟨5, ![128, 8, 1, 1, 128]⟩
abbrev S2x128x32x64x128 : Shape := ⟨5, ![2, 128, 32, 64, 128]⟩
abbrev S4x128x2048x128 : Shape := ⟨4, ![4, 128, 2048, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x128x32x64x128, .f32⟩
  | .hbm, ⟨1, _⟩ => ⟨S2048x128, .f32⟩
  | .hbm, ⟨2, _⟩ => ⟨S2048x128, .f32⟩
  | .hbm, ⟨3, _⟩ => ⟨S128x4096, .f32⟩
  | .hbm, ⟨4, _⟩ => ⟨S4x128x32x64x128, .f32⟩
  | .hbm, ⟨5, _⟩ => ⟨S128x2048, .f32⟩
  | .hbm, ⟨6, _⟩ => ⟨S128x8x4x64, .f32⟩
  | .hbm, ⟨7, _⟩ => ⟨S128x2048, .f32⟩
  | .hbm, ⟨8, _⟩ => ⟨S128x8x4x64, .f32⟩
  | .hbm, ⟨9, _⟩ => ⟨S128x1024, .f32⟩
  | .hbm, ⟨10, _⟩ => ⟨S128x8x128, .f32⟩
  | .hbm, ⟨11, _⟩ => ⟨S128x1024, .f32⟩
  | .hbm, ⟨12, _⟩ => ⟨S128x8x128, .f32⟩
  | .hbm, ⟨13, _⟩ => ⟨S1x128x32x64x128, .f32⟩
  | .hbm, ⟨14, _⟩ => ⟨S128x32x64x128, .f32⟩
  | .hbm, ⟨15, _⟩ => ⟨S128x8x4x64x128, .f32⟩
  | .hbm, ⟨16, _⟩ => ⟨S128x8x4x64x1, .f32⟩
  | .hbm, ⟨17, _⟩ => ⟨S128x8x4x64x128, .f32⟩
  | .hbm, ⟨18, _⟩ => ⟨S128x8x4x64x128, .f32⟩
  | .hbm, ⟨19, _⟩ => ⟨S128x8x4x64x1, .f32⟩
  | .hbm, ⟨20, _⟩ => ⟨S128x8x1x1x128, .f32⟩
  | .hbm, ⟨21, _⟩ => ⟨S128x8x4x64x128, .f32⟩
  | .hbm, ⟨22, _⟩ => ⟨S128x8x4x64x128, .f32⟩
  | .hbm, ⟨23, _⟩ => ⟨S128x8x4x64x128, .f32⟩
  | .hbm, ⟨24, _⟩ => ⟨S128x8x4x64x128, .f32⟩
  | .hbm, ⟨25, _⟩ => ⟨S128x8x4x64, .f32⟩
  | .hbm, ⟨26, _⟩ => ⟨S1x128x32x64x128, .f32⟩
  | .hbm, ⟨27, _⟩ => ⟨S1x128x32x64x128, .f32⟩
  | .hbm, ⟨28, _⟩ => ⟨S2x128x32x64x128, .f32⟩
  | .hbm, ⟨29, _⟩ => ⟨S4x128x32x64x128, .f32⟩
  | .hbm, ⟨30, _⟩ => ⟨S4x128x2048x128, .f32⟩
  | .hbm, ⟨31, _⟩ => ⟨S128x2048, .f32⟩
  | .hbm, ⟨32, _⟩ => ⟨S2048x128, .f32⟩
  | _, _ => ⟨S4x128x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Post.lean ====
abbrev S2048x128 : Shape := ⟨2, ![2048, 128]⟩
abbrev S128x4096 : Shape := ⟨2, ![128, 4096]⟩
abbrev S8320x12288 : Shape := ⟨2, ![8320, 12288]⟩
abbrev S4x32 : Shape := ⟨2, ![4, 32]⟩
abbrev S4x2048 : Shape := ⟨2, ![4, 2048]⟩
abbrev S8320x2048 : Shape := ⟨2, ![8320, 2048]⟩
abbrev S1x32 : Shape := ⟨2, ![1, 32]⟩
abbrev S32 : Shape := ⟨1, ![32]⟩
abbrev S32x64 : Shape := ⟨2, ![32, 64]⟩
abbrev S2048 : Shape := ⟨1, ![2048]⟩
abbrev S1x2048 : Shape := ⟨2, ![1, 2048]⟩
abbrev S128x2048 : Shape := ⟨2, ![128, 2048]⟩
abbrev S128x256 : Shape := ⟨2, ![128, 256]⟩
abbrev S128 : Shape := ⟨1, ![128]⟩
abbrev S128x1 : Shape := ⟨2, ![128, 1]⟩
abbrev S1x256 : Shape := ⟨2, ![1, 256]⟩

abbrev nBuf : Space → Nat
  | .hbm => 15
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S128x4096, .f32⟩
  | .hbm, ⟨2, _⟩ => ⟨S8320x12288, .f32⟩
  | .hbm, ⟨3, _⟩ => ⟨S4x32, .f32⟩
  | .hbm, ⟨4, _⟩ => ⟨S4x2048, .f32⟩
  | .hbm, ⟨5, _⟩ => ⟨S8320x2048, .bf16⟩
  | .hbm, ⟨6, _⟩ => ⟨S1x32, .f32⟩
  | .hbm, ⟨7, _⟩ => ⟨S32, .f32⟩
  | .hbm, ⟨8, _⟩ => ⟨S32x64, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S8320x2048, .bf16⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S128x2048, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let c3_i32 : BitVec 32 := 3#32
  let c0_i32 : BitVec 32 := 0#32
  ![c64_i32.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostRefIdeal.lean ====
abbrev S2048x128 : Shape := ⟨2, ![2048, 128]⟩
abbrev S128x4096 : Shape := ⟨2, ![128, 4096]⟩
abbrev S8320x12288 : Shape := ⟨2, ![8320, 12288]⟩
abbrev S4x32 : Shape := ⟨2, ![4, 32]⟩
abbrev S4x2048 : Shape := ⟨2, ![4, 2048]⟩
abbrev S8320x2048 : Shape := ⟨2, ![8320, 2048]⟩
abbrev S128x2048 : Shape := ⟨2, ![128, 2048]⟩
abbrev S128x32x64 : Shape := ⟨3, ![128, 32, 64]⟩
abbrev S1x32 : Shape := ⟨2, ![1, 32]⟩
abbrev S32 : Shape := ⟨1, ![32]⟩
abbrev S32x1 : Shape := ⟨2, ![32, 1]⟩
abbrev S1x32x1 : Shape := ⟨3, ![1, 32, 1]⟩
abbrev S_ : Shape := ⟨0, ![]⟩
abbrev S128x8x256 : Shape := ⟨3, ![128, 8, 256]⟩
abbrev S128x8 : Shape := ⟨2, ![128, 8]⟩
abbrev S128x8x1 : Shape := ⟨3, ![128, 8, 1]⟩
abbrev S1x2048 : Shape := ⟨2, ![1, 2048]⟩
abbrev S2048 : Shape := ⟨1, ![2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x4096, .f32⟩
  | .hbm, ⟨2, _⟩ => ⟨S8320x12288, .f32⟩
  | .hbm, ⟨3, _⟩ => ⟨S4x32, .f32⟩
  | .hbm, ⟨4, _⟩ => ⟨S4x2048, .f32⟩
  | .hbm, ⟨5, _⟩ => ⟨S8320x2048, .bf16⟩
  | .hbm, ⟨6, _⟩ => ⟨S128x2048, .f32⟩
  | .hbm, ⟨7, _⟩ => ⟨S128x32x64, .f32⟩
  | .hbm, ⟨8, _⟩ => ⟨S128x2048, .f32⟩
  | .hbm, ⟨9, _⟩ => ⟨S128x2048, .f32⟩
  | .hbm, ⟨10, _⟩ => ⟨S128x32x64, .f32⟩
  | .hbm, ⟨11, _⟩ => ⟨S1x32, .f32⟩
  | .hbm, ⟨12, _⟩ => ⟨S32, .f32⟩
  | .hbm, ⟨13, _⟩ => ⟨S32x1, .f32⟩
  | .hbm, ⟨14, _⟩ => ⟨S1x32x1, .f32⟩
  | .hbm, ⟨15, _⟩ => ⟨S128x32x64, .f32⟩
  | .hbm, ⟨16, _⟩ => ⟨S128x32x64, .f32⟩
  | .hbm, ⟨17, _⟩ => ⟨S128x32x64, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S128x8x256, .f32⟩
  | .hbm, ⟨30, _⟩ => ⟨S128x8x256, .f32⟩
  | .hbm, ⟨31, _⟩ => ⟨S_, .f32⟩
  | .hbm, ⟨32, _⟩ => ⟨S128x8, .f32⟩
  | .hbm, ⟨33, _⟩ => ⟨S128x8x1, .f32⟩
  | .hbm, ⟨34, _⟩ => ⟨S_, .f32⟩
  | .hbm, ⟨35, _⟩ => ⟨S128x8x1, .f32⟩
  | .hbm, ⟨36, _⟩ => ⟨S128x8x1, .f32⟩
  | .hbm, ⟨37, _⟩ => ⟨S_, .f32⟩
  | .hbm, ⟨38, _⟩ => ⟨S128x8x1, .f32⟩
  | .hbm, ⟨39, _⟩ => ⟨S128x8x1, .f32⟩
  | .hbm, ⟨40, _⟩ => ⟨S128x8x1, .f32⟩
  | .hbm, ⟨41, _⟩ => ⟨S128x8x256, .f32⟩
  | .hbm, ⟨42, _⟩ => ⟨S128x8x256, .f32⟩
  | .hbm, ⟨43, _⟩ => ⟨S128x2048, .f32⟩
  | .hbm, ⟨44, _⟩ => ⟨S1x2048, .f32⟩
  | .hbm, ⟨45, _⟩ => ⟨S2048, .f32⟩
  | .hbm, ⟨46, _⟩ => ⟨S1x2048, .f32⟩
  | .hbm, ⟨47, _⟩ => ⟨S128x2048, .f32⟩
  | .hbm, ⟨48, _⟩ => ⟨S128x2048, .f32⟩
  | .hbm, ⟨49, _⟩ => ⟨S128x2048, .bf16⟩
  | .hbm, ⟨50, _⟩ => ⟨S8192x2048, .bf16⟩
  | .hbm, ⟨51, _⟩ => ⟨S8320x2048, .bf16⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Norm.lean ====
abbrev S8320x4096 : Shape := ⟨2, ![8320, 4096]⟩
abbrev S4x4096 : Shape := ⟨2, ![4, 4096]⟩
abbrev S1x4096 : Shape := ⟨2, ![1, 4096]⟩
abbrev S4096 : Shape := ⟨1, ![4096]⟩
abbrev S416x4096 : Shape := ⟨2, ![416, 4096]⟩
abbrev S416 : Shape := ⟨1, ![416]⟩
abbrev S416x1 : Shape := ⟨2, ![416, 1]⟩

abbrev nBuf : Space → Nat
  | .hbm => 6
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8320x4096, .bf16⟩
  | .local _ .vmem, ⟨0, _⟩ => ⟨S416x4096, .f32⟩
  | .local _ .vmem, ⟨1, _⟩ => ⟨S416x4096, .f32⟩
  | .local _ .vmem, ⟨2, _⟩ => ⟨S1x4096, .f32⟩
  | .local _ .vmem, ⟨3, _⟩ => ⟨S416x4096, .bf16⟩
  | .local _ .vmem, ⟨4, _⟩ => ⟨S416x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8320x4096 : Shape := ⟨2, ![8320, 4096]⟩
abbrev S4x4096 : Shape := ⟨2, ![4, 4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4x4096, .f32⟩
  | .hbm, ⟨2, _⟩ => ⟨S8320x4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x4096, .f32⟩
  | .hbm, ⟨14, _⟩ => ⟨S8320x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S8320x4096, .f32⟩
  | .hbm, ⟨19, _⟩ => ⟨S8320x4096, .f32⟩
  | .hbm, ⟨20, _⟩ => ⟨S8320x4096, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.ProjValue.lean ====
/- The projection kernel's result array after its run is the product of the activations with the first 12288
   columns of the layer's combined input weights, over the extended reals. -/
module

public import proofs.«01_k».proof.Proof.Gen.KernelIdeal.Frame
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- The reference's result as a function of its argument arrays. -/
abbrev REF (X0 : FVec Ideal S8320x4096 .bf16) (X1 : FVec Ideal S4x4096x25952 .f32) :
    FVec Ideal S8320x12288 .f32 :=
    extractStridedSlice S8320x12288 ![0, 0] (Host.dotGeneral
    dot_S8320x4096_S4096x25952_S8320x25952_1_0_0_1_n_n none (extf .f32 X0 bitsLt_bf16_f32) (shapeCast _
    (extractStridedSlice S1x4096x25952 ![1, 0, 0] X1 slices_S4x4096x25952_S1x4096x25952_1_0_0)
    shapeCasts_S1x4096x25952_S4096x25952)) slices_S8320x25952_S8320x12288_0_0

end Cert.ReferenceIdeal.Value

namespace Cert.KernelIdeal.Value

open Cert.KernelIdeal Cert.KernelIdeal.Gen
open Cert.ReferenceIdeal.Value (REF)

variable (m : (ℓ : Loc nD τ sig) → Buf (Elt Ideal) ℓ)

/-- Where each window's block starts at a grid point, for every point of the grid. -/
theorem idx : ∀ t : Fin cfg0.N,
    win0_0.index t = ![t.val / 24, 0] ∧ win0_1.index t = ![1, 512 * (t.val % 24), 0]
      ∧ win0_2.index t = ![t.val / 24, t.val % 24] :=
  (by decide +kernel : ∀ t : Fin grid0.N, _)

/-- The element that a grid point stores is the reference's element at that place of the result. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]
  · refine (win0_1.rect_emb_val_off t _ 0).trans ?_
    rw [(idx t).2.1]; rfl
  · refine (win0_1.rect_emb_val_off t _ 2).trans ?_
    rw [(idx t).2.1]; exact Nat.zero_add _
  · refine (win0_1.rect_emb_val_off t _ 1).trans ?_
    rw [(idx t).2.1]; exact congrArg (· + (y 1).val) (Nat.mul_comm _ _)

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelIdeal.Value

end
-- ==== Proof.GatesValue.lean ====
/- The gate projection's result array after its run is the product of the activations with the last 12288
   columns of the layer's combined input weights, over the extended reals. -/
module

public import proofs.«01_k».proof.Proof.Gen.GatesIdeal.Frame
public import proofs.«01_k».proof.Proof.Gen.GatesRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesRefIdeal.Value

open Cert.GatesRefIdeal Cert.GatesRefIdeal.Gen

/-- The reference's result as a function of its argument arrays. -/
abbrev REF (X0 : FVec Ideal S8320x4096 .bf16) (X1 : FVec Ideal S4x4096x25952 .f32) :
    FVec Ideal S8320x12288 .f32 :=
    extractStridedSlice S8320x12288 ![0, 13664] (Host.dotGeneral
    dot_S8320x4096_S4096x25952_S8320x25952_1_0_0_1_n_n none (extf .f32 X0 bitsLt_bf16_f32) (shapeCast _
    (extractStridedSlice S1x4096x25952 ![1, 0, 0] X1 slices_S4x4096x25952_S1x4096x25952_1_0_0)
    shapeCasts_S1x4096x25952_S4096x25952)) slices_S8320x25952_S8320x12288_0_13664

end Cert.GatesRefIdeal.Value

namespace Cert.GatesIdeal.Value

open Cert.GatesIdeal Cert.GatesIdeal.Gen
open Cert.GatesRefIdeal.Value (REF)

variable (m : (ℓ : Loc nD τ sig) → Buf (Elt Ideal) ℓ)

/-- Where each window's block starts at a grid point, for every point of the grid. -/
theorem idx : ∀ t : Fin cfg0.N,
    win0_0.index t = ![t.val / 24, 0] ∧ win0_1.index t = ![1, 13664 + 512 * (t.val % 24), 0]
      ∧ win0_2.index t = ![t.val / 24, t.val % 24] :=
  (by decide +kernel : ∀ t : Fin grid0.N, _)

/-- The element that a grid point stores is the reference's element at that place of the result. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]
  · refine (win0_1.rect_emb_val_off t _ 0).trans ?_
    rw [(idx t).2.1]; rfl
  · refine (win0_1.rect_emb_val_off t _ 2).trans ?_
    rw [(idx t).2.1]; exact Nat.zero_add _
  · refine (win0_1.rect_emb_val_off t _ 1).trans ?_
    rw [(idx t).2.1]; show 13664 + 512 * (t.val % 24) + (y 1).val = _; omega

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GatesIdeal.Value

end
-- ==== Proof.UpValue.lean ====
/- The feed-forward part's first product and its squared ReLU: the result array after the run. -/
module

public import proofs.«01_k».proof.Proof.Gen.UpIdeal.Frame
public import proofs.«01_k».proof.Proof.Gen.UpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpRefIdeal.Value

open Cert.UpRefIdeal Cert.UpRefIdeal.Gen

/-- The reference's result as a function of its argument arrays. -/
abbrev REF (X0 : FVec Ideal S8320x4096 .bf16) (X1 : FVec Ideal S4x4096x16384 .f32) :
    FVec Ideal S8320x16384 .bf16 :=
    truncf .bf16 (mulf (maximumf (Host.dotGeneral dot_S8320x4096_S4096x16384_S8320x16384_1_0_0_1_n_n none
    (extf .f32 X0 bitsLt_bf16_f32) (shapeCast _ (extractStridedSlice S1x4096x16384 ![1, 0, 0] X1
    slices_S4x4096x16384_S1x4096x16384_1_0_0) shapeCasts_S1x4096x16384_S4096x16384)) (broadcastInDim
    S8320x16384 ![] bcast_S_S8320x16384 (constant S_ .f32 0x00000000#32))) (maximumf (Host.dotGeneral
    dot_S8320x4096_S4096x16384_S8320x16384_1_0_0_1_n_n none (extf .f32 X0 bitsLt_bf16_f32) (shapeCast _
    (extractStridedSlice S1x4096x16384 ![1, 0, 0] X1 slices_S4x4096x16384_S1x4096x16384_1_0_0)
    shapeCasts_S1x4096x16384_S4096x16384)) (broadcastInDim S8320x16384 ![] bcast_S_S8320x16384 (constant S_
    .f32 0x00000000#32)))) bitsLt_bf16_f32

end Cert.UpRefIdeal.Value

namespace Cert.UpIdeal.Value

open Cert.UpIdeal Cert.UpIdeal.Gen
open Cert.UpRefIdeal.Value (REF)

variable (m : (ℓ : Loc nD τ sig) → Buf (Elt Ideal) ℓ)

/-- Where each window's block starts at a grid point, for every point of the grid. -/
theorem idx : ∀ t : Fin cfg0.N,
    win0_0.index t = ![t.val / 32, 0] ∧ win0_1.index t = ![1, 0, t.val % 32]
      ∧ win0_2.index t = ![t.val / 32, t.val % 32] :=
  (by decide +kernel : ∀ t : Fin grid0.N, _)

/-- The element that a grid point stores is the reference's element at that place of the result. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpIdeal.Value

end
-- ==== Proof.DownValue.lean ====
/- The feed-forward part's second product with its residual: the result array after the run. -/
module

public import proofs.«01_k».proof.Proof.Gen.DownIdeal.Frame
public import proofs.«01_k».proof.Proof.Gen.DownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

/-- The reference's result as a function of its argument arrays. -/
abbrev REF (X0 : FVec Ideal S8320x16384 .bf16) (X1 : FVec Ideal S4x16384x4096 .f32) (X2 : FVec Ideal S8320x4096 .f32) :
    FVec Ideal S8320x4096 .f32 :=
    addf X2 (Host.dotGeneral dot_S8320x16384_S16384x4096_S8320x4096_1_0_0_1_n_n none (extf .f32 X0
    bitsLt_bf16_f32) (shapeCast _ (extractStridedSlice S1x16384x4096 ![1, 0, 0] X1
    slices_S4x16384x4096_S1x16384x4096_1_0_0) shapeCasts_S1x16384x4096_S16384x4096))

end Cert.DownRefIdeal.Value

namespace Cert.DownIdeal.Value

open Cert.DownIdeal Cert.DownIdeal.Gen
open Cert.DownRefIdeal.Value (REF)

variable (m : (ℓ : Loc nD τ sig) → Buf (Elt Ideal) ℓ)

/-- Where each window's block starts at a grid point, for every point of the grid. -/
theorem idx : ∀ t : Fin cfg0.N,
    win0_0.index t = ![t.val / 32, t.val % 8] ∧ win0_1.index t = ![1, t.val % 8, t.val / 8 % 4]
      ∧ win0_2.index t = ![t.val / 32, t.val / 8 % 4] ∧ win0_3.index t = ![t.val / 32, t.val / 8 % 4] :=
  (by decide +kernel : ∀ t : Fin grid0.N, _)

/-- The fill that a run's first point writes into the accumulator. -/
theorem zero_at (j) : k0_pay1 (F := Ideal) j = 0 := by pointwise [k0_pay1]

/-- A point adds its part of the contraction to the accumulator. -/
theorem acc_at (a x w) (j) : k0_pay2 (F := Ideal) a x w j
    = a j + ∑ k : Fin 2048, x (ix2 (j 0) k) * w (ix3 0 k (j 1)) := by
  pointwise [k0_pay2]

/-- The reference's element. -/
theorem REF_at (X W R) (j) : REF X W R j = R j + ∑ k : Fin 16384, X (ix2 (j 0) k) * W (ix3 1 k (j 1)) := by
  pointwise [REF]

/-- At a run's last point the kernel writes back the residual and the accumulated sum. -/
theorem flush_at (c : Dev nD) (t : Fin cfg0.N) (h : t.val % 8 = 7) (y) :
    (outsAt0 m c t.val t.isLt).1 y
      = (show FVec Ideal S1040x1024 .f32 from iblk m c 2 t) y + (outsAt0 m c t.val t.isLt).2 y := by
  rw [outsAt0_C m c t (by omega) h]
  frame_out
  pointwise [k0_pay3]

/-- The accumulator's step at every point but a run's first. -/
theorem step_at (c : Dev nD) (t : Fin cfg0.N) (h : ¬ t.val % 8 = 0) (y) :
    (outsAt0 m c t.val t.isLt).2 y
      = (outsAt0 m c (t.val - 1) (Nat.lt_of_le_of_lt (Nat.sub_le _ _) t.isLt)).2 y
        + ∑ k : Fin 2048, (show FVec Ideal S1040x2048 .bf16 from iblk m c 0 t) (ix2 (y 0) k)
          * (show FVec Ideal S1x2048x1024 .bf16 from iblk m c 1 t) (ix3 0 k (y 1)) := by
  by_cases h7 : t.val % 8 = 7
  · rw [outsAt0_C m c t h h7]
    frame_out
    rw [acc_at]
    exact congrArg (· + _) (congrFun (Memref.IsWhole.read_unread _ _) y)
  · rw [outsAt0_B m c t h h7]
    frame_out
    rw [acc_at]
    exact congrArg (· + _) (congrFun (Memref.IsWhole.read_unread _ _) y)

/-- The whole result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, flush_at m c t ((flush0_3 t).mp hf),
    Pipeline.eq_sum_fin_of_reset_step_apply_of_flush (fun n h => (outsAt0 m c n h).2) 8 (fun _ => 0) _
      (fun t h j => by rw [outsAt0_A m c t h (by omega)]; frame_out; rw [acc_at, zero_at])
      (fun t h j => by rw [step_at m c t h])
      t ((flush0_3 t).mp hf) _, zero_add, REF_at]
  refine congrArg₂ (· + ·) ?_ (Fin.sum_mul_add_congr fun s k hl => ?_)
  · show iblk m c 2 t y = _
    blk_ext [iblk, V, idx t]
  · blk_point [iblk, V, idx t, idx ⟨_, Pipeline.run_point_lt_of_flush t ((flush0_3 t).mp hf) s⟩]

end Cert.DownIdeal.Value

end
-- ==== Proof.MergeValue.lean ====
/- The gated merge of the three branches: the result array after the run. -/
module

public import proofs.«01_k».proof.Proof.Gen.MergeIdeal.Frame
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- The reference's result as a function of its argument arrays. -/
abbrev REF (X0 : FVec Ideal S8320x2048 .bf16) (X1 : FVec Ideal S8320x2048 .bf16) (X2 : FVec Ideal S8320x2048 .bf16) (X3 : FVec Ideal S4x2048x4096 .f32) (X4 : FVec Ideal S4x2048x4096 .f32) (X5 : FVec Ideal S4x2048x4096 .f32) (X6 : FVec Ideal S8320x12288 .f32) (X7 : FVec Ideal S4x3x4096 .f32) :
    FVec Ideal S8320x4096 .bf16 :=
    truncf .bf16 (addf (addf (mulf (shapeCast _ (extractStridedSlice S8320x1x4096 ![0, 0, 0] (Host.divf
    (broadcastInDim S8320x3x4096 ![] bcast_S_S8320x3x4096 (constant S_ .f32 0x3F800000#32)) (addf
    (broadcastInDim S8320x3x4096 ![] bcast_S_S8320x3x4096 (constant S_ .f32 0x3F800000#32)) (Host.exp
    (Host.negf (addf (shapeCast _ X6 shapeCasts_S8320x12288_S8320x3x4096) (broadcastInDim S8320x3x4096 ![0, 1,
    2] bcast_S1x3x4096_S8320x3x4096_0_1_2 (broadcastInDim S1x3x4096 ![1, 2] bcast_S3x4096_S1x3x4096_1_2
    (shapeCast _ (extractStridedSlice S1x3x4096 ![1, 0, 0] X7 slices_S4x3x4096_S1x3x4096_1_0_0)
    shapeCasts_S1x3x4096_S3x4096)))))))) slices_S8320x3x4096_S8320x1x4096_0_0_0)
    shapeCasts_S8320x1x4096_S8320x4096) (Host.dotGeneral dot_S8320x2048_S2048x4096_S8320x4096_1_0_0_1_n_n none
    (extf .f32 X0 bitsLt_bf16_f32) (shapeCast _ (extractStridedSlice S1x2048x4096 ![1, 0, 0] X3
    slices_S4x2048x4096_S1x2048x4096_1_0_0) shapeCasts_S1x2048x4096_S2048x4096))) (mulf (shapeCast _
    (extractStridedSlice S8320x1x4096 ![0, 1, 0] (Host.divf (broadcastInDim S8320x3x4096 ![]
    bcast_S_S8320x3x4096 (constant S_ .f32 0x3F800000#32)) (addf (broadcastInDim S8320x3x4096 ![]
    bcast_S_S8320x3x4096 (constant S_ .f32 0x3F800000#32)) (Host.exp (Host.negf (addf (shapeCast _ X6
    shapeCasts_S8320x12288_S8320x3x4096) (broadcastInDim S8320x3x4096 ![0, 1, 2]
    bcast_S1x3x4096_S8320x3x4096_0_1_2 (broadcastInDim S1x3x4096 ![1, 2] bcast_S3x4096_S1x3x4096_1_2
    (shapeCast _ (extractStridedSlice S1x3x4096 ![1, 0, 0] X7 slices_S4x3x4096_S1x3x4096_1_0_0)
    shapeCasts_S1x3x4096_S3x4096)))))))) slices_S8320x3x4096_S8320x1x4096_0_1_0)
    shapeCasts_S8320x1x4096_S8320x4096) (Host.dotGeneral dot_S8320x2048_S2048x4096_S8320x4096_1_0_0_1_n_n none
    (extf .f32 X1 bitsLt_bf16_f32) (shapeCast _ (extractStridedSlice S1x2048x4096 ![1, 0, 0] X4
    slices_S4x2048x4096_S1x2048x4096_1_0_0) shapeCasts_S1x2048x4096_S2048x4096)))) (mulf (shapeCast _
    (extractStridedSlice S8320x1x4096 ![0, 2, 0] (Host.divf (broadcastInDim S8320x3x4096 ![]
    bcast_S_S8320x3x4096 (constant S_ .f32 0x3F800000#32)) (addf (broadcastInDim S8320x3x4096 ![]
    bcast_S_S8320x3x4096 (constant S_ .f32 0x3F800000#32)) (Host.exp (Host.negf (addf (shapeCast _ X6
    shapeCasts_S8320x12288_S8320x3x4096) (broadcastInDim S8320x3x4096 ![0, 1, 2]
    bcast_S1x3x4096_S8320x3x4096_0_1_2 (broadcastInDim S1x3x4096 ![1, 2] bcast_S3x4096_S1x3x4096_1_2
    (shapeCast _ (extractStridedSlice S1x3x4096 ![1, 0, 0] X7 slices_S4x3x4096_S1x3x4096_1_0_0)
    shapeCasts_S1x3x4096_S3x4096)))))))) slices_S8320x3x4096_S8320x1x4096_0_2_0)
    shapeCasts_S8320x1x4096_S8320x4096) (Host.dotGeneral dot_S8320x2048_S2048x4096_S8320x4096_1_0_0_1_n_n none
    (extf .f32 X2 bitsLt_bf16_f32) (shapeCast _ (extractStridedSlice S1x2048x4096 ![1, 0, 0] X5
    slices_S4x2048x4096_S1x2048x4096_1_0_0) shapeCasts_S1x2048x4096_S2048x4096)))) bitsLt_bf16_f32

end Cert.MergeRefIdeal.Value

namespace Cert.MergeIdeal.Value

open Cert.MergeIdeal Cert.MergeIdeal.Gen
open Cert.MergeRefIdeal.Value (REF)

variable (m : (ℓ : Loc nD τ sig) → Buf (Elt Ideal) ℓ)

/-- Where each window's block starts at a grid point, for every point of the grid. -/
theorem idx : ∀ t : Fin cfg0.N,
    win0_0.index t = ![t.val / 16, 0] ∧ win0_1.index t = ![t.val / 16, 0] ∧ win0_2.index t = ![t.val / 16, 0]
      ∧ win0_3.index t = ![1, 0, t.val % 16] ∧ win0_4.index t = ![1, 0, t.val % 16] ∧ win0_5.index t = ![1, 0, t.val % 16]
      ∧ win0_6.index t = ![t.val / 16, t.val % 16] ∧ win0_7.index t = ![t.val / 16, 16 + t.val % 16]
      ∧ win0_8.index t = ![t.val / 16, 32 + t.val % 16] ∧ win0_9.index t = ![1, 0, t.val % 16]
      ∧ win0_10.index t = ![t.val / 16, t.val % 16] :=
  (by decide +kernel : ∀ t : Fin grid0.N, _)

set_option maxHeartbeats 1600000 in
/-- The whole result array after the run. -/
theorem final (c : Dev nD) : (dats m 0 c).arrAt 10 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]; frame_out
  pointwise [k0_pay1, k0_pay2, k0_pay3, k0_pay4, REF]
  blk_point [iblk, V, idx t]
  all_goals
    refine congrArg Ideal.exp ((zero_sub _).trans (congrArg Neg.neg ?_))
    blk_point [iblk, V, idx t]

end Cert.MergeIdeal.Value

end
-- ==== Proof.OutValue.lean ====
/- The output projection with its residual: the result array after the run. -/
module

public import proofs.«01_k».proof.Proof.Gen.OutIdeal.Frame
public import proofs.«01_k».proof.Proof.Gen.OutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutRefIdeal.Value

open Cert.OutRefIdeal Cert.OutRefIdeal.Gen

/-- The reference's result as a function of its argument arrays. -/
abbrev REF (X0 : FVec Ideal S8320x4096 .bf16) (X1 : FVec Ideal S4x4096x4096 .f32) (X2 : FVec Ideal S8320x4096 .f32) :
    FVec Ideal S8320x4096 .f32 :=
    addf X2 (Host.dotGeneral dot_S8320x4096_S4096x4096_S8320x4096_1_0_0_1_n_n none (extf .f32 X0
    bitsLt_bf16_f32) (shapeCast _ (extractStridedSlice S1x4096x4096 ![1, 0, 0] X1
    slices_S4x4096x4096_S1x4096x4096_1_0_0) shapeCasts_S1x4096x4096_S4096x4096))

end Cert.OutRefIdeal.Value

namespace Cert.OutIdeal.Value

open Cert.OutIdeal Cert.OutIdeal.Gen
open Cert.OutRefIdeal.Value (REF)

variable (m : (ℓ : Loc nD τ sig) → Buf (Elt Ideal) ℓ)

/-- Where each window's block starts at a grid point, for every point of the grid. -/
theorem idx : ∀ t : Fin cfg0.N,
    win0_0.index t = ![t.val / 16, 0] ∧ win0_1.index t = ![1, 0, t.val % 16]
      ∧ win0_2.index t = ![t.val / 16, t.val % 16] ∧ win0_3.index t = ![t.val / 16, t.val % 16] :=
  (by decide +kernel : ∀ t : Fin grid0.N, _)

/-- The element that a grid point stores is the reference's element at that place of the result. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The whole result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutIdeal.Value

end
-- ==== Proof.QValue.lean ====
/- The queries' up projection, its columns sorted into position-free and rotary parts: the result array after the run. -/
module

public import proofs.«01_k».proof.Proof.Gen.QIdeal.Frame
public import proofs.«01_k».proof.Proof.Gen.QRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QRefIdeal.Value

open Cert.QRefIdeal Cert.QRefIdeal.Gen

/-- The reference's result as a function of its argument arrays. -/
abbrev REF (X0 : FVec Ideal S8320x1024 .bf16) (X1 : FVec Ideal S4x1024x3072 .f32) :
    FVec Ideal S8320x3072 .f32 :=
    concatenate S8320x3072 1 [⟨S8320x2048, (shapeCast _ (extractStridedSlice S8320x16x128 ![0, 0, 0]
    (shapeCast _ (Host.dotGeneral dot_S8320x1024_S1024x3072_S8320x3072_1_0_0_1_n_n none (extf .f32 X0
    bitsLt_bf16_f32) (shapeCast _ (extractStridedSlice S1x1024x3072 ![1, 0, 0] X1
    slices_S4x1024x3072_S1x1024x3072_1_0_0) shapeCasts_S1x1024x3072_S1024x3072))
    shapeCasts_S8320x3072_S8320x16x192) slices_S8320x16x192_S8320x16x128_0_0_0)
    shapeCasts_S8320x16x128_S8320x2048)⟩, ⟨S8320x1024, (shapeCast _ (extractStridedSlice S8320x16x64 ![0, 0,
    128] (shapeCast _ (Host.dotGeneral dot_S8320x1024_S1024x3072_S8320x3072_1_0_0_1_n_n none (extf .f32 X0
    bitsLt_bf16_f32) (shapeCast _ (extractStridedSlice S1x1024x3072 ![1, 0, 0] X1
    slices_S4x1024x3072_S1x1024x3072_1_0_0) shapeCasts_S1x1024x3072_S1024x3072))
    shapeCasts_S8320x3072_S8320x16x192) slices_S8320x16x192_S8320x16x64_0_0_128)
    shapeCasts_S8320x16x64_S8320x1024)⟩] concatenates_S8320x2048_S8320x1024_S8320x3072_d1

end Cert.QRefIdeal.Value

namespace Cert.QIdeal.Value

open Cert.QIdeal Cert.QIdeal.Gen
open Cert.QRefIdeal.Value (REF)

variable (m : (ℓ : Loc nD τ sig) → Buf (Elt Ideal) ℓ)

/-- Where each window's block starts at a grid point, for every point of the grid. -/
theorem idx : ∀ t : Fin cfg0.N,
    win0_0.index t = ![t.val / 3, 0] ∧ win0_1.index t = ![1, 0, t.val % 3]
      ∧ win0_2.index t = ![t.val / 3, t.val % 3] :=
  (by decide +kernel : ∀ t : Fin grid0.N, _)

/-- The weight table's column that column `j` of the result comes from: the heads' position-free parts, then their
    rotary parts. -/
def src (j : Fin 3072) : Fin 3072 :=
  if h : j.val < 2048 then ⟨j.val / 128 * 192 + j.val % 128, by omega⟩
  else ⟨(j.val - 2048) / 64 * 192 + (128 + (j.val - 2048) % 64), by have := j.isLt; omega⟩

/-- The sorted weight table that the kernel is given, entry by entry. -/
theorem wq_at (c : Dev nD) (k : Fin 1024) (j : Fin 3072) :
    (show FVec Ideal S4x1024x3072 .bf16 from V m c main_v6) (ix3 1 k j)
      = (show FVec Ideal S4x1024x3072 .f32 from m ((c : Thread nD τ).loc main_arg1)) (ix3 1 k (src j)) := by
  show V m c main_v6 (ix3 1 k j) = _
  entry_read
  pointwise
  unfold src
  split <;> rfl

/-- The reference's element: a row of activations against one column of the weights. -/
theorem REF_at (X0 : FVec Ideal Cert.QRefIdeal.S8320x1024 .bf16) (X1 : FVec Ideal Cert.QRefIdeal.S4x1024x3072 .f32)
    (i : Fin 8320) (j : Fin 3072) :
    REF X0 X1 (ix2 i j) = ∑ k : Fin 1024, X0 (ix2 i k) * X1 (ix3 1 k (src j)) := by
  pointwise [REF]
  unfold src
  split <;> rfl

/-- The block of weights that a grid point reads. -/
theorem w_at (c : Dev nD) (t : Fin cfg0.N) (k : Fin 1024) (j : Fin 1024) (h : t.val % 3 * 1024 + j.val < 3072) :
    (show FVec Ideal S1x1024x1024 .bf16 from iblk m c 1 t) (ix3 0 k j)
      = (show FVec Ideal S4x1024x3072 .f32 from m ((c : Thread nD τ).loc main_arg1)) (ix3 1 k (src ⟨t.val % 3 * 1024 + j.val, h⟩)) := by
  refine Eq.trans ?_ (wq_at m c k ⟨t.val % 3 * 1024 + j.val, h⟩)
  show iblk m c 1 t (ix3 0 k j) = V m c main_v6 _
  blk_ext [iblk, idx t]

/-- The element that a grid point stores is the reference's element at that place of the result. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  have hN : t.val < 12 := lt_of_lt_of_eq t.isLt (show cfg0.N = 12 from N_0)
  have h0 : (y 0).val < 2080 := (y 0).isLt
  have h1 : (y 1).val < 1024 := (y 1).isLt
  have he : ((cfg0.win 2).blk t).view.emb y
      = ix2 (⟨t.val / 3 * 2080 + (y 0).val, by omega⟩ : Fin 8320) (⟨t.val % 3 * 1024 + (y 1).val, by omega⟩ : Fin 3072) := by
    blk_ext [idx t]
  rw [he, REF_at]
  pointwise [k0_pay1]
  refine Finset.sum_congr rfl fun k _ => ?_
  refine congrArg₂ (· * ·) ?_ (w_at m c t k (y 1) (by omega))
  blk_ext [iblk, V, idx t]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QIdeal.Value

end
-- ==== Proof.YpValue.lean ====
/- The final norm of the prompt rows: the result array after the run. -/
module

public import proofs.«01_k».proof.Proof.Gen.YpIdeal.Frame
public import proofs.«01_k».proof.Proof.Gen.YpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.YpRefIdeal.Value

open Cert.YpRefIdeal Cert.YpRefIdeal.Gen

/-- The reference's result as a function of its argument arrays. -/
abbrev REF (X0 : FVec Ideal S8320x4096 .f32) (X1 : FVec Ideal S4096 .f32) :
    FVec Ideal S8192x4096 .f32 :=
    mulf (mulf (extractStridedSlice S8192x4096 ![0, 0] X0 slices_S8320x4096_S8192x4096_0_0) (broadcastInDim
    S8192x4096 ![0, 1] bcast_S8192x1_S8192x4096_0_1 (Host.rsqrt (addf (Host.divf (broadcastInDim S8192x1 ![0]
    bcast_S8192_S8192x1_0 (Host.reduceAdd (mulf (extractStridedSlice S8192x4096 ![0, 0] X0
    slices_S8320x4096_S8192x4096_0_0) (extractStridedSlice S8192x4096 ![0, 0] X0
    slices_S8320x4096_S8192x4096_0_0)) (constant S_ .f32 0x00000000#32) reducesTo_S8192x4096_S8192_d1 h_S_))
    (broadcastInDim S8192x1 ![] bcast_S_S8192x1 (constant S_ .f32 0x45800000#32))) (broadcastInDim S8192x1 ![]
    bcast_S_S8192x1 (constant S_ .f32 0x358637BD#32)))))) (broadcastInDim S8192x4096 ![0, 1]
    bcast_S1x4096_S8192x4096_0_1 (broadcastInDim S1x4096 ![1] bcast_S4096_S1x4096_1 X1))

end Cert.YpRefIdeal.Value

namespace Cert.YpIdeal.Value

open Cert.YpIdeal Cert.YpIdeal.Gen
open Cert.YpRefIdeal.Value (REF)

variable (m : (ℓ : Loc nD τ sig) → Buf (Elt Ideal) ℓ)

/-- Where each window's block starts at a grid point, for every point of the grid. -/
theorem idx : ∀ t : Fin cfg0.N,
    win0_0.index t = ![t.val, 0] ∧ win0_1.index t = ![0, 0]
      ∧ win0_2.index t = ![t.val, 0] :=
  (by decide +kernel : ∀ t : Fin grid0.N, _)

/-- The rows of the activations that a grid point works on. -/
def rows (X : FVec Ideal S8320x4096 .f32) (t : Fin cfg0.N) : FVec Ideal S512x4096 .f32 := fun y =>
  X (ix2 ⟨512 * t.val + (y 0).val, by
    have h1 := lt_of_lt_of_eq t.isLt (show cfg0.N = 16 from N_0)
    have h2 : (y 0).val < 512 := (y 0).isLt
    omega⟩ (y 1))

/-- The staged block of activations is those rows. -/
theorem X0_eq (c : Dev nD) (t : Fin cfg0.N) :
    X0_0 m c t = rows (m ((c : Thread nD τ).loc main_arg0)) t := by
  funext y
  unfold X0_0 Pipeline.Window.fill rows
  rw [dif_pos (moved0_0 t y)]
  blk_ext [iblk, V, idx t]

/-- The norm of the rows of a grid point, at one element. -/
theorem point (c : Dev nD) (t : Fin cfg0.N) (X : FVec Ideal S8320x4096 .f32) (y) :
    k0_pay1 (F := Ideal) (rows X t) (iblk m c 1 t) y
      = REF X (m ((c : Thread nD τ).loc main_arg1)) (((cfg0.win 2).blk t).view.emb y) := by
  pointwise [k0_pay1, REF, rows]
  blk_point [iblk, V, idx t]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  rw [X0_eq]
  exact point m c t _ y

end Cert.YpIdeal.Value

end
-- ==== Proof.YsValue.lean ====
/- The final norm of the sample rows: the result array after the run. -/
module

public import proofs.«01_k».proof.Proof.Gen.YsIdeal.Frame
public import proofs.«01_k».proof.Proof.Gen.YsRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.YsRefIdeal.Value

open Cert.YsRefIdeal Cert.YsRefIdeal.Gen

/-- The reference's result as a function of its argument arrays. -/
abbrev REF (X0 : FVec Ideal S8320x4096 .f32) (X1 : FVec Ideal S4096 .f32) :
    FVec Ideal S128x4096 .f32 :=
    mulf (mulf (extractStridedSlice S128x4096 ![8192, 0] X0 slices_S8320x4096_S128x4096_8192_0)
    (broadcastInDim S128x4096 ![0, 1] bcast_S128x1_S128x4096_0_1 (Host.rsqrt (addf (Host.divf (broadcastInDim
    S128x1 ![0] bcast_S128_S128x1_0 (Host.reduceAdd (mulf (extractStridedSlice S128x4096 ![8192, 0] X0
    slices_S8320x4096_S128x4096_8192_0) (extractStridedSlice S128x4096 ![8192, 0] X0
    slices_S8320x4096_S128x4096_8192_0)) (constant S_ .f32 0x00000000#32) reducesTo_S128x4096_S128_d1 h_S_))
    (broadcastInDim S128x1 ![] bcast_S_S128x1 (constant S_ .f32 0x45800000#32))) (broadcastInDim S128x1 ![]
    bcast_S_S128x1 (constant S_ .f32 0x358637BD#32)))))) (broadcastInDim S128x4096 ![0, 1]
    bcast_S1x4096_S128x4096_0_1 (broadcastInDim S1x4096 ![1] bcast_S4096_S1x4096_1 X1))

end Cert.YsRefIdeal.Value

namespace Cert.YsIdeal.Value

open Cert.YsIdeal Cert.YsIdeal.Gen
open Cert.YsRefIdeal.Value (REF)

variable (m : (ℓ : Loc nD τ sig) → Buf (Elt Ideal) ℓ)

/-- Where each window's block starts at a grid point, for every point of the grid. -/
theorem idx : ∀ t : Fin cfg0.N,
    win0_0.index t = ![64, 0] ∧ win0_1.index t = ![0, 0]
      ∧ win0_2.index t = ![0, 0] :=
  (by decide +kernel : ∀ t : Fin grid0.N, _)

/-- The element that a grid point stores is the reference's element at that place of the result. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.YsIdeal.Value

end
-- ==== Proof.AttnPre.lean ====
/- The attention arguments are finite where the precondition says so. -/
module

public import proofs.«01_k».proof.Pre_attn_finite
public import Idealize.ShloMosaic.Lib.ReduceAll
public import Idealize.ShloMosaic.Lib.Pipeline.ValueKit

@[expose] public section

set_option maxRecDepth 16384

noncomputable section

open Idealize.ShloMosaic

namespace Cert.AttnPre

open Cert.Pre_attn_finite

theorem facts : Cert.Pre_attn_finite.Facts where
  bitsLt_bf16_f32 := by decide
  bcast_S_S16x8320x256 := by decide
  reducesTo_S16x8320x256_S_d0_1_2 := by decide
  h_S_ := by decide
  bcast_S_S16x8320x64 := by decide
  reducesTo_S16x8320x64_S_d0_1_2 := by decide
  bcast_S_S8320x256 := by decide
  reducesTo_S8320x256_S_d0_1 := by decide
  bcast_S_S8320x64 := by decide
  reducesTo_S8320x64_S_d0_1 := by decide

/-- An extended real whose magnitude compares below +∞ is a real. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe r => exact ⟨r, rfl⟩

variable [Cert.Pre_attn_finite.Facts]

theorem finite (X0 : FVec Ideal S16x8320x256 .bf16) (X1 : FVec Ideal S16x8320x64 .bf16) (X2 : FVec Ideal S8320x256 .bf16) (X3 : FVec Ideal S8320x64 .bf16) (X4 : FVec Ideal S16x8320x256 .bf16)
    (h : fn (F := Ideal) X0 X1 X2 X3 X4 = fun _ => 1#1) :
    (∀ i, ∃ r : ℝ, X0 i = (r : EReal)) ∧ (∀ i, ∃ r : ℝ, X1 i = (r : EReal)) ∧ (∀ i, ∃ r : ℝ, X2 i = (r : EReal)) ∧ (∀ i, ∃ r : ℝ, X3 i = (r : EReal)) := by
  have e := congrFun h ix0
  unfold fn fn_part1 at e
  obtain ⟨e, h3⟩ := IntOp.andi_eq_one.1 e
  obtain ⟨e, h2⟩ := IntOp.andi_eq_one.1 e
  obtain ⟨h0, h1⟩ := IntOp.andi_eq_one.1 e
  haveI : Subsingleton S_.Idx := ⟨fun a b => funext fun k => k.elim0⟩
  refine ⟨fun i => ?_, fun i => ?_, fun i => ?_, fun i => ?_⟩
  · exact real_of_lt _ (Host.reduce_andi_all _ _ _ _ _ h0 i)
  · exact real_of_lt _ (Host.reduce_andi_all _ _ _ _ _ h1 i)
  · exact real_of_lt _ (Host.reduce_andi_all _ _ _ _ _ h2 i)
  · exact real_of_lt _ (Host.reduce_andi_all _ _ _ _ _ h3 i)

end Cert.AttnPre

end
-- ==== Proof.AttnRun.lean ====
/- What the attention kernel's body leaves in its buffers, loop trip by loop trip. -/
module

public import proofs.«01_k».proof.Proof.Gen.AttnIdeal.Frame
public import Idealize.ShloMosaic.Lib.Pipeline.ValueKit
public import Idealize.ShloMosaic.Lib.LoopRemainder
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- The latent key block `n` of the tile. -/
def blkL (X : FVec Ideal S2048x256 .bf16) (n : ℕ) : FVec Ideal S256x256 .bf16 :=
  fun y => X (ix2 (⟨(256 * n + (y 0).val) % 2048, Nat.mod_lt _ (by decide)⟩ : Fin 2048) (⟨(y 1).val, (y 1).isLt⟩ : Fin 256))

/-- The rotary key block `n` of the tile. -/
def blkR (X : FVec Ideal S2048x64 .bf16) (n : ℕ) : FVec Ideal S256x64 .bf16 :=
  fun y => X (ix2 (⟨(256 * n + (y 0).val) % 2048, Nat.mod_lt _ (by decide)⟩ : Fin 2048) (⟨(y 1).val, (y 1).isLt⟩ : Fin 64))

theorem ld_blkL (v : Memref sig .tc .vmem S2048x256 .bf16) (hv : v.IsWhole) (X : FVec Ideal S2048x256 .bf16) (off : Fin 2 → ℕ) (inb) (n : ℕ) (hn : n < 8) (h : off = ![256 * n, 0]) :
    View.readAt (Elt Ideal) v.view (Rect.unit (s := S2048x256) off S256x256.size inb).toLoadRect (hv.unread X) = blkL X n := by
  subst h
  rw [View.readAt_eq_ld, hv.read_unread]
  funext y
  refine congrArg X (funext fun a => ?_)
  have hy : (y 0).val < 256 := (y 0).isLt
  match a with
  | ⟨0, _⟩ => exact Fin.ext ((ValueKit.rect_emb_unit_val _ _ _ _ _).trans (Nat.mod_eq_of_lt (show 256 * n + (y 0).val < 2048 by omega)).symm)
  | ⟨1, _⟩ => exact Fin.ext ((ValueKit.rect_emb_unit_val _ _ _ _ _).trans (Nat.zero_add _))

theorem ld_blkR (v : Memref sig .tc .vmem S2048x64 .bf16) (hv : v.IsWhole) (X : FVec Ideal S2048x64 .bf16) (off : Fin 2 → ℕ) (inb) (n : ℕ) (hn : n < 8) (h : off = ![256 * n, 0]) :
    View.readAt (Elt Ideal) v.view (Rect.unit (s := S2048x64) off S256x64.size inb).toLoadRect (hv.unread X) = blkR X n := by
  subst h
  rw [View.readAt_eq_ld, hv.read_unread]
  funext y
  refine congrArg X (funext fun a => ?_)
  have hy : (y 0).val < 256 := (y 0).isLt
  match a with
  | ⟨0, _⟩ => exact Fin.ext ((ValueKit.rect_emb_unit_val _ _ _ _ _).trans (Nat.mod_eq_of_lt (show 256 * n + (y 0).val < 2048 by omega)).symm)
  | ⟨1, _⟩ => exact Fin.ext ((ValueKit.rect_emb_unit_val _ _ _ _ _).trans (Nat.zero_add _))

/-! ## The number of trips -/

theorem trips1 (i : grid0.Coords) : (k0_t1_loop i).trips = (i 1).val :=
  (by decide : ∀ n : Fin 8, Scf.trips 0#32 (Scalar.addi 0#32 (Scalar.muli (Scalar.divsi (Scalar.subi (BitVec.ofNat 32 n.val) 0#32) 1#32) 1#32)) 1#32 = n.val) (i 1)

theorem trips3 (i : grid0.Coords) : (k0_t3_loop i).trips = (i 1).val := trips1 i

theorem trips2 (i : grid0.Coords) : (k0_t2_loop i).trips = 0 := Scf.rem_trips _ _

theorem trips4 (i : grid0.Coords) : (k0_t4_loop i).trips = 0 := Scf.rem_trips _ _

theorem ofNat_mul_256 : ∀ n : Fin 8, (Scalar.muli (0#32 + BitVec.ofNat 32 n.val * 1#32) 256#32).toNat = 256 * n.val := by decide

theorem off5_eq (i : grid0.Coords) : k0_off5 i = ![256 * (i 1).val, 0] :=
  congrArg (fun z => ![z, 0]) ((by decide : ∀ n : Fin 8, (Scalar.indexCast (Scalar.muli (BitVec.ofNat 32 n.val) 256#32)).toNat = 256 * n.val) (i 1))

theorem off6_eq (i : grid0.Coords) : k0_off6 i = ![256 * (i 1).val, 0] := off5_eq i

theorem off1_eq (i : grid0.Coords) (k : Fin (k0_t1_loop i).trips) : k0_off1 i k = ![256 * k.val, 0] := by
  have hk : k.val < 8 := lt_of_lt_of_le (lt_of_lt_of_eq k.isLt (trips1 i)) (i 1).isLt.le
  exact congrArg (fun z => ![z, 0]) (ofNat_mul_256 ⟨k.val, hk⟩)

/-! ## What the loops carry -/

/-- The running lane maxima before key block `n`. -/
def mAt (v0 : FVec Ideal S16x256x256 .bf16) (v2 : FVec Ideal S16x256x64 .bf16) (X4 : FVec Ideal S2048x256 .bf16) (X5 : FVec Ideal S2048x64 .bf16) : ℕ → FVec Ideal S4096x128 .f32
  | 0 => k0_pay3 (F := Ideal)
  | n + 1 => k0_pay4 (F := Ideal) v0 v2 (blkL X4 n) (blkR X5 n) (mAt v0 v2 X4 X5 n)

/-- The running lane denominators before key block `n`. -/
def lAt (v1 : FVec Ideal S4096x256 .bf16) (v3 : FVec Ideal S4096x64 .bf16) (mm : FVec Ideal S4096x128 .f32) (X4 : FVec Ideal S2048x256 .bf16) (X5 : FVec Ideal S2048x64 .bf16) : ℕ → FVec Ideal S4096x128 .f32
  | 0 => k0_pay9 (F := Ideal)
  | n + 1 => k0_pay12 (F := Ideal) v1 v3 (blkL X4 n) (blkR X5 n) mm (lAt v1 v3 mm X4 X5 n)

/-- The running weighted latents before key block `n`. -/
def aAt (v1 : FVec Ideal S4096x256 .bf16) (v3 : FVec Ideal S4096x64 .bf16) (mm : FVec Ideal S4096x128 .f32) (X4 : FVec Ideal S2048x256 .bf16) (X5 : FVec Ideal S2048x64 .bf16) : ℕ → FVec Ideal S4096x256 .f32
  | 0 => k0_pay10 (F := Ideal)
  | n + 1 => k0_pay13 (F := Ideal) v1 v3 (blkL X4 n) (blkR X5 n) mm (aAt v1 v3 mm X4 X5 n)

theorem loop1 (𝒱 : Variants) (c : Dev nD) (bd : Option 𝒱.V) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .hbm S16x8320x256 .bf16) (harg6 : arg6.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (v0 : FVec Ideal S16x256x256 .bf16) (v2 : FVec Ideal S16x256x64 .bf16) (x2 : FVec Ideal S2048x256 .bf16) (x3 : FVec Ideal S2048x64 .bf16)
    (G : BufTy.Contents (Elt Ideal) arg8.view.ty)
    (hG : arg8.view.readAt (Elt Ideal) (Rect.unit ![0, 0] S4096x128.size inb_S4096x128_S4096x128_0_0).toLoadRect G = k0_pay3 (F := Ideal)) (n : ℕ) (hn : n ≤ (k0_t1_loop i).trips) :
    arg8.view.readAt (Elt Ideal) (Rect.unit ![0, 0] S4096x128.size inb_S4096x128_S4096x128_0_0).toLoadRect
      (arg8.view.writes (Elt Ideal) G (pb_k0_t1 (F := Ideal) 𝒱 c bd i arg2 harg2 arg3 harg3 arg4 harg4 arg5 harg5 arg6 harg6 arg7 harg7 arg8 harg8 arg9 harg9 arg10 harg10 v0 v2 (harg4.unread x2) (harg5.unread x3) G n)) = mAt v0 v2 x2 x3 n := by
  induction n with
  | zero => exact hG
  | succ n ih =>
    have hn8 : n < 8 := lt_of_lt_of_le (lt_of_lt_of_eq hn (trips1 i)) (i 1).isLt.le
    rw [pb_k0_t1_succ (k := ⟨n, hn⟩)]
    unfold tripL_k0_t1 trip_k0_t1
    dsimp only
    refine (View.readAt_writes_full _ _ _ _ _ _).trans ?_
    refine (congrArg₂ (fun a b => k0_pay4 (F := Ideal) v0 v2 a b _) (ld_blkL arg4 harg4 x2 _ _ n hn8 (off1_eq i ⟨n, hn⟩)) (ld_blkR arg5 harg5 x3 _ _ n hn8 (off1_eq i ⟨n, hn⟩))).trans ?_
    exact congrArg (k0_pay4 (F := Ideal) v0 v2 (blkL x2 n) (blkR x3 n)) (ih (Nat.le_of_succ_le hn))

theorem loop3 (𝒱 : Variants) (c : Dev nD) (bd : Option 𝒱.V) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .hbm S16x8320x256 .bf16) (harg6 : arg6.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (w : BitVec 32) (v1 : FVec Ideal S4096x256 .bf16) (v3 : FVec Ideal S4096x64 .bf16) (v29 v32 : FVec Ideal S4096x128 .f32) (mm : FVec Ideal S4096x128 .f32) (x2 : FVec Ideal S2048x256 .bf16) (x3 : FVec Ideal S2048x64 .bf16)
    (G8 : BufTy.Contents (Elt Ideal) arg8.view.ty) (G9 : BufTy.Contents (Elt Ideal) arg9.view.ty) (G10 : BufTy.Contents (Elt Ideal) arg10.view.ty)
    (h8 : arg8.view.readAt (Elt Ideal) (Rect.unit ![0, 0] S4096x128.size inb_S4096x128_S4096x128_0_0).toLoadRect G8 = mm)
    (h9 : arg9.view.readAt (Elt Ideal) (Rect.unit ![0, 0] S4096x128.size inb_S4096x128_S4096x128_0_0).toLoadRect G9 = k0_pay9 (F := Ideal))
    (h10 : arg10.view.readAt (Elt Ideal) (Rect.unit ![0, 0] S4096x256.size inb_S4096x256_S4096x256_0_0).toLoadRect G10 = k0_pay10 (F := Ideal)) (n : ℕ) (hn : n ≤ (k0_t3_loop i).trips) :
    arg9.view.readAt (Elt Ideal) (Rect.unit ![0, 0] S4096x128.size inb_S4096x128_S4096x128_0_0).toLoadRect
      (arg9.view.writes (Elt Ideal) G9 (pb_k0_t3 (F := Ideal) 𝒱 c bd i arg2 harg2 arg3 harg3 arg4 harg4 arg5 harg5 arg6 harg6 arg7 harg7 arg8 harg8 arg9 harg9 arg10 harg10 w v1 v3 v29 v32 (harg4.unread x2) (harg5.unread x3) G8 G9 G10 n).1) = lAt v1 v3 mm x2 x3 n
    ∧ arg10.view.readAt (Elt Ideal) (Rect.unit ![0, 0] S4096x256.size inb_S4096x256_S4096x256_0_0).toLoadRect
      (arg10.view.writes (Elt Ideal) G10 (pb_k0_t3 (F := Ideal) 𝒱 c bd i arg2 harg2 arg3 harg3 arg4 harg4 arg5 harg5 arg6 harg6 arg7 harg7 arg8 harg8 arg9 harg9 arg10 harg10 w v1 v3 v29 v32 (harg4.unread x2) (harg5.unread x3) G8 G9 G10 n).2) = aAt v1 v3 mm x2 x3 n := by
  induction n with
  | zero => exact ⟨h9, h10⟩
  | succ n ih =>
    have hn8 : n < 8 := lt_of_lt_of_le (lt_of_lt_of_eq hn (trips3 i)) (i 1).isLt.le
    obtain ⟨ih9, ih10⟩ := ih (Nat.le_of_succ_le hn)
    rw [pb_k0_t3_succ (k := ⟨n, hn⟩)]
    unfold tripL_k0_t3 trip_k0_t3
    dsimp only
    constructor
    · refine (View.readAt_writes_full _ _ _ _ _ _).trans ?_
      refine (congrArg₂ (fun a b => k0_pay12 (F := Ideal) v1 v3 a b _ _) (ld_blkL arg4 harg4 x2 _ _ n hn8 (off1_eq i ⟨n, hn⟩)) (ld_blkR arg5 harg5 x3 _ _ n hn8 (off1_eq i ⟨n, hn⟩))).trans ?_
      exact congrArg₂ (k0_pay12 (F := Ideal) v1 v3 (blkL x2 n) (blkR x3 n)) h8 ih9
    · refine (View.readAt_writes_full _ _ _ _ _ _).trans ?_
      refine (congrArg₂ (fun a b => k0_pay13 (F := Ideal) v1 v3 a b _ _) (ld_blkL arg4 harg4 x2 _ _ n hn8 (off1_eq i ⟨n, hn⟩)) (ld_blkR arg5 harg5 x3 _ _ n hn8 (off1_eq i ⟨n, hn⟩))).trans ?_
      exact congrArg₂ (k0_pay13 (F := Ideal) v1 v3 (blkL x2 n) (blkR x3 n)) h8 ih10

/-! ## The body, buffer by buffer -/

theorem load_q (v : Memref sig .tc .vmem S16x256x256 .bf16) (hv : v.IsWhole) (X : FVec Ideal S16x256x256 .bf16) :
    View.readAt (Elt Ideal) v.view (Rect.unit ![0, 0, 0] S16x256x256.size inb_S16x256x256_S16x256x256_0_0_0).toLoadRect (hv.unread X) = X :=
  by
  rw [View.readAt_full, hv.read_unread]

theorem load_r (v : Memref sig .tc .vmem S16x256x64 .bf16) (hv : v.IsWhole) (X : FVec Ideal S16x256x64 .bf16) :
    View.readAt (Elt Ideal) v.view (Rect.unit ![0, 0, 0] S16x256x64.size inb_S16x256x64_S16x256x64_0_0_0).toLoadRect (hv.unread X) = X :=
  by
  rw [View.readAt_full, hv.read_unread]

/-- The row maxima over every key the row may see, one copy per lane. -/
def mxOf (x0 : FVec Ideal S16x256x256 .bf16) (x1 : FVec Ideal S16x256x64 .bf16) (x2 : FVec Ideal S2048x256 .bf16) (x3 : FVec Ideal S2048x64 .bf16) (q : ℕ) : FVec Ideal S4096x128 .f32 :=
  k0_pay8 (F := Ideal) (k0_pay7 (F := Ideal) (mAt x0 x1 x2 x3 q) (k0_pay6 (F := Ideal) x0 x1 (blkL x2 q) (blkR x3 q)))

/-- The lane denominators with the diagonal block's. -/
def lTot (x0 : FVec Ideal S16x256x256 .bf16) (x1 : FVec Ideal S16x256x64 .bf16) (x2 : FVec Ideal S2048x256 .bf16) (x3 : FVec Ideal S2048x64 .bf16) (q : ℕ) : FVec Ideal S4096x128 .f32 :=
  k0_pay19 (F := Ideal) (k0_pay2 (F := Ideal) x1) (blkR x3 q) (k0_pay17 (F := Ideal) (k0_pay1 (F := Ideal) x0) (blkL x2 q)) (mxOf x0 x1 x2 x3 q)
    (lAt (k0_pay1 (F := Ideal) x0) (k0_pay2 (F := Ideal) x1) (mxOf x0 x1 x2 x3 q) x2 x3 q)

/-- The weighted latents with the diagonal block's. -/
def aTot (x0 : FVec Ideal S16x256x256 .bf16) (x1 : FVec Ideal S16x256x64 .bf16) (x2 : FVec Ideal S2048x256 .bf16) (x3 : FVec Ideal S2048x64 .bf16) (q : ℕ) : FVec Ideal S4096x256 .f32 :=
  k0_pay20 (F := Ideal) (k0_pay2 (F := Ideal) x1) (blkL x2 q) (blkR x3 q) (k0_pay17 (F := Ideal) (k0_pay1 (F := Ideal) x0) (blkL x2 q)) (mxOf x0 x1 x2 x3 q)
    (aAt (k0_pay1 (F := Ideal) x0) (k0_pay2 (F := Ideal) x1) (mxOf x0 x1 x2 x3 q) x2 x3 q)

theorem v29_eq (c : Dev nD) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (x0 : FVec Ideal S16x256x256 .bf16) (x1 : FVec Ideal S16x256x64 .bf16) (x2 : FVec Ideal S2048x256 .bf16) (x3 : FVec Ideal S2048x64 .bf16) :
    kernelRun0_A.sl.v29 (F := Ideal) c i arg2 harg2 arg3 harg3 arg4 harg4 arg5 harg5 arg7 harg7 arg8 harg8 arg9 harg9 arg10 harg10 x0 x1 x2 x3 = mAt x0 x1 x2 x3 (i 1).val := by
  unfold kernelRun0_A.sl.v29 View.readCov
  rw [load_q, load_r, show Scf.trips (k0_t2_loop i).lb (k0_t2_loop i).ub (k0_t2_loop i).st = 0 from trips2 i]
  rw [pb_k0_t2.eq_1, List.nil_append, View.writes_append]
  refine (loop1 Variants.none c none i arg2 harg2 arg3 harg3 arg4 harg4 arg5 harg5 (Memref.whole main_arg4) (Memref.isWhole_whole _) arg7 harg7 arg8 harg8 arg9 harg9 arg10 harg10 x0 x1 x2 x3 _ ?_ _ le_rfl).trans (congrArg (mAt x0 x1 x2 x3) (trips1 i))
  unfold kernelRun0_A.sl.HS0_1
  exact View.readAt_writes_full _ _ _ _ _ _

theorem r2_eq (c : Dev nD) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (x0 : FVec Ideal S16x256x256 .bf16) (x1 : FVec Ideal S16x256x64 .bf16) (x2 : FVec Ideal S2048x256 .bf16) (x3 : FVec Ideal S2048x64 .bf16) :
    kernelRun0_A.sl.r_2 (F := Ideal) c i arg2 harg2 arg3 harg3 arg4 harg4 arg5 harg5 x0 x1 x2 x3 = k0_pay6 (F := Ideal) x0 x1 (blkL x2 (i 1).val) (blkR x3 (i 1).val) := by
  unfold kernelRun0_A.sl.r_2
  rw [load_q, load_r, ld_blkL arg4 harg4 x2 _ _ _ (i 1).isLt (off5_eq i), ld_blkR arg5 harg5 x3 _ _ _ (i 1).isLt (off6_eq i)]

theorem v37_eq (c : Dev nD) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (x0 : FVec Ideal S16x256x256 .bf16) (x1 : FVec Ideal S16x256x64 .bf16) (x2 : FVec Ideal S2048x256 .bf16) (x3 : FVec Ideal S2048x64 .bf16) :
    kernelRun0_A.sl.v37 (F := Ideal) c i arg2 harg2 arg3 harg3 arg4 harg4 arg5 harg5 arg7 harg7 arg8 harg8 arg9 harg9 arg10 harg10 x0 x1 x2 x3 = k0_pay7 (F := Ideal) (mAt x0 x1 x2 x3 (i 1).val) (k0_pay6 (F := Ideal) x0 x1 (blkL x2 (i 1).val) (blkR x3 (i 1).val)) := by
  unfold kernelRun0_A.sl.v37 kernelRun0_A.sl.HS0_1_1
  refine (View.readCov_full _ _ _ _ _).trans ?_
  rw [v29_eq, r2_eq]; all_goals first | assumption | exact arg7 | exact arg8 | exact arg9 | exact arg10

theorem v74_eq (c : Dev nD) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (x0 : FVec Ideal S16x256x256 .bf16) (x1 : FVec Ideal S16x256x64 .bf16) (x2 : FVec Ideal S2048x256 .bf16) (x3 : FVec Ideal S2048x64 .bf16) :
    kernelRun0_A.sl.v74 (F := Ideal) c i arg2 harg2 arg3 harg3 arg4 harg4 arg5 harg5 arg7 harg7 arg8 harg8 arg9 harg9 arg10 harg10 x0 x1 x2 x3 = mxOf x0 x1 x2 x3 (i 1).val := by
  unfold kernelRun0_A.sl.v74
  exact (View.readCov_full _ _ _ _ _).trans (congrArg (k0_pay8 (F := Ideal)) (v37_eq c i arg2 harg2 arg3 harg3 arg4 harg4 arg5 harg5 arg7 harg7 arg8 harg8 arg9 harg9 arg10 harg10 x0 x1 x2 x3))

theorem loop3_eq (c : Dev nD) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (x0 : FVec Ideal S16x256x256 .bf16) (x1 : FVec Ideal S16x256x64 .bf16) (x2 : FVec Ideal S2048x256 .bf16) (x3 : FVec Ideal S2048x64 .bf16) :
    kernelRun0_A.sl.v80 (F := Ideal) c i arg2 harg2 arg3 harg3 arg4 harg4 arg5 harg5 arg7 harg7 arg8 harg8 arg9 harg9 arg10 harg10 x0 x1 x2 x3 = lAt (k0_pay1 (F := Ideal) x0) (k0_pay2 (F := Ideal) x1) (mxOf x0 x1 x2 x3 (i 1).val) x2 x3 (i 1).val
    ∧ kernelRun0_A.sl.v88 (F := Ideal) c i arg2 harg2 arg3 harg3 arg4 harg4 arg5 harg5 arg7 harg7 arg8 harg8 arg9 harg9 arg10 harg10 x0 x1 x2 x3 = aAt (k0_pay1 (F := Ideal) x0) (k0_pay2 (F := Ideal) x1) (mxOf x0 x1 x2 x3 (i 1).val) x2 x3 (i 1).val := by
  unfold kernelRun0_A.sl.v80 kernelRun0_A.sl.v88 View.readCov
  rw [show Scf.trips (k0_t4_loop i).lb (k0_t4_loop i).ub (k0_t4_loop i).st = 0 from trips4 i]
  have hr : kernelRun0_A.sl.r (F := Ideal) c arg2 harg2 x0 = k0_pay1 (F := Ideal) x0 := by
    unfold kernelRun0_A.sl.r; rw [load_q]
  have hr1 : kernelRun0_A.sl.r_1 (F := Ideal) c arg3 harg3 x1 = k0_pay2 (F := Ideal) x1 := by
    unfold kernelRun0_A.sl.r_1; rw [load_r]
  rw [hr, hr1, pb_k0_t4.eq_1]
  dsimp only
  rw [List.nil_append, List.nil_append, View.writes_append, View.writes_append]
  have key := fun w v29 v32 G8 h8 => loop3 Variants.none c none i arg2 harg2 arg3 harg3 arg4 harg4 arg5 harg5 (Memref.whole main_arg4) (Memref.isWhole_whole _) arg7 harg7 arg8 harg8 arg9 harg9 arg10 harg10 w (k0_pay1 (F := Ideal) x0) (k0_pay2 (F := Ideal) x1) v29 v32 (mxOf x0 x1 x2 x3 (i 1).val) x2 x3 G8
    (arg9.view.writes (Elt Ideal) arg9.view.junk kernelRun0_A.sl.HS1_1) (arg10.view.writes (Elt Ideal) arg10.view.junk kernelRun0_A.sl.HS2_1) h8
    (by unfold kernelRun0_A.sl.HS1_1; exact View.readAt_writes_full _ _ _ _ _ _)
    (by unfold kernelRun0_A.sl.HS2_1; exact View.readAt_writes_full _ _ _ _ _ _) _ le_rfl
  have h8 := v74_eq c i arg2 harg2 arg3 harg3 arg4 harg4 arg5 harg5 arg7 harg7 arg8 harg8 arg9 harg9 arg10 harg10 x0 x1 x2 x3
  unfold kernelRun0_A.sl.v74 View.readCov at h8
  constructor
  · exact (key _ _ _ _ h8).1.trans (congrArg (lAt _ _ _ x2 x3) (trips3 i))
  · exact (key _ _ _ _ h8).2.trans (congrArg (aAt _ _ _ x2 x3) (trips3 i))

theorem r6_eq (c : Dev nD) (i : grid0.Coords) (arg2 : Memref sig .tc .vmem S16x256x256 .bf16) (harg2 : arg2.IsWhole) (arg3 : Memref sig .tc .vmem S16x256x64 .bf16) (harg3 : arg3.IsWhole) (arg4 : Memref sig .tc .vmem S2048x256 .bf16) (harg4 : arg4.IsWhole) (arg5 : Memref sig .tc .vmem S2048x64 .bf16) (harg5 : arg5.IsWhole) (arg7 : Memref sig .tc .vmem S16x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .f32) (harg10 : arg10.IsWhole) (x0 : FVec Ideal S16x256x256 .bf16) (x1 : FVec Ideal S16x256x64 .bf16) (x2 : FVec Ideal S2048x256 .bf16) (x3 : FVec Ideal S2048x64 .bf16) :
    kernelRun0_A.sl.r_6 (F := Ideal) c i arg2 harg2 arg3 harg3 arg4 harg4 arg5 harg5 arg7 harg7 arg8 harg8 arg9 harg9 arg10 harg10 x0 x1 x2 x3 = k0_pay21 (F := Ideal) (lTot x0 x1 x2 x3 (i 1).val) (aTot x0 x1 x2 x3 (i 1).val) := by
  have hr : kernelRun0_A.sl.r (F := Ideal) c arg2 harg2 x0 = k0_pay1 (F := Ideal) x0 := by
    unfold kernelRun0_A.sl.r; rw [load_q]
  have hr1 : kernelRun0_A.sl.r_1 (F := Ideal) c arg3 harg3 x1 = k0_pay2 (F := Ideal) x1 := by
    unfold kernelRun0_A.sl.r_1; rw [load_r]
  have hr3 : kernelRun0_A.sl.r_3 (F := Ideal) i arg4 harg4 x2 = blkL x2 (i 1).val := by
    unfold kernelRun0_A.sl.r_3; exact ld_blkL arg4 harg4 x2 _ _ _ (i 1).isLt (off5_eq i)
  have hr4 : kernelRun0_A.sl.r_4 (F := Ideal) i arg5 harg5 x3 = blkR x3 (i 1).val := by
    unfold kernelRun0_A.sl.r_4; exact ld_blkR arg5 harg5 x3 _ _ _ (i 1).isLt (off6_eq i)
  have hr5 : kernelRun0_A.sl.r_5 (F := Ideal) c i arg2 harg2 arg4 harg4 x0 x2 = k0_pay17 (F := Ideal) (k0_pay1 (F := Ideal) x0) (blkL x2 (i 1).val) := by
    unfold kernelRun0_A.sl.r_5; rw [hr, ld_blkL arg4 harg4 x2 _ _ _ (i 1).isLt (off5_eq i)]
  unfold kernelRun0_A.sl.r_6
  refine congrArg₂ (k0_pay21 (F := Ideal)) ?_ ?_
  · unfold kernelRun0_A.sl.v95 kernelRun0_A.sl.HS1_1_1
    refine (View.readCov_full _ _ _ _ _).trans ?_
    rw [(loop3_eq c i arg2 harg2 arg3 harg3 arg4 harg4 arg5 harg5 arg7 harg7 arg8 harg8 arg9 harg9 arg10 harg10 x0 x1 x2 x3).1, v74_eq c i arg2 harg2 arg3 harg3 arg4 harg4 arg5 harg5 arg7 harg7 arg8 harg8 arg9 harg9 arg10 harg10 x0 x1 x2 x3, hr1, hr4, hr5]
    rfl
  · unfold kernelRun0_A.sl.v98 kernelRun0_A.sl.HS2_1_1
    refine (View.readCov_full _ _ _ _ _).trans ?_
    rw [(loop3_eq c i arg2 harg2 arg3 harg3 arg4 harg4 arg5 harg5 arg7 harg7 arg8 harg8 arg9 harg9 arg10 harg10 x0 x1 x2 x3).2, v74_eq c i arg2 harg2 arg3 harg3 arg4 harg4 arg5 harg5 arg7 harg7 arg8 harg8 arg9 harg9 arg10 harg10 x0 x1 x2 x3, hr1, hr3, hr4, hr5]
    rfl

variable (m : (ℓ : Loc nD τ sig) → Buf (Elt Ideal) ℓ)

/-- What point `t` leaves of its output block. -/
theorem outs_eq (c : Dev nD) (t : Fin cfg0.N) :
    outsAt0 m c t = k0_pay21 (F := Ideal) (lTot (X0_0 m c t) (X0_1 m c t) (X0_2 m c t) (X0_3 m c t) (grid0.coords t 1).val)
      (aTot (X0_0 m c t) (X0_1 m c t) (X0_2 m c t) (X0_3 m c t) (grid0.coords t 1).val) := by
  unfold outsAt0 out0_A_4 kernelRun0_A
  dsimp only
  refine (View.read_writes_full _ _ _ _ _).trans ?_
  exact r6_eq c (grid0.coords t) _ _ _ _ _ _ _ _ _ _ _ _ _ _ _ _ _ _ _ _

end Cert.AttnIdeal.Value

end
-- ==== Proof.AttnMath.lean ====
/- The mathematics of masked softmax attention on extended reals: running maxima and sums over key blocks, and the base-2 softmax against the natural one. -/
module

public import Idealize.ShloMosaic.PureOps
public import Idealize.ShloMosaic.PureOps.Ideal
public import Mathlib.Analysis.SpecialFunctions.Pow.Real
public import Mathlib.Data.EReal.Operations

@[expose] public section

noncomputable section

open Idealize.ShloMosaic

namespace Cert.AttnMath

/-- The masked score: keys past the query count as −∞. -/
def msk (pos : ℕ) (S : ℕ → EReal) (k : ℕ) : EReal := if k ≤ pos then S k else ⊥

theorem msk_of_le {pos k : ℕ} (S : ℕ → EReal) (h : k ≤ pos) : msk pos S k = S k := if_pos h
theorem msk_of_lt {pos k : ℕ} (S : ℕ → EReal) (h : pos < k) : msk pos S k = ⊥ := if_neg (by omega)

/-- A statement of the keys of one block, lane by lane over its two halves. -/
theorem halves_iff (Q : ℕ → Prop) : (∀ l : Fin 128, Q l.val ∧ Q (128 + l.val)) ↔ ∀ j < 256, Q j := by
  constructor
  · intro h j hj
    by_cases h1 : j < 128
    · exact (h ⟨j, h1⟩).1
    · have := (h ⟨j - 128, by omega⟩).2
      rwa [show 128 + (j - 128) = j by omega] at this
  · intro h l
    exact ⟨h _ (by omega), h _ (by omega)⟩

/-- The two halves of one block, summed lane by lane. -/
theorem halves_sum (P : ℕ → EReal) : ∑ l : Fin 128, (P l.val + P (128 + l.val)) = ∑ j ∈ Finset.range 256, P j := by
  rw [Finset.sum_add_distrib, Fin.sum_univ_eq_sum_range (fun j => P j), Fin.sum_univ_eq_sum_range (fun j => P (128 + j)),
    show 256 = 128 + 128 from rfl, Finset.sum_range_add]

theorem lanes_max (S : ℕ → EReal) (A : ℕ → Fin 128 → EReal) (h0 : ∀ l, A 0 l = ⊥)
    (hs : ∀ n l, A (n + 1) l = max (A n l) (max (S (256 * n + l.val)) (S (256 * n + (128 + l.val))))) (n : ℕ) (z : EReal) :
    (∀ l, A n l ≤ z) ↔ ∀ k < 256 * n, S k ≤ z := by
  induction n with
  | zero => simp [h0]
  | succ n ih =>
    have e : (∀ l, A (n + 1) l ≤ z) ↔ (∀ l, A n l ≤ z) ∧ ∀ l : Fin 128, S (256 * n + l.val) ≤ z ∧ S (256 * n + (128 + l.val)) ≤ z := by
      simp only [hs, max_le_iff, forall_and]
    rw [e, ih, halves_iff (fun j => S (256 * n + j) ≤ z)]
    constructor
    · rintro ⟨a, b⟩ k hk
      by_cases h : k < 256 * n
      · exact a k h
      · have := b (k - 256 * n) (by omega)
        rwa [show 256 * n + (k - 256 * n) = k by omega] at this
    · intro h
      exact ⟨fun k hk => h k (by omega), fun j hj => h _ (by omega)⟩

theorem lanes_sum (P : ℕ → EReal) (L : ℕ → Fin 128 → EReal) (h0 : ∀ l, L 0 l = 0)
    (hs : ∀ n l, L (n + 1) l = L n l + (P (256 * n + l.val) + P (256 * n + (128 + l.val)))) (n : ℕ) :
    ∑ l, L n l = ∑ k ∈ Finset.range (256 * n), P k := by
  induction n with
  | zero => simp [h0]
  | succ n ih =>
    simp only [hs]
    rw [Finset.sum_add_distrib, ih, halves_sum (fun j => P (256 * n + j)), show 256 * (n + 1) = 256 * n + 256 by ring, Finset.sum_range_add]

theorem blocks_sum (P : ℕ → EReal) (A : ℕ → EReal) (h0 : A 0 = 0)
    (hs : ∀ n, A (n + 1) = A n + ∑ j : Fin 256, P (256 * n + j.val)) (n : ℕ) :
    A n = ∑ k ∈ Finset.range (256 * n), P k := by
  induction n with
  | zero => simp [h0]
  | succ n ih =>
    rw [hs, ih, Fin.sum_univ_eq_sum_range (fun j => P (256 * n + j)), show 256 * (n + 1) = 256 * n + 256 by ring, Finset.sum_range_add]

/-- A sum over the visible blocks and the diagonal one is the sum over all keys when the keys past the query add nothing. -/
theorem extend_sum (P : ℕ → EReal) (q p : ℕ) (hq : q < 8) (hp : p < 256) (hz : ∀ k, 256 * q + p < k → P k = 0) :
    (∑ k ∈ Finset.range (256 * q), P k) + ∑ j ∈ Finset.range 256, P (256 * q + j) = ∑ k : Fin 2048, P k.val := by
  rw [← Finset.sum_range_add, Fin.sum_univ_eq_sum_range (fun k => P k)]
  refine Finset.sum_subset (Finset.range_subset_range.mpr (by omega)) fun k _ hk => hz k ?_
  have := Finset.mem_range.not.mp hk
  omega

/-- The maximum over the visible blocks and the masked diagonal one bounds exactly the masked scores. -/
theorem extend_max (S : ℕ → EReal) (q p : ℕ) (hq : q < 8) (hp : p < 256) (z : EReal) :
    ((∀ k < 256 * q, S k ≤ z) ∧ ∀ j < 256, msk (256 * q + p) S (256 * q + j) ≤ z) ↔ ∀ k : Fin 2048, msk (256 * q + p) S k.val ≤ z := by
  constructor
  · rintro ⟨a, b⟩ k
    by_cases h : k.val < 256 * q
    · rw [msk_of_le S (by omega)]; exact a _ h
    · by_cases h' : k.val < 256 * q + 256
      · have := b (k.val - 256 * q) (by omega)
        rwa [show 256 * q + (k.val - 256 * q) = k.val by omega] at this
      · rw [msk_of_lt S (by omega)]; exact bot_le
  · intro h
    refine ⟨fun k hk => ?_, fun j hj => ?_⟩
    · have := h ⟨k, by omega⟩
      rwa [msk_of_le S (by show k ≤ _; omega)] at this
    · exact h ⟨256 * q + j, by omega⟩

/-! ## The two softmaxes -/

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

/-- The kernel's scale: the reciprocal root of the score width, in base 2. -/
abbrev sc : ℝ := (Real.sqrt 192)⁻¹ * (Real.log 2)⁻¹

theorem sc_pos : 0 < sc := mul_pos (inv_pos.mpr (Real.sqrt_pos.mpr (by norm_num))) (inv_pos.mpr (Real.log_pos (by norm_num)))

theorem exp2_bot_sub (M : EReal) : Ideal.exp2 ((⊥ - M) * ((sc : ℝ) : EReal)) = 0 := by
  rw [EReal.bot_sub, EReal.bot_mul_coe_of_pos sc_pos]; rfl

theorem rpow_sc (y : ℝ) : Real.rpow 2 (y * sc) = Real.exp (y * (Real.sqrt 192)⁻¹) := by
  show (2 : ℝ) ^ (y * sc) = _
  rw [Real.rpow_def_of_pos (by norm_num)]
  congr 1
  have : Real.log 2 ≠ 0 := (Real.log_pos (by norm_num)).ne'
  simp only [sc]
  field_simp

theorem softmax_core (s v : ℕ → ℝ) (pos : ℕ) (M B : EReal)
    (hM : ∀ z, M ≤ z ↔ ∀ k : Fin 2048, msk pos (fun k => (s k : EReal)) k.val ≤ z)
    (hB : ∀ z, B ≤ z ↔ ∀ k : Fin 2048, msk pos (fun k => Ideal.div (s k : EReal) ((Real.sqrt 192 : ℝ) : EReal)) k.val ≤ z) :
    Ideal.div (∑ k : Fin 2048, Ideal.exp2 ((msk pos (fun k => (s k : EReal)) k.val - M) * ((sc : ℝ) : EReal)) * (v k.val : EReal))
        (∑ k : Fin 2048, Ideal.exp2 ((msk pos (fun k => (s k : EReal)) k.val - M) * ((sc : ℝ) : EReal)))
      = ∑ k : Fin 2048, (v k.val : EReal) * Ideal.div
          (Ideal.exp (msk pos (fun k => Ideal.div (s k : EReal) ((Real.sqrt 192 : ℝ) : EReal)) k.val - B))
          (∑ k : Fin 2048, Ideal.exp (msk pos (fun k => Ideal.div (s k : EReal) ((Real.sqrt 192 : ℝ) : EReal)) k.val - B)) := by
  have hs0 : Real.sqrt 192 ≠ 0 := (Real.sqrt_pos.mpr (by norm_num)).ne'
  have hsp : 0 < (Real.sqrt 192)⁻¹ := inv_pos.mpr (Real.sqrt_pos.mpr (by norm_num))
  simp only [div_coe _ _ hs0] at hB ⊢
  -- both maxima are real
  have real_of : ∀ (f : ℕ → ℝ) (X : EReal), (∀ z, X ≤ z ↔ ∀ k : Fin 2048, msk pos (fun k => (f k : EReal)) k.val ≤ z) → ∃ r : ℝ, X = r := by
    intro f X hX
    have lo : (f 0 : EReal) ≤ X := by
      have : msk pos (fun k => (f k : EReal)) 0 ≤ X := (hX X).mp le_rfl 0
      rwa [msk_of_le _ (Nat.zero_le _)] at this
    have hi : X ≤ ((∑ k : Fin 2048, |f k.val| : ℝ) : EReal) := by
      refine (hX _).mpr fun k => ?_
      by_cases h : k.val ≤ pos
      · rw [msk_of_le _ h, EReal.coe_le_coe_iff]
        exact (le_abs_self _).trans (Finset.single_le_sum (f := fun k : Fin 2048 => |f k.val|) (fun i _ => abs_nonneg _) (Finset.mem_univ k))
      · rw [msk_of_lt _ (by omega)]; exact bot_le
    refine ⟨X.toReal, (EReal.coe_toReal (fun h => ?_) (fun h => ?_)).symm⟩
    · rw [h] at hi; exact absurd hi (not_le.mpr (EReal.coe_lt_top _))
    · rw [h] at lo; exact absurd lo (not_le.mpr (EReal.bot_lt_coe _))
  obtain ⟨r, rfl⟩ := real_of s M hM
  obtain ⟨b, rfl⟩ := real_of (fun k => s k * (Real.sqrt 192)⁻¹) B hB
  have hbr : b = r * (Real.sqrt 192)⁻¹ := by
    apply le_antisymm
    · refine EReal.coe_le_coe_iff.mp ((hB _).mpr fun k => ?_)
      have := (hM r).mp le_rfl k
      by_cases h : k.val ≤ pos
      · rw [msk_of_le _ h, EReal.coe_le_coe_iff] at this ⊢
        exact mul_le_mul_of_nonneg_right this hsp.le
      · rw [msk_of_lt _ (by omega)]; exact bot_le
    · have : r ≤ b * Real.sqrt 192 := by
        refine EReal.coe_le_coe_iff.mp ((hM _).mpr fun k => ?_)
        have := (hB b).mp le_rfl k
        by_cases h : k.val ≤ pos
        · rw [msk_of_le _ h, EReal.coe_le_coe_iff] at this ⊢
          calc s k.val = s k.val * (Real.sqrt 192)⁻¹ * Real.sqrt 192 := by field_simp
            _ ≤ b * Real.sqrt 192 := mul_le_mul_of_nonneg_right this (Real.sqrt_nonneg _)
        · rw [msk_of_lt _ (by omega)]; exact bot_le
      calc r * (Real.sqrt 192)⁻¹ ≤ b * Real.sqrt 192 * (Real.sqrt 192)⁻¹ := mul_le_mul_of_nonneg_right this hsp.le
        _ = b := by field_simp
  subst hbr
  -- both exponentials are one real function
  let e : Fin 2048 → ℝ := fun k => if k.val ≤ pos then Real.exp ((s k.val - r) * (Real.sqrt 192)⁻¹) else 0
  have e2 : ∀ k : Fin 2048, Ideal.exp2 ((msk pos (fun k => (s k : EReal)) k.val - (r : EReal)) * ((sc : ℝ) : EReal)) = (e k : EReal) := by
    intro k
    by_cases h : k.val ≤ pos
    · simp only [e, if_pos h]
      rw [msk_of_le _ h, ← EReal.coe_sub, ← EReal.coe_mul, Ideal.exp2_coe, rpow_sc]
    · simp only [e, if_neg h]
      rw [msk_of_lt _ (by omega), exp2_bot_sub]; rfl
  have e1 : ∀ k : Fin 2048, Ideal.exp (msk pos (fun k => ((s k * (Real.sqrt 192)⁻¹ : ℝ) : EReal)) k.val - ((r * (Real.sqrt 192)⁻¹ : ℝ) : EReal)) = (e k : EReal) := by
    intro k
    by_cases h : k.val ≤ pos
    · simp only [e, if_pos h]
      rw [msk_of_le _ h, ← EReal.coe_sub, Ideal.exp_coe, sub_mul]
    · simp only [e, if_neg h]
      rw [msk_of_lt _ (by omega), EReal.bot_sub]; rfl
  have hpos : 0 < ∑ k, e k := by
    refine Finset.sum_pos' (fun k _ => ?_) ⟨0, Finset.mem_univ _, ?_⟩
    · show 0 ≤ if k.val ≤ pos then Real.exp _ else 0
      split_ifs
      · exact (Real.exp_pos _).le
      · exact le_rfl
    · show 0 < if (0 : Fin 2048).val ≤ pos then Real.exp _ else 0
      rw [if_pos (show (0 : Fin 2048).val ≤ pos from Nat.zero_le _)]; exact Real.exp_pos _
  simp only [e1, e2]
  simp only [← EReal.coe_mul, ← coe_sum, div_coe _ _ hpos.ne']
  rw [EReal.coe_eq_coe_iff, Finset.sum_mul]
  exact Finset.sum_congr rfl fun k _ => by ring

end Cert.AttnMath

end
-- ==== Proof.AttnPay.lean ====
/- The attention kernel's block computations, entry by entry. -/
module

public import proofs.«01_k».proof.Proof.AttnRun
public import proofs.«01_k».proof.Proof.AttnMath

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- Row `(h, p)` of the stacked heads. -/
abbrev row (h : Fin 16) (p : Fin 256) : Fin 4096 := ⟨256 * h.val + p.val, by omega⟩

/-- The score of query `(h, p)` against key `j` of a block. -/
def sc (v0 : FVec Ideal S16x256x256 .bf16) (v2 : FVec Ideal S16x256x64 .bf16) (kl : FVec Ideal S256x256 .bf16) (kr : FVec Ideal S256x64 .bf16) (h : Fin 16) (p : Fin 256) (j : Fin 256) : EReal :=
  (∑ x : Fin 256, v0 (ix3 h p x) * kl (ix2 j x)) + ∑ x : Fin 64, v2 (ix3 h p x) * kr (ix2 j x)

abbrev lo (l : Fin 128) : Fin 256 := ⟨l.val, by omega⟩
abbrev hi (l : Fin 128) : Fin 256 := ⟨128 + l.val, by omega⟩

section
variable (v0 : FVec Ideal S16x256x256 .bf16) (v2 : FVec Ideal S16x256x64 .bf16) (kl : FVec Ideal S256x256 .bf16) (kr : FVec Ideal S256x64 .bf16) (mm ll : FVec Ideal S4096x128 .f32) (acc : FVec Ideal S4096x256 .f32) (h : Fin 16) (p : Fin 256) (l : Fin 128) (d : Fin 256)

theorem ninf : Ideal.ofBits .f32 4286578688#32 = ⊥ := by simp [Ideal.ofBits, Ideal.ieee]

theorem named_sc : Named.named (F := Ideal) Cert.AttnIdeal.κ "scale_log2e" (φ := .f32) 0x3DD53B95#32 = ((Cert.AttnMath.sc : ℝ) : EReal) :=
  IdealRules.named_const.ideal_named_scalar _ _ _ _ rfl

/-- The masked block score. -/
def msc (j : Fin 256) : EReal := if j.val ≤ p.val then sc v0 v2 kl kr h p j else ⊥

theorem sel_eq (j : ℕ) (hj : j < 256) (a b : EReal) :
    Scalar.select (IntOp.cmpi .sle (BitVec.ofNat 32 j) (BitVec.ofNat 32 p.val)) a b = if j ≤ p.val then a else b := by
  rw [WordCmp.cmpi_sle_ofNat (by omega) (by omega), WordCmp.select_ofBool]
  simp

theorem pay3_apply : k0_pay3 (F := Ideal) (ix2 (row h p) l) = (⊥ : EReal) := by
  pointwise [k0_pay3]
  exact ninf

theorem pay4_apply :
    k0_pay4 (F := Ideal) v0 v2 kl kr mm (ix2 (row h p) l) = max (mm (ix2 (row h p) l)) (max (sc v0 v2 kl kr h p (lo l)) (sc v0 v2 kl kr h p (hi l))) := by
  pointwise [k0_pay4, k0_pay1, k0_pay2, sc]

theorem pay6_apply :
    k0_pay6 (F := Ideal) v0 v2 kl kr (ix2 (row h p) l) = max (msc v0 v2 kl kr h p (lo l)) (msc v0 v2 kl kr h p (hi l)) := by
  pointwise [k0_pay6, k0_pay1, k0_pay2]
  rw [sel_eq p l.val (by omega), sel_eq p (128 + l.val) (by omega), ninf]
  rfl

theorem pay7_apply : k0_pay7 (F := Ideal) mm ll (ix2 (row h p) l) = max (mm (ix2 (row h p) l)) (ll (ix2 (row h p) l)) := by
  pointwise [k0_pay7]

theorem pay8_apply :
    k0_pay8 (F := Ideal) mm (ix2 (row h p) l) = Finset.fold max (⊥ : EReal) (fun x : Fin 128 => mm (ix2 (row h p) x)) Finset.univ := by
  pointwise [k0_pay8]
  rw [ninf]

theorem pay9_apply : k0_pay9 (F := Ideal) (ix2 (row h p) l) = (0 : EReal) := by
  pointwise [k0_pay9]

theorem pay10_apply : k0_pay10 (F := Ideal) (ix2 (row h p) d) = (0 : EReal) := by
  pointwise [k0_pay10]

theorem rowDiv : (⟨(256 * h.val + p.val) / 256, by omega⟩ : Fin 16) = h := Fin.ext (by show _ / 256 = _; omega)
theorem rowMod : (⟨(256 * h.val + p.val) % 256, by omega⟩ : Fin 256) = p := Fin.ext (by show _ % 256 = _; omega)

theorem pay11_apply (hm : ∀ l l', mm (ix2 (row h p) l) = mm (ix2 (row h p) l')) (j : Fin 256) :
    k0_pay11 (F := Ideal) (k0_pay1 v0) (k0_pay2 v2) kl kr mm (ix2 (row h p) j) = Ideal.exp2 ((sc v0 v2 kl kr h p j - mm (ix2 (row h p) l)) * ((Cert.AttnMath.sc : ℝ) : EReal)) := by
  pointwise [k0_pay11, k0_pay1, k0_pay2, sc]
  refine congrArg Ideal.exp2 (congrArg₂ (· * ·) (congrArg₂ (· - ·) ?_ ?_) named_sc)
  · simp only [rowDiv, rowMod]
  · split_ifs <;> exact hm _ _

theorem pay12_apply (v1 : FVec Ideal S4096x256 .bf16) (v3 : FVec Ideal S4096x64 .bf16) :
    k0_pay12 (F := Ideal) v1 v3 kl kr mm ll (ix2 (row h p) l) = ll (ix2 (row h p) l) + (k0_pay11 (F := Ideal) v1 v3 kl kr mm (ix2 (row h p) (lo l)) + k0_pay11 (F := Ideal) v1 v3 kl kr mm (ix2 (row h p) (hi l))) := by
  unfold k0_pay12
  generalize k0_pay11 (F := Ideal) v1 v3 kl kr mm = P
  pointwise []

theorem pay13_apply (v1 : FVec Ideal S4096x256 .bf16) (v3 : FVec Ideal S4096x64 .bf16) :
    k0_pay13 (F := Ideal) v1 v3 kl kr mm acc (ix2 (row h p) d) = acc (ix2 (row h p) d) + ∑ j : Fin 256, k0_pay11 (F := Ideal) v1 v3 kl kr mm (ix2 (row h p) j) * kl (ix2 j d) := by
  unfold k0_pay13
  generalize k0_pay11 (F := Ideal) v1 v3 kl kr mm = P
  pointwise []

theorem pay18_apply (hm : ∀ l l', mm (ix2 (row h p) l) = mm (ix2 (row h p) l')) (j : Fin 256) :
    k0_pay18 (F := Ideal) (k0_pay2 v2) kr (k0_pay17 (k0_pay1 v0) kl) mm (ix2 (row h p) j) = Ideal.exp2 ((msc v0 v2 kl kr h p j - mm (ix2 (row h p) l)) * ((Cert.AttnMath.sc : ℝ) : EReal)) := by
  pointwise [k0_pay18, k0_pay17, k0_pay1, k0_pay2]
  refine congrArg Ideal.exp2 (congrArg₂ (· * ·) (congrArg₂ (· - ·) ?_ ?_) named_sc)
  · rw [ninf, show (256 * h.val + p.val) % 256 = p.val by omega, sel_eq p j.val j.isLt]
    rfl
  · split_ifs <;> exact hm _ _

theorem pay19_apply (v3 : FVec Ideal S4096x64 .bf16) (v64 : FVec Ideal S4096x256 .f32) :
    k0_pay19 (F := Ideal) v3 kr v64 mm ll (ix2 (row h p) l) = ll (ix2 (row h p) l) + (k0_pay18 (F := Ideal) v3 kr v64 mm (ix2 (row h p) (lo l)) + k0_pay18 (F := Ideal) v3 kr v64 mm (ix2 (row h p) (hi l))) := by
  unfold k0_pay19
  generalize k0_pay18 (F := Ideal) v3 kr v64 mm = P
  pointwise []

theorem pay20_apply (v3 : FVec Ideal S4096x64 .bf16) (v64 : FVec Ideal S4096x256 .f32) :
    k0_pay20 (F := Ideal) v3 kl kr v64 mm acc (ix2 (row h p) d) = acc (ix2 (row h p) d) + ∑ j : Fin 256, k0_pay18 (F := Ideal) v3 kr v64 mm (ix2 (row h p) j) * kl (ix2 j d) := by
  unfold k0_pay20
  generalize k0_pay18 (F := Ideal) v3 kr v64 mm = P
  pointwise []

theorem pay21_apply :
    k0_pay21 (F := Ideal) ll acc (ix3 h p d) = Ideal.div (acc (ix2 (row h p) d)) (∑ l : Fin 128, ll (ix2 (row h p) l)) := by
  pointwise [k0_pay21]
  have e : (⟨h.val * 256 + p.val, by omega⟩ : Fin 4096) = row h p := Fin.ext (by show h.val * 256 + p.val = 256 * h.val + p.val; omega)
  simp only [e]

end

end Cert.AttnIdeal.Value

end
-- ==== Proof.AttnTot.lean ====
/- The attention kernel's running maximum and sums, totalled: each query's output entry as one masked base-2 softmax over all keys. -/
module

public import proofs.«01_k».proof.Proof.AttnPay

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnMath

/-- Key row `k` of the tile. -/
abbrev key (k : ℕ) : Fin 2048 := ⟨k % 2048, Nat.mod_lt _ (by decide)⟩

section
variable (x0 : FVec Ideal S16x256x256 .bf16) (x1 : FVec Ideal S16x256x64 .bf16) (x2 : FVec Ideal S2048x256 .bf16) (x3 : FVec Ideal S2048x64 .bf16) (h : Fin 16) (p : Fin 256)

/-- The score of query `(h, p)` against key `k` of the tile. -/
def scr (k : ℕ) : EReal :=
  (∑ x : Fin 256, x0 (ix3 h p x) * x2 (ix2 (key k) x)) + ∑ x : Fin 64, x1 (ix3 h p x) * x3 (ix2 (key k) x)

theorem sc_blk (n : ℕ) (j : Fin 256) : Value.sc x0 x1 (blkL x2 n) (blkR x3 n) h p j = scr x0 x1 x2 x3 h p (256 * n + j.val) := rfl

theorem msc_blk (n : ℕ) (j : Fin 256) :
    msc x0 x1 (blkL x2 n) (blkR x3 n) h p j = msk (256 * n + p.val) (scr x0 x1 x2 x3 h p) (256 * n + j.val) := by
  unfold msc msk
  rw [sc_blk]
  by_cases hj : j.val ≤ p.val
  · rw [if_pos hj, if_pos (by omega)]
  · rw [if_neg hj, if_neg (by omega)]

theorem mx_le (q : ℕ) (hq : q < 8) (l : Fin 128) (z : EReal) :
    mxOf x0 x1 x2 x3 q (ix2 (row h p) l) ≤ z ↔ ∀ k : Fin 2048, msk (256 * q + p.val) (scr x0 x1 x2 x3 h p) k.val ≤ z := by
  unfold mxOf
  rw [pay8_apply, Finset.fold_max_le, ← extend_max _ q p.val hq p.isLt,
    ← lanes_max (scr x0 x1 x2 x3 h p) (fun n l => mAt x0 x1 x2 x3 n (ix2 (row h p) l)) (fun l => pay3_apply h p l)
      (fun n l => by
        show k0_pay4 (F := Ideal) x0 x1 (blkL x2 n) (blkR x3 n) (mAt x0 x1 x2 x3 n) _ = _
        rw [pay4_apply]; rfl) q z,
    ← halves_iff (fun j => msk (256 * q + p.val) (scr x0 x1 x2 x3 h p) (256 * q + j) ≤ z), ← forall_and]
  simp only [bot_le, true_and, Finset.mem_univ, true_implies]
  refine forall_congr' fun l => ?_
  rw [pay7_apply, pay6_apply, msc_blk, msc_blk, max_le_iff, max_le_iff]

theorem mx_lanes (q : ℕ) (l l' : Fin 128) : mxOf x0 x1 x2 x3 q (ix2 (row h p) l) = mxOf x0 x1 x2 x3 q (ix2 (row h p) l') := by
  unfold mxOf
  rw [pay8_apply, pay8_apply]

/-- The row maximum. -/
def mrow (q : ℕ) : EReal := mxOf x0 x1 x2 x3 q (ix2 (row h p) (0 : Fin 128))

/-- The weight of key `k` before normalization. -/
def wgt (q k : ℕ) : EReal :=
  Ideal.exp2 ((msk (256 * q + p.val) (scr x0 x1 x2 x3 h p) k - mrow x0 x1 x2 x3 h p q) * ((AttnMath.sc : ℝ) : EReal))

theorem wgt_zero (q k : ℕ) (hk : 256 * q + p.val < k) : wgt x0 x1 x2 x3 h p q k = 0 := by
  unfold wgt
  rw [msk_of_lt _ hk, exp2_bot_sub]

/-- The weight a trip of the second loop computes. -/
def wof (q k : ℕ) : EReal := Ideal.exp2 ((scr x0 x1 x2 x3 h p k - mrow x0 x1 x2 x3 h p q) * ((AttnMath.sc : ℝ) : EReal))

theorem wof_eq (q k : ℕ) (hk : k < 256 * q) : wof x0 x1 x2 x3 h p q k = wgt x0 x1 x2 x3 h p q k := by
  unfold wof wgt
  rw [msk_of_le _ (by omega)]

theorem trip_w (q n : ℕ) (j : Fin 256) :
    k0_pay11 (F := Ideal) (k0_pay1 x0) (k0_pay2 x1) (blkL x2 n) (blkR x3 n) (mxOf x0 x1 x2 x3 q) (ix2 (row h p) j) = wof x0 x1 x2 x3 h p q (256 * n + j.val) := by
  rw [pay11_apply _ _ _ _ _ h p 0 (fun l l' => mx_lanes x0 x1 x2 x3 h p q l l')]
  rfl

theorem diag_w (q : ℕ) (j : Fin 256) :
    k0_pay18 (F := Ideal) (k0_pay2 x1) (blkR x3 q) (k0_pay17 (k0_pay1 x0) (blkL x2 q)) (mxOf x0 x1 x2 x3 q) (ix2 (row h p) j) = wgt x0 x1 x2 x3 h p q (256 * q + j.val) := by
  rw [pay18_apply _ _ _ _ _ h p 0 (fun l l' => mx_lanes x0 x1 x2 x3 h p q l l'), msc_blk]
  rfl

theorem lTot_sum (q : ℕ) (hq : q < 8) :
    ∑ l : Fin 128, lTot x0 x1 x2 x3 q (ix2 (row h p) l) = ∑ k : Fin 2048, wgt x0 x1 x2 x3 h p q k.val := by
  unfold lTot
  simp only [pay19_apply, diag_w]
  rw [Finset.sum_add_distrib, halves_sum (fun j => wgt x0 x1 x2 x3 h p q (256 * q + j)),
    lanes_sum (wof x0 x1 x2 x3 h p q) (fun n l => lAt (k0_pay1 x0) (k0_pay2 x1) (mxOf x0 x1 x2 x3 q) x2 x3 n (ix2 (row h p) l)) (fun l => pay9_apply h p l)
      (fun n l => by
        show k0_pay12 (F := Ideal) _ _ (blkL x2 n) (blkR x3 n) (mxOf x0 x1 x2 x3 q) (lAt (k0_pay1 x0) (k0_pay2 x1) (mxOf x0 x1 x2 x3 q) x2 x3 n) _ = _
        rw [pay12_apply, trip_w, trip_w]),
    Finset.sum_congr rfl (fun k hk => wof_eq x0 x1 x2 x3 h p q k (Finset.mem_range.mp hk)),
    extend_sum _ q p.val hq p.isLt (fun k hk => wgt_zero x0 x1 x2 x3 h p q k hk)]

theorem aTot_sum (q : ℕ) (hq : q < 8) (d : Fin 256) :
    aTot x0 x1 x2 x3 q (ix2 (row h p) d) = ∑ k : Fin 2048, wgt x0 x1 x2 x3 h p q k.val * x2 (ix2 (key k.val) d) := by
  unfold aTot
  simp only [pay20_apply, diag_w]
  rw [blocks_sum (fun k => wof x0 x1 x2 x3 h p q k * x2 (ix2 (key k) d)) (fun n => aAt (k0_pay1 x0) (k0_pay2 x1) (mxOf x0 x1 x2 x3 q) x2 x3 n (ix2 (row h p) d)) (pay10_apply h p d)
      (fun n => by
        show k0_pay13 (F := Ideal) _ _ (blkL x2 n) (blkR x3 n) (mxOf x0 x1 x2 x3 q) (aAt (k0_pay1 x0) (k0_pay2 x1) (mxOf x0 x1 x2 x3 q) x2 x3 n) _ = _
        rw [pay13_apply]
        simp only [trip_w]
        rfl),
    Finset.sum_congr rfl (fun k hk => by rw [wof_eq x0 x1 x2 x3 h p q k (Finset.mem_range.mp hk)])]
  refine Eq.trans (congrArg _ ?_) (extend_sum (fun k => wgt x0 x1 x2 x3 h p q k * x2 (ix2 (key k) d)) q p.val hq p.isLt (fun k hk => by rw [wgt_zero x0 x1 x2 x3 h p q k hk, zero_mul]))
  rw [← Fin.sum_univ_eq_sum_range (fun j => wgt x0 x1 x2 x3 h p q (256 * q + j) * x2 (ix2 (key (256 * q + j)) d))]
  rfl

/-- One output entry of a block. -/
theorem blk_out (q : ℕ) (hq : q < 8) (d : Fin 256) :
    k0_pay21 (F := Ideal) (lTot x0 x1 x2 x3 q) (aTot x0 x1 x2 x3 q) (ix3 h p d)
      = Ideal.div (∑ k : Fin 2048, wgt x0 x1 x2 x3 h p q k.val * x2 (ix2 k d)) (∑ k : Fin 2048, wgt x0 x1 x2 x3 h p q k.val) := by
  rw [pay21_apply, lTot_sum x0 x1 x2 x3 h p q hq, aTot_sum x0 x1 x2 x3 h p q hq]
  refine congrArg (fun a => Ideal.div a _) (Finset.sum_congr rfl fun k _ => ?_)
  rw [show key k.val = k from Fin.ext (Nat.mod_eq_of_lt k.isLt)]

end

end Cert.AttnIdeal.Value

end
-- ==== Proof.AttnRefValue.lean ====
/- The reference attention, entry by entry. -/
module

public import proofs.«01_k».proof.Proof.Gen.AttnRefIdeal.Run
public import proofs.«01_k».proof.Proof.AttnMath
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.AttnRefIdeal.Value

open Cert.AttnRefIdeal Cert.AttnRefIdeal.Gen Cert.AttnMath

/-- The reference's scaled scores with the keys after the query masked out. -/
def scores (X0 : FVec Ideal S16x8320x256 .bf16) (X1 : FVec Ideal S16x8320x64 .bf16) (X2 : FVec Ideal S8320x256 .bf16) (X3 : FVec Ideal S8320x64 .bf16) : FVec Ideal S16x4x2048x2048 .f32 :=
    (select (broadcastInDim S16x4x2048x2048 ![2, 3] bcast_S2048x2048_S16x4x2048x2048_2_3 (cmpi .sle
    (broadcastInDim S2048x2048 ![0, 1] bcast_S1x2048_S2048x2048_0_1 (broadcastInDim S1x2048 ![1]
    bcast_S2048_S1x2048_1 (iotaInDim S2048 32 0))) (broadcastInDim S2048x2048 ![0, 1]
    bcast_S2048x1_S2048x2048_0_1 (broadcastInDim S2048x1 ![0] bcast_S2048_S2048x1_0 (iotaInDim S2048 32 0)))))
    (Host.divf (addf (transpose S16x4x2048x2048 [2, 0, 3, 1] (Host.dotGeneral
    dot_S4x2048x256_S16x4x2048x256_S4x2048x16x2048_2_3_1_02_0_1 none (shapeCast _ (extf .f32
    (extractStridedSlice S8192x256 ![0, 0] X2 slices_S8320x256_S8192x256_0_0) bitsLt_bf16_f32)
    shapeCasts_S8192x256_S4x2048x256) (shapeCast _ (extf .f32 (extractStridedSlice S16x8192x256 ![0, 0, 0] X0
    slices_S16x8320x256_S16x8192x256_0_0_0) bitsLt_bf16_f32) shapeCasts_S16x8192x256_S16x4x2048x256))
    transposes_S4x2048x16x2048_S16x4x2048x2048_2_0_3_1) (transpose S16x4x2048x2048 [2, 0, 3, 1]
    (Host.dotGeneral dot_S4x2048x64_S16x4x2048x64_S4x2048x16x2048_2_3_1_02_0_1 none (shapeCast _ (extf .f32
    (extractStridedSlice S8192x64 ![0, 0] X3 slices_S8320x64_S8192x64_0_0) bitsLt_bf16_f32)
    shapeCasts_S8192x64_S4x2048x64) (shapeCast _ (extf .f32 (extractStridedSlice S16x8192x64 ![0, 0, 0] X1
    slices_S16x8320x64_S16x8192x64_0_0_0) bitsLt_bf16_f32) shapeCasts_S16x8192x64_S16x4x2048x64))
    transposes_S4x2048x16x2048_S16x4x2048x2048_2_0_3_1)) (broadcastInDim S16x4x2048x2048 ![]
    bcast_S_S16x4x2048x2048 (Host.sqrt (constant S_ .f32 0x43400000#32)))) (broadcastInDim S16x4x2048x2048 ![]
    bcast_S_S16x4x2048x2048 (id (constant S_ .f32 0xFF800000#32))))

/-- The row maximum of the scores. -/
def rowMax (A : FVec Ideal S16x4x2048x2048 .f32) : FVec Ideal S16x4x2048 .f32 :=
  Host.reduce FloatOps.maximumf A (constant S_ .f32 0xFF800000#32) reducesTo_S16x4x2048x2048_S16x4x2048_d3 h_S_

/-- The reference's exponentials of the scores less their row maximum. -/
def expoOf (A : FVec Ideal S16x4x2048x2048 .f32) (R : FVec Ideal S16x4x2048 .f32) : FVec Ideal S16x4x2048x2048 .f32 :=
    (Host.exp (subf A (broadcastInDim S16x4x2048x2048 ![0, 1, 2, 3] bcast_S16x4x2048x1_S16x4x2048x2048_0_1_2_3
    (broadcastInDim S16x4x2048x1 ![0, 1, 2] bcast_S16x4x2048_S16x4x2048x1_0_1_2 (maximumf (broadcastInDim
    S16x4x2048 ![] bcast_S_S16x4x2048 (constant S_ .f32 0xFF800000#32)) R)))))

/-- The reference's exponentials of the scores. -/
def expo (A : FVec Ideal S16x4x2048x2048 .f32) : FVec Ideal S16x4x2048x2048 .f32 := expoOf A (rowMax A)

/-- The reference's weighted latents, and the sample tokens' rows kept. -/
def wsum (X2 : FVec Ideal S8320x256 .bf16) (X4 : FVec Ideal S16x8320x256 .bf16) (E : FVec Ideal S16x4x2048x2048 .f32) : FVec Ideal S16x8320x256 .bf16 :=
    concatenate S16x8320x256 1 [⟨S16x8192x256, (truncf .bf16 (shapeCast _ (transpose S16x4x2048x256 [2, 0, 3,
    1] (Host.dotGeneral dot_S4x2048x256_S16x4x2048x2048_S4x256x16x2048_1_3_2_02_0_1 none (shapeCast _ (extf
    .f32 (extractStridedSlice S8192x256 ![0, 0] X2 slices_S8320x256_S8192x256_0_0) bitsLt_bf16_f32)
    shapeCasts_S8192x256_S4x2048x256) (Host.divf E (broadcastInDim S16x4x2048x2048 ![0, 1, 2, 3]
    bcast_S16x4x2048x1_S16x4x2048x2048_0_1_2_3 (broadcastInDim S16x4x2048x1 ![0, 1, 2]
    bcast_S16x4x2048_S16x4x2048x1_0_1_2 (Host.reduceAdd E (constant S_ .f32 0x00000000#32)
    reducesTo_S16x4x2048x2048_S16x4x2048_d3 h_S_))))) transposes_S4x256x16x2048_S16x4x2048x256_2_0_3_1)
    shapeCasts_S16x4x2048x256_S16x8192x256) bitsLt_bf16_f32)⟩, ⟨S16x128x256, (extractStridedSlice S16x128x256
    ![0, 8192, 0] X4 slices_S16x8320x256_S16x128x256_0_8192_0)⟩]
    concatenates_S16x8192x256_S16x128x256_S16x8320x256_d1

/-- The reference's result as a function of its argument arrays. -/
def REF (X0 : FVec Ideal S16x8320x256 .bf16) (X1 : FVec Ideal S16x8320x64 .bf16) (X2 : FVec Ideal S8320x256 .bf16) (X3 : FVec Ideal S8320x64 .bf16) (X4 : FVec Ideal S16x8320x256 .bf16) : FVec Ideal S16x8320x256 .bf16 :=
  wsum X2 X4 (expo (scores X0 X1 X2 X3))

section
variable (X0 : FVec Ideal S16x8320x256 .bf16) (X1 : FVec Ideal S16x8320x64 .bf16) (X2 : FVec Ideal S8320x256 .bf16) (X3 : FVec Ideal S8320x64 .bf16) (X4 : FVec Ideal S16x8320x256 .bf16) (h : Fin 16) (b : Fin 4) (r : Fin 2048) (d : Fin 256)

/-- Row `r` of sequence `b` among all tokens. -/
abbrev tok (b : Fin 4) (r : ℕ) : Fin 8320 := ⟨2048 * b.val + r % 2048, by omega⟩

/-- The score of query `r` of sequence `b` in head `h` against the sequence's key `k`. -/
def raw (k : ℕ) : EReal :=
  (∑ x : Fin 256, X0 (ix3 h (tok b r.val) x) * X2 (ix2 (tok b k) x)) + ∑ x : Fin 64, X1 (ix3 h (tok b r.val) x) * X3 (ix2 (tok b k) x)

theorem ninf : Ideal.ofBits .f32 4286578688#32 = ⊥ := by simp [Ideal.ofBits, Ideal.ieee]

theorem root : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, -EReal.coe_mul]
    norm_num
  rw [e, Ideal.sqrt_coe, if_neg (by norm_num)]

theorem tok_eq (x : Fin 2048) : (⟨b.val * 2048 + x.val, by omega⟩ : Fin 8320) = tok b x.val :=
  Fin.ext (by show b.val * 2048 + x.val = 2048 * b.val + x.val % 2048; omega)

theorem scores_apply (x : Fin 2048) :
    scores X0 X1 X2 X3 (ix4 h b r x) = msk r.val (fun k => Ideal.div (raw X0 X1 X2 X3 h b r k) ((Real.sqrt 192 : ℝ) : EReal)) x.val := by
  pointwise [scores]
  rw [Idealize.ShloMosaic.WordCmp.cmpi_sle_ofNat (by omega) (by omega), Idealize.ShloMosaic.WordCmp.select_ofBool, root]
  unfold msk raw
  simp only [tok_eq, decide_eq_true_eq]
  refine if_congr Iff.rfl ?_ ninf
  refine congrArg (fun a => Ideal.div a _) (congrArg₂ (· + ·) ?_ ?_)
  · exact Finset.sum_congr rfl fun _ _ => mul_comm _ _
  · exact Finset.sum_congr rfl fun _ _ => mul_comm _ _

theorem reduce_rows {n0 n1 n2 n3 : ℕ} {t u : Shape} (hr : (⟨4, ![n0, n1, n2, n3]⟩ : Shape).ReducesTo [3] t) (hu : 0 < u.numel) (v : (⟨4, ![n0, n1, n2, n3]⟩ : Shape).Idx → EReal) (c : u.Idx → EReal) (j : t.Idx) :
    Host.reduce max v c hr hu j = (Finset.univ : Finset (Fin n3)).fold max (c (Shape.Idx.first hu))
      (fun k => v (ix4 ⟨(j ⟨0, hr.lt_r4_a3_0⟩).val, Shape.coordLt (j ⟨0, hr.lt_r4_a3_0⟩) hr.size_r4_a3_0⟩ ⟨(j ⟨1, hr.lt_r4_a3_1⟩).val, Shape.coordLt (j ⟨1, hr.lt_r4_a3_1⟩) hr.size_r4_a3_1⟩ ⟨(j ⟨2, hr.lt_r4_a3_2⟩).val, Shape.coordLt (j ⟨2, hr.lt_r4_a3_2⟩) hr.size_r4_a3_2⟩ k)) := by
  rw [Host.reduce_eq_fold]
  exact hr.fold_fiber_r4_a3 j max _ v

theorem reduce_rows3 {n0 n1 n2 n3 : ℕ} {u : Shape} (hr : (⟨4, ![n0, n1, n2, n3]⟩ : Shape).ReducesTo [3] (⟨3, ![n0, n1, n2]⟩ : Shape)) (hu : 0 < u.numel) (v : (⟨4, ![n0, n1, n2, n3]⟩ : Shape).Idx → EReal) (c : u.Idx → EReal) (hc : c (Shape.Idx.first hu) = ⊥)
    (f : EReal → EReal → EReal) (hf : f = max) (a : Fin n0) (b : Fin n1) (r : Fin n2) :
    Host.reduce f v c hr hu (ix3 a b r) = (Finset.univ : Finset (Fin n3)).fold max ⊥ (fun k => v (ix4 a b r k)) := by
  subst hf
  rw [reduce_rows, hc]
  rfl

theorem cBot : constant (F := Ideal) S_ .f32 0xFF800000#32 (Shape.Idx.first h_S_) = (⊥ : EReal) := ninf

theorem max_eq : (FloatOps.maximumf (F := Ideal) (φ := .f32) : EReal → EReal → EReal) = max := rfl

theorem rowMax_eq (A : FVec Ideal S16x4x2048x2048 .f32) :
    rowMax A (ix3 h b r) = Host.reduce (α := EReal) (FloatOps.maximumf (F := Ideal) (φ := .f32)) A (constant (F := Ideal) S_ .f32 0xFF800000#32) reducesTo_S16x4x2048x2048_S16x4x2048_d3 h_S_ (ix3 h b r) := rfl

theorem reduce_at (A : S16x4x2048x2048.Idx → EReal) (c : S_.Idx → EReal) (hc : c (Shape.Idx.first h_S_) = ⊥) (f : EReal → EReal → EReal) (hf : f = max) :
    Host.reduce f A c reducesTo_S16x4x2048x2048_S16x4x2048_d3 h_S_ (ix3 h b r) = Finset.fold max (⊥ : EReal) (fun x : Fin 2048 => A (ix4 h b r x)) Finset.univ :=
  reduce_rows3 _ _ A c hc f hf h b r

theorem rowMax_apply (A : FVec Ideal S16x4x2048x2048 .f32) :
    rowMax A (ix3 h b r) = Finset.fold max (⊥ : EReal) (fun x : Fin 2048 => A (ix4 h b r x)) Finset.univ := by
  rw [rowMax_eq]
  exact reduce_at h b r A _ cBot _ max_eq

theorem expoOf_apply (A : FVec Ideal S16x4x2048x2048 .f32) (R : FVec Ideal S16x4x2048 .f32) (x : Fin 2048) :
    expoOf A R (ix4 h b r x) = Ideal.exp (A (ix4 h b r x) - max (Ideal.ofBits .f32 4286578688#32) (R (ix3 h b r))) := by
  pointwise [expoOf]

theorem expo_apply (A : FVec Ideal S16x4x2048x2048 .f32) (x : Fin 2048) :
    expo A (ix4 h b r x) = Ideal.exp (A (ix4 h b r x) - Finset.fold max (⊥ : EReal) (fun x => A (ix4 h b r x)) Finset.univ) := by
  unfold expo
  rw [expoOf_apply, ninf, max_eq_right bot_le, rowMax_apply]

theorem wsum_apply (E : FVec Ideal S16x4x2048x2048 .f32) :
    wsum X2 X4 E (ix3 h (tok b r.val) d) = ∑ x : Fin 2048, X2 (ix2 (tok b x.val) d) * Ideal.div (E (ix4 h b r x)) (∑ x : Fin 2048, E (ix4 h b r x)) := by
  rw [← tok_eq]
  pointwise [wsum]
  rw [dif_pos (by omega)]
  simp only [tok_eq]

theorem wsum_tail (E : FVec Ideal S16x4x2048x2048 .f32) (s : Fin 128) :
    wsum X2 X4 E (ix3 h (⟨8192 + s.val, by omega⟩ : Fin 8320) d) = X4 (ix3 h (⟨8192 + s.val, by omega⟩ : Fin 8320) d) := by
  pointwise [wsum]

end

end Cert.AttnRefIdeal.Value

end
-- ==== Proof.AttnValue.lean ====
/- The attention: every entry of the result against the reference. -/
module

public import proofs.«01_k».proof.Proof.AttnTot
public import proofs.«01_k».proof.Proof.AttnPre
public import proofs.«01_k».proof.Proof.AttnRefValue

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnMath
open Cert.AttnRefIdeal.Value (REF raw tok)

section
variable (X0 : FVec Ideal S16x8320x256 .bf16) (X1 : FVec Ideal S16x8320x64 .bf16) (X2 : FVec Ideal S8320x256 .bf16) (X3 : FVec Ideal S8320x64 .bf16) (X4 : FVec Ideal S16x8320x256 .bf16)

/-- The base-2 softmax of a query's masked scores against the reference's entry, for finite arguments. -/
theorem attn_entry (f0 : ∀ i, ∃ r : ℝ, X0 i = (r : EReal)) (f1 : ∀ i, ∃ r : ℝ, X1 i = (r : EReal)) (f2 : ∀ i, ∃ r : ℝ, X2 i = (r : EReal)) (f3 : ∀ i, ∃ r : ℝ, X3 i = (r : EReal))
    (h : Fin 16) (b : Fin 4) (r : Fin 2048) (d : Fin 256) (M : EReal)
    (hM : ∀ z, M ≤ z ↔ ∀ k : Fin 2048, msk r.val (raw X0 X1 X2 X3 h b r) k.val ≤ z) :
    Ideal.div (∑ k : Fin 2048, Ideal.exp2 ((msk r.val (raw X0 X1 X2 X3 h b r) k.val - M) * ((AttnMath.sc : ℝ) : EReal)) * X2 (ix2 (tok b k.val) d))
        (∑ k : Fin 2048, Ideal.exp2 ((msk r.val (raw X0 X1 X2 X3 h b r) k.val - M) * ((AttnMath.sc : ℝ) : EReal)))
      = REF X0 X1 X2 X3 X4 (ix3 h (tok b r.val) d) := by
  choose g0 e0 using f0
  choose g1 e1 using f1
  choose g2 e2 using f2
  choose g3 e3 using f3
  have hs : raw X0 X1 X2 X3 h b r = fun k => (((∑ x : Fin 256, g0 (ix3 h (tok b r.val) x) * g2 (ix2 (tok b k) x)) + ∑ x : Fin 64, g1 (ix3 h (tok b r.val) x) * g3 (ix2 (tok b k) x) : ℝ) : EReal) := by
    funext k
    unfold raw
    simp only [e0, e1, e2, e3, ← EReal.coe_mul, ← coe_sum, ← EReal.coe_add]
  unfold REF
  rw [Cert.AttnRefIdeal.Value.wsum_apply]
  simp only [Cert.AttnRefIdeal.Value.expo_apply, Cert.AttnRefIdeal.Value.scores_apply, e2]
  rw [hs] at hM ⊢
  exact softmax_core _ (fun k => g2 (ix2 (tok b k) d)) r.val M _ hM
    (fun z => by rw [Finset.fold_max_le]; simp only [bot_le, true_and, Finset.mem_univ, true_implies])

end

variable (m : (ℓ : Loc nD τ sig) → Buf (Elt Ideal) ℓ)

/-- Where each window's block starts at a grid point, for every point of the grid. -/
theorem idx : ∀ t : Fin cfg0.N,
    win0_0.index t = ![0, t.val, 0] ∧ win0_1.index t = ![0, t.val, 0] ∧ win0_2.index t = ![t.val / 8, 0] ∧ win0_3.index t = ![t.val / 8, 0]
      ∧ win0_4.index t = ![0, t.val, 0] ∧ (grid0.coords t 1).val = t.val % 8 :=
  (by decide +kernel : ∀ t : Fin grid0.N, _)

theorem t_lt (t : Fin cfg0.N) : t.val < 32 := lt_of_lt_of_eq t.isLt (show cfg0.N = 32 from N_0)

/-- The sequence of a grid point, and a query row in it. -/
abbrev seq (t : Fin cfg0.N) : Fin 4 := ⟨t.val / 8, by have := t_lt t; omega⟩
abbrev qrow (t : Fin cfg0.N) (p : Fin 256) : Fin 2048 := ⟨256 * (t.val % 8) + p.val, by omega⟩

theorem x0_apply (c : Dev nD) (t : Fin cfg0.N) (h : Fin 16) (p : Fin 256) (x : Fin 256) :
    X0_0 m c t (ix3 h p x) = m ((c : Thread nD τ).loc main_arg0) (ix3 h (tok (seq t) (qrow t p).val) x) := by
  have := t_lt t
  unfold X0_0 Pipeline.Window.fill
  rw [dif_pos (moved0_0 t _)]
  blk_ext [iblk, V, idx t]

theorem x1_apply (c : Dev nD) (t : Fin cfg0.N) (h : Fin 16) (p : Fin 256) (x : Fin 64) :
    X0_1 m c t (ix3 h p x) = m ((c : Thread nD τ).loc main_arg1) (ix3 h (tok (seq t) (qrow t p).val) x) := by
  have := t_lt t
  unfold X0_1 Pipeline.Window.fill
  rw [dif_pos (moved0_1 t _)]
  blk_ext [iblk, V, idx t]

theorem x2_apply (c : Dev nD) (t : Fin cfg0.N) (k : Fin 2048) (x : Fin 256) :
    X0_2 m c t (ix2 k x) = m ((c : Thread nD τ).loc main_arg2) (ix2 (tok (seq t) k.val) x) := by
  have := t_lt t
  unfold X0_2 Pipeline.Window.fill
  rw [dif_pos (moved0_2 t _)]
  blk_ext [iblk, V, idx t]

theorem x3_apply (c : Dev nD) (t : Fin cfg0.N) (k : Fin 2048) (x : Fin 64) :
    X0_3 m c t (ix2 k x) = m ((c : Thread nD τ).loc main_arg3) (ix2 (tok (seq t) k.val) x) := by
  have := t_lt t
  unfold X0_3 Pipeline.Window.fill
  rw [dif_pos (moved0_3 t _)]
  blk_ext [iblk, V, idx t]

theorem scr_eq (c : Dev nD) (t : Fin cfg0.N) (h : Fin 16) (p : Fin 256) :
    scr (X0_0 m c t) (X0_1 m c t) (X0_2 m c t) (X0_3 m c t) h p
      = raw (m ((c : Thread nD τ).loc main_arg0)) (m ((c : Thread nD τ).loc main_arg1)) (m ((c : Thread nD τ).loc main_arg2)) (m ((c : Thread nD τ).loc main_arg3)) h (seq t) (qrow t p) := by
  funext k
  unfold scr raw
  simp only [x0_apply, x1_apply, x2_apply, x3_apply]
  rw [show tok (seq t) (k % 2048) = tok (seq t) k from Fin.ext (by show 2048 * _ + k % 2048 % 2048 = 2048 * _ + k % 2048; rw [Nat.mod_mod])]

/-- The rows of the sample tokens are kept. -/
theorem ref_tail (X0 : FVec Ideal S16x8320x256 .bf16) (X1 : FVec Ideal S16x8320x64 .bf16) (X2 : FVec Ideal S8320x256 .bf16) (X3 : FVec Ideal S8320x64 .bf16) (X4 : FVec Ideal S16x8320x256 .bf16)
    (J : S16x8320x256.Idx) (hJ : 8192 ≤ (J 1).val) : REF X0 X1 X2 X3 X4 J = X4 J := by
  have h1 : (J 1).val < 8320 := (J 1).isLt
  have hz : J = ix3 (J 0) (⟨8192 + (⟨(J 1).val - 8192, by omega⟩ : Fin 128).val, by show 8192 + ((J 1).val - 8192) < 8320; omega⟩ : Fin 8320) (J 2) := by
    funext a
    match a with
    | ⟨0, _⟩ => rfl
    | ⟨1, _⟩ => exact Fin.ext (by show (J 1).val = 8192 + ((J 1).val - 8192); omega)
    | ⟨2, _⟩ => rfl
  rw [hz]
  exact Cert.AttnRefIdeal.Value.wsum_tail X2 X4 (J 0) (J 2) _ _

variable (c : Dev nD) (hf : (∀ i, ∃ r : ℝ, m ((c : Thread nD τ).loc main_arg0) i = (r : EReal)) ∧ (∀ i, ∃ r : ℝ, m ((c : Thread nD τ).loc main_arg1) i = (r : EReal))
    ∧ (∀ i, ∃ r : ℝ, m ((c : Thread nD τ).loc main_arg2) i = (r : EReal)) ∧ (∀ i, ∃ r : ℝ, m ((c : Thread nD τ).loc main_arg3) i = (r : EReal)))
include hf

theorem entry (t : Fin cfg0.N) (h : Fin 16) (p : Fin 256) (d : Fin 256) :
    outsAt0 m c t (ix3 h p d) = REF (m ((c : Thread nD τ).loc main_arg0)) (m ((c : Thread nD τ).loc main_arg1)) (m ((c : Thread nD τ).loc main_arg2)) (m ((c : Thread nD τ).loc main_arg3)) (m ((c : Thread nD τ).loc main_arg4))
      (ix3 h (tok (seq t) (qrow t p).val) d) := by
  have hq : (grid0.coords t 1).val = t.val % 8 := (idx t).2.2.2.2.2
  rw [outs_eq, hq, blk_out _ _ _ _ _ _ _ (by omega), ← attn_entry _ _ _ _ _ hf.1 hf.2.1 hf.2.2.1 hf.2.2.2 h (seq t) (qrow t p) d
    (mrow (X0_0 m c t) (X0_1 m c t) (X0_2 m c t) (X0_3 m c t) h p (t.val % 8))
    (fun z => by rw [← scr_eq]; exact mx_le _ _ _ _ h p _ (by omega) 0 z)]
  unfold wgt
  simp only [x2_apply, scr_eq]

/-- The whole result array after the run. -/
theorem final : (dats m 0 c).arrAt 4 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 4 _ (fun β => β 1 < 32) (by decide +kernel) (fun t _ y => ?_) (fun j hj => ?_)
  · blk_simp
    rw [after0_4]
    let z : S16x256x256.Idx := (cfg0.win 4).xinj (cfg0.grid.coords t) y
    have hz : z = ix3 (z 0) (z 1) (z 2) := by
      funext a
      match a with
      | ⟨0, _⟩ => rfl
      | ⟨1, _⟩ => rfl
      | ⟨2, _⟩ => rfl
    have ht := t_lt t
    refine (congrArg (outsAt0 m c t) hz).trans ((entry m c hf t (z 0) (z 1) (z 2)).trans (congrArg (REF _ _ _ _ _) ?_))
    have h1 : (z 1).val < 256 := (z 1).isLt
    funext a
    apply Fin.ext
    match a with
    | ⟨0, _⟩ => blk_simp [idx t]; rfl
    | ⟨1, _⟩ =>
      blk_simp [idx t]
      show 2048 * (t.val / 8) + (256 * (t.val % 8) + (z 1).val) % 2048 = t.val * 256 + (z 1).val
      omega
    | ⟨2, _⟩ => blk_simp [idx t]; rfl
  · blk_simp [Pipeline.Window.cell_apply] at hj
    rw [A_eq]
    refine Eq.trans ?_ (ref_tail _ _ _ _ _ _ ?_).symm
    · show V m c main_v0 _ = _
      entry_read
      rfl
    · blk_simp
      omega

end Cert.AttnIdeal.Value

end
-- ==== Proof.SmallValue.lean ====
/- The projections to the small columns: the result array after the run. -/
module

public import proofs.«01_k».proof.Proof.Gen.SmallIdeal.Frame
public import proofs.«01_k».proof.Proof.Gen.SmallRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SmallRefIdeal.Value

open Cert.SmallRefIdeal Cert.SmallRefIdeal.Gen

/-- The reference's result as a function of its argument arrays. -/
abbrev REF (X0 : FVec Ideal S8320x4096 .bf16) (X1 : FVec Ideal S4x4096x25952 .f32) :
    FVec Ideal S8320x1536 .f32 :=
    (concatenate S8320x1536 1 [⟨S8320x1344, ((extractStridedSlice S8320x1344 ![0, 12320] (Host.dotGeneral
    dot_S8320x4096_S4096x25952_S8320x25952_1_0_0_1_n_n none (extf .f32 X0 bitsLt_bf16_f32) (shapeCast _
    (extractStridedSlice S1x4096x25952 ![1, 0, 0] X1 slices_S4x4096x25952_S1x4096x25952_1_0_0)
    shapeCasts_S1x4096x25952_S4096x25952)) slices_S8320x25952_S8320x1344_0_12320) : (⟨S8320x1344, .f32⟩ :
    BufTy).Contents (Elt Ideal))⟩, ⟨S8320x64, ((broadcastInDim S8320x64 ![] bcast_S_S8320x64 (constant (F :=
    Ideal) S_ .f32 0x00000000#32)) : (⟨S8320x64, .f32⟩ : BufTy).Contents (Elt Ideal))⟩, ⟨S8320x32,
    ((extractStridedSlice S8320x32 ![0, 12288] (Host.dotGeneral
    dot_S8320x4096_S4096x25952_S8320x25952_1_0_0_1_n_n none (extf .f32 X0 bitsLt_bf16_f32) (shapeCast _
    (extractStridedSlice S1x4096x25952 ![1, 0, 0] X1 slices_S4x4096x25952_S1x4096x25952_1_0_0)
    shapeCasts_S1x4096x25952_S4096x25952)) slices_S8320x25952_S8320x32_0_12288) : (⟨S8320x32, .f32⟩ :
    BufTy).Contents (Elt Ideal))⟩, ⟨S8320x96, ((broadcastInDim S8320x96 ![] bcast_S_S8320x96 (constant (F :=
    Ideal) S_ .f32 0x00000000#32)) : (⟨S8320x96, .f32⟩ : BufTy).Contents (Elt Ideal))⟩]
    concatenates_S8320x1344_S8320x64_S8320x32_S8320x96_S8320x1536_d1 : (⟨S8320x1536, .f32⟩ : BufTy).Contents
    (Elt Ideal))

end Cert.SmallRefIdeal.Value

namespace Cert.SmallIdeal.Value

open Cert.SmallIdeal Cert.SmallIdeal.Gen
open Cert.SmallRefIdeal.Value (REF)

variable (m : (ℓ : Loc nD τ sig) → Buf (Elt Ideal) ℓ)

/-- Where each window's block starts at a grid point, for every point of the grid. -/
theorem idx : ∀ t : Fin cfg0.N,
    win0_0.index t = ![t.val / 3, 0] ∧ win0_1.index t = ![1, 0, t.val % 3]
      ∧ win0_2.index t = ![t.val / 3, t.val % 3] :=
  (by decide +kernel : ∀ t : Fin grid0.N, _)

/-- The prepared weights: the two column ranges of the layer's projection with zero columns between and after them. -/
def prep (X1 : FVec Ideal S4x4096x25952 .f32) (l : Fin 4) (k : Fin 4096) (j : Fin 1536) : EReal :=
  if h : j.val < 1344 then X1 (ix3 l k ⟨12320 + j.val, by omega⟩)
  else if h : j.val - 1344 < 64 then 0
  else if h : j.val - 1344 - 64 < 32 then X1 (ix3 l k ⟨12288 + (j.val - 1344 - 64), by omega⟩) else 0

/-- The prepared weights at one element. -/
theorem weight (c : Dev nD) (l : Fin 4) (k : Fin 4096) (j : Fin 1536) :
    (V m c main_v5 : FVec Ideal S4x4096x1536 .bf16) (ix3 l k j) = prep (m ((c : Thread nD τ).loc main_arg1)) l k j := by
  have e : (V m c main_v5 : FVec Ideal S4x4096x1536 .bf16) = truncf .bf16 (concatenate S4x4096x1536 2 [⟨S4x4096x1344, extractStridedSlice S4x4096x1344 ![0, 0, 12320] (m ((c : Thread nD τ).loc main_arg1)) slices_S4x4096x25952_S4x4096x1344_0_0_12320⟩,
      ⟨S4x4096x64, broadcastInDim S4x4096x64 ![] bcast_S_S4x4096x64 (constant (F := Ideal) S_ .f32 0x00000000#32)⟩,
      ⟨S4x4096x32, extractStridedSlice S4x4096x32 ![0, 0, 12288] (m ((c : Thread nD τ).loc main_arg1)) slices_S4x4096x25952_S4x4096x32_0_0_12288⟩,
      ⟨S4x4096x96, broadcastInDim S4x4096x96 ![] bcast_S_S4x4096x96 (constant (F := Ideal) S_ .f32 0x00000000#32)⟩] concatenates_S4x4096x1344_S4x4096x64_S4x4096x32_S4x4096x96_S4x4096x1536_d2) bitsLt_bf16_f32 := by
    rfl
  rw [e]
  pointwise
  rfl

/-- The reference at one element. -/
theorem ref_apply (X0 : FVec Ideal S8320x4096 .bf16) (X1 : FVec Ideal S4x4096x25952 .f32) (r : Fin 8320) (j : Fin 1536) :
    REF X0 X1 (ix2 r j) = ∑ k, X0 (ix2 r k) * prep X1 1 k j := by
  unfold prep
  pointwise [REF]
  split_ifs
  all_goals first
    | rfl
    | simp
    | exact absurd rfl ‹_›

/-- The element that a grid point stores is the reference's element at that place of the result. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  have ht := lt_of_lt_of_eq t.isLt (show cfg0.N = 12 from N_0)
  have h0 : (y 0).val < 2080 := (y 0).isLt
  have h1 : (y 1).val < 512 := (y 1).isLt
  have he : ((cfg0.win 2).blk t).view.emb y = ix2 (⟨2080 * (t.val / 3) + (y 0).val, by omega⟩ : Fin 8320) (⟨512 * (t.val % 3) + (y 1).val, by omega⟩ : Fin 1536) := by
    funext a
    apply Fin.ext
    match a with
    | ⟨0, _⟩ => blk_simp [idx t]; show t.val / 3 * 2080 + (y 0).val = 2080 * (t.val / 3) + (y 0).val; omega
    | ⟨1, _⟩ => blk_simp [idx t]; show t.val % 3 * 512 + (y 1).val = 512 * (t.val % 3) + (y 1).val; omega
  rw [he, ref_apply]
  pointwise [k0_pay1]
  refine Finset.sum_congr rfl fun k _ => congrArg₂ (· * ·) ?_ ?_
  · blk_ext [iblk, V, idx t]
  · refine Eq.trans ?_ (weight m c 1 k _)
    blk_ext [iblk, idx t]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.SmallIdeal.Value

end
-- ==== Proof.QlValue.lean ====
/- The queries taken into the latent space: the result array after the run. -/
module

public import proofs.«01_k».proof.Proof.Gen.QlIdeal.Frame
public import proofs.«01_k».proof.Proof.Gen.QlRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QlRefIdeal.Value

open Cert.QlRefIdeal Cert.QlRefIdeal.Gen

/-- The reference's result as a function of its argument arrays. -/
abbrev REF (X0 : FVec Ideal S8320x3072 .f32) (X1 : FVec Ideal S4x256x16x128 .f32) :
    FVec Ideal S16x8320x256 .bf16 :=
    truncf .bf16 (Host.dotGeneral dot_S8320x16x128_S256x16x128_S16x8320x256_2_2_0_0_1_1 none (shapeCast _
    (extractStridedSlice S8320x2048 ![0, 0] X0 slices_S8320x3072_S8320x2048_0_0)
    shapeCasts_S8320x2048_S8320x16x128) (shapeCast _ (extractStridedSlice S1x256x16x128 ![1, 0, 0, 0] X1
    slices_S4x256x16x128_S1x256x16x128_1_0_0_0) shapeCasts_S1x256x16x128_S256x16x128)) bitsLt_bf16_f32

end Cert.QlRefIdeal.Value

namespace Cert.QlIdeal.Value

open Cert.QlIdeal Cert.QlIdeal.Gen
open Cert.QlRefIdeal.Value (REF)

variable (m : (ℓ : Loc nD τ sig) → Buf (Elt Ideal) ℓ)

/-- Where each window's block starts at a grid point, for every point of the grid. -/
theorem idx : ∀ t : Fin cfg0.N,
    win0_0.index t = ![t.val, 0] ∧ win0_1.index t = ![1, 0, 0, 0]
      ∧ win0_2.index t = ![0, t.val, 0] :=
  (by decide +kernel : ∀ t : Fin grid0.N, _)

/-- The row of the arrays that a grid point's row is. -/
def row (t : Fin cfg0.N) (p : Fin 1040) : Fin 8320 :=
  ⟨1040 * t.val + p.val, by have := lt_of_lt_of_eq t.isLt (show cfg0.N = 8 from N_0); omega⟩

/-- The staged block of queries at one element. -/
theorem x0_apply (c : Dev nD) (t : Fin cfg0.N) (p : Fin 1040) (k : Fin 2048) :
    (X0_0 m c t : FVec Ideal S1040x2048 .f32) (ix2 p k) = m ((c : Thread nD τ).loc main_arg0) (ix2 (row t p) (⟨k.val, by omega⟩ : Fin 3072)) := by
  unfold X0_0 Pipeline.Window.fill row
  rw [dif_pos (moved0_0 t _)]
  blk_ext [iblk, V, idx t]

/-- The staged block of weights at one element. -/
theorem x1_apply (c : Dev nD) (t : Fin cfg0.N) (h : Fin 16) (k : Fin 128) (d : Fin 256) :
    (iblk m c 1 t : FVec Ideal S1x16x128x256 .bf16) (ix4 0 h k d) = m ((c : Thread nD τ).loc main_arg1) (ix4 1 d h k) := by
  have e : ∀ i, (iblk m c 1 t : FVec Ideal S1x16x128x256 .bf16) i = (V m c main_v1 : FVec Ideal S4x16x128x256 .bf16) (ix4 ⟨1 + (i 0).val, by have : (i 0).val < 1 := (i 0).isLt; omega⟩ (i 1) (i 2) (i 3)) := by
    intro i
    blk_ext [iblk, idx t]
  rw [e]
  entry_read
  pointwise

/-- One head's latent queries at one element, from the staged blocks. -/
def head (B0 : FVec Ideal S1040x2048 .f32) (B1 : FVec Ideal S1x16x128x256 .bf16) (h : Fin 16) (p : Fin 1040) (d : Fin 256) : EReal :=
  ∑ k : Fin 128, B0 (ix2 p (⟨h.val * 128 + k.val, by omega⟩ : Fin 2048)) * B1 (ix4 0 h k d)

/-- What a grid point stores, at one element. -/
theorem out_apply (c : Dev nD) (t : Fin cfg0.N) (y : S16x1040x256.Idx) :
    outsAt0 m c t y = head (X0_0 m c t) (iblk m c 1 t) (y 0) (y 1) (y 2) := by
  have key : ∀ (h : Fin 16) (p : Fin 1040) (d : Fin 256), (y 0).val = h.val → (y 1).val = p.val → (y 2).val = d.val →
      head (X0_0 m c t) (iblk m c 1 t) h p d = head (X0_0 m c t) (iblk m c 1 t) (y 0) (y 1) (y 2) := by
    intro h p d e0 e1 e2
    congr 1
    · exact Fin.ext e0.symm
    · exact Fin.ext e1.symm
    · exact Fin.ext e2.symm
  unfold outsAt0 out0_A_2
  frame_out
  canon_tiles y h
  case piece0 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 15 (y 1) (y 2) (by omega) (by omega) (by omega))
  case piece1 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 14 (y 1) (y 2) (by omega) (by omega) (by omega))
  case piece2 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 13 (y 1) (y 2) (by omega) (by omega) (by omega))
  case piece3 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 12 (y 1) (y 2) (by omega) (by omega) (by omega))
  case piece4 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 11 (y 1) (y 2) (by omega) (by omega) (by omega))
  case piece5 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 10 (y 1) (y 2) (by omega) (by omega) (by omega))
  case piece6 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 9 (y 1) (y 2) (by omega) (by omega) (by omega))
  case piece7 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 8 (y 1) (y 2) (by omega) (by omega) (by omega))
  case piece8 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 7 (y 1) (y 2) (by omega) (by omega) (by omega))
  case piece9 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 6 (y 1) (y 2) (by omega) (by omega) (by omega))
  case piece10 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 5 (y 1) (y 2) (by omega) (by omega) (by omega))
  case piece11 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 4 (y 1) (y 2) (by omega) (by omega) (by omega))
  case piece12 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 3 (y 1) (y 2) (by omega) (by omega) (by omega))
  case piece13 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 2 (y 1) (y 2) (by omega) (by omega) (by omega))
  case piece14 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 1 (y 1) (y 2) (by omega) (by omega) (by omega))
  case piece15 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, head]) (key 0 (y 1) (y 2) (by omega) (by omega) (by omega))

/-- The element that a grid point stores is the reference's element at that place of the result. -/
theorem point (c : Dev nD) (t : Fin cfg0.N) (y : S16x1040x256.Idx) :
    outsAt0 m c t y
      = REF (m ((c : Thread nD τ).loc main_arg0)) (m ((c : Thread nD τ).loc main_arg1)) (((cfg0.win 2).blk t).view.emb y) := by
  have ht := lt_of_lt_of_eq t.isLt (show cfg0.N = 8 from N_0)
  have he : ((cfg0.win 2).blk t).view.emb y = ix3 (⟨(y 0).val, (y 0).isLt⟩ : Fin 16) (row t (y 1)) (⟨(y 2).val, (y 2).isLt⟩ : Fin 256) := by
    funext a
    apply Fin.ext
    match a with
    | ⟨0, _⟩ => blk_simp [idx t]; rfl
    | ⟨1, _⟩ => blk_simp [idx t]; show t.val * 1040 + (y 1).val = 1040 * t.val + (y 1).val; omega
    | ⟨2, _⟩ => blk_simp [idx t]; rfl
  refine (out_apply m c t y).trans ?_
  unfold head
  rw [he]
  pointwise [REF]
  refine Finset.sum_congr rfl fun k _ => congrArg₂ (fun a b : EReal => a * b) ((x0_apply m c t _ _).trans ?_) (x1_apply m c t _ _ _)
  rfl

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.QlIdeal.Value

end
-- ==== Proof.VupValue.lean ====
/- The latents' up-projection to values: the result array after the run. -/
module

public import proofs.«01_k».proof.Proof.Gen.VupIdeal.Frame
public import proofs.«01_k».proof.Proof.Gen.VupRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.VupRefIdeal.Value

open Cert.VupRefIdeal Cert.VupRefIdeal.Gen

/-- The reference's result as a function of its argument arrays. -/
abbrev REF (X0 : FVec Ideal S16x8320x256 .bf16) (X1 : FVec Ideal S4x256x16x128 .f32) :
    FVec Ideal S8320x2048 .bf16 :=
    truncf .bf16 (shapeCast _ (transpose S8320x16x128 [2, 0, 1] (Host.dotGeneral
    dot_S256x16x128_S16x8320x256_S16x128x8320_0_2_2_1_1_0 none (shapeCast _ (extractStridedSlice S1x256x16x128
    ![1, 0, 0, 0] X1 slices_S4x256x16x128_S1x256x16x128_1_0_0_0) shapeCasts_S1x256x16x128_S256x16x128) (extf
    .f32 X0 bitsLt_bf16_f32)) transposes_S16x128x8320_S8320x16x128_2_0_1) shapeCasts_S8320x16x128_S8320x2048)
    bitsLt_bf16_f32

end Cert.VupRefIdeal.Value

namespace Cert.VupIdeal.Value

open Cert.VupIdeal Cert.VupIdeal.Gen
open Cert.VupRefIdeal.Value (REF)

variable (m : (ℓ : Loc nD τ sig) → Buf (Elt Ideal) ℓ)

/-- Where each window's block starts at a grid point, for every point of the grid. -/
theorem idx : ∀ t : Fin cfg0.N,
    win0_0.index t = ![0, t.val, 0] ∧ win0_1.index t = ![1, 0, 0, 0]
      ∧ win0_2.index t = ![t.val, 0] :=
  (by decide +kernel : ∀ t : Fin grid0.N, _)

/-- The row of the arrays that a grid point's row is. -/
def row (t : Fin cfg0.N) (p : Fin 1040) : Fin 8320 :=
  ⟨1040 * t.val + p.val, by have := lt_of_lt_of_eq t.isLt (show cfg0.N = 8 from N_0); omega⟩

/-- The staged block of latents at one element. -/
theorem x0_apply (c : Dev nD) (t : Fin cfg0.N) (h : Fin 16) (p : Fin 1040) (k : Fin 256) :
    (iblk m c 0 t : FVec Ideal S16x1040x256 .bf16) (ix3 h p k) = m ((c : Thread nD τ).loc main_arg0) (ix3 h (row t p) k) := by
  unfold row
  blk_ext [iblk, V, idx t]

/-- The staged block of weights at one element. -/
theorem x1_apply (c : Dev nD) (t : Fin cfg0.N) (h : Fin 16) (k : Fin 256) (d : Fin 128) :
    (iblk m c 1 t : FVec Ideal S1x16x256x128 .bf16) (ix4 0 h k d) = m ((c : Thread nD τ).loc main_arg1) (ix4 1 k h d) := by
  have e : ∀ i, (iblk m c 1 t : FVec Ideal S1x16x256x128 .bf16) i = (V m c main_v1 : FVec Ideal S4x16x256x128 .bf16) (ix4 ⟨1 + (i 0).val, by have : (i 0).val < 1 := (i 0).isLt; omega⟩ (i 1) (i 2) (i 3)) := by
    intro i
    blk_ext [iblk, idx t]
  rw [e]
  entry_read
  pointwise

/-- One head's values at one element, from the staged blocks. -/
def head (B0 : FVec Ideal S16x1040x256 .bf16) (B1 : FVec Ideal S1x16x256x128 .bf16) (h : Fin 16) (p : Fin 1040) (d : Fin 128) : EReal :=
  ∑ k, B0 (ix3 h p k) * B1 (ix4 0 h k d)

/-- What a grid point stores, at one element. -/
theorem out_apply (B0 : FVec Ideal S16x1040x256 .bf16) (B1 : FVec Ideal S1x16x256x128 .bf16) (y : S1040x2048.Idx) :
    out0_2 (F := Ideal) B0 B1 y = head B0 B1 ⟨(y 1).val / 128, by have : (y 1).val < 2048 := (y 1).isLt; omega⟩ (y 0) ⟨(y 1).val % 128, by omega⟩ := by
  have key : ∀ (h : Fin 16) (p : Fin 1040) (d : Fin 128), (y 0).val = p.val → (y 1).val = 128 * h.val + d.val →
      head B0 B1 h p d = head B0 B1 ⟨(y 1).val / 128, by have : (y 1).val < 2048 := (y 1).isLt; omega⟩ (y 0) ⟨(y 1).val % 128, by omega⟩ := by
    intro h p d e0 e1
    congr 1
    · exact Fin.ext (by show h.val = (y 1).val / 128; omega)
    · exact Fin.ext e0.symm
    · exact Fin.ext (by show d.val = (y 1).val % 128; omega)
  unfold out0_2
  canon_tiles y h
  case piece0 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 15 (y 0) (y 1) (by omega) (by omega))
  case piece1 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 14 (y 0) (y 1) (by omega) (by omega))
  case piece2 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 13 (y 0) (y 1) (by omega) (by omega))
  case piece3 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 12 (y 0) (y 1) (by omega) (by omega))
  case piece4 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 11 (y 0) (y 1) (by omega) (by omega))
  case piece5 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 10 (y 0) (y 1) (by omega) (by omega))
  case piece6 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 9 (y 0) (y 1) (by omega) (by omega))
  case piece7 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 8 (y 0) (y 1) (by omega) (by omega))
  case piece8 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 7 (y 0) (y 1) (by omega) (by omega))
  case piece9 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 6 (y 0) (y 1) (by omega) (by omega))
  case piece10 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 5 (y 0) (y 1) (by omega) (by omega))
  case piece11 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 4 (y 0) (y 1) (by omega) (by omega))
  case piece12 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 3 (y 0) (y 1) (by omega) (by omega))
  case piece13 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 2 (y 0) (y 1) (by omega) (by omega))
  case piece14 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 1 (y 0) (y 1) (by omega) (by omega))
  case piece15 => exact Eq.trans (by pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, head]) (key 0 (y 0) (y 1) (by omega) (by omega))

/-- The element that a grid point stores is the reference's element at that place of the result. -/
theorem point (c : Dev nD) (t : Fin cfg0.N) (y) :
    out0_2 (F := Ideal) (iblk m c 0 t) (iblk m c 1 t) y
      = REF (m ((c : Thread nD τ).loc main_arg0)) (m ((c : Thread nD τ).loc main_arg1)) (((cfg0.win 2).blk t).view.emb y) := by
  have ht := lt_of_lt_of_eq t.isLt (show cfg0.N = 8 from N_0)
  have he : ((cfg0.win 2).blk t).view.emb y = ix2 (row t (y 0)) (⟨(y 1).val, (y 1).isLt⟩ : Fin 2048) := by
    funext a
    apply Fin.ext
    match a with
    | ⟨0, _⟩ => blk_simp [idx t]; show t.val * 1040 + (y 0).val = 1040 * t.val + (y 0).val; omega
    | ⟨1, _⟩ => blk_simp [idx t]; rfl
  refine (out_apply _ _ y).trans ?_
  unfold head
  rw [he]
  pointwise [REF]
  exact Finset.sum_congr rfl fun k _ => (congrArg₂ (fun a b : EReal => a * b) (x0_apply m c t _ _ _) (x1_apply m c t _ _ _)).trans (mul_comm _ _)

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.VupIdeal.Value

end
-- ==== Proof.MlaValue.lean ====
/- The norms and the rotary keys before attention: the result arrays after the run. -/
module

public import proofs.«01_k».proof.Proof.Gen.MlaIdeal.Frame
public import proofs.«01_k».proof.Proof.Gen.MlaRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MlaRefIdeal.Value

open Cert.MlaRefIdeal Cert.MlaRefIdeal.Gen

/-- The cosines of the prompt tokens' angles. -/
def cosP  : FVec Ideal S2048x32 .f32 :=
    (Host.cos (mulf (broadcastInDim S2048x32 ![0, 1] bcast_S2048x1_S2048x32_0_1 (broadcastInDim S2048x1 ![0]
    bcast_S2048_S2048x1_0 (sitofp .f32 (iotaInDim S2048 32 0)))) (broadcastInDim S2048x32 ![0, 1]
    bcast_S1x32_S2048x32_0_1 (broadcastInDim S1x32 ![1] bcast_S32_S1x32_1 (Host.powf (broadcastInDim S32 ![]
    bcast_S_S32 (constant (F := Ideal) S_ .f32 0x461C4000#32)) (Host.divf (Host.negf (sitofp .f32 (iotaInDim
    S32 32 0))) (broadcastInDim S32 ![] bcast_S_S32 (constant (F := Ideal) S_ .f32 0x42000000#32))))))))

/-- The sines of the prompt tokens' angles. -/
def sinP  : FVec Ideal S2048x32 .f32 :=
    (Host.sin (mulf (broadcastInDim S2048x32 ![0, 1] bcast_S2048x1_S2048x32_0_1 (broadcastInDim S2048x1 ![0]
    bcast_S2048_S2048x1_0 (sitofp .f32 (iotaInDim S2048 32 0)))) (broadcastInDim S2048x32 ![0, 1]
    bcast_S1x32_S2048x32_0_1 (broadcastInDim S1x32 ![1] bcast_S32_S1x32_1 (Host.powf (broadcastInDim S32 ![]
    bcast_S_S32 (constant (F := Ideal) S_ .f32 0x461C4000#32)) (Host.divf (Host.negf (sitofp .f32 (iotaInDim
    S32 32 0))) (broadcastInDim S32 ![] bcast_S_S32 (constant (F := Ideal) S_ .f32 0x42000000#32))))))))

/-- The cosines of the sample tokens' angles. -/
def cosS  : FVec Ideal S1x32 .f32 :=
    (Host.cos (mulf (broadcastInDim S1x32 ![0, 1] bcast_S1x1_S1x32_0_1 (broadcastInDim S1x1 ![0]
    bcast_S1_S1x1_0 (sitofp .f32 (addi (broadcastInDim S1 ![] bcast_S_S1 (constantI S_ 32 8192#32)) (iotaInDim
    S1 32 0))))) (broadcastInDim S1x32 ![1] bcast_S32_S1x32_1 (Host.powf (broadcastInDim S32 ![] bcast_S_S32
    (constant (F := Ideal) S_ .f32 0x461C4000#32)) (Host.divf (Host.negf (sitofp .f32 (iotaInDim S32 32 0)))
    (broadcastInDim S32 ![] bcast_S_S32 (constant (F := Ideal) S_ .f32 0x42000000#32)))))))

/-- The sines of the sample tokens' angles. -/
def sinS  : FVec Ideal S1x32 .f32 :=
    (Host.sin (mulf (broadcastInDim S1x32 ![0, 1] bcast_S1x1_S1x32_0_1 (broadcastInDim S1x1 ![0]
    bcast_S1_S1x1_0 (sitofp .f32 (addi (broadcastInDim S1 ![] bcast_S_S1 (constantI S_ 32 8192#32)) (iotaInDim
    S1 32 0))))) (broadcastInDim S1x32 ![1] bcast_S32_S1x32_1 (Host.powf (broadcastInDim S32 ![] bcast_S_S32
    (constant (F := Ideal) S_ .f32 0x461C4000#32)) (Host.divf (Host.negf (sitofp .f32 (iotaInDim S32 32 0)))
    (broadcastInDim S32 ![] bcast_S_S32 (constant (F := Ideal) S_ .f32 0x42000000#32)))))))

/-- The prompt tokens' rotated keys. -/
def ropeP (X0 : FVec Ideal S8320x1536 .f32) (C S : FVec Ideal S2048x32 .f32) : FVec Ideal S8192x64 .f32 :=
    (shapeCast _ (concatenate S4x2048x64 2 [⟨S4x2048x32, (subf (mulf (extractStridedSlice S4x2048x32 ![0, 0,
    0] (shapeCast _ (extractStridedSlice S8192x64 ![0, 0] (extractStridedSlice S8320x64 ![0, 1280] X0
    slices_S8320x1536_S8320x64_0_1280) slices_S8320x64_S8192x64_0_0) shapeCasts_S8192x64_S4x2048x64)
    slices_S4x2048x64_S4x2048x32_0_0_0) (broadcastInDim S4x2048x32 ![0, 1, 2]
    bcast_S1x2048x32_S4x2048x32_0_1_2 (shapeCast _ C shapeCasts_S2048x32_S1x2048x32))) (mulf
    (extractStridedSlice S4x2048x32 ![0, 0, 32] (shapeCast _ (extractStridedSlice S8192x64 ![0, 0]
    (extractStridedSlice S8320x64 ![0, 1280] X0 slices_S8320x1536_S8320x64_0_1280)
    slices_S8320x64_S8192x64_0_0) shapeCasts_S8192x64_S4x2048x64) slices_S4x2048x64_S4x2048x32_0_0_32)
    (broadcastInDim S4x2048x32 ![0, 1, 2] bcast_S1x2048x32_S4x2048x32_0_1_2 (shapeCast _ S
    shapeCasts_S2048x32_S1x2048x32))))⟩, ⟨S4x2048x32, (addf (mulf (extractStridedSlice S4x2048x32 ![0, 0, 0]
    (shapeCast _ (extractStridedSlice S8192x64 ![0, 0] (extractStridedSlice S8320x64 ![0, 1280] X0
    slices_S8320x1536_S8320x64_0_1280) slices_S8320x64_S8192x64_0_0) shapeCasts_S8192x64_S4x2048x64)
    slices_S4x2048x64_S4x2048x32_0_0_0) (broadcastInDim S4x2048x32 ![0, 1, 2]
    bcast_S1x2048x32_S4x2048x32_0_1_2 (shapeCast _ S shapeCasts_S2048x32_S1x2048x32))) (mulf
    (extractStridedSlice S4x2048x32 ![0, 0, 32] (shapeCast _ (extractStridedSlice S8192x64 ![0, 0]
    (extractStridedSlice S8320x64 ![0, 1280] X0 slices_S8320x1536_S8320x64_0_1280)
    slices_S8320x64_S8192x64_0_0) shapeCasts_S8192x64_S4x2048x64) slices_S4x2048x64_S4x2048x32_0_0_32)
    (broadcastInDim S4x2048x32 ![0, 1, 2] bcast_S1x2048x32_S4x2048x32_0_1_2 (shapeCast _ C
    shapeCasts_S2048x32_S1x2048x32))))⟩] concatenates_S4x2048x32_S4x2048x32_S4x2048x64_d2)
    shapeCasts_S4x2048x64_S8192x64)

/-- The sample tokens' rotated keys. -/
def ropeS (X0 : FVec Ideal S8320x1536 .f32) (C S : FVec Ideal S1x32 .f32) : FVec Ideal S128x64 .f32 :=
    (shapeCast _ (concatenate S128x1x64 2 [⟨S128x1x32, (subf (mulf (extractStridedSlice S128x1x32 ![0, 0, 0]
    (shapeCast _ (extractStridedSlice S128x64 ![8192, 0] (extractStridedSlice S8320x64 ![0, 1280] X0
    slices_S8320x1536_S8320x64_0_1280) slices_S8320x64_S128x64_8192_0) shapeCasts_S128x64_S128x1x64)
    slices_S128x1x64_S128x1x32_0_0_0) (broadcastInDim S128x1x32 ![0, 1, 2] bcast_S1x1x32_S128x1x32_0_1_2
    (shapeCast _ C shapeCasts_S1x32_S1x1x32))) (mulf (extractStridedSlice S128x1x32 ![0, 0, 32] (shapeCast _
    (extractStridedSlice S128x64 ![8192, 0] (extractStridedSlice S8320x64 ![0, 1280] X0
    slices_S8320x1536_S8320x64_0_1280) slices_S8320x64_S128x64_8192_0) shapeCasts_S128x64_S128x1x64)
    slices_S128x1x64_S128x1x32_0_0_32) (broadcastInDim S128x1x32 ![0, 1, 2] bcast_S1x1x32_S128x1x32_0_1_2
    (shapeCast _ S shapeCasts_S1x32_S1x1x32))))⟩, ⟨S128x1x32, (addf (mulf (extractStridedSlice S128x1x32 ![0,
    0, 0] (shapeCast _ (extractStridedSlice S128x64 ![8192, 0] (extractStridedSlice S8320x64 ![0, 1280] X0
    slices_S8320x1536_S8320x64_0_1280) slices_S8320x64_S128x64_8192_0) shapeCasts_S128x64_S128x1x64)
    slices_S128x1x64_S128x1x32_0_0_0) (broadcastInDim S128x1x32 ![0, 1, 2] bcast_S1x1x32_S128x1x32_0_1_2
    (shapeCast _ S shapeCasts_S1x32_S1x1x32))) (mulf (extractStridedSlice S128x1x32 ![0, 0, 32] (shapeCast _
    (extractStridedSlice S128x64 ![8192, 0] (extractStridedSlice S8320x64 ![0, 1280] X0
    slices_S8320x1536_S8320x64_0_1280) slices_S8320x64_S128x64_8192_0) shapeCasts_S128x64_S128x1x64)
    slices_S128x1x64_S128x1x32_0_0_32) (broadcastInDim S128x1x32 ![0, 1, 2] bcast_S1x1x32_S128x1x32_0_1_2
    (shapeCast _ C shapeCasts_S1x32_S1x1x32))))⟩] concatenates_S128x1x32_S128x1x32_S128x1x64_d2)
    shapeCasts_S128x1x64_S128x64)

/-- All tokens' rotated keys. -/
def rope (X0 : FVec Ideal S8320x1536 .f32) : FVec Ideal S8320x64 .f32 :=
    concatenate S8320x64 0 [⟨S8192x64, (ropeP X0 cosP sinP)⟩, ⟨S128x64, (ropeS X0 cosS sinS)⟩]
    concatenates_S8192x64_S128x64_S8320x64_d0

/-- The angle of a position at a frequency. -/
def theta (w : BitVec 32) (f : ℕ) : EReal :=
  FloatOps.sitofp (F := Ideal) FTy.f32 w * Ideal.pow (Ideal.ofBits FTy.f32 1176256512#32)
    (Ideal.div (-FloatOps.sitofp (F := Ideal) FTy.f32 (BitVec.ofNat 32 f)) (Ideal.ofBits FTy.f32 1107296256#32))

/-- The position of a token: counted within its sequence for the prompts, the first new one for the samples. -/
def pos (r : ℕ) : BitVec 32 := if r < 8192 then BitVec.ofNat 32 (r % 2048) else 8192#32

/-- A rotated key at one element. -/
def spec (X0 : FVec Ideal S8320x1536 .f32) (r : Fin 8320) (j : Fin 64) : EReal :=
  if h : j.val < 32 then X0 (ix2 r ⟨1280 + j.val, by omega⟩) * Ideal.cos (theta (pos r.val) j.val)
      - X0 (ix2 r ⟨1280 + (32 + j.val), by omega⟩) * Ideal.sin (theta (pos r.val) j.val)
  else X0 (ix2 r ⟨1280 + (j.val - 32), by omega⟩) * Ideal.sin (theta (pos r.val) (j.val - 32))
      + X0 (ix2 r ⟨1280 + (32 + (j.val - 32)), by omega⟩) * Ideal.cos (theta (pos r.val) (j.val - 32))

theorem cosP_apply (r : Fin 2048) (j : Fin 32) : cosP (ix2 r j) = Ideal.cos (theta (BitVec.ofNat 32 r.val) j.val) := by
  unfold theta
  pointwise [cosP]
theorem sinP_apply (r : Fin 2048) (j : Fin 32) : sinP (ix2 r j) = Ideal.sin (theta (BitVec.ofNat 32 r.val) j.val) := by
  unfold theta
  pointwise [sinP]
theorem cosS_apply (r : Fin 1) (j : Fin 32) : cosS (ix2 r j) = Ideal.cos (theta 8192#32 j.val) := by
  unfold theta
  pointwise [cosS]
  rfl
theorem sinS_apply (r : Fin 1) (j : Fin 32) : sinS (ix2 r j) = Ideal.sin (theta 8192#32 j.val) := by
  unfold theta
  pointwise [sinS]
  rfl

theorem pos_lt {r : ℕ} (h : r < 8192) : pos r = BitVec.ofNat 32 (r % 2048) := if_pos h
theorem pos_ge {r : ℕ} (h : ¬ r < 8192) : pos r = 8192#32 := if_neg h

theorem ropeP_apply (X0 : FVec Ideal S8320x1536 .f32) (r : Fin 8192) (j : Fin 64) :
    ropeP X0 cosP sinP (ix2 r j) = spec X0 ⟨r.val, by omega⟩ j := by
  unfold spec
  rw [pos_lt r.isLt]
  pointwise [ropeP]
  simp only [cosP_apply, sinP_apply]

theorem ropeS_apply (X0 : FVec Ideal S8320x1536 .f32) (r : Fin 128) (j : Fin 64) :
    ropeS X0 cosS sinS (ix2 r j) = spec X0 ⟨8192 + r.val, by omega⟩ j := by
  unfold spec
  rw [pos_ge (by show ¬ 8192 + r.val < 8192; omega)]
  pointwise [ropeS]
  simp only [cosS_apply, sinS_apply]

/-- The rotated keys at one element. -/
theorem rope_apply (X0 : FVec Ideal S8320x1536 .f32) (r : Fin 8320) (j : Fin 64) : rope X0 (ix2 r j) = spec X0 r j := by
  pointwise [rope]
  by_cases hr : r.val < 8192
  · rw [dif_pos hr]
    exact ropeP_apply X0 ⟨r.val, hr⟩ j
  · rw [dif_neg hr]
    refine (ropeS_apply X0 ⟨r.val - 8192, by omega⟩ j).trans (congrArg (fun z => spec X0 z j) ?_)
    exact Fin.ext (by show 8192 + (r.val - 8192) = r.val; omega)
/-- The reference's result 0 as a function of its argument arrays. -/
abbrev REF0 (X0 : FVec Ideal S8320x1536 .f32) (X1 : FVec Ideal S4x1024 .f32) (X2 : FVec Ideal S4x256 .f32) :
    FVec Ideal S8320x1024 .bf16 :=
    truncf .bf16 (mulf (mulf (extractStridedSlice S8320x1024 ![0, 0] X0 slices_S8320x1536_S8320x1024_0_0)
    (broadcastInDim S8320x1024 ![0, 1] bcast_S8320x1_S8320x1024_0_1 (Host.rsqrt (addf (Host.divf
    (broadcastInDim S8320x1 ![0] bcast_S8320_S8320x1_0 (Host.reduceAdd (mulf (extractStridedSlice S8320x1024
    ![0, 0] X0 slices_S8320x1536_S8320x1024_0_0) (extractStridedSlice S8320x1024 ![0, 0] X0
    slices_S8320x1536_S8320x1024_0_0)) (constant S_ .f32 0x00000000#32) reducesTo_S8320x1024_S8320_d1 h_S_))
    (broadcastInDim S8320x1 ![] bcast_S_S8320x1 (constant S_ .f32 0x44800000#32))) (broadcastInDim S8320x1 ![]
    bcast_S_S8320x1 (constant S_ .f32 0x358637BD#32)))))) (broadcastInDim S8320x1024 ![0, 1]
    bcast_S1x1024_S8320x1024_0_1 (broadcastInDim S1x1024 ![1] bcast_S1024_S1x1024_1 (shapeCast _
    (extractStridedSlice S1x1024 ![1, 0] X1 slices_S4x1024_S1x1024_1_0) shapeCasts_S1x1024_S1024))))
    bitsLt_bf16_f32

/-- The reference's result 1 as a function of its argument arrays. -/
abbrev REF1 (X0 : FVec Ideal S8320x1536 .f32) (X1 : FVec Ideal S4x1024 .f32) (X2 : FVec Ideal S4x256 .f32) :
    FVec Ideal S8320x256 .f32 :=
    mulf (mulf (extractStridedSlice S8320x256 ![0, 1024] X0 slices_S8320x1536_S8320x256_0_1024)
    (broadcastInDim S8320x256 ![0, 1] bcast_S8320x1_S8320x256_0_1 (Host.rsqrt (addf (Host.divf (broadcastInDim
    S8320x1 ![0] bcast_S8320_S8320x1_0 (Host.reduceAdd (mulf (extractStridedSlice S8320x256 ![0, 1024] X0
    slices_S8320x1536_S8320x256_0_1024) (extractStridedSlice S8320x256 ![0, 1024] X0
    slices_S8320x1536_S8320x256_0_1024)) (constant S_ .f32 0x00000000#32) reducesTo_S8320x256_S8320_d1 h_S_))
    (broadcastInDim S8320x1 ![] bcast_S_S8320x1 (constant S_ .f32 0x43800000#32))) (broadcastInDim S8320x1 ![]
    bcast_S_S8320x1 (constant S_ .f32 0x358637BD#32)))))) (broadcastInDim S8320x256 ![0, 1]
    bcast_S1x256_S8320x256_0_1 (broadcastInDim S1x256 ![1] bcast_S256_S1x256_1 (shapeCast _
    (extractStridedSlice S1x256 ![1, 0] X2 slices_S4x256_S1x256_1_0) shapeCasts_S1x256_S256)))

/-- The reference's result 2 as a function of its argument arrays. -/
abbrev REF2 (X0 : FVec Ideal S8320x1536 .f32) (X1 : FVec Ideal S4x1024 .f32) (X2 : FVec Ideal S4x256 .f32) :
    FVec Ideal S8320x256 .bf16 :=
    truncf .bf16 (mulf (mulf (extractStridedSlice S8320x256 ![0, 1024] X0 slices_S8320x1536_S8320x256_0_1024)
    (broadcastInDim S8320x256 ![0, 1] bcast_S8320x1_S8320x256_0_1 (Host.rsqrt (addf (Host.divf (broadcastInDim
    S8320x1 ![0] bcast_S8320_S8320x1_0 (Host.reduceAdd (mulf (extractStridedSlice S8320x256 ![0, 1024] X0
    slices_S8320x1536_S8320x256_0_1024) (extractStridedSlice S8320x256 ![0, 1024] X0
    slices_S8320x1536_S8320x256_0_1024)) (constant S_ .f32 0x00000000#32) reducesTo_S8320x256_S8320_d1 h_S_))
    (broadcastInDim S8320x1 ![] bcast_S_S8320x1 (constant S_ .f32 0x43800000#32))) (broadcastInDim S8320x1 ![]
    bcast_S_S8320x1 (constant S_ .f32 0x358637BD#32)))))) (broadcastInDim S8320x256 ![0, 1]
    bcast_S1x256_S8320x256_0_1 (broadcastInDim S1x256 ![1] bcast_S256_S1x256_1 (shapeCast _
    (extractStridedSlice S1x256 ![1, 0] X2 slices_S4x256_S1x256_1_0) shapeCasts_S1x256_S256))))
    bitsLt_bf16_f32

/-- The reference's result 3 as a function of its argument arrays. -/
abbrev REF3 (X0 : FVec Ideal S8320x1536 .f32) (X1 : FVec Ideal S4x1024 .f32) (X2 : FVec Ideal S4x256 .f32) :
    FVec Ideal S8320x64 .f32 :=
    rope X0

/-- The reference's result 4 as a function of its argument arrays. -/
abbrev REF4 (X0 : FVec Ideal S8320x1536 .f32) (X1 : FVec Ideal S4x1024 .f32) (X2 : FVec Ideal S4x256 .f32) :
    FVec Ideal S8320x64 .bf16 :=
    truncf .bf16 (rope X0) bitsLt_bf16_f32

end Cert.MlaRefIdeal.Value

namespace Cert.MlaIdeal.Value

open Cert.MlaIdeal Cert.MlaIdeal.Gen
open Cert.MlaRefIdeal.Value (REF0 REF1 REF2 REF3 REF4)

variable (m : (ℓ : Loc nD τ sig) → Buf (Elt Ideal) ℓ)

open Cert.MlaRefIdeal.Value (theta pos spec rope rope_apply)

/-- Where each window's block starts at a grid point, for every point of the grid. -/
theorem idx : ∀ t : Fin cfg0.N,
    win0_0.index t = ![t.val, 0] ∧ win0_1.index t = ![0, 0] ∧ win0_2.index t = ![0, 0]
      ∧ win0_3.index t = ![if t.val < 64 then t.val % 16 else 16, 0] ∧ win0_4.index t = ![if t.val < 64 then t.val % 16 else 16, 0]
      ∧ win0_5.index t = ![t.val, 0] ∧ win0_6.index t = ![t.val, 0] ∧ win0_7.index t = ![t.val, 0]
      ∧ win0_8.index t = ![t.val, 0] ∧ win0_9.index t = ![t.val, 0] :=
  (by decide +kernel : ∀ t : Fin grid0.N, _)

/-- The element that a grid point stores is the reference's element at that place of the result. -/
theorem point0 (c : Dev nD) (t : Fin cfg0.N) (y) :
    k0_pay3 (F := Ideal) (View.ld (iblk m c 0 t) r0_0) (iblk m c 1 t) y
      = REF0 (m ((c : Thread nD τ).loc main_arg0)) (m ((c : Thread nD τ).loc main_arg1)) (m ((c : Thread nD τ).loc main_arg2)) (((cfg0.win 5).blk t).view.emb y) := by
  pointwise [k0_pay3, REF0]
  blk_point [iblk, V, idx t]

/-- The whole result array after the run. -/
theorem final0 (c : Dev nD) : (dats m 0 c).arrAt 5 (cfgs 0).N
    = REF0 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point0 m c t y

/-- The element that a grid point stores is the reference's element at that place of the result. -/
theorem point1 (c : Dev nD) (t : Fin cfg0.N) (y) :
    k0_pay4 (F := Ideal) (View.ld (iblk m c 0 t) r0_3) (iblk m c 2 t) y
      = REF1 (m ((c : Thread nD τ).loc main_arg0)) (m ((c : Thread nD τ).loc main_arg1)) (m ((c : Thread nD τ).loc main_arg2)) (((cfg0.win 6).blk t).view.emb y) := by
  pointwise [k0_pay4, REF1]
  blk_point [iblk, V, idx t]

/-- The whole result array after the run. -/
theorem final1 (c : Dev nD) : (dats m 0 c).arrAt 6 (cfgs 0).N
    = REF1 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact point1 m c t y

/-- The element that a grid point stores is the reference's element at that place of the result. -/
theorem point2 (c : Dev nD) (t : Fin cfg0.N) (y) :
    k0_pay5 (F := Ideal) (View.ld (iblk m c 0 t) r0_3) (iblk m c 2 t) y
      = REF2 (m ((c : Thread nD τ).loc main_arg0)) (m ((c : Thread nD τ).loc main_arg1)) (m ((c : Thread nD τ).loc main_arg2)) (((cfg0.win 7).blk t).view.emb y) := by
  pointwise [k0_pay5, k0_pay4, REF2]
  blk_point [iblk, V, idx t]

/-- The whole result array after the run. -/
theorem final2 (c : Dev nD) : (dats m 0 c).arrAt 7 (cfgs 0).N
    = REF2 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  exact point2 m c t y

/-- The rotary frequencies. -/
def freq : FVec Ideal S32 .f32 := Host.powf (broadcastInDim S32 ![] bcast_S_S32 (constant (F := Ideal) S_ .f32 0x461C4000#32)) (Host.divf (Host.negf (sitofp .f32 (iotaInDim S32 32 0))) (broadcastInDim S32 ![] bcast_S_S32 (constant (F := Ideal) S_ .f32 0x42000000#32)))

/-- The table of angles: 2048 positions, then the sample tokens' position repeated. -/
def ang : FVec Ideal S2176x32 .f32 := mulf (broadcastInDim S2176x32 ![0, 1] bcast_S2176x1_S2176x32_0_1 (broadcastInDim S2176x1 ![0] bcast_S2176_S2176x1_0 (sitofp .f32
    (concatenate S2176 0 [⟨S2048, iotaInDim S2048 32 0⟩, ⟨S128, broadcastInDim S128 ![] bcast_S_S128 (constantI S_ 32 8192#32)⟩] concatenates_S2048_S128_S2176_d0))))
  (broadcastInDim S2176x32 ![0, 1] bcast_S1x32_S2176x32_0_1 (broadcastInDim S1x32 ![1] bcast_S32_S1x32_1 freq))

/-- Two half rows side by side, padded with zeros. -/
def twice (A B : FVec Ideal S2176x32 .f32) : FVec Ideal S2176x128 .f32 :=
  concatenate S2176x128 1 [⟨S2176x64, shapeCast _ (broadcastInDim S1x2176x1x64 ![0, 1, 2, 3] bcast_S1x2176x1x64_S1x2176x1x64_0_1_2_3
    (shapeCast _ (concatenate S2176x64 1 [⟨S2176x32, A⟩, ⟨S2176x32, B⟩] concatenates_S2176x32_S2176x32_S2176x64_d1) shapeCasts_S2176x64_S1x2176x1x64)) shapeCasts_S1x2176x1x64_S2176x64⟩,
    ⟨S2176x64, broadcastInDim S2176x64 ![] bcast_S_S2176x64 (constant (F := Ideal) S_ .f32 0x00000000#32)⟩] concatenates_S2176x64_S2176x64_S2176x128_d1

theorem tabC (c : Dev nD) : (V m c main_v28 : FVec Ideal S2176x128 .f32) = twice (Host.cos ang) (Host.cos ang) := by
  unfold V
  after_results
  rfl
theorem tabS (c : Dev nD) : (V m c main_v29 : FVec Ideal S2176x128 .f32) = twice (Host.negf (Host.sin ang)) (Host.sin ang) := by
  unfold V
  after_results
  rfl

theorem twice_apply (A B : FVec Ideal S2176x32 .f32) (i : Fin 2176) (j : Fin 128) (hj : j.val < 64) :
    twice A B (ix2 i j) = if h : j.val < 32 then A (ix2 i ⟨j.val, h⟩) else B (ix2 i ⟨j.val - 32, by omega⟩) := by
  pointwise [twice]
  rw [dif_pos hj]

/-- The position in a row of the table. -/
def tpos (i : ℕ) : BitVec 32 := if i < 2048 then BitVec.ofNat 32 i else 8192#32

theorem ang_apply (i : Fin 2176) (j : Fin 32) : ang (ix2 i j) = theta (tpos i.val) j.val := by
  unfold theta tpos
  pointwise [ang, freq]
  split <;> rfl

/-- Whether a lane lies in the first half of its 64. -/
theorem lane : ∀ j : Fin 64,
          (IntOp.cmpi CmpIPredicate.slt
            (Scalar.select
              (IntOp.andi
                (IntOp.xori
                  (IntOp.cmpi CmpIPredicate.slt
                    (IntOp.remsi ArithUnit.vector (BitVec.ofNat 32 j.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 j.val)
                    (Scalar.select (Scalar.cmpi CmpIPredicate.eq 64#32 0#32) 1#32 64#32))
                  0#32))
              (IntOp.addi
                (IntOp.remsi ArithUnit.vector (BitVec.ofNat 32 j.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 j.val)
                (Scalar.select (Scalar.cmpi CmpIPredicate.eq 64#32 0#32) 1#32 64#32)))
            32#32) = BitVec.ofBool (decide (j.val < 32)) := by decide

/-- The kernel's rotation at one element. -/
theorem pay1_apply (A B C : FVec Ideal S128x128 .f32) (p : Fin 128) (j : Fin 64) :
    k0_pay1 (F := Ideal) A B C (ix2 p j) = A (ix2 p ⟨j.val, by omega⟩) * B (ix2 p ⟨j.val, by omega⟩)
      + (if j.val < 32 then A (ix2 p ⟨(j.val + 128 - 96) % 128, by omega⟩) else A (ix2 p ⟨(j.val + 128 - 32) % 128, by omega⟩)) * C (ix2 p ⟨j.val, by omega⟩) := by
  pointwise [k0_pay1]
  rw [lane, Idealize.ShloMosaic.WordCmp.select_ofBool]
  simp

/-- The row of the result that row p of a grid point's block is. -/
def row (t : Fin cfg0.N) (p : Fin 128) : Fin 8320 :=
  ⟨128 * t.val + p.val, by have := lt_of_lt_of_eq t.isLt (show cfg0.N = 65 from N_0); omega⟩

/-- The row of the table that row p of a grid point's block is. -/
def trow (t : Fin cfg0.N) (p : Fin 128) : Fin 2176 :=
  ⟨(if t.val < 64 then t.val % 16 else 16) * 128 + p.val, by split <;> omega⟩

theorem trow_pos (t : Fin cfg0.N) (p : Fin 128) : tpos (trow t p).val = pos (row t p).val := by
  have ht := lt_of_lt_of_eq t.isLt (show cfg0.N = 65 from N_0)
  unfold trow row
  show tpos ((if t.val < 64 then t.val % 16 else 16) * 128 + p.val) = pos (128 * t.val + p.val)
  by_cases h : t.val < 64
  · rw [if_pos h, Cert.MlaRefIdeal.Value.pos_lt (by omega)]
    refine (if_pos (by omega)).trans (congrArg (BitVec.ofNat 32) ?_)
    omega
  · rw [if_neg h, Cert.MlaRefIdeal.Value.pos_ge (by omega)]
    exact if_neg (by omega)

/-- The staged keys at one element. -/
theorem x0_apply (c : Dev nD) (t : Fin cfg0.N) (p : Fin 128) (q : Fin 128) :
    (View.ld (iblk m c 0 t) r0_6 : FVec Ideal S128x128 .f32) (ix2 p q) = m ((c : Thread nD τ).loc main_arg0) (ix2 (row t p) (⟨1280 + q.val, by omega⟩ : Fin 1536)) := by
  unfold row
  pointwise
  blk_point [iblk, V, idx t]

/-- The staged cosines at one element. -/
theorem x3_apply (c : Dev nD) (t : Fin cfg0.N) (p : Fin 128) (q : Fin 128) (hq : q.val < 64) :
    (iblk m c 3 t : FVec Ideal S128x128 .f32) (ix2 p q)
      = Ideal.cos (theta (pos (row t p).val) (if q.val < 32 then q.val else q.val - 32)) := by
  have e : (iblk m c 3 t : FVec Ideal S128x128 .f32) (ix2 p q) = (V m c main_v28 : FVec Ideal S2176x128 .f32) (ix2 (trow t p) q) := by
    unfold trow
    pointwise
    blk_point [iblk, idx t]
  rw [e, tabC, twice_apply _ _ _ _ hq]
  by_cases h : q.val < 32
  · rw [dif_pos h, if_pos h]
    refine Eq.trans (show _ = Ideal.cos (ang (ix2 (trow t p) ⟨q.val, h⟩)) by pointwise) ?_
    rw [ang_apply, trow_pos]
  · rw [dif_neg h, if_neg h]
    refine Eq.trans (show _ = Ideal.cos (ang (ix2 (trow t p) ⟨q.val - 32, by omega⟩)) by pointwise) ?_
    rw [ang_apply, trow_pos]

/-- The staged signed sines at one element. -/
theorem x4_apply (c : Dev nD) (t : Fin cfg0.N) (p : Fin 128) (q : Fin 128) (hq : q.val < 64) :
    (iblk m c 4 t : FVec Ideal S128x128 .f32) (ix2 p q)
      = if q.val < 32 then -Ideal.sin (theta (pos (row t p).val) q.val) else Ideal.sin (theta (pos (row t p).val) (q.val - 32)) := by
  have e : (iblk m c 4 t : FVec Ideal S128x128 .f32) (ix2 p q) = (V m c main_v29 : FVec Ideal S2176x128 .f32) (ix2 (trow t p) q) := by
    unfold trow
    pointwise
    blk_point [iblk, idx t]
  rw [e, tabS, twice_apply _ _ _ _ hq]
  by_cases h : q.val < 32
  · rw [dif_pos h, if_pos h]
    refine Eq.trans (show _ = -Ideal.sin (ang (ix2 (trow t p) ⟨q.val, h⟩)) by pointwise) ?_
    rw [ang_apply, trow_pos]
  · rw [dif_neg h, if_neg h]
    refine Eq.trans (show _ = Ideal.sin (ang (ix2 (trow t p) ⟨q.val - 32, by omega⟩)) by pointwise) ?_
    rw [ang_apply, trow_pos]

/-- A grid point's rotated keys are the reference's. -/
theorem turned (c : Dev nD) (t : Fin cfg0.N) (p : Fin 128) (j : Fin 64) :
    k0_pay1 (F := Ideal) (View.ld (iblk m c 0 t) r0_6) (iblk m c 3 t) (iblk m c 4 t) (ix2 p j)
      = spec (m ((c : Thread nD τ).loc main_arg0)) (row t p) j := by
  rw [pay1_apply, x3_apply m c t _ _ (by show j.val < 64; omega), x4_apply m c t _ _ (by show j.val < 64; omega)]
  unfold spec
  by_cases h : j.val < 32
  · rw [dif_pos h, if_pos h, if_pos (show (⟨j.val, by omega⟩ : Fin 128).val < 32 from h), if_pos (show (⟨j.val, by omega⟩ : Fin 128).val < 32 from h), x0_apply, x0_apply, mul_neg, ← sub_eq_add_neg]
    have e : m ((c : Thread nD τ).loc main_arg0) (ix2 (row t p) (⟨1280 + (j.val + 128 - 96) % 128, by omega⟩ : Fin 1536)) = m ((c : Thread nD τ).loc main_arg0) (ix2 (row t p) (⟨1280 + (32 + j.val), by omega⟩ : Fin 1536)) :=
      congrArg (fun z : Fin 1536 => m ((c : Thread nD τ).loc main_arg0) (ix2 (row t p) z)) (Fin.ext (by show 1280 + (j.val + 128 - 96) % 128 = 1280 + (32 + j.val); omega))
    exact congrArg₂ (fun a b : EReal => a - b) rfl (congrArg (fun z : EReal => z * Ideal.sin (theta (pos (row t p).val) j.val)) e)
  · rw [dif_neg h, if_neg h, if_neg (show ¬ (⟨j.val, by omega⟩ : Fin 128).val < 32 from h), if_neg (show ¬ (⟨j.val, by omega⟩ : Fin 128).val < 32 from h), x0_apply, x0_apply, add_comm]
    have e : m ((c : Thread nD τ).loc main_arg0) (ix2 (row t p) (⟨1280 + (j.val + 128 - 32) % 128, by omega⟩ : Fin 1536)) = m ((c : Thread nD τ).loc main_arg0) (ix2 (row t p) (⟨1280 + (j.val - 32), by omega⟩ : Fin 1536)) :=
      congrArg (fun z : Fin 1536 => m ((c : Thread nD τ).loc main_arg0) (ix2 (row t p) z)) (Fin.ext (by show 1280 + (j.val + 128 - 32) % 128 = 1280 + (j.val - 32); omega))
    have e' : m ((c : Thread nD τ).loc main_arg0) (ix2 (row t p) (⟨1280 + j.val, by omega⟩ : Fin 1536)) = m ((c : Thread nD τ).loc main_arg0) (ix2 (row t p) (⟨1280 + (32 + (j.val - 32)), by omega⟩ : Fin 1536)) :=
      congrArg (fun z : Fin 1536 => m ((c : Thread nD τ).loc main_arg0) (ix2 (row t p) z)) (Fin.ext (by show 1280 + j.val = 1280 + (32 + (j.val - 32)); omega))
    exact congrArg₂ (fun a b : EReal => a + b) (congrArg (fun z : EReal => z * Ideal.sin (theta (pos (row t p).val) (j.val - 32))) e) (congrArg (fun z : EReal => z * Ideal.cos (theta (pos (row t p).val) (j.val - 32))) e')

attribute [local irreducible] rope

/-- The element that a grid point stores is the reference's element at that place of the result. -/
theorem point3 (c : Dev nD) (t : Fin cfg0.N) (y : S128x64.Idx) :
    k0_pay1 (F := Ideal) (View.ld (iblk m c 0 t) r0_6) (iblk m c 3 t) (iblk m c 4 t) y
      = REF3 (m ((c : Thread nD τ).loc main_arg0)) (m ((c : Thread nD τ).loc main_arg1)) (m ((c : Thread nD τ).loc main_arg2)) (((cfg0.win 8).blk t).view.emb y) := by
  have he : ((cfg0.win 8).blk t).view.emb y = ix2 (row t (y 0)) (⟨(y 1).val, (y 1).isLt⟩ : Fin 64) := by
    funext a
    apply Fin.ext
    match a with
    | ⟨0, _⟩ => blk_simp [idx t]; show t.val * 128 + (y 0).val = 128 * t.val + (y 0).val; omega
    | ⟨1, _⟩ => blk_simp [idx t]; rfl
  have hy : y = ix2 (⟨(y 0).val, (y 0).isLt⟩ : Fin 128) (⟨(y 1).val, (y 1).isLt⟩ : Fin 64) := by
    funext a
    match a with
    | ⟨0, _⟩ => rfl
    | ⟨1, _⟩ => rfl
  rw [he]
  show _ = rope _ _
  rw [rope_apply]
  exact (congrArg _ hy).trans (turned m c t _ _)

/-- The whole result array after the run. -/
theorem final3 (c : Dev nD) : (dats m 0 c).arrAt 8 (cfgs 0).N
    = REF3 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  exact point3 m c t y

/-- The element that a grid point stores is the reference's element at that place of the result. -/
theorem point4 (c : Dev nD) (t : Fin cfg0.N) (y : S128x64.Idx) :
    k0_pay2 (F := Ideal) (View.ld (iblk m c 0 t) r0_6) (iblk m c 3 t) (iblk m c 4 t) y
      = REF4 (m ((c : Thread nD τ).loc main_arg0)) (m ((c : Thread nD τ).loc main_arg1)) (m ((c : Thread nD τ).loc main_arg2)) (((cfg0.win 9).blk t).view.emb y) := by
  have he : ((cfg0.win 9).blk t).view.emb y = ix2 (row t (y 0)) (⟨(y 1).val, (y 1).isLt⟩ : Fin 64) := by
    funext a
    apply Fin.ext
    match a with
    | ⟨0, _⟩ => blk_simp [idx t]; show t.val * 128 + (y 0).val = 128 * t.val + (y 0).val; omega
    | ⟨1, _⟩ => blk_simp [idx t]; rfl
  have hy : y = ix2 (⟨(y 0).val, (y 0).isLt⟩ : Fin 128) (⟨(y 1).val, (y 1).isLt⟩ : Fin 64) := by
    funext a
    match a with
    | ⟨0, _⟩ => rfl
    | ⟨1, _⟩ => rfl
  rw [he]
  refine Eq.trans (show _ = k0_pay1 (F := Ideal) (View.ld (iblk m c 0 t) r0_6) (iblk m c 3 t) (iblk m c 4 t) y from rfl) ?_
  show _ = rope _ _
  rw [rope_apply]
  exact (congrArg _ hy).trans (turned m c t _ _)

/-- The whole result array after the run. -/
theorem final4 (c : Dev nD) : (dats m 0 c).arrAt 9 (cfgs 0).N
    = REF4 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  exact point4 m c t y

end Cert.MlaIdeal.Value

end
-- ==== Proof.ScpValue.lean ====
/- The value of the prompts' short convolution: what the kernel leaves is the reference's sum of three taps. -/
module

public import proofs.«01_k».proof.Proof.Gen.ScpIdeal.Frame
public import proofs.«01_k».proof.Proof.Gen.ScpRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ScpRefIdeal.Value

open Cert.ScpRefIdeal Cert.ScpRefIdeal.Gen

/-- A prompt's convolution input with two zero rows before it. -/
def win (X0 : FVec Ideal S8320x12288 .f32) : FVec Ideal S4x2050x2048 .f32 :=
    concatenate S4x2050x2048 1 [⟨S4x2x2048, (broadcastInDim S4x2x2048 ![] bcast_S_S4x2x2048 (constant (F :=
    Ideal) S_ .f32 0x00000000#32))⟩, ⟨S4x2048x2048, (mulf (extractStridedSlice S4x2048x2048 ![0, 0, 2048]
    (shapeCast _ (extractStridedSlice S8192x12288 ![0, 0] X0 slices_S8320x12288_S8192x12288_0_0)
    shapeCasts_S8192x12288_S4x2048x12288) slices_S4x2048x12288_S4x2048x2048_0_0_2048) (extractStridedSlice
    S4x2048x2048 ![0, 0, 4096] (shapeCast _ (extractStridedSlice S8192x12288 ![0, 0] X0
    slices_S8320x12288_S8192x12288_0_0) shapeCasts_S8192x12288_S4x2048x12288)
    slices_S4x2048x12288_S4x2048x2048_0_0_4096))⟩] concatenates_S4x2x2048_S4x2048x2048_S4x2050x2048_d1

/-- The reference's result 0 as a function of its argument arrays. -/
abbrev REF0 (X0 : FVec Ideal S8320x12288 .f32) (X1 : FVec Ideal S4x3x2048 .f32) (X2 : FVec Ideal S8320x2048 .bf16) :
    FVec Ideal S8320x2048 .bf16 :=
    concatenate S8320x2048 0 [⟨S8192x2048, (truncf .bf16 (shapeCast _ (mulf (extractStridedSlice S4x2048x2048
    ![0, 0, 0] (shapeCast _ (extractStridedSlice S8192x12288 ![0, 0] X0 slices_S8320x12288_S8192x12288_0_0)
    shapeCasts_S8192x12288_S4x2048x12288) slices_S4x2048x12288_S4x2048x2048_0_0_0) (addf (addf (addf
    (broadcastInDim S4x2048x2048 ![] bcast_S_S4x2048x2048 (constant (F := Ideal) S_ .f32 0x00000000#32)) (mulf
    (extractStridedSlice S4x2048x2048 ![0, 0, 0] (win X0) slices_S4x2050x2048_S4x2048x2048_0_0_0)
    (broadcastInDim S4x2048x2048 ![0, 1, 2] bcast_S1x1x2048_S4x2048x2048_0_1_2 (broadcastInDim S1x1x2048 ![2]
    bcast_S2048_S1x1x2048_2 (shapeCast _ (extractStridedSlice S1x2048 ![0, 0] (shapeCast _
    (extractStridedSlice S1x3x2048 ![1, 0, 0] X1 slices_S4x3x2048_S1x3x2048_1_0_0)
    shapeCasts_S1x3x2048_S3x2048) slices_S3x2048_S1x2048_0_0) shapeCasts_S1x2048_S2048))))) (mulf
    (extractStridedSlice S4x2048x2048 ![0, 1, 0] (win X0) slices_S4x2050x2048_S4x2048x2048_0_1_0)
    (broadcastInDim S4x2048x2048 ![0, 1, 2] bcast_S1x1x2048_S4x2048x2048_0_1_2 (broadcastInDim S1x1x2048 ![2]
    bcast_S2048_S1x1x2048_2 (shapeCast _ (extractStridedSlice S1x2048 ![1, 0] (shapeCast _
    (extractStridedSlice S1x3x2048 ![1, 0, 0] X1 slices_S4x3x2048_S1x3x2048_1_0_0)
    shapeCasts_S1x3x2048_S3x2048) slices_S3x2048_S1x2048_1_0) shapeCasts_S1x2048_S2048))))) (mulf
    (extractStridedSlice S4x2048x2048 ![0, 2, 0] (win X0) slices_S4x2050x2048_S4x2048x2048_0_2_0)
    (broadcastInDim S4x2048x2048 ![0, 1, 2] bcast_S1x1x2048_S4x2048x2048_0_1_2 (broadcastInDim S1x1x2048 ![2]
    bcast_S2048_S1x1x2048_2 (shapeCast _ (extractStridedSlice S1x2048 ![2, 0] (shapeCast _
    (extractStridedSlice S1x3x2048 ![1, 0, 0] X1 slices_S4x3x2048_S1x3x2048_1_0_0)
    shapeCasts_S1x3x2048_S3x2048) slices_S3x2048_S1x2048_2_0) shapeCasts_S1x2048_S2048))))))
    shapeCasts_S4x2048x2048_S8192x2048) bitsLt_bf16_f32)⟩, ⟨S128x2048, (extractStridedSlice S128x2048 ![8192,
    0] X2 slices_S8320x2048_S128x2048_8192_0)⟩] concatenates_S8192x2048_S128x2048_S8320x2048_d0

/-- The reference's result 1 as a function of its argument arrays. -/
abbrev REF1 (X0 : FVec Ideal S8320x12288 .f32) (X1 : FVec Ideal S4x3x2048 .f32) (X2 : FVec Ideal S8320x2048 .bf16) :
    FVec Ideal S4x2x2048 .f32 :=
    extractStridedSlice S4x2x2048 ![0, 2048, 0] (win X0) slices_S4x2050x2048_S4x2x2048_0_2048_0

/-- The convolution's input at a prompt's position `k` places before `s`: nothing before the first one. -/
def tap (X0 : FVec Ideal S8320x12288 .f32) (b : Fin 4) (s : Fin 2048) (k : ℕ) (q : Fin 2048) : EReal :=
  if h : k ≤ s.val then X0 (ix2 (⟨2048 * b.val + (s.val - k), by omega⟩ : Fin 8320) (⟨2048 + q.val, by omega⟩ : Fin 12288))
      * X0 (ix2 (⟨2048 * b.val + (s.val - k), by omega⟩ : Fin 8320) (⟨4096 + q.val, by omega⟩ : Fin 12288))
  else 0

theorem tap_zero (X0 : FVec Ideal S8320x12288 .f32) (b : Fin 4) (s : Fin 2048) (q : Fin 2048) :
    tap X0 b s 0 q = X0 (ix2 (⟨2048 * b.val + s.val, by omega⟩ : Fin 8320) (⟨2048 + q.val, by omega⟩ : Fin 12288))
      * X0 (ix2 (⟨2048 * b.val + s.val, by omega⟩ : Fin 8320) (⟨4096 + q.val, by omega⟩ : Fin 12288)) := dif_pos (Nat.zero_le _)

theorem win_apply (X0 : FVec Ideal S8320x12288 .f32) (b : Fin 4) (s : Fin 2048) (k : Fin 3) (q : Fin 2048) :
    win X0 (ix3 b (⟨(2 - k.val) + s.val, by omega⟩ : Fin 2050) q) = tap X0 b s k.val q := by
  have hk := k.isLt
  have hs := s.isLt
  unfold tap
  pointwise [win]
  by_cases h : k.val ≤ s.val
  · rw [dif_pos h, dif_neg (by omega)]
    have e : ∀ q : Fin 12288, X0 (ix2 (⟨b.val * 2048 + (2 - k.val + s.val - 2), by omega⟩ : Fin 8320) q) = X0 (ix2 (⟨2048 * b.val + (s.val - k.val), by omega⟩ : Fin 8320) q) :=
      fun q => congrArg (fun r => X0 (ix2 r q)) (Fin.ext (by show b.val * 2048 + (2 - k.val + s.val - 2) = 2048 * b.val + (s.val - k.val); omega))
    exact congrArg₂ (fun x y : EReal => x * y) (e _) (e _)
  · rw [dif_neg h, dif_pos (by omega)]

theorem win_0 (X0 : FVec Ideal S8320x12288 .f32) (b : Fin 4) (s : Fin 2048) (q : Fin 2048) :
    win X0 (ix3 b (⟨s.val, by omega⟩ : Fin 2050) q) = tap X0 b s 2 q :=
  (congrArg (fun r => win X0 (ix3 b r q)) (Fin.ext (by show s.val = 2 - 2 + s.val; omega))).trans (win_apply X0 b s 2 q)
theorem win_1 (X0 : FVec Ideal S8320x12288 .f32) (b : Fin 4) (s : Fin 2048) (q : Fin 2048) :
    win X0 (ix3 b (⟨1 + s.val, by omega⟩ : Fin 2050) q) = tap X0 b s 1 q := win_apply X0 b s 1 q
theorem win_2 (X0 : FVec Ideal S8320x12288 .f32) (b : Fin 4) (s : Fin 2048) (q : Fin 2048) :
    win X0 (ix3 b (⟨2 + s.val, by omega⟩ : Fin 2050) q) = tap X0 b s 0 q := win_apply X0 b s 0 q

theorem ref_apply (X0 : FVec Ideal S8320x12288 .f32) (X1 : FVec Ideal S4x3x2048 .f32) (X2 : FVec Ideal S8320x2048 .bf16) (b : Fin 4) (s : Fin 2048) (q : Fin 2048) :
    REF0 X0 X1 X2 (ix2 (⟨2048 * b.val + s.val, by omega⟩ : Fin 8320) q) = X0 (ix2 (⟨2048 * b.val + s.val, by omega⟩ : Fin 8320) (⟨q.val, by omega⟩ : Fin 12288))
      * (tap X0 b s 2 q * X1 (ix3 (1 : Fin 4) (0 : Fin 3) q) + tap X0 b s 1 q * X1 (ix3 (1 : Fin 4) (1 : Fin 3) q)
        + tap X0 b s 0 q * X1 (ix3 (1 : Fin 4) (2 : Fin 3) q)) := by
  have hb := b.isLt
  have hs := s.isLt
  pointwise [REF0]
  rw [dif_pos (by omega), win_0, win_1, win_2]
  exact congrArg₂ (fun x y : EReal => x * y) (congrArg (fun r => X0 (ix2 r _)) (Fin.ext (by show b.val * 2048 + s.val = 2048 * b.val + s.val; omega))) rfl

theorem ref_tail (X0 : FVec Ideal S8320x12288 .f32) (X1 : FVec Ideal S4x3x2048 .f32) (X2 : FVec Ideal S8320x2048 .bf16)
    (r : Fin 128) (q : Fin 2048) : REF0 X0 X1 X2 (ix2 (⟨8192 + r.val, by omega⟩ : Fin 8320) q) = X2 (ix2 (⟨8192 + r.val, by omega⟩ : Fin 8320) q) := by
  pointwise [REF0]

end Cert.ScpRefIdeal.Value

namespace Cert.ScpIdeal.Value

open Cert.ScpIdeal Cert.ScpIdeal.Gen
open Cert.ScpRefIdeal.Value (REF0 REF1)

variable (m : (ℓ : Loc nD τ sig) → Buf (Elt Ideal) ℓ)

open Cert.ScpRefIdeal.Value (win tap)

/-- Where each window's block starts at a grid point, for every point of the grid. -/
theorem idx : ∀ t : Fin cfg0.N,
    (win0_0.index t 0 = t.val / 4 ∧ win0_0.index t 1 = t.val % 4)
    ∧ (win0_1.index t 0 = t.val / 4 ∧ win0_1.index t 1 = 4 + t.val % 4)
    ∧ (win0_2.index t 0 = t.val / 4 ∧ win0_2.index t 1 = 8 + t.val % 4)
    ∧ (win0_3.index t 0 = 0 ∧ win0_3.index t 1 = t.val % 4)
    ∧ (win0_4.index t 0 = t.val / 4 ∧ win0_4.index t 1 = t.val % 4)
    ∧ (win0_5.index t 0 = t.val / 4 ∧ win0_5.index t 1 = 0 ∧ win0_5.index t 2 = t.val % 4) :=
  (by decide +kernel : ∀ t : Fin grid0.N, _)

theorem t_lt (t : Fin cfg0.N) : t.val < 16 := lt_of_lt_of_eq t.isLt (show cfg0.N = 16 from N_0)

/-- The prompt a grid point works on. -/
abbrev seq (t : Fin cfg0.N) : Fin 4 := ⟨t.val / 4, by have := t_lt t; omega⟩
/-- The column of the result that a column of a block is. -/
abbrev col (t : Fin cfg0.N) (q : Fin 512) : Fin 2048 := ⟨512 * (t.val % 4) + q.val, by omega⟩
/-- The row of the residual stream that a prompt's position is. -/
abbrev row (b : Fin 4) (s : Fin 2048) : Fin 8320 := ⟨2048 * b.val + s.val, by omega⟩

theorem x0_apply (c : Dev nD) (t : Fin cfg0.N) (p : Fin 2048) (q : Fin 512) :
    X0_0 m c t (ix2 p q) = (m ((c : Thread nD τ).loc main_arg0)) (ix2 (row (seq t) p) (⟨(col t q).val, by omega⟩ : Fin 12288)) := by
  unfold X0_0 Pipeline.Window.fill
  rw [dif_pos (moved0_0 t _)]
  blk_ext [iblk, V, idx t]
theorem x1_apply (c : Dev nD) (t : Fin cfg0.N) (p : Fin 2048) (q : Fin 512) :
    X0_1 m c t (ix2 p q) = (m ((c : Thread nD τ).loc main_arg0)) (ix2 (row (seq t) p) (⟨2048 + (col t q).val, by omega⟩ : Fin 12288)) := by
  unfold X0_1 Pipeline.Window.fill
  rw [dif_pos (moved0_1 t _)]
  blk_ext [iblk, V, idx t]
theorem x2_apply (c : Dev nD) (t : Fin cfg0.N) (p : Fin 2048) (q : Fin 512) :
    X0_2 m c t (ix2 p q) = (m ((c : Thread nD τ).loc main_arg0)) (ix2 (row (seq t) p) (⟨4096 + (col t q).val, by omega⟩ : Fin 12288)) := by
  unfold X0_2 Pipeline.Window.fill
  rw [dif_pos (moved0_2 t _)]
  blk_ext [iblk, V, idx t]
theorem x3_apply (c : Dev nD) (t : Fin cfg0.N) (k : Fin 3) (q : Fin 512) :
    iblk m c 3 t (ix2 k q) = (m ((c : Thread nD τ).loc main_arg1)) (ix3 (1 : Fin 4) k (col t q)) := by
  have e : iblk m c 3 t (ix2 k q) = (V m c main_v1 : FVec Ideal S3x2048 .f32) (ix2 k (col t q)) := by blk_ext [iblk, idx t]
  rw [e]
  have e2 : (V m c main_v1 : FVec Ideal S3x2048 .f32) = shapeCast _ (extractStridedSlice S1x3x2048 ![1, 0, 0] (m ((c : Thread nD τ).loc main_arg1)) slices_S4x3x2048_S1x3x2048_1_0_0) shapeCasts_S1x3x2048_S3x2048 := by rfl
  rw [e2]
  pointwise

theorem mask2 : ∀ p : Fin 2048, IntOp.cmpi .sge (BitVec.ofNat 32 p.val) 2#32 = BitVec.ofBool (decide (2 ≤ p.val)) := by decide +kernel
theorem mask1 : ∀ p : Fin 2048, IntOp.cmpi .sge (BitVec.ofNat 32 p.val) 1#32 = BitVec.ofBool (decide (1 ≤ p.val)) := by decide +kernel

/-- A rotated and masked column of products is the reference's tap. -/
theorem sel (A : FVec Ideal S8320x12288 .f32) (b : Fin 4) (s : Fin 2048) (q : Fin 2048) (k : ℕ) (hk : k < 2048) (g : BitVec 1)
    (hg : g = BitVec.ofBool (decide (k ≤ s.val))) (w : EReal) :
    Scalar.select g (A (ix2 (row b ⟨(s.val + 2048 - k) % 2048, Nat.mod_lt _ (by omega)⟩) (⟨2048 + q.val, by omega⟩ : Fin 12288))
      * A (ix2 (row b ⟨(s.val + 2048 - k) % 2048, Nat.mod_lt _ (by omega)⟩) (⟨4096 + q.val, by omega⟩ : Fin 12288)) * w) (0 : EReal) = tap A b s k q * w := by
  have hs := s.isLt
  rw [hg, Idealize.ShloMosaic.WordCmp.select_ofBool]
  unfold tap
  by_cases h : k ≤ s.val
  · rw [if_pos (by simpa using h), dif_pos h]
    have e : ∀ q : Fin 12288, A (ix2 (row b ⟨(s.val + 2048 - k) % 2048, Nat.mod_lt _ (by omega)⟩) q) = A (ix2 (⟨2048 * b.val + (s.val - k), by omega⟩ : Fin 8320) q) :=
      fun q => congrArg (fun r => A (ix2 r q)) (Fin.ext (by show 2048 * b.val + (s.val + 2048 - k) % 2048 = 2048 * b.val + (s.val - k); omega))
    exact congrArg (fun x : EReal => x * w) (congrArg₂ (fun x y : EReal => x * y) (e _) (e _))
  · rw [if_neg (by simpa using h), dif_neg h]
    exact (zero_mul w).symm

/-- The element that the kernel stores is the reference's element at that place of the result. -/
theorem entry0 (c : Dev nD) (t : Fin cfg0.N) (p : Fin 2048) (q : Fin 512) :
    (outsAt0 m c t).1 (ix2 p q) = REF0 (m ((c : Thread nD τ).loc main_arg0)) (m ((c : Thread nD τ).loc main_arg1)) (m ((c : Thread nD τ).loc main_arg2)) (ix2 (row (seq t) p) (col t q)) := by
  rw [Cert.ScpRefIdeal.Value.ref_apply]
  unfold outsAt0
  frame_out
  pointwise [k0_pay3, k0_pay2]
  simp only [x0_apply, x1_apply, x2_apply, x3_apply]
  exact congrArg₂ (fun x y : EReal => x * y) rfl (congrArg₂ (fun x y : EReal => x + y) (congrArg₂ (fun x y : EReal => x + y)
    (sel _ (seq t) p (col t q) 2 (by omega) _ (mask2 p) _) (sel _ (seq t) p (col t q) 1 (by omega) _ (mask1 p) _))
    (congrArg (fun x : EReal => x * _) (Cert.ScpRefIdeal.Value.tap_zero (m ((c : Thread nD τ).loc main_arg0)) (seq t) p (col t q)).symm))

theorem entry1 (c : Dev nD) (t : Fin cfg0.N) (k : Fin 2) (q : Fin 512) :
    (outsAt0 m c t).2 (ix3 (0 : Fin 1) k q) = REF1 (m ((c : Thread nD τ).loc main_arg0)) (m ((c : Thread nD τ).loc main_arg1)) (m ((c : Thread nD τ).loc main_arg2)) (ix3 (seq t) k (col t q)) := by
  have hk := k.isLt
  unfold outsAt0
  frame_out
  pointwise [k0_pay1, k0_pay4, k0_pay2, REF1]
  simp only [x0_apply, x1_apply, x2_apply, x3_apply]
  refine Eq.trans ?_ ((congrArg (fun r => win (m ((c : Thread nD τ).loc main_arg0)) (ix3 (seq t) r (col t q))) (Fin.ext (by show 2 + (2046 + k.val) = 2048 + k.val; omega))).symm.trans
    (Cert.ScpRefIdeal.Value.win_2 _ (seq t) (⟨2046 + k.val, by omega⟩ : Fin 2048) (col t q))).symm
  exact (Cert.ScpRefIdeal.Value.tap_zero (m ((c : Thread nD τ).loc main_arg0)) (seq t) (⟨2046 + k.val, by omega⟩ : Fin 2048) (col t q)).symm

/-- The whole result array 0 after the run. -/
theorem final0 (c : Dev nD) : (dats m 0 c).arrAt 4 (cfgs 0).N
    = REF0 (m ((c : Thread nD τ).loc main_arg0)) (m ((c : Thread nD τ).loc main_arg1)) (m ((c : Thread nD τ).loc main_arg2)) := by
  refine (dats m 0 c).arrAt_eq_of_coversWhere_of_agree 4 _ (fun β => β 0 < 4) (by decide +kernel) (fun t _ y => ?_) (fun j hj => ?_)
  · blk_simp
    rw [after0_4]
    let z : S2048x512.Idx := (cfg0.win 4).xinj (cfg0.grid.coords t) y
    have hz : z = ix2 (⟨(z 0).val, (z 0).isLt⟩ : Fin 2048) (⟨(z 1).val, (z 1).isLt⟩ : Fin 512) := by
      funext a
      match a with
      | ⟨0, _⟩ => rfl
      | ⟨1, _⟩ => rfl
    refine (congrArg (outsAt0 m c t).1 hz).trans ((entry0 m c t _ _).trans (congrArg (REF0 _ _ _) ?_))
    funext a
    apply Fin.ext
    match a with
    | ⟨0, _⟩ => blk_simp [idx t]; show 2048 * (t.val / 4) + (z 0).val = t.val / 4 * 2048 + (z 0).val; omega
    | ⟨1, _⟩ => blk_simp [idx t]; show 512 * (t.val % 4) + (z 1).val = t.val % 4 * 512 + (z 1).val; omega
  · blk_simp [Pipeline.Window.cell_apply] at hj
    have hl : (j 0).val < 8320 := (j 0).isLt
    have hg : 8192 ≤ (j 0).val := by omega
    have hz : ∀ J : S8320x2048.Idx, 8192 ≤ (J 0).val → REF0 (m ((c : Thread nD τ).loc main_arg0)) (m ((c : Thread nD τ).loc main_arg1)) (m ((c : Thread nD τ).loc main_arg2)) J = m ((c : Thread nD τ).loc main_arg2) J := by
      intro J hJ
      have hl' : (J 0).val < 8320 := (J 0).isLt
      have e : J = ix2 (⟨8192 + (⟨(J 0).val - 8192, by omega⟩ : Fin 128).val, by show 8192 + ((J 0).val - 8192) < 8320; omega⟩ : Fin 8320) (J 1) := by
        funext a
        match a with
        | ⟨0, _⟩ => exact Fin.ext (by show (J 0).val = 8192 + ((J 0).val - 8192); omega)
        | ⟨1, _⟩ => rfl
      rw [e]
      exact Cert.ScpRefIdeal.Value.ref_tail _ _ _ _ _
    rw [A_eq]
    refine Eq.trans ?_ (hz j hg).symm
    show V m c main_v2_0 _ = _
    entry_read
    rfl

/-- The whole result array 1 after the run. -/
theorem final1 (c : Dev nD) : (dats m 0 c).arrAt 5 (cfgs 0).N
    = REF1 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have he : ((cfg0.win 5).blk t).view.emb y = ix3 (seq t) (⟨(y 1).val, (y 1).isLt⟩ : Fin 2) (col t ⟨(y 2).val, (y 2).isLt⟩) := by
    have h0 : (y 0).val < 1 := (y 0).isLt
    funext a
    apply Fin.ext
    match a with
    | ⟨0, _⟩ => blk_simp [idx t]
    | ⟨1, _⟩ => blk_simp [idx t]; rfl
    | ⟨2, _⟩ => blk_simp [idx t]; show t.val % 4 * 512 + (y 2).val = 512 * (t.val % 4) + (y 2).val; omega
  have hy : y = ix3 (0 : Fin 1) (⟨(y 1).val, (y 1).isLt⟩ : Fin 2) (⟨(y 2).val, (y 2).isLt⟩ : Fin 512) := by
    funext a
    match a with
    | ⟨0, _⟩ => exact Fin.ext (Nat.lt_one_iff.mp (y 0).isLt)
    | ⟨1, _⟩ => rfl
    | ⟨2, _⟩ => rfl
  exact (congrArg _ hy).trans ((entry1 m c t _ _).trans (congrArg (REF1 _ _ _) he.symm))

end Cert.ScpIdeal.Value

end
-- ==== Proof.ScsValue.lean ====
/- The value of the samples' short convolution: what the kernel leaves is the reference's sum of three taps. -/
module

public import proofs.«01_k».proof.Proof.Gen.ScsIdeal.Frame
public import proofs.«01_k».proof.Proof.Gen.ScsRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ScsRefIdeal.Value

open Cert.ScsRefIdeal Cert.ScsRefIdeal.Gen

/-- The two kept inputs of a sample and its new one. -/
def win (X0 : FVec Ideal S8320x12288 .f32) (X1 : FVec Ideal S4x128x2x2048 .f32) : FVec Ideal S128x3x2048 .f32 :=
    concatenate S128x3x2048 1 [⟨S128x2x2048, (shapeCast _ (extractStridedSlice S1x128x2x2048 ![1, 0, 0, 0] X1
    slices_S4x128x2x2048_S1x128x2x2048_1_0_0_0) shapeCasts_S1x128x2x2048_S128x2x2048)⟩, ⟨S128x1x2048, (mulf
    (extractStridedSlice S128x1x2048 ![0, 0, 2048] (shapeCast _ (extractStridedSlice S128x12288 ![8192, 0] X0
    slices_S8320x12288_S128x12288_8192_0) shapeCasts_S128x12288_S128x1x12288)
    slices_S128x1x12288_S128x1x2048_0_0_2048) (extractStridedSlice S128x1x2048 ![0, 0, 4096] (shapeCast _
    (extractStridedSlice S128x12288 ![8192, 0] X0 slices_S8320x12288_S128x12288_8192_0)
    shapeCasts_S128x12288_S128x1x12288) slices_S128x1x12288_S128x1x2048_0_0_4096))⟩]
    concatenates_S128x2x2048_S128x1x2048_S128x3x2048_d1

theorem win_old (X0 : FVec Ideal S8320x12288 .f32) (X1 : FVec Ideal S4x128x2x2048 .f32) (k : Fin 2) (p : Fin 128) (q : Fin 2048) :
    win X0 X1 (ix3 p (⟨k.val, by omega⟩ : Fin 3) q) = X1 (ix4 (1 : Fin 4) p k q) := by
  pointwise [win]
theorem win_0 (X0 : FVec Ideal S8320x12288 .f32) (X1 : FVec Ideal S4x128x2x2048 .f32) (p : Fin 128) (q : Fin 2048) :
    win X0 X1 (ix3 p (0 : Fin 3) q) = X1 (ix4 (1 : Fin 4) p (0 : Fin 2) q) := win_old X0 X1 0 p q
theorem win_1 (X0 : FVec Ideal S8320x12288 .f32) (X1 : FVec Ideal S4x128x2x2048 .f32) (p : Fin 128) (q : Fin 2048) :
    win X0 X1 (ix3 p (1 : Fin 3) q) = X1 (ix4 (1 : Fin 4) p (1 : Fin 2) q) := win_old X0 X1 1 p q
theorem win_2 (X0 : FVec Ideal S8320x12288 .f32) (X1 : FVec Ideal S4x128x2x2048 .f32) (p : Fin 128) (q : Fin 2048) :
    win X0 X1 (ix3 p (2 : Fin 3) q) = X0 (ix2 (⟨8192 + p.val, by omega⟩ : Fin 8320) (⟨2048 + q.val, by omega⟩ : Fin 12288))
      * X0 (ix2 (⟨8192 + p.val, by omega⟩ : Fin 8320) (⟨4096 + q.val, by omega⟩ : Fin 12288)) := by
  pointwise [win]

/-- The reference's result 0 as a function of its argument arrays. -/
abbrev REF0 (X0 : FVec Ideal S8320x12288 .f32) (X1 : FVec Ideal S4x128x2x2048 .f32) (X2 : FVec Ideal S4x3x2048 .f32) (X3 : FVec Ideal S8320x2048 .bf16) :
    FVec Ideal S8320x2048 .bf16 :=
    concatenate S8320x2048 0 [⟨S8192x2048, (extractStridedSlice S8192x2048 ![0, 0] X3
    slices_S8320x2048_S8192x2048_0_0)⟩, ⟨S128x2048, (truncf .bf16 (shapeCast _ (mulf (extractStridedSlice
    S128x1x2048 ![0, 0, 0] (shapeCast _ (extractStridedSlice S128x12288 ![8192, 0] X0
    slices_S8320x12288_S128x12288_8192_0) shapeCasts_S128x12288_S128x1x12288)
    slices_S128x1x12288_S128x1x2048_0_0_0) (addf (addf (addf (broadcastInDim S128x1x2048 ![]
    bcast_S_S128x1x2048 (constant (F := Ideal) S_ .f32 0x00000000#32)) (mulf (extractStridedSlice S128x1x2048
    ![0, 0, 0] (win X0 X1) slices_S128x3x2048_S128x1x2048_0_0_0) (broadcastInDim S128x1x2048 ![0, 1, 2]
    bcast_S1x1x2048_S128x1x2048_0_1_2 (broadcastInDim S1x1x2048 ![2] bcast_S2048_S1x1x2048_2 (shapeCast _
    (extractStridedSlice S1x2048 ![0, 0] (shapeCast _ (extractStridedSlice S1x3x2048 ![1, 0, 0] X2
    slices_S4x3x2048_S1x3x2048_1_0_0) shapeCasts_S1x3x2048_S3x2048) slices_S3x2048_S1x2048_0_0)
    shapeCasts_S1x2048_S2048))))) (mulf (extractStridedSlice S128x1x2048 ![0, 1, 0] (win X0 X1)
    slices_S128x3x2048_S128x1x2048_0_1_0) (broadcastInDim S128x1x2048 ![0, 1, 2]
    bcast_S1x1x2048_S128x1x2048_0_1_2 (broadcastInDim S1x1x2048 ![2] bcast_S2048_S1x1x2048_2 (shapeCast _
    (extractStridedSlice S1x2048 ![1, 0] (shapeCast _ (extractStridedSlice S1x3x2048 ![1, 0, 0] X2
    slices_S4x3x2048_S1x3x2048_1_0_0) shapeCasts_S1x3x2048_S3x2048) slices_S3x2048_S1x2048_1_0)
    shapeCasts_S1x2048_S2048))))) (mulf (extractStridedSlice S128x1x2048 ![0, 2, 0] (win X0 X1)
    slices_S128x3x2048_S128x1x2048_0_2_0) (broadcastInDim S128x1x2048 ![0, 1, 2]
    bcast_S1x1x2048_S128x1x2048_0_1_2 (broadcastInDim S1x1x2048 ![2] bcast_S2048_S1x1x2048_2 (shapeCast _
    (extractStridedSlice S1x2048 ![2, 0] (shapeCast _ (extractStridedSlice S1x3x2048 ![1, 0, 0] X2
    slices_S4x3x2048_S1x3x2048_1_0_0) shapeCasts_S1x3x2048_S3x2048) slices_S3x2048_S1x2048_2_0)
    shapeCasts_S1x2048_S2048)))))) shapeCasts_S128x1x2048_S128x2048) bitsLt_bf16_f32)⟩]
    concatenates_S8192x2048_S128x2048_S8320x2048_d0

/-- The reference's result 1 as a function of its argument arrays. -/
abbrev REF1 (X0 : FVec Ideal S8320x12288 .f32) (X1 : FVec Ideal S4x128x2x2048 .f32) (X2 : FVec Ideal S4x3x2048 .f32) (X3 : FVec Ideal S8320x2048 .bf16) :
    FVec Ideal S2x128x2048 .f32 :=
    transpose S2x128x2048 [1, 0, 2] (extractStridedSlice S128x2x2048 ![0, 1, 0] (win X0 X1)
    slices_S128x3x2048_S128x2x2048_0_1_0) transposes_S128x2x2048_S2x128x2048_1_0_2

end Cert.ScsRefIdeal.Value

namespace Cert.ScsIdeal.Value

open Cert.ScsIdeal Cert.ScsIdeal.Gen
open Cert.ScsRefIdeal.Value (REF0 REF1)

variable (m : (ℓ : Loc nD τ sig) → Buf (Elt Ideal) ℓ)

/-- Where each window's block starts at a grid point, for every point of the grid. -/
theorem idx : ∀ t : Fin cfg0.N,
    (win0_0.index t 0 = 64 ∧ win0_0.index t 1 = 0)
    ∧ (win0_1.index t 0 = 64 ∧ win0_1.index t 1 = 1)
    ∧ (win0_2.index t 0 = 64 ∧ win0_2.index t 1 = 2)
    ∧ (win0_3.index t 0 = 0 ∧ win0_3.index t 1 = 0 ∧ win0_3.index t 2 = 0)
    ∧ (win0_4.index t 0 = 0 ∧ win0_4.index t 1 = 0)
    ∧ (win0_5.index t 0 = 64 ∧ win0_5.index t 1 = 0)
    ∧ (win0_6.index t 0 = 0 ∧ win0_6.index t 1 = 0 ∧ win0_6.index t 2 = 0) :=
  (by decide +kernel : ∀ t : Fin grid0.N, _)

/-- The row of the residual stream that holds a sample. -/
abbrev row (p : Fin 128) : Fin 8320 := ⟨8192 + p.val, by omega⟩

theorem x0_apply (c : Dev nD) (t : Fin cfg0.N) (p : Fin 128) (q : Fin 2048) :
    iblk m c 0 t (ix2 p q) = (m ((c : Thread nD τ).loc main_arg0)) (ix2 (row p) (⟨q.val, by omega⟩ : Fin 12288)) := by
  blk_ext [iblk, V, idx t]
theorem x1_apply (c : Dev nD) (t : Fin cfg0.N) (p : Fin 128) (q : Fin 2048) :
    iblk m c 1 t (ix2 p q) = (m ((c : Thread nD τ).loc main_arg0)) (ix2 (row p) (⟨2048 + q.val, by omega⟩ : Fin 12288)) := by
  blk_ext [iblk, V, idx t]
theorem x2_apply (c : Dev nD) (t : Fin cfg0.N) (p : Fin 128) (q : Fin 2048) :
    iblk m c 2 t (ix2 p q) = (m ((c : Thread nD τ).loc main_arg0)) (ix2 (row p) (⟨4096 + q.val, by omega⟩ : Fin 12288)) := by
  blk_ext [iblk, V, idx t]
theorem x3_apply (c : Dev nD) (t : Fin cfg0.N) (k : Fin 2) (p : Fin 128) (q : Fin 2048) :
    iblk m c 3 t (ix3 k p q) = (m ((c : Thread nD τ).loc main_arg1)) (ix4 (1 : Fin 4) p k q) := by
  have e : iblk m c 3 t (ix3 k p q) = (V m c main_v2 : FVec Ideal S2x128x2048 .f32) (ix3 k p q) := by blk_ext [iblk, idx t]
  rw [e]
  have e2 : (V m c main_v2 : FVec Ideal S2x128x2048 .f32) = transpose S2x128x2048 [1, 0, 2] (shapeCast _ (extractStridedSlice S1x128x2x2048 ![1, 0, 0, 0] (m ((c : Thread nD τ).loc main_arg1)) slices_S4x128x2x2048_S1x128x2x2048_1_0_0_0) shapeCasts_S1x128x2x2048_S128x2x2048) transposes_S128x2x2048_S2x128x2048_1_0_2 := by rfl
  rw [e2]
  pointwise
theorem x4_apply (c : Dev nD) (t : Fin cfg0.N) (k : Fin 3) (q : Fin 2048) :
    iblk m c 4 t (ix2 k q) = (m ((c : Thread nD τ).loc main_arg2)) (ix3 (1 : Fin 4) k q) := by
  have e : iblk m c 4 t (ix2 k q) = (V m c main_v4 : FVec Ideal S3x2048 .f32) (ix2 k q) := by blk_ext [iblk, idx t]
  rw [e]
  have e2 : (V m c main_v4 : FVec Ideal S3x2048 .f32) = shapeCast _ (extractStridedSlice S1x3x2048 ![1, 0, 0] (m ((c : Thread nD τ).loc main_arg2)) slices_S4x3x2048_S1x3x2048_1_0_0) shapeCasts_S1x3x2048_S3x2048 := by rfl
  rw [e2]
  pointwise

/-- The element that the kernel stores is the reference's element at that place of the result. -/
theorem entry0 (c : Dev nD) (t : Fin cfg0.N) (p : Fin 128) (q : Fin 2048) :
    (outsAt0 m c t).1 (ix2 p q) = REF0 (m ((c : Thread nD τ).loc main_arg0)) (m ((c : Thread nD τ).loc main_arg1)) (m ((c : Thread nD τ).loc main_arg2)) (m ((c : Thread nD τ).loc main_arg3)) (ix2 (row p) q) := by
  unfold outsAt0
  frame_out
  pointwise [k0_pay3, k0_pay2, REF0]
  simp only [x0_apply, x1_apply, x2_apply, x3_apply, x4_apply, Cert.ScsRefIdeal.Value.win_0, Cert.ScsRefIdeal.Value.win_1, Cert.ScsRefIdeal.Value.win_2]

theorem ref_keep (X0 : FVec Ideal S8320x12288 .f32) (X1 : FVec Ideal S4x128x2x2048 .f32) (X2 : FVec Ideal S4x3x2048 .f32) (X3 : FVec Ideal S8320x2048 .bf16)
    (r : Fin 8192) (q : Fin 2048) : REF0 X0 X1 X2 X3 (ix2 (⟨r.val, by omega⟩ : Fin 8320) q) = X3 (ix2 (⟨r.val, by omega⟩ : Fin 8320) q) := by
  pointwise [REF0]

theorem ref_tail (X0 : FVec Ideal S8320x12288 .f32) (X1 : FVec Ideal S4x128x2x2048 .f32) (X2 : FVec Ideal S4x3x2048 .f32) (X3 : FVec Ideal S8320x2048 .bf16)
    (J : S8320x2048.Idx) (hJ : (J 0).val < 8192) : REF0 X0 X1 X2 X3 J = X3 J := by
  have hz : J = ix2 (⟨(⟨(J 0).val, hJ⟩ : Fin 8192).val, by show (J 0).val < 8320; omega⟩ : Fin 8320) (J 1) := by
    funext a
    match a with
    | ⟨0, _⟩ => rfl
    | ⟨1, _⟩ => rfl
  rw [hz]
  exact ref_keep X0 X1 X2 X3 ⟨(J 0).val, hJ⟩ (J 1)

/-- The whole result array 0 after the run. -/
theorem final0 (c : Dev nD) : (dats m 0 c).arrAt 5 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 5 _ (fun β => β 0 = 64) (by decide +kernel) (fun t _ y => ?_) (fun j hj => ?_)
  · blk_simp
    rw [after0_5]
    have he : ((cfg0.win 5).blk t).view.emb y = ix2 (row ⟨(y 0).val, (y 0).isLt⟩) (⟨(y 1).val, (y 1).isLt⟩ : Fin 2048) := by
      funext a
      apply Fin.ext
      match a with
      | ⟨0, _⟩ => blk_simp [idx t]; rfl
      | ⟨1, _⟩ => blk_simp [idx t]; rfl
    have hy : y = ix2 (⟨(y 0).val, (y 0).isLt⟩ : Fin 128) (⟨(y 1).val, (y 1).isLt⟩ : Fin 2048) := by
      funext a
      match a with
      | ⟨0, _⟩ => rfl
      | ⟨1, _⟩ => rfl
    exact (congrArg _ hy).trans ((entry0 m c t _ _).trans (congrArg (REF0 _ _ _ _) he.symm))
  · blk_simp [Pipeline.Window.cell_apply] at hj
    rw [A_eq]
    refine Eq.trans ?_ (ref_tail _ _ _ _ _ ?_).symm
    · show V m c main_v5_0 _ = _
      entry_read
      rfl
    · blk_simp
      have : (j 0).val < 8320 := (j 0).isLt
      omega

theorem new_apply (c : Dev nD) (t : Fin cfg0.N) (p : Fin 128) (q : Fin 2048) :
    k0_pay1 (k0_pay2 (iblk m c 1 t) (iblk m c 2 t)) (ix3 (0 : Fin 1) p q) = REF1 (m ((c : Thread nD τ).loc main_arg0)) (m ((c : Thread nD τ).loc main_arg1)) (m ((c : Thread nD τ).loc main_arg2)) (m ((c : Thread nD τ).loc main_arg3)) (ix3 (1 : Fin 2) p q) := by
  pointwise [k0_pay1, k0_pay2, REF1]
  simp only [x1_apply, x2_apply, Cert.ScsRefIdeal.Value.win_2]

theorem old_apply (c : Dev nD) (t : Fin cfg0.N) (p : Fin 128) (q : Fin 2048) :
    k0_pay4 (View.ld (iblk m c 3 t) (Rect.unit ![1, 0, 0] ![1, 128, 2048] inb_S2x128x2048_S1x128x2048_1_0_0)) (ix3 (0 : Fin 1) p q) = REF1 (m ((c : Thread nD τ).loc main_arg0)) (m ((c : Thread nD τ).loc main_arg1)) (m ((c : Thread nD τ).loc main_arg2)) (m ((c : Thread nD τ).loc main_arg3)) (ix3 (0 : Fin 2) p q) := by
  pointwise [k0_pay4, REF1]
  simp only [x3_apply, Cert.ScsRefIdeal.Value.win_1]

theorem one_row (y : S1x128x2048.Idx) : y = ix3 (0 : Fin 1) (⟨(y 1).val, (y 1).isLt⟩ : Fin 128) (⟨(y 2).val, (y 2).isLt⟩ : Fin 2048) := by
  funext a
  match a with
  | ⟨0, _⟩ => exact Fin.ext (Nat.lt_one_iff.mp (y 0).isLt)
  | ⟨1, _⟩ => rfl
  | ⟨2, _⟩ => rfl

/-- The element that the kernel stores is the reference's element at that place of the result. -/
theorem entry1 (c : Dev nD) (t : Fin cfg0.N) (y : S2x128x2048.Idx) :
    (outsAt0 m c t).2 y = REF1 (m ((c : Thread nD τ).loc main_arg0)) (m ((c : Thread nD τ).loc main_arg1)) (m ((c : Thread nD τ).loc main_arg2)) (m ((c : Thread nD τ).loc main_arg3)) y := by
  have key : ∀ z w : S2x128x2048.Idx, (∀ a, (z a).val = (w a).val) → REF1 (m ((c : Thread nD τ).loc main_arg0)) (m ((c : Thread nD τ).loc main_arg1)) (m ((c : Thread nD τ).loc main_arg2)) (m ((c : Thread nD τ).loc main_arg3)) z = REF1 (m ((c : Thread nD τ).loc main_arg0)) (m ((c : Thread nD τ).loc main_arg1)) (m ((c : Thread nD τ).loc main_arg2)) (m ((c : Thread nD τ).loc main_arg3)) w :=
    fun z w h => congrArg _ (funext fun a => Fin.ext (h a))
  unfold outsAt0 out0_A_6
  frame_out
  canon_tiles y h
  case piece0 =>
    refine (congrArg _ (one_row y)).trans ((new_apply m c t _ _).trans (key _ _ fun a => ?_))
    match a with
    | ⟨0, _⟩ => exact (h0.trans (by omega : 1 + (y 0).val = 1)).symm
    | ⟨1, _⟩ => exact h1.symm
    | ⟨2, _⟩ => exact h2.symm
  case piece1 =>
    refine (congrArg _ (one_row y)).trans ((old_apply m c t _ _).trans (key _ _ fun a => ?_))
    match a with
    | ⟨0, _⟩ => exact (h0.trans (by omega : (y 0).val = 0)).symm
    | ⟨1, _⟩ => exact h1.symm
    | ⟨2, _⟩ => exact h2.symm

/-- The whole result array 1 after the run. -/
theorem final1 (c : Dev nD) : (dats m 0 c).arrAt 6 (cfgs 0).N
    = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  refine (entry1 m c t y).trans (congrArg (REF1 _ _ _ _) (funext fun a => Fin.ext ?_))
  match a with
  | ⟨0, _⟩ => blk_simp [idx t]
  | ⟨1, _⟩ => blk_simp [idx t]
  | ⟨2, _⟩ => blk_simp [idx t]

end Cert.ScsIdeal.Value

end
-- ==== Proof.CvpValue.lean ====
/- The value of the prompts' four-tap convolution: what the kernel leaves is the reference's gated sum. -/
module

public import proofs.«01_k».proof.Proof.Gen.CvpIdeal.Frame
public import proofs.«01_k».proof.Proof.Gen.CvpRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.CvpRefIdeal.Value

open Cert.CvpRefIdeal Cert.CvpRefIdeal.Gen

/-- A prompt's convolution input with three zero rows before it. -/
def win (X0 : FVec Ideal S8320x12288 .f32) : FVec Ideal S4x2051x4096 .f32 :=
    concatenate S4x2051x4096 1 [⟨S4x3x4096, (broadcastInDim S4x3x4096 ![] bcast_S_S4x3x4096 (constant (F :=
    Ideal) S_ .f32 0x00000000#32))⟩, ⟨S4x2048x4096, (extractStridedSlice S4x2048x4096 ![0, 0, 8192] (shapeCast
    _ (extractStridedSlice S8192x12288 ![0, 0] X0 slices_S8320x12288_S8192x12288_0_0)
    shapeCasts_S8192x12288_S4x2048x12288) slices_S4x2048x12288_S4x2048x4096_0_0_8192)⟩]
    concatenates_S4x3x4096_S4x2048x4096_S4x2051x4096_d1

/-- The four taps and the bias. -/
def conv (X0 : FVec Ideal S8320x12288 .f32) (X1 : FVec Ideal S4x4x4096 .f32) (X2 : FVec Ideal S4x4096 .f32) : FVec Ideal S4x2048x4096 .f32 :=
    addf (addf (addf (addf (addf (broadcastInDim S4x2048x4096 ![] bcast_S_S4x2048x4096 (constant (F := Ideal)
    S_ .f32 0x00000000#32)) (mulf (extractStridedSlice S4x2048x4096 ![0, 0, 0] (win X0)
    slices_S4x2051x4096_S4x2048x4096_0_0_0) (broadcastInDim S4x2048x4096 ![0, 1, 2]
    bcast_S1x1x4096_S4x2048x4096_0_1_2 (broadcastInDim S1x1x4096 ![2] bcast_S4096_S1x1x4096_2 (shapeCast _
    (extractStridedSlice S1x4096 ![0, 0] (shapeCast _ (extractStridedSlice S1x4x4096 ![1, 0, 0] X1
    slices_S4x4x4096_S1x4x4096_1_0_0) shapeCasts_S1x4x4096_S4x4096) slices_S4x4096_S1x4096_0_0)
    shapeCasts_S1x4096_S4096))))) (mulf (extractStridedSlice S4x2048x4096 ![0, 1, 0] (win X0)
    slices_S4x2051x4096_S4x2048x4096_0_1_0) (broadcastInDim S4x2048x4096 ![0, 1, 2]
    bcast_S1x1x4096_S4x2048x4096_0_1_2 (broadcastInDim S1x1x4096 ![2] bcast_S4096_S1x1x4096_2 (shapeCast _
    (extractStridedSlice S1x4096 ![1, 0] (shapeCast _ (extractStridedSlice S1x4x4096 ![1, 0, 0] X1
    slices_S4x4x4096_S1x4x4096_1_0_0) shapeCasts_S1x4x4096_S4x4096) slices_S4x4096_S1x4096_1_0)
    shapeCasts_S1x4096_S4096))))) (mulf (extractStridedSlice S4x2048x4096 ![0, 2, 0] (win X0)
    slices_S4x2051x4096_S4x2048x4096_0_2_0) (broadcastInDim S4x2048x4096 ![0, 1, 2]
    bcast_S1x1x4096_S4x2048x4096_0_1_2 (broadcastInDim S1x1x4096 ![2] bcast_S4096_S1x1x4096_2 (shapeCast _
    (extractStridedSlice S1x4096 ![2, 0] (shapeCast _ (extractStridedSlice S1x4x4096 ![1, 0, 0] X1
    slices_S4x4x4096_S1x4x4096_1_0_0) shapeCasts_S1x4x4096_S4x4096) slices_S4x4096_S1x4096_2_0)
    shapeCasts_S1x4096_S4096))))) (mulf (extractStridedSlice S4x2048x4096 ![0, 3, 0] (win X0)
    slices_S4x2051x4096_S4x2048x4096_0_3_0) (broadcastInDim S4x2048x4096 ![0, 1, 2]
    bcast_S1x1x4096_S4x2048x4096_0_1_2 (broadcastInDim S1x1x4096 ![2] bcast_S4096_S1x1x4096_2 (shapeCast _
    (extractStridedSlice S1x4096 ![3, 0] (shapeCast _ (extractStridedSlice S1x4x4096 ![1, 0, 0] X1
    slices_S4x4x4096_S1x4x4096_1_0_0) shapeCasts_S1x4x4096_S4x4096) slices_S4x4096_S1x4096_3_0)
    shapeCasts_S1x4096_S4096))))) (broadcastInDim S4x2048x4096 ![0, 1, 2] bcast_S1x1x4096_S4x2048x4096_0_1_2
    (broadcastInDim S1x1x4096 ![2] bcast_S4096_S1x1x4096_2 (shapeCast _ (extractStridedSlice S1x4096 ![1, 0]
    X2 slices_S4x4096_S1x4096_1_0) shapeCasts_S1x4096_S4096)))

/-- The reference's result 0 as a function of its argument arrays. -/
abbrev REF0 (X0 : FVec Ideal S8320x12288 .f32) (X1 : FVec Ideal S4x4x4096 .f32) (X2 : FVec Ideal S4x4096 .f32) :
    FVec Ideal S8192x4096 .f32 :=
    shapeCast _ (mulf (conv X0 X1 X2) (Host.divf (broadcastInDim S4x2048x4096 ![] bcast_S_S4x2048x4096
    (constant (F := Ideal) S_ .f32 0x3F800000#32)) (addf (broadcastInDim S4x2048x4096 ![] bcast_S_S4x2048x4096
    (constant (F := Ideal) S_ .f32 0x3F800000#32)) (Host.exp (Host.negf (conv X0 X1 X2))))))
    shapeCasts_S4x2048x4096_S8192x4096

/-- The reference's result 1 as a function of its argument arrays. -/
abbrev REF1 (X0 : FVec Ideal S8320x12288 .f32) (X1 : FVec Ideal S4x4x4096 .f32) (X2 : FVec Ideal S4x4096 .f32) :
    FVec Ideal S4x3x4096 .f32 :=
    extractStridedSlice S4x3x4096 ![0, 2048, 0] (win X0) slices_S4x2051x4096_S4x3x4096_0_2048_0

/-- The convolution's input at a prompt's position `k` places before `s`: nothing before the first one. -/
def tap (X0 : FVec Ideal S8320x12288 .f32) (b : Fin 4) (s : Fin 2048) (k : ℕ) (q : Fin 4096) : EReal :=
  if h : k ≤ s.val then X0 (ix2 (⟨2048 * b.val + (s.val - k), by omega⟩ : Fin 8320) (⟨8192 + q.val, by omega⟩ : Fin 12288))
  else 0

theorem tap_zero (X0 : FVec Ideal S8320x12288 .f32) (b : Fin 4) (s : Fin 2048) (q : Fin 4096) :
    tap X0 b s 0 q = X0 (ix2 (⟨2048 * b.val + s.val, by omega⟩ : Fin 8320) (⟨8192 + q.val, by omega⟩ : Fin 12288)) := dif_pos (Nat.zero_le _)

theorem win_apply (X0 : FVec Ideal S8320x12288 .f32) (b : Fin 4) (s : Fin 2048) (k : Fin 4) (q : Fin 4096) :
    win X0 (ix3 b (⟨(3 - k.val) + s.val, by omega⟩ : Fin 2051) q) = tap X0 b s k.val q := by
  have hk := k.isLt
  have hs := s.isLt
  unfold tap
  pointwise [win]
  by_cases h : k.val ≤ s.val
  · rw [dif_pos h, dif_neg (by omega)]
    exact congrArg (fun r => X0 (ix2 r _)) (Fin.ext (by show b.val * 2048 + (3 - k.val + s.val - 3) = 2048 * b.val + (s.val - k.val); omega))
  · rw [dif_neg h, dif_pos (by omega)]

theorem win_0 (X0 : FVec Ideal S8320x12288 .f32) (b : Fin 4) (s : Fin 2048) (q : Fin 4096) :
    win X0 (ix3 b (⟨s.val, by omega⟩ : Fin 2051) q) = tap X0 b s 3 q :=
  (congrArg (fun r => win X0 (ix3 b r q)) (Fin.ext (by show s.val = 3 - 3 + s.val; omega))).trans (win_apply X0 b s 3 q)
theorem win_1 (X0 : FVec Ideal S8320x12288 .f32) (b : Fin 4) (s : Fin 2048) (q : Fin 4096) :
    win X0 (ix3 b (⟨1 + s.val, by omega⟩ : Fin 2051) q) = tap X0 b s 2 q := win_apply X0 b s 2 q
theorem win_2 (X0 : FVec Ideal S8320x12288 .f32) (b : Fin 4) (s : Fin 2048) (q : Fin 4096) :
    win X0 (ix3 b (⟨2 + s.val, by omega⟩ : Fin 2051) q) = tap X0 b s 1 q := win_apply X0 b s 1 q
theorem win_3 (X0 : FVec Ideal S8320x12288 .f32) (b : Fin 4) (s : Fin 2048) (q : Fin 4096) :
    win X0 (ix3 b (⟨3 + s.val, by omega⟩ : Fin 2051) q) = tap X0 b s 0 q := win_apply X0 b s 0 q

/-- The convolution at one element: four taps and the bias. -/
def total (X0 : FVec Ideal S8320x12288 .f32) (X1 : FVec Ideal S4x4x4096 .f32) (X2 : FVec Ideal S4x4096 .f32) (b : Fin 4) (s : Fin 2048) (q : Fin 4096) : EReal :=
  tap X0 b s 3 q * X1 (ix3 (1 : Fin 4) (0 : Fin 4) q) + tap X0 b s 2 q * X1 (ix3 (1 : Fin 4) (1 : Fin 4) q)
    + tap X0 b s 1 q * X1 (ix3 (1 : Fin 4) (2 : Fin 4) q) + tap X0 b s 0 q * X1 (ix3 (1 : Fin 4) (3 : Fin 4) q)
    + X2 (ix2 (1 : Fin 4) q)

/-- A number times its logistic. -/
def gate (v : EReal) : EReal := v * Ideal.div 1 (1 + Ideal.exp (-v))

theorem conv_apply (X0 : FVec Ideal S8320x12288 .f32) (X1 : FVec Ideal S4x4x4096 .f32) (X2 : FVec Ideal S4x4096 .f32) (b : Fin 4) (s : Fin 2048) (q : Fin 4096) :
    conv X0 X1 X2 (ix3 b s q) = total X0 X1 X2 b s q := by
  unfold total
  pointwise [conv]
  rw [win_0, win_1, win_2, win_3]

theorem ref_apply (X0 : FVec Ideal S8320x12288 .f32) (X1 : FVec Ideal S4x4x4096 .f32) (X2 : FVec Ideal S4x4096 .f32) (b : Fin 4) (s : Fin 2048) (q : Fin 4096) :
    REF0 X0 X1 X2 (ix2 (⟨2048 * b.val + s.val, by omega⟩ : Fin 8192) q) = gate (total X0 X1 X2 b s q) := by
  unfold gate
  rw [← conv_apply]
  pointwise [REF0]

end Cert.CvpRefIdeal.Value

namespace Cert.CvpIdeal.Value

open Cert.CvpIdeal Cert.CvpIdeal.Gen
open Cert.CvpRefIdeal.Value (REF0 REF1)

variable (m : (ℓ : Loc nD τ sig) → Buf (Elt Ideal) ℓ)

open Cert.CvpRefIdeal.Value (win tap conv total gate)

/-- Where each window's block starts at a grid point, for every point of the grid. -/
theorem idx : ∀ t : Fin cfg0.N,
    (win0_0.index t 0 = t.val / 8 ∧ win0_0.index t 1 = 16 + t.val % 8)
    ∧ (win0_1.index t 0 = 0 ∧ win0_1.index t 1 = t.val % 8)
    ∧ (win0_2.index t 0 = 0 ∧ win0_2.index t 1 = t.val % 8)
    ∧ (win0_3.index t 0 = t.val / 8 ∧ win0_3.index t 1 = t.val % 8)
    ∧ (win0_4.index t 0 = t.val / 8 ∧ win0_4.index t 1 = 0 ∧ win0_4.index t 2 = t.val % 8) :=
  (by decide +kernel : ∀ t : Fin grid0.N, _)

theorem t_lt (t : Fin cfg0.N) : t.val < 32 := lt_of_lt_of_eq t.isLt (show cfg0.N = 32 from N_0)

/-- The prompt a grid point works on. -/
abbrev seq (t : Fin cfg0.N) : Fin 4 := ⟨t.val / 8, by have := t_lt t; omega⟩
/-- The column of the result that a column of a block is. -/
abbrev col (t : Fin cfg0.N) (q : Fin 512) : Fin 4096 := ⟨512 * (t.val % 8) + q.val, by omega⟩
/-- The row of the residual stream that a prompt's position is. -/
abbrev row (b : Fin 4) (s : Fin 2048) : Fin 8320 := ⟨2048 * b.val + s.val, by omega⟩

theorem x0_apply (c : Dev nD) (t : Fin cfg0.N) (p : Fin 2048) (q : Fin 512) :
    X0_0 m c t (ix2 p q) = (m ((c : Thread nD τ).loc main_arg0)) (ix2 (row (seq t) p) (⟨8192 + (col t q).val, by omega⟩ : Fin 12288)) := by
  unfold X0_0 Pipeline.Window.fill
  rw [dif_pos (moved0_0 t _)]
  blk_ext [iblk, V, idx t]
theorem x1_apply (c : Dev nD) (t : Fin cfg0.N) (k : Fin 4) (q : Fin 512) :
    iblk m c 1 t (ix2 k q) = (m ((c : Thread nD τ).loc main_arg1)) (ix3 (1 : Fin 4) k (col t q)) := by
  have e : iblk m c 1 t (ix2 k q) = (V m c main_v1 : FVec Ideal S4x4096 .f32) (ix2 k (col t q)) := by blk_ext [iblk, idx t]
  rw [e]
  have e2 : (V m c main_v1 : FVec Ideal S4x4096 .f32) = shapeCast _ (extractStridedSlice S1x4x4096 ![1, 0, 0] (m ((c : Thread nD τ).loc main_arg1)) slices_S4x4x4096_S1x4x4096_1_0_0) shapeCasts_S1x4x4096_S4x4096 := by rfl
  rw [e2]
  pointwise
theorem x2_apply (c : Dev nD) (t : Fin cfg0.N) (q : Fin 512) :
    iblk m c 2 t (ix2 (0 : Fin 1) q) = (m ((c : Thread nD τ).loc main_arg2)) (ix2 (1 : Fin 4) (col t q)) := by
  have e : iblk m c 2 t (ix2 (0 : Fin 1) q) = (V m c main_v4 : FVec Ideal S1x4096 .f32) (ix2 (0 : Fin 1) (col t q)) := by blk_ext [iblk, idx t]
  rw [e]
  have e2 : (V m c main_v4 : FVec Ideal S1x4096 .f32) = shapeCast _ (shapeCast _ (extractStridedSlice S1x4096 ![1, 0] (m ((c : Thread nD τ).loc main_arg2)) slices_S4x4096_S1x4096_1_0) shapeCasts_S1x4096_S4096) shapeCasts_S4096_S1x4096 := by rfl
  rw [e2]
  pointwise

theorem mask3 : ∀ p : Fin 2048, IntOp.cmpi .sge (BitVec.ofNat 32 p.val) 3#32 = BitVec.ofBool (decide (3 ≤ p.val)) := by decide +kernel
theorem mask2 : ∀ p : Fin 2048, IntOp.cmpi .sge (BitVec.ofNat 32 p.val) 2#32 = BitVec.ofBool (decide (2 ≤ p.val)) := by decide +kernel
theorem mask1 : ∀ p : Fin 2048, IntOp.cmpi .sge (BitVec.ofNat 32 p.val) 1#32 = BitVec.ofBool (decide (1 ≤ p.val)) := by decide +kernel

/-- A rotated and masked column times a weight is the reference's tap times it. -/
theorem sel (A : FVec Ideal S8320x12288 .f32) (b : Fin 4) (s : Fin 2048) (q : Fin 4096) (k : ℕ) (hk : k < 2048) (g : BitVec 1)
    (hg : g = BitVec.ofBool (decide (k ≤ s.val))) (w : EReal) :
    Scalar.select g (A (ix2 (row b ⟨(s.val + 2048 - k) % 2048, Nat.mod_lt _ (by omega)⟩) (⟨8192 + q.val, by omega⟩ : Fin 12288)) * w) (0 : EReal) = tap A b s k q * w := by
  have hs := s.isLt
  rw [hg, Idealize.ShloMosaic.WordCmp.select_ofBool]
  unfold tap
  by_cases h : k ≤ s.val
  · rw [if_pos (by simpa using h), dif_pos h]
    exact congrArg (fun x : EReal => x * w) (congrArg (fun r => A (ix2 r _)) (Fin.ext (by show 2048 * b.val + (s.val + 2048 - k) % 2048 = 2048 * b.val + (s.val - k); omega)))
  · rw [if_neg (by simpa using h), dif_neg h]
    exact (zero_mul w).symm

/-- The kernel's four taps at one element. -/
theorem taps_apply (c : Dev nD) (t : Fin cfg0.N) (p : Fin 2048) (q : Fin 512) :
    k0_pay3 (F := Ideal) (X0_0 m c t) (View.ld (iblk m c 1 t) (Rect.unit ![0, 0] ![1, 512] inb_S4x512_S1x512_0_0)) (View.ld (iblk m c 1 t) (Rect.unit ![1, 0] ![1, 512] inb_S4x512_S1x512_1_0)) (View.ld (iblk m c 1 t) (Rect.unit ![2, 0] ![1, 512] inb_S4x512_S1x512_2_0)) (View.ld (iblk m c 1 t) (Rect.unit ![3, 0] ![1, 512] inb_S4x512_S1x512_3_0)) (ix2 p q)
      + (m ((c : Thread nD τ).loc main_arg2) : FVec Ideal S4x4096 .f32) (ix2 (1 : Fin 4) (col t q)) = total (m ((c : Thread nD τ).loc main_arg0)) (m ((c : Thread nD τ).loc main_arg1)) (m ((c : Thread nD τ).loc main_arg2)) (seq t) p (col t q) := by
  unfold total
  pointwise [k0_pay3]
  simp only [x0_apply, x1_apply]
  have g := fun k hk b hb w => sel (m ((c : Thread nD τ).loc main_arg0)) (seq t) p (col t q) k hk b hb w
  exact congrArg (fun x : EReal => x + _) (congrArg₂ (fun x y : EReal => x + y) (congrArg₂ (fun x y : EReal => x + y) (congrArg₂ (fun x y : EReal => x + y)
    (g 3 (by omega) _ (mask3 p) _) (g 2 (by omega) _ (mask2 p) _)) (g 1 (by omega) _ (mask1 p) _))
    (congrArg (fun x : EReal => x * _) (Cert.CvpRefIdeal.Value.tap_zero (m ((c : Thread nD τ).loc main_arg0)) (seq t) p (col t q)).symm))

/-- The element that the kernel stores is the reference's element at that place of the result. -/
theorem entry0 (c : Dev nD) (t : Fin cfg0.N) (p : Fin 2048) (q : Fin 512) :
    (outsAt0 m c t).1 (ix2 p q) = REF0 (m ((c : Thread nD τ).loc main_arg0)) (m ((c : Thread nD τ).loc main_arg1)) (m ((c : Thread nD τ).loc main_arg2)) (ix2 (⟨2048 * (seq t).val + p.val, by omega⟩ : Fin 8192) (col t q)) := by
  rw [Cert.CvpRefIdeal.Value.ref_apply, ← taps_apply]
  unfold outsAt0
  frame_out
  unfold gate
  pointwise [k0_pay1]
  simp only [x2_apply]
  rw [zero_sub]
  exact rfl

theorem entry1 (c : Dev nD) (t : Fin cfg0.N) (k : Fin 3) (q : Fin 512) :
    (outsAt0 m c t).2 (ix3 (0 : Fin 1) k q) = REF1 (m ((c : Thread nD τ).loc main_arg0)) (m ((c : Thread nD τ).loc main_arg1)) (m ((c : Thread nD τ).loc main_arg2)) (ix3 (seq t) k (col t q)) := by
  have hk := k.isLt
  unfold outsAt0
  frame_out
  pointwise [k0_pay2, REF1]
  simp only [x0_apply]
  refine Eq.trans ?_ ((congrArg (fun r => win (m ((c : Thread nD τ).loc main_arg0)) (ix3 (seq t) r (col t q))) (Fin.ext (by show 3 + (2045 + k.val) = 2048 + k.val; omega))).symm.trans
    (Cert.CvpRefIdeal.Value.win_3 _ (seq t) (⟨2045 + k.val, by omega⟩ : Fin 2048) (col t q))).symm
  exact (Cert.CvpRefIdeal.Value.tap_zero (m ((c : Thread nD τ).loc main_arg0)) (seq t) (⟨2045 + k.val, by omega⟩ : Fin 2048) (col t q)).symm

/-- The whole result array 0 after the run. -/
theorem final0 (c : Dev nD) : (dats m 0 c).arrAt 3 (cfgs 0).N
    = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have he : ((cfg0.win 3).blk t).view.emb y = ix2 (⟨2048 * (seq t).val + (y 0).val, by have : (y 0).val < 2048 := (y 0).isLt; omega⟩ : Fin 8192) (col t ⟨(y 1).val, (y 1).isLt⟩) := by
    funext a
    apply Fin.ext
    match a with
    | ⟨0, _⟩ => blk_simp [idx t]; show t.val / 8 * 2048 + (y 0).val = 2048 * (t.val / 8) + (y 0).val; omega
    | ⟨1, _⟩ => blk_simp [idx t]; show t.val % 8 * 512 + (y 1).val = 512 * (t.val % 8) + (y 1).val; omega
  have hy : y = ix2 (⟨(y 0).val, (y 0).isLt⟩ : Fin 2048) (⟨(y 1).val, (y 1).isLt⟩ : Fin 512) := by
    funext a
    match a with
    | ⟨0, _⟩ => rfl
    | ⟨1, _⟩ => rfl
  exact (congrArg _ hy).trans ((entry0 m c t _ _).trans (congrArg (REF0 _ _ _) he.symm))

/-- The whole result array 1 after the run. -/
theorem final1 (c : Dev nD) : (dats m 0 c).arrAt 4 (cfgs 0).N
    = REF1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have he : ((cfg0.win 4).blk t).view.emb y = ix3 (seq t) (⟨(y 1).val, (y 1).isLt⟩ : Fin 3) (col t ⟨(y 2).val, (y 2).isLt⟩) := by
    have h0 : (y 0).val < 1 := (y 0).isLt
    funext a
    apply Fin.ext
    match a with
    | ⟨0, _⟩ => blk_simp [idx t]
    | ⟨1, _⟩ => blk_simp [idx t]; rfl
    | ⟨2, _⟩ => blk_simp [idx t]; show t.val % 8 * 512 + (y 2).val = 512 * (t.val % 8) + (y 2).val; omega
  have hy : y = ix3 (0 : Fin 1) (⟨(y 1).val, (y 1).isLt⟩ : Fin 3) (⟨(y 2).val, (y 2).isLt⟩ : Fin 512) := by
    funext a
    match a with
    | ⟨0, _⟩ => exact Fin.ext (Nat.lt_one_iff.mp (y 0).isLt)
    | ⟨1, _⟩ => rfl
    | ⟨2, _⟩ => rfl
  exact (congrArg _ hy).trans ((entry1 m c t _ _).trans (congrArg (REF1 _ _ _) he.symm))

end Cert.CvpIdeal.Value

end
-- ==== Proof.PreValue.lean ====
/- The value of the samples' inputs of the state's step: what the kernel leaves is the reference's convolved columns, kept rows, decays and scaled inputs. -/
module

public import proofs.«01_k».proof.Proof.Gen.PreIdeal.Frame
public import proofs.«01_k».proof.Proof.Gen.PreRefIdeal.Run
public import Idealize.ShloMosaic.Lib.Pipeline.ValueKit
public import Idealize.ShloMosaic.Lib.WordCmp
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.PreRefIdeal.Value

open Cert.PreRefIdeal Cert.PreRefIdeal.Gen

/-- A sample's convolution input: the kept rows and the new one. -/
def win (X0 : FVec Ideal S8320x12288 .f32) (X2 : FVec Ideal S4x128x3x4096 .f32) : FVec Ideal S128x4x4096 .f32 :=
    concatenate S128x4x4096 1 [⟨S128x3x4096, (shapeCast _ (extractStridedSlice S1x128x3x4096 ![1, 0, 0, 0] X2
    slices_S4x128x3x4096_S1x128x3x4096_1_0_0_0) shapeCasts_S1x128x3x4096_S128x3x4096)⟩, ⟨S128x1x4096,
    (extractStridedSlice S128x1x4096 ![0, 0, 8192] (shapeCast _ (extractStridedSlice S128x12288 ![8192, 0] X0
    slices_S8320x12288_S128x12288_8192_0) shapeCasts_S128x12288_S128x1x12288)
    slices_S128x1x12288_S128x1x4096_0_0_8192)⟩] concatenates_S128x3x4096_S128x1x4096_S128x4x4096_d1

/-- The four taps and the bias. -/
def conv (X0 : FVec Ideal S8320x12288 .f32) (X2 : FVec Ideal S4x128x3x4096 .f32) (X3 : FVec Ideal S4x4x4096 .f32) (X4 : FVec Ideal S4x4096 .f32) : FVec Ideal S128x1x4096 .f32 :=
    addf (addf (addf (addf (addf (broadcastInDim S128x1x4096 ![] bcast_S_S128x1x4096 (constant (F := Ideal) S_
    .f32 0x00000000#32)) (mulf (extractStridedSlice S128x1x4096 ![0, 0, 0] (win X0 X2)
    slices_S128x4x4096_S128x1x4096_0_0_0) (broadcastInDim S128x1x4096 ![0, 1, 2]
    bcast_S1x1x4096_S128x1x4096_0_1_2 (broadcastInDim S1x1x4096 ![2] bcast_S4096_S1x1x4096_2 (shapeCast _
    (extractStridedSlice S1x4096 ![0, 0] (shapeCast _ (extractStridedSlice S1x4x4096 ![1, 0, 0] X3
    slices_S4x4x4096_S1x4x4096_1_0_0) shapeCasts_S1x4x4096_S4x4096) slices_S4x4096_S1x4096_0_0)
    shapeCasts_S1x4096_S4096))))) (mulf (extractStridedSlice S128x1x4096 ![0, 1, 0] (win X0 X2)
    slices_S128x4x4096_S128x1x4096_0_1_0) (broadcastInDim S128x1x4096 ![0, 1, 2]
    bcast_S1x1x4096_S128x1x4096_0_1_2 (broadcastInDim S1x1x4096 ![2] bcast_S4096_S1x1x4096_2 (shapeCast _
    (extractStridedSlice S1x4096 ![1, 0] (shapeCast _ (extractStridedSlice S1x4x4096 ![1, 0, 0] X3
    slices_S4x4x4096_S1x4x4096_1_0_0) shapeCasts_S1x4x4096_S4x4096) slices_S4x4096_S1x4096_1_0)
    shapeCasts_S1x4096_S4096))))) (mulf (extractStridedSlice S128x1x4096 ![0, 2, 0] (win X0 X2)
    slices_S128x4x4096_S128x1x4096_0_2_0) (broadcastInDim S128x1x4096 ![0, 1, 2]
    bcast_S1x1x4096_S128x1x4096_0_1_2 (broadcastInDim S1x1x4096 ![2] bcast_S4096_S1x1x4096_2 (shapeCast _
    (extractStridedSlice S1x4096 ![2, 0] (shapeCast _ (extractStridedSlice S1x4x4096 ![1, 0, 0] X3
    slices_S4x4x4096_S1x4x4096_1_0_0) shapeCasts_S1x4x4096_S4x4096) slices_S4x4096_S1x4096_2_0)
    shapeCasts_S1x4096_S4096))))) (mulf (extractStridedSlice S128x1x4096 ![0, 3, 0] (win X0 X2)
    slices_S128x4x4096_S128x1x4096_0_3_0) (broadcastInDim S128x1x4096 ![0, 1, 2]
    bcast_S1x1x4096_S128x1x4096_0_1_2 (broadcastInDim S1x1x4096 ![2] bcast_S4096_S1x1x4096_2 (shapeCast _
    (extractStridedSlice S1x4096 ![3, 0] (shapeCast _ (extractStridedSlice S1x4x4096 ![1, 0, 0] X3
    slices_S4x4x4096_S1x4x4096_1_0_0) shapeCasts_S1x4x4096_S4x4096) slices_S4x4096_S1x4096_3_0)
    shapeCasts_S1x4096_S4096))))) (broadcastInDim S128x1x4096 ![0, 1, 2] bcast_S1x1x4096_S128x1x4096_0_1_2
    (broadcastInDim S1x1x4096 ![2] bcast_S4096_S1x1x4096_2 (shapeCast _ (extractStridedSlice S1x4096 ![1, 0]
    X4 slices_S4x4096_S1x4096_1_0) shapeCasts_S1x4096_S4096)))

/-- The convolved columns. -/
def act (X0 : FVec Ideal S8320x12288 .f32) (X2 : FVec Ideal S4x128x3x4096 .f32) (X3 : FVec Ideal S4x4x4096 .f32) (X4 : FVec Ideal S4x4096 .f32) : FVec Ideal S128x4096 .f32 :=
    shapeCast _ (mulf (conv X0 X2 X3 X4) (Host.divf (broadcastInDim S128x1x4096 ![] bcast_S_S128x1x4096
    (constant (F := Ideal) S_ .f32 0x3F800000#32)) (addf (broadcastInDim S128x1x4096 ![] bcast_S_S128x1x4096
    (constant (F := Ideal) S_ .f32 0x3F800000#32)) (Host.exp (Host.negf (conv X0 X2 X3 X4))))))
    shapeCasts_S128x1x4096_S128x4096

/-- The heads' steps. -/
def step (X1 : FVec Ideal S8320x1536 .f32) (X5 : FVec Ideal S4x32 .f32) : FVec Ideal S128x32 .f32 :=
    select (cmpf .une (subf (addf (extractStridedSlice S128x32 ![8192, 1408] X1
    slices_S8320x1536_S128x32_8192_1408) (broadcastInDim S128x32 ![0, 1] bcast_S1x32_S128x32_0_1
    (broadcastInDim S1x32 ![1] bcast_S32_S1x32_1 (shapeCast _ (extractStridedSlice S1x32 ![1, 0] X5
    slices_S4x32_S1x32_1_0) shapeCasts_S1x32_S32)))) (broadcastInDim S128x32 ![] bcast_S_S128x32 (constant (F
    := Ideal) S_ .f32 0x00000000#32))) (subf (addf (extractStridedSlice S128x32 ![8192, 1408] X1
    slices_S8320x1536_S128x32_8192_1408) (broadcastInDim S128x32 ![0, 1] bcast_S1x32_S128x32_0_1
    (broadcastInDim S1x32 ![1] bcast_S32_S1x32_1 (shapeCast _ (extractStridedSlice S1x32 ![1, 0] X5
    slices_S4x32_S1x32_1_0) shapeCasts_S1x32_S32)))) (broadcastInDim S128x32 ![] bcast_S_S128x32 (constant (F
    := Ideal) S_ .f32 0x00000000#32)))) (addf (addf (extractStridedSlice S128x32 ![8192, 1408] X1
    slices_S8320x1536_S128x32_8192_1408) (broadcastInDim S128x32 ![0, 1] bcast_S1x32_S128x32_0_1
    (broadcastInDim S1x32 ![1] bcast_S32_S1x32_1 (shapeCast _ (extractStridedSlice S1x32 ![1, 0] X5
    slices_S4x32_S1x32_1_0) shapeCasts_S1x32_S32)))) (broadcastInDim S128x32 ![] bcast_S_S128x32 (constant (F
    := Ideal) S_ .f32 0x00000000#32))) (addf (maximumf (addf (extractStridedSlice S128x32 ![8192, 1408] X1
    slices_S8320x1536_S128x32_8192_1408) (broadcastInDim S128x32 ![0, 1] bcast_S1x32_S128x32_0_1
    (broadcastInDim S1x32 ![1] bcast_S32_S1x32_1 (shapeCast _ (extractStridedSlice S1x32 ![1, 0] X5
    slices_S4x32_S1x32_1_0) shapeCasts_S1x32_S32)))) (broadcastInDim S128x32 ![] bcast_S_S128x32 (constant (F
    := Ideal) S_ .f32 0x00000000#32))) (Host.log1p (Host.exp (Host.negf (Host.absf (subf (addf
    (extractStridedSlice S128x32 ![8192, 1408] X1 slices_S8320x1536_S128x32_8192_1408) (broadcastInDim S128x32
    ![0, 1] bcast_S1x32_S128x32_0_1 (broadcastInDim S1x32 ![1] bcast_S32_S1x32_1 (shapeCast _
    (extractStridedSlice S1x32 ![1, 0] X5 slices_S4x32_S1x32_1_0) shapeCasts_S1x32_S32)))) (broadcastInDim
    S128x32 ![] bcast_S_S128x32 (constant (F := Ideal) S_ .f32 0x00000000#32))))))))

/-- The reference's result 0 as a function of its argument arrays. -/
abbrev REF0 (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) :
    FVec Ideal S128x4096 .f32 :=
    act X0 X2 X3 X4

/-- The reference's result 1 as a function of its argument arrays. -/
abbrev REF1 (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) :
    FVec Ideal S3x128x4096 .f32 :=
    transpose S3x128x4096 [1, 0, 2] (extractStridedSlice S128x3x4096 ![0, 1, 0] (win X0 X2)
    slices_S128x4x4096_S128x3x4096_0_1_0) transposes_S128x3x4096_S3x128x4096_1_0_2

/-- The reference's result 2 as a function of its argument arrays. -/
abbrev REF2 (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) :
    FVec Ideal S2048x128 .f32 :=
    transpose S2048x128 [1, 0] (shapeCast _ (broadcastInDim S128x32x64 ![0, 1, 2]
    bcast_S128x32x1_S128x32x64_0_1_2 (broadcastInDim S128x32x1 ![0, 1] bcast_S128x32_S128x32x1_0_1 (Host.exp
    (mulf (step X1 X5) (broadcastInDim S128x32 ![0, 1] bcast_S1x32_S128x32_0_1 (broadcastInDim S1x32 ![1]
    bcast_S32_S1x32_1 (Host.negf (Host.exp (shapeCast _ (extractStridedSlice S1x32 ![1, 0] X6
    slices_S4x32_S1x32_1_0) shapeCasts_S1x32_S32))))))))) shapeCasts_S128x32x64_S128x2048)
    transposes_S128x2048_S2048x128_1_0

/-- The reference's result 3 as a function of its argument arrays. -/
abbrev REF3 (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) :
    FVec Ideal S2048x128 .f32 :=
    transpose S2048x128 [1, 0] (shapeCast _ (mulf (broadcastInDim S128x32x64 ![0, 1, 2]
    bcast_S128x32x1_S128x32x64_0_1_2 (broadcastInDim S128x32x1 ![0, 1] bcast_S128x32_S128x32x1_0_1 (step X1
    X5))) (shapeCast _ (extractStridedSlice S128x2048 ![0, 0] (act X0 X2 X3 X4)
    slices_S128x4096_S128x2048_0_0) shapeCasts_S128x2048_S128x32x64)) shapeCasts_S128x32x64_S128x2048)
    transposes_S128x2048_S2048x128_1_0

/-- A sample's new input row in one column of the convolution. -/
def fresh (X0 : FVec Ideal S8320x12288 .f32) (p : Fin 128) (q : Fin 4096) : EReal :=
  X0 (ix2 (⟨8192 + p.val, by omega⟩ : Fin 8320) (⟨8192 + q.val, by omega⟩ : Fin 12288))

theorem win_old (X0 : FVec Ideal S8320x12288 .f32) (X2 : FVec Ideal S4x128x3x4096 .f32) (p : Fin 128) (k : Fin 3) (q : Fin 4096) :
    win X0 X2 (ix3 p (⟨k.val, by omega⟩ : Fin 4) q) = X2 (ix4 (1 : Fin 4) p k q) := by
  pointwise [win]
  done
theorem win_0 (X0 : FVec Ideal S8320x12288 .f32) (X2 : FVec Ideal S4x128x3x4096 .f32) (p : Fin 128) (q : Fin 4096) : win X0 X2 (ix3 p (0 : Fin 4) q) = X2 (ix4 (1 : Fin 4) p (0 : Fin 3) q) := win_old X0 X2 p 0 q
theorem win_1 (X0 : FVec Ideal S8320x12288 .f32) (X2 : FVec Ideal S4x128x3x4096 .f32) (p : Fin 128) (q : Fin 4096) : win X0 X2 (ix3 p (1 : Fin 4) q) = X2 (ix4 (1 : Fin 4) p (1 : Fin 3) q) := win_old X0 X2 p 1 q
theorem win_2 (X0 : FVec Ideal S8320x12288 .f32) (X2 : FVec Ideal S4x128x3x4096 .f32) (p : Fin 128) (q : Fin 4096) : win X0 X2 (ix3 p (2 : Fin 4) q) = X2 (ix4 (1 : Fin 4) p (2 : Fin 3) q) := win_old X0 X2 p 2 q
theorem win_3 (X0 : FVec Ideal S8320x12288 .f32) (X2 : FVec Ideal S4x128x3x4096 .f32) (p : Fin 128) (q : Fin 4096) : win X0 X2 (ix3 p (3 : Fin 4) q) = fresh X0 p q := by
  unfold fresh
  pointwise [win]
  done

/-- The convolution of a sample at one column: three kept rows, the new one and the bias. -/
def total (X0 : FVec Ideal S8320x12288 .f32) (X2 : FVec Ideal S4x128x3x4096 .f32) (X3 : FVec Ideal S4x4x4096 .f32) (X4 : FVec Ideal S4x4096 .f32) (p : Fin 128) (q : Fin 4096) : EReal :=
  X2 (ix4 (1 : Fin 4) p (0 : Fin 3) q) * X3 (ix3 (1 : Fin 4) (0 : Fin 4) q) + X2 (ix4 (1 : Fin 4) p (1 : Fin 3) q) * X3 (ix3 (1 : Fin 4) (1 : Fin 4) q)
    + X2 (ix4 (1 : Fin 4) p (2 : Fin 3) q) * X3 (ix3 (1 : Fin 4) (2 : Fin 4) q) + fresh X0 p q * X3 (ix3 (1 : Fin 4) (3 : Fin 4) q)
    + X4 (ix2 (1 : Fin 4) q)

/-- A number times its logistic. -/
def gate (v : EReal) : EReal := v * Ideal.div 1 (1 + Ideal.exp (-v))

theorem conv_apply (X0 : FVec Ideal S8320x12288 .f32) (X2 : FVec Ideal S4x128x3x4096 .f32) (X3 : FVec Ideal S4x4x4096 .f32) (X4 : FVec Ideal S4x4096 .f32) (p : Fin 128) (q : Fin 4096) :
    conv X0 X2 X3 X4 (ix3 p (0 : Fin 1) q) = total X0 X2 X3 X4 p q := by
  unfold total
  pointwise [conv]
  rw [win_0, win_1, win_2, win_3]
  done

theorem act_apply (X0 : FVec Ideal S8320x12288 .f32) (X2 : FVec Ideal S4x128x3x4096 .f32) (X3 : FVec Ideal S4x4x4096 .f32) (X4 : FVec Ideal S4x4096 .f32) (p : Fin 128) (q : Fin 4096) :
    act X0 X2 X3 X4 (ix2 p q) = gate (total X0 X2 X3 X4 p q) := by
  unfold gate
  rw [← conv_apply]
  pointwise [act]
  done

/-- The logarithm of one plus the exponential, without overflow. -/
def soft (d : EReal) : EReal := max d 0 + Ideal.log1p (Ideal.exp (-(FloatOps.absf (F := Ideal) (φ := .f32) d : EReal)))

/-- A head's raw step for a sample. -/
def raw (X1 : FVec Ideal S8320x1536 .f32) (X5 : FVec Ideal S4x32 .f32) (p : Fin 128) (h : Fin 32) : EReal :=
  X1 (ix2 (⟨8192 + p.val, by omega⟩ : Fin 8320) (⟨1408 + h.val, by omega⟩ : Fin 1536)) + X5 (ix2 (1 : Fin 4) h)

theorem step_apply (X1 : FVec Ideal S8320x1536 .f32) (X5 : FVec Ideal S4x32 .f32) (p : Fin 128) (h : Fin 32) :
    step X1 X5 (ix2 p h) = soft (raw X1 X5 p h) := by
  unfold soft raw
  pointwise [step]
  exact if_neg (fun q => q rfl)

theorem ref2_apply (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) (r : Fin 2048) (p : Fin 128) :
    REF2 X0 X1 X2 X3 X4 X5 X6 (ix2 r p) = Ideal.exp (soft (raw X1 X5 p ⟨r.val / 64, by omega⟩) * -Ideal.exp (X6 (ix2 (1 : Fin 4) (⟨r.val / 64, by omega⟩ : Fin 32)))) := by
  rw [← step_apply]
  pointwise [REF2]
  done

theorem ref3_apply (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) (r : Fin 2048) (p : Fin 128) :
    REF3 X0 X1 X2 X3 X4 X5 X6 (ix2 r p) = soft (raw X1 X5 p ⟨r.val / 64, by omega⟩) * gate (total X0 X2 X3 X4 p ⟨r.val, by omega⟩) := by
  rw [← step_apply, ← act_apply]
  pointwise [REF3]
  done

theorem ref1_old (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) (k : Fin 2) (p : Fin 128) (q : Fin 4096) :
    REF1 X0 X1 X2 X3 X4 X5 X6 (ix3 (⟨k.val, by omega⟩ : Fin 3) p q) = X2 (ix4 (1 : Fin 4) p (⟨1 + k.val, by omega⟩ : Fin 3) q) := by
  refine Eq.trans ?_ (win_old X0 X2 p ⟨1 + k.val, by omega⟩ q)
  pointwise [REF1]
  done

theorem ref1_new (X0 : FVec Ideal S8320x12288 .f32) (X1 : FVec Ideal S8320x1536 .f32) (X2 : FVec Ideal S4x128x3x4096 .f32) (X3 : FVec Ideal S4x4x4096 .f32) (X4 : FVec Ideal S4x4096 .f32) (X5 : FVec Ideal S4x32 .f32) (X6 : FVec Ideal S4x32 .f32) (p : Fin 128) (q : Fin 4096) :
    REF1 X0 X1 X2 X3 X4 X5 X6 (ix3 (2 : Fin 3) p q) = fresh X0 p q := by
  refine Eq.trans ?_ (win_3 X0 X2 p q)
  pointwise [REF1]
  done

end Cert.PreRefIdeal.Value

namespace Cert.PreIdeal.Value

open Cert.PreIdeal Cert.PreIdeal.Gen
open Cert.PreRefIdeal.Value (REF0 REF1 REF2 REF3)

variable (m : (ℓ : Loc nD τ sig) → Buf (Elt Ideal) ℓ)

open Cert.PreRefIdeal.Value (fresh total gate soft raw)

/-- Where each window's block starts at a grid point, for every point of the grid. -/
theorem idx : ∀ t : Fin cfg0.N,
    (win0_0.index t 0 = 64 ∧ win0_0.index t 1 = 2)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 64 ∧ win0_4.index t 1 = 11)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0 ∧ win0_8.index t 2 = 0)
    ∧ (win0_9.index t 0 = 0 ∧ win0_9.index t 1 = 0)
    ∧ (win0_10.index t 0 = 0 ∧ win0_10.index t 1 = 0) :=
  (by decide +kernel : ∀ t : Fin grid0.N, _)

theorem x0_apply (c : Dev nD) (t : Fin cfg0.N) (p : Fin 128) (q : Fin 4096) :
    iblk m c 0 t (ix2 p q) = fresh (m ((c : Thread nD τ).loc main_arg0)) p q := by
  unfold fresh
  blk_ext [iblk, V, idx t]
theorem x1_apply (c : Dev nD) (t : Fin cfg0.N) (k : Fin 3) (p : Fin 128) (q : Fin 4096) :
    iblk m c 1 t (ix3 k p q) = (m ((c : Thread nD τ).loc main_arg2)) (ix4 (1 : Fin 4) p k q) := by
  have e : iblk m c 1 t (ix3 k p q) = (V m c main_v2 : FVec Ideal S3x128x4096 .f32) (ix3 k p q) := by blk_ext [iblk, idx t]
  rw [e]
  entry_read
  pointwise
theorem x2_apply (c : Dev nD) (t : Fin cfg0.N) (k : Fin 4) (q : Fin 4096) :
    iblk m c 2 t (ix2 k q) = (m ((c : Thread nD τ).loc main_arg3)) (ix3 (1 : Fin 4) k q) := by
  have e : iblk m c 2 t (ix2 k q) = (V m c main_v4 : FVec Ideal S4x4096 .f32) (ix2 k q) := by blk_ext [iblk, idx t]
  rw [e]
  entry_read
  pointwise
theorem x3_apply (c : Dev nD) (t : Fin cfg0.N) (q : Fin 4096) :
    iblk m c 3 t (ix2 (0 : Fin 1) q) = (m ((c : Thread nD τ).loc main_arg4)) (ix2 (1 : Fin 4) q) := by
  have e : iblk m c 3 t (ix2 (0 : Fin 1) q) = (V m c main_v11 : FVec Ideal S1x4096 .f32) (ix2 (0 : Fin 1) q) := by blk_ext [iblk, idx t]
  rw [e]
  entry_read
  pointwise
theorem x4_apply (c : Dev nD) (t : Fin cfg0.N) (p h : Fin 128) :
    iblk m c 4 t (ix2 p h) = (m ((c : Thread nD τ).loc main_arg1)) (ix2 (⟨8192 + p.val, by omega⟩ : Fin 8320) (⟨1408 + h.val, by omega⟩ : Fin 1536)) := by
  blk_ext [iblk, V, idx t]

/-- The start of the host's padding. -/
abbrev start : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

theorem lands : ∀ k : Fin 32, scatter_S1x128_S2_S32_0_0_01_0.resultIdx? (ix1 k : S32.Idx) start = some (ix2 (0 : Fin 1) (⟨k.val, by omega⟩ : Fin 128)) := by
  decide +kernel

theorem pad_apply (Z : FVec Ideal S1x128 .f32) (v : FVec Ideal S32 .f32) (h : Fin 32) :
    Host.scatter scatter_S1x128_S2_S32_0_0_01_0 (fun _ b => b) Z start v (ix2 (0 : Fin 1) (⟨h.val, by omega⟩ : Fin 128)) = v (ix1 h) := by
  refine Idealize.ShloMosaic.Routing.scatter_set_hit _ _ _ _ _ _ (fun k hk => ?_) (ix1 h : S32.Idx) (lands h)
  have hk' : k = ix1 (k 0) := by
    funext a
    match a with
    | ⟨0, _⟩ => rfl
  have hk2 : scatter_S1x128_S2_S32_0_0_01_0.resultIdx? k start = some (ix2 (0 : Fin 1) (⟨(k 0).val, by have : (k 0).val < 32 := (k 0).isLt; omega⟩ : Fin 128)) :=
    (congrArg (fun z => scatter_S1x128_S2_S32_0_0_01_0.resultIdx? z start) hk').trans (lands (k 0))
  have e := congrArg (fun z : S1x128.Idx => (z 1).val) (Option.some.inj (hk2.symm.trans hk))
  have e' : k 0 = h := Fin.ext e
  exact (congrArg v hk').trans (congrArg (fun z : Fin 32 => v (ix1 z)) e')

theorem x5_apply (c : Dev nD) (t : Fin cfg0.N) (h : Fin 32) :
    iblk m c 5 t (ix2 (0 : Fin 1) (⟨h.val, by omega⟩ : Fin 128)) = (m ((c : Thread nD τ).loc main_arg5)) (ix2 (1 : Fin 4) h) := by
  have e : iblk m c 5 t (ix2 (0 : Fin 1) (⟨h.val, by omega⟩ : Fin 128)) = (V m c main_v16 : FVec Ideal S1x128 .f32) (ix2 (0 : Fin 1) (⟨h.val, by omega⟩ : Fin 128)) := by blk_ext [iblk, idx t]
  rw [e]
  entry_read
  refine (pad_apply _ _ h).trans ?_
  pointwise
theorem x6_apply (c : Dev nD) (t : Fin cfg0.N) (h : Fin 32) :
    iblk m c 6 t (ix2 (0 : Fin 1) (⟨h.val, by omega⟩ : Fin 128)) = (m ((c : Thread nD τ).loc main_arg6)) (ix2 (1 : Fin 4) h) := by
  have e : iblk m c 6 t (ix2 (0 : Fin 1) (⟨h.val, by omega⟩ : Fin 128)) = (V m c main_v21 : FVec Ideal S1x128 .f32) (ix2 (0 : Fin 1) (⟨h.val, by omega⟩ : Fin 128)) := by blk_ext [iblk, idx t]
  rw [e]
  entry_read
  refine (pad_apply _ _ h).trans ?_
  pointwise

theorem total_blk (c : Dev nD) (t : Fin cfg0.N) (p : Fin 128) (q : Fin 4096) :
    k0_pay75 (F := Ideal) (iblk m c 0 t) (iblk m c 1 t) (iblk m c 2 t) (iblk m c 3 t) (iblk m c 4 t) (iblk m c 5 t) (iblk m c 6 t) (ix2 p q) = total (m ((c : Thread nD τ).loc main_arg0)) (m ((c : Thread nD τ).loc main_arg2)) (m ((c : Thread nD τ).loc main_arg3)) (m ((c : Thread nD τ).loc main_arg4)) p q := by
  unfold total
  unfold k0_pay75
  pointwise [k0_pay2]
  simp only [x0_apply, x1_apply, x2_apply, x3_apply]
  done

theorem act_blk (c : Dev nD) (t : Fin cfg0.N) (p : Fin 128) (q : Fin 4096) :
    k0_pay77 (F := Ideal) (iblk m c 0 t) (iblk m c 1 t) (iblk m c 2 t) (iblk m c 3 t) (iblk m c 4 t) (iblk m c 5 t) (iblk m c 6 t) (ix2 p q) = gate (total (m ((c : Thread nD τ).loc main_arg0)) (m ((c : Thread nD τ).loc main_arg2)) (m ((c : Thread nD τ).loc main_arg3)) (m ((c : Thread nD τ).loc main_arg4)) p q) := by
  have e : k0_pay76 (F := Ideal) (iblk m c 0 t) (iblk m c 1 t) (iblk m c 2 t) (iblk m c 3 t) (iblk m c 4 t) (iblk m c 5 t) (iblk m c 6 t) (ix2 p q) = 1 + Ideal.exp (0 - k0_pay75 (F := Ideal) (iblk m c 0 t) (iblk m c 1 t) (iblk m c 2 t) (iblk m c 3 t) (iblk m c 4 t) (iblk m c 5 t) (iblk m c 6 t) (ix2 p q)) := by
    unfold k0_pay76 k0_pay75
    pointwise [k0_pay3]
    done
  unfold gate
  unfold k0_pay77
  pointwise [k0_pay4]
  rw [e, total_blk, zero_sub]

theorem soft_blk (c : Dev nD) (t : Fin cfg0.N) (p : Fin 128) (h : Fin 32) :
    k0_pay78 (F := Ideal) (iblk m c 0 t) (iblk m c 1 t) (iblk m c 2 t) (iblk m c 3 t) (iblk m c 4 t) (iblk m c 5 t) (iblk m c 6 t) (ix2 p (⟨h.val, by omega⟩ : Fin 128)) = soft (raw (m ((c : Thread nD τ).loc main_arg1)) (m ((c : Thread nD τ).loc main_arg5)) p h) := by
  unfold soft raw
  unfold k0_pay78
  pointwise [k0_pay8]
  rw [x4_apply, x5_apply, zero_sub]
  done

theorem step_blk (c : Dev nD) (t : Fin cfg0.N) (h : Fin 32) (p : Fin 128) :
    k0_pay79 (F := Ideal) (iblk m c 0 t) (iblk m c 1 t) (iblk m c 2 t) (iblk m c 3 t) (iblk m c 4 t) (iblk m c 5 t) (iblk m c 6 t) (ix2 (⟨h.val, by omega⟩ : Fin 128) p) = soft (raw (m ((c : Thread nD τ).loc main_arg1)) (m ((c : Thread nD τ).loc main_arg5)) p h) := by
  rw [← soft_blk m c t]
  unfold k0_pay79
  pointwise [k0_pay9]
  done

theorem decay_blk (c : Dev nD) (t : Fin cfg0.N) (h : Fin 32) (p : Fin 128) :
    k0_pay80 (F := Ideal) (iblk m c 0 t) (iblk m c 1 t) (iblk m c 2 t) (iblk m c 3 t) (iblk m c 4 t) (iblk m c 5 t) (iblk m c 6 t) (ix2 (⟨h.val, by omega⟩ : Fin 128) p) = Ideal.exp (soft (raw (m ((c : Thread nD τ).loc main_arg1)) (m ((c : Thread nD τ).loc main_arg5)) p h) * -Ideal.exp ((m ((c : Thread nD τ).loc main_arg6)) (ix2 (1 : Fin 4) h))) := by
  rw [← soft_blk m c t]
  unfold k0_pay80
  pointwise [k0_pay10]
  rw [x6_apply, zero_sub]
  done

theorem in_blk (c : Dev nD) (t : Fin cfg0.N) (r : Fin 2048) (p : Fin 128) :
    k0_pay81 (F := Ideal) (iblk m c 0 t) (iblk m c 1 t) (iblk m c 2 t) (iblk m c 3 t) (iblk m c 4 t) (iblk m c 5 t) (iblk m c 6 t) (ix2 r p) = gate (total (m ((c : Thread nD τ).loc main_arg0)) (m ((c : Thread nD τ).loc main_arg2)) (m ((c : Thread nD τ).loc main_arg3)) (m ((c : Thread nD τ).loc main_arg4)) p ⟨r.val, by omega⟩) := by
  rw [← act_blk m c t]
  unfold k0_pay81
  pointwise [k0_pay11]
  done

/-- A head's row of decays, at one of the head's rows. -/
def spread (D : FVec Ideal S128x128 .f32) (h : Fin 32) (r : Fin 2048) (p : Fin 128) : EReal := D (ix2 (⟨h.val, by omega⟩ : Fin 128) p)

/-- A head's row of steps times one of the head's rows of the window's value. -/
def inject (D : FVec Ideal S128x128 .f32) (X : FVec Ideal S2048x128 .f32) (h : Fin 32) (r : Fin 2048) (p : Fin 128) : EReal :=
  D (ix2 (⟨h.val, by omega⟩ : Fin 128) p) * X (ix2 r p)

/-- A row of a head's block of rows. -/
def place (h : Fin 32) (q : Fin 64) : Fin 2048 := ⟨64 * h.val + q.val, by omega⟩

/-- A value given by head, row and column depends on the numbers alone. -/
theorem by_head (f : Fin 32 → Fin 2048 → Fin 128 → EReal) (y : S2048x128.Idx) (h : Fin 32) (q : Fin 64) (p : Fin 128)
    (e0 : (y 0).val = 64 * h.val + q.val) (e1 : (y 1).val = p.val) :
    f h (place h q) p = f ⟨(y 0).val / 64, by have : (y 0).val < 2048 := (y 0).isLt; omega⟩ (y 0) (y 1) := by
  have a : h = ⟨(y 0).val / 64, by have : (y 0).val < 2048 := (y 0).isLt; omega⟩ := Fin.ext (by show h.val = (y 0).val / 64; omega)
  have b : place h q = y 0 := Fin.ext e0.symm
  have d : p = y 1 := Fin.ext e1.symm
  exact (congrFun (congrFun (congrArg f a) _) p).trans ((congrFun (congrArg (f _) b) p).trans (congrArg (f _ _) d))

theorem out9_apply (x0 : FVec Ideal S128x4096 .f32) (x1 : FVec Ideal S3x128x4096 .f32) (x2 : FVec Ideal S4x4096 .f32) (x3 : FVec Ideal S1x4096 .f32) (x4 : FVec Ideal S128x128 .f32) (x5 : FVec Ideal S1x128 .f32) (x6 : FVec Ideal S1x128 .f32) (y : S2048x128.Idx) :
    out0_9 (F := Ideal) x0 x1 x2 x3 x4 x5 x6 y = spread (k0_pay80 (F := Ideal) x0 x1 x2 x3 x4 x5 x6) ⟨(y 0).val / 64, by have : (y 0).val < 2048 := (y 0).isLt; omega⟩ (y 0) (y 1) := by
  have key := by_head (spread (k0_pay80 (F := Ideal) x0 x1 x2 x3 x4 x5 x6)) y
  unfold out0_9
  canon_tiles y h
  case piece0 => exact Eq.trans (by pointwise [k0_pay74, spread]; first | done | rfl) (key 31 (y 0) (y 1) (h0.trans (by show _ = 64 * 31 + (y 0).val; omega)) h1)
  case piece1 => exact Eq.trans (by pointwise [k0_pay72, spread]; first | done | rfl) (key 30 (y 0) (y 1) (h0.trans (by show _ = 64 * 30 + (y 0).val; omega)) h1)
  case piece2 => exact Eq.trans (by pointwise [k0_pay70, spread]; first | done | rfl) (key 29 (y 0) (y 1) (h0.trans (by show _ = 64 * 29 + (y 0).val; omega)) h1)
  case piece3 => exact Eq.trans (by pointwise [k0_pay68, spread]; first | done | rfl) (key 28 (y 0) (y 1) (h0.trans (by show _ = 64 * 28 + (y 0).val; omega)) h1)
  case piece4 => exact Eq.trans (by pointwise [k0_pay66, spread]; first | done | rfl) (key 27 (y 0) (y 1) (h0.trans (by show _ = 64 * 27 + (y 0).val; omega)) h1)
  case piece5 => exact Eq.trans (by pointwise [k0_pay64, spread]; first | done | rfl) (key 26 (y 0) (y 1) (h0.trans (by show _ = 64 * 26 + (y 0).val; omega)) h1)
  case piece6 => exact Eq.trans (by pointwise [k0_pay62, spread]; first | done | rfl) (key 25 (y 0) (y 1) (h0.trans (by show _ = 64 * 25 + (y 0).val; omega)) h1)
  case piece7 => exact Eq.trans (by pointwise [k0_pay60, spread]; first | done | rfl) (key 24 (y 0) (y 1) (h0.trans (by show _ = 64 * 24 + (y 0).val; omega)) h1)
  case piece8 => exact Eq.trans (by pointwise [k0_pay58, spread]; first | done | rfl) (key 23 (y 0) (y 1) (h0.trans (by show _ = 64 * 23 + (y 0).val; omega)) h1)
  case piece9 => exact Eq.trans (by pointwise [k0_pay56, spread]; first | done | rfl) (key 22 (y 0) (y 1) (h0.trans (by show _ = 64 * 22 + (y 0).val; omega)) h1)
  case piece10 => exact Eq.trans (by pointwise [k0_pay54, spread]; first | done | rfl) (key 21 (y 0) (y 1) (h0.trans (by show _ = 64 * 21 + (y 0).val; omega)) h1)
  case piece11 => exact Eq.trans (by pointwise [k0_pay52, spread]; first | done | rfl) (key 20 (y 0) (y 1) (h0.trans (by show _ = 64 * 20 + (y 0).val; omega)) h1)
  case piece12 => exact Eq.trans (by pointwise [k0_pay50, spread]; first | done | rfl) (key 19 (y 0) (y 1) (h0.trans (by show _ = 64 * 19 + (y 0).val; omega)) h1)
  case piece13 => exact Eq.trans (by pointwise [k0_pay48, spread]; first | done | rfl) (key 18 (y 0) (y 1) (h0.trans (by show _ = 64 * 18 + (y 0).val; omega)) h1)
  case piece14 => exact Eq.trans (by pointwise [k0_pay46, spread]; first | done | rfl) (key 17 (y 0) (y 1) (h0.trans (by show _ = 64 * 17 + (y 0).val; omega)) h1)
  case piece15 => exact Eq.trans (by pointwise [k0_pay44, spread]; first | done | rfl) (key 16 (y 0) (y 1) (h0.trans (by show _ = 64 * 16 + (y 0).val; omega)) h1)
  case piece16 => exact Eq.trans (by pointwise [k0_pay42, spread]; first | done | rfl) (key 15 (y 0) (y 1) (h0.trans (by show _ = 64 * 15 + (y 0).val; omega)) h1)
  case piece17 => exact Eq.trans (by pointwise [k0_pay40, spread]; first | done | rfl) (key 14 (y 0) (y 1) (h0.trans (by show _ = 64 * 14 + (y 0).val; omega)) h1)
  case piece18 => exact Eq.trans (by pointwise [k0_pay38, spread]; first | done | rfl) (key 13 (y 0) (y 1) (h0.trans (by show _ = 64 * 13 + (y 0).val; omega)) h1)
  case piece19 => exact Eq.trans (by pointwise [k0_pay36, spread]; first | done | rfl) (key 12 (y 0) (y 1) (h0.trans (by show _ = 64 * 12 + (y 0).val; omega)) h1)
  case piece20 => exact Eq.trans (by pointwise [k0_pay34, spread]; first | done | rfl) (key 11 (y 0) (y 1) (h0.trans (by show _ = 64 * 11 + (y 0).val; omega)) h1)
  case piece21 => exact Eq.trans (by pointwise [k0_pay32, spread]; first | done | rfl) (key 10 (y 0) (y 1) (h0.trans (by show _ = 64 * 10 + (y 0).val; omega)) h1)
  case piece22 => exact Eq.trans (by pointwise [k0_pay30, spread]; first | done | rfl) (key 9 (y 0) (y 1) (h0.trans (by show _ = 64 * 9 + (y 0).val; omega)) h1)
  case piece23 => exact Eq.trans (by pointwise [k0_pay28, spread]; first | done | rfl) (key 8 (y 0) (y 1) (h0.trans (by show _ = 64 * 8 + (y 0).val; omega)) h1)
  case piece24 => exact Eq.trans (by pointwise [k0_pay26, spread]; first | done | rfl) (key 7 (y 0) (y 1) (h0.trans (by show _ = 64 * 7 + (y 0).val; omega)) h1)
  case piece25 => exact Eq.trans (by pointwise [k0_pay24, spread]; first | done | rfl) (key 6 (y 0) (y 1) (h0.trans (by show _ = 64 * 6 + (y 0).val; omega)) h1)
  case piece26 => exact Eq.trans (by pointwise [k0_pay22, spread]; first | done | rfl) (key 5 (y 0) (y 1) (h0.trans (by show _ = 64 * 5 + (y 0).val; omega)) h1)
  case piece27 => exact Eq.trans (by pointwise [k0_pay20, spread]; first | done | rfl) (key 4 (y 0) (y 1) (h0.trans (by show _ = 64 * 4 + (y 0).val; omega)) h1)
  case piece28 => exact Eq.trans (by pointwise [k0_pay18, spread]; first | done | rfl) (key 3 (y 0) (y 1) (h0.trans (by show _ = 64 * 3 + (y 0).val; omega)) h1)
  case piece29 => exact Eq.trans (by pointwise [k0_pay16, spread]; first | done | rfl) (key 2 (y 0) (y 1) (h0.trans (by show _ = 64 * 2 + (y 0).val; omega)) h1)
  case piece30 => exact Eq.trans (by pointwise [k0_pay14, spread]; first | done | rfl) (key 1 (y 0) (y 1) (h0.trans (by show _ = 64 * 1 + (y 0).val; omega)) h1)
  case piece31 => exact Eq.trans (by pointwise [k0_pay12, spread]; first | done | rfl) (key 0 (y 0) (y 1) (h0.trans (by show _ = 64 * 0 + (y 0).val; omega)) h1)

theorem out10_apply (x0 : FVec Ideal S128x4096 .f32) (x1 : FVec Ideal S3x128x4096 .f32) (x2 : FVec Ideal S4x4096 .f32) (x3 : FVec Ideal S1x4096 .f32) (x4 : FVec Ideal S128x128 .f32) (x5 : FVec Ideal S1x128 .f32) (x6 : FVec Ideal S1x128 .f32) (y : S2048x128.Idx) :
    out0_10 (F := Ideal) x0 x1 x2 x3 x4 x5 x6 y = inject (k0_pay79 (F := Ideal) x0 x1 x2 x3 x4 x5 x6) (k0_pay81 (F := Ideal) x0 x1 x2 x3 x4 x5 x6) ⟨(y 0).val / 64, by have : (y 0).val < 2048 := (y 0).isLt; omega⟩ (y 0) (y 1) := by
  have key := by_head (inject (k0_pay79 (F := Ideal) x0 x1 x2 x3 x4 x5 x6) (k0_pay81 (F := Ideal) x0 x1 x2 x3 x4 x5 x6)) y
  unfold out0_10
  canon_tiles y h
  case piece0 => exact Eq.trans (by pointwise [k0_pay1, inject]; first | done | rfl) (key 31 (y 0) (y 1) (h0.trans (by show _ = 64 * 31 + (y 0).val; omega)) h1)
  case piece1 => exact Eq.trans (by pointwise [k0_pay73, inject]; first | done | rfl) (key 30 (y 0) (y 1) (h0.trans (by show _ = 64 * 30 + (y 0).val; omega)) h1)
  case piece2 => exact Eq.trans (by pointwise [k0_pay71, inject]; first | done | rfl) (key 29 (y 0) (y 1) (h0.trans (by show _ = 64 * 29 + (y 0).val; omega)) h1)
  case piece3 => exact Eq.trans (by pointwise [k0_pay69, inject]; first | done | rfl) (key 28 (y 0) (y 1) (h0.trans (by show _ = 64 * 28 + (y 0).val; omega)) h1)
  case piece4 => exact Eq.trans (by pointwise [k0_pay67, inject]; first | done | rfl) (key 27 (y 0) (y 1) (h0.trans (by show _ = 64 * 27 + (y 0).val; omega)) h1)
  case piece5 => exact Eq.trans (by pointwise [k0_pay65, inject]; first | done | rfl) (key 26 (y 0) (y 1) (h0.trans (by show _ = 64 * 26 + (y 0).val; omega)) h1)
  case piece6 => exact Eq.trans (by pointwise [k0_pay63, inject]; first | done | rfl) (key 25 (y 0) (y 1) (h0.trans (by show _ = 64 * 25 + (y 0).val; omega)) h1)
  case piece7 => exact Eq.trans (by pointwise [k0_pay61, inject]; first | done | rfl) (key 24 (y 0) (y 1) (h0.trans (by show _ = 64 * 24 + (y 0).val; omega)) h1)
  case piece8 => exact Eq.trans (by pointwise [k0_pay59, inject]; first | done | rfl) (key 23 (y 0) (y 1) (h0.trans (by show _ = 64 * 23 + (y 0).val; omega)) h1)
  case piece9 => exact Eq.trans (by pointwise [k0_pay57, inject]; first | done | rfl) (key 22 (y 0) (y 1) (h0.trans (by show _ = 64 * 22 + (y 0).val; omega)) h1)
  case piece10 => exact Eq.trans (by pointwise [k0_pay55, inject]; first | done | rfl) (key 21 (y 0) (y 1) (h0.trans (by show _ = 64 * 21 + (y 0).val; omega)) h1)
  case piece11 => exact Eq.trans (by pointwise [k0_pay53, inject]; first | done | rfl) (key 20 (y 0) (y 1) (h0.trans (by show _ = 64 * 20 + (y 0).val; omega)) h1)
  case piece12 => exact Eq.trans (by pointwise [k0_pay51, inject]; first | done | rfl) (key 19 (y 0) (y 1) (h0.trans (by show _ = 64 * 19 + (y 0).val; omega)) h1)
  case piece13 => exact Eq.trans (by pointwise [k0_pay49, inject]; first | done | rfl) (key 18 (y 0) (y 1) (h0.trans (by show _ = 64 * 18 + (y 0).val; omega)) h1)
  case piece14 => exact Eq.trans (by pointwise [k0_pay47, inject]; first | done | rfl) (key 17 (y 0) (y 1) (h0.trans (by show _ = 64 * 17 + (y 0).val; omega)) h1)
  case piece15 => exact Eq.trans (by pointwise [k0_pay45, inject]; first | done | rfl) (key 16 (y 0) (y 1) (h0.trans (by show _ = 64 * 16 + (y 0).val; omega)) h1)
  case piece16 => exact Eq.trans (by pointwise [k0_pay43, inject]; first | done | rfl) (key 15 (y 0) (y 1) (h0.trans (by show _ = 64 * 15 + (y 0).val; omega)) h1)
  case piece17 => exact Eq.trans (by pointwise [k0_pay41, inject]; first | done | rfl) (key 14 (y 0) (y 1) (h0.trans (by show _ = 64 * 14 + (y 0).val; omega)) h1)
  case piece18 => exact Eq.trans (by pointwise [k0_pay39, inject]; first | done | rfl) (key 13 (y 0) (y 1) (h0.trans (by show _ = 64 * 13 + (y 0).val; omega)) h1)
  case piece19 => exact Eq.trans (by pointwise [k0_pay37, inject]; first | done | rfl) (key 12 (y 0) (y 1) (h0.trans (by show _ = 64 * 12 + (y 0).val; omega)) h1)
  case piece20 => exact Eq.trans (by pointwise [k0_pay35, inject]; first | done | rfl) (key 11 (y 0) (y 1) (h0.trans (by show _ = 64 * 11 + (y 0).val; omega)) h1)
  case piece21 => exact Eq.trans (by pointwise [k0_pay33, inject]; first | done | rfl) (key 10 (y 0) (y 1) (h0.trans (by show _ = 64 * 10 + (y 0).val; omega)) h1)
  case piece22 => exact Eq.trans (by pointwise [k0_pay31, inject]; first | done | rfl) (key 9 (y 0) (y 1) (h0.trans (by show _ = 64 * 9 + (y 0).val; omega)) h1)
  case piece23 => exact Eq.trans (by pointwise [k0_pay29, inject]; first | done | rfl) (key 8 (y 0) (y 1) (h0.trans (by show _ = 64 * 8 + (y 0).val; omega)) h1)
  case piece24 => exact Eq.trans (by pointwise [k0_pay27, inject]; first | done | rfl) (key 7 (y 0) (y 1) (h0.trans (by show _ = 64 * 7 + (y 0).val; omega)) h1)
  case piece25 => exact Eq.trans (by pointwise [k0_pay25, inject]; first | done | rfl) (key 6 (y 0) (y 1) (h0.trans (by show _ = 64 * 6 + (y 0).val; omega)) h1)
  case piece26 => exact Eq.trans (by pointwise [k0_pay23, inject]; first | done | rfl) (key 5 (y 0) (y 1) (h0.trans (by show _ = 64 * 5 + (y 0).val; omega)) h1)
  case piece27 => exact Eq.trans (by pointwise [k0_pay21, inject]; first | done | rfl) (key 4 (y 0) (y 1) (h0.trans (by show _ = 64 * 4 + (y 0).val; omega)) h1)
  case piece28 => exact Eq.trans (by pointwise [k0_pay19, inject]; first | done | rfl) (key 3 (y 0) (y 1) (h0.trans (by show _ = 64 * 3 + (y 0).val; omega)) h1)
  case piece29 => exact Eq.trans (by pointwise [k0_pay17, inject]; first | done | rfl) (key 2 (y 0) (y 1) (h0.trans (by show _ = 64 * 2 + (y 0).val; omega)) h1)
  case piece30 => exact Eq.trans (by pointwise [k0_pay15, inject]; first | done | rfl) (key 1 (y 0) (y 1) (h0.trans (by show _ = 64 * 1 + (y 0).val; omega)) h1)
  case piece31 => exact Eq.trans (by pointwise [k0_pay13, inject]; first | done | rfl | exact congrArg₂ (· * ·) rfl (congrArg (k0_pay81 (F := Ideal) x0 x1 x2 x3 x4 x5 x6) (congrArg (fun r : Fin 2048 => (ix2 r (y 1) : S2048x128.Idx)) (Fin.ext (by show (y 0).val = 64 * 0 + (y 0).val; omega))))) (key 0 (y 0) (y 1) (h0.trans (by show _ = 64 * 0 + (y 0).val; omega)) h1)

theorem out7_eq (x0 : FVec Ideal S128x4096 .f32) (x1 : FVec Ideal S3x128x4096 .f32) (x2 : FVec Ideal S4x4096 .f32) (x3 : FVec Ideal S1x4096 .f32) (x4 : FVec Ideal S128x128 .f32) (x5 : FVec Ideal S1x128 .f32) (x6 : FVec Ideal S1x128 .f32) :
    out0_7 (F := Ideal) x0 x1 x2 x3 x4 x5 x6 = k0_pay77 (F := Ideal) x0 x1 x2 x3 x4 x5 x6 := by
  unfold out0_7
  frame_out
  rfl

theorem two (n k : ℕ) (y : (⟨2, ![n, k]⟩ : Shape).Idx) : y = ix2 (y 0 : Fin n) (y 1 : Fin k) := by
  funext a
  match a with
  | ⟨0, _⟩ => rfl
  | ⟨1, _⟩ => rfl

/-- The window's value that the kernel stores is the reference's. -/
theorem entry0 (c : Dev nD) (t : Fin cfg0.N) (y : S128x4096.Idx) :
    out0_7 (iblk m c 0 t) (iblk m c 1 t) (iblk m c 2 t) (iblk m c 3 t) (iblk m c 4 t) (iblk m c 5 t) (iblk m c 6 t) y = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y := by
  rw [out7_eq, two 128 4096 y]
  exact (act_blk m c t _ _).trans (Cert.PreRefIdeal.Value.act_apply _ _ _ _ _ _).symm

/-- The decay that the kernel stores is the reference's. -/
theorem entry2 (c : Dev nD) (t : Fin cfg0.N) (y : S2048x128.Idx) :
    out0_9 (iblk m c 0 t) (iblk m c 1 t) (iblk m c 2 t) (iblk m c 3 t) (iblk m c 4 t) (iblk m c 5 t) (iblk m c 6 t) y = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y := by
  rw [out9_apply]
  refine (decay_blk m c t _ _).trans ?_
  refine Eq.trans ?_ (congrArg (REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (two 2048 128 y)).symm
  exact (Cert.PreRefIdeal.Value.ref2_apply _ _ _ _ _ _ _ _ _).symm

/-- The driven input that the kernel stores is the reference's. -/
theorem entry3 (c : Dev nD) (t : Fin cfg0.N) (y : S2048x128.Idx) :
    out0_10 (iblk m c 0 t) (iblk m c 1 t) (iblk m c 2 t) (iblk m c 3 t) (iblk m c 4 t) (iblk m c 5 t) (iblk m c 6 t) y = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y := by
  rw [out10_apply]
  refine (congrArg₂ (· * ·) (step_blk m c t _ _) (in_blk m c t _ _)).trans ?_
  refine Eq.trans ?_ (congrArg (REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (two 2048 128 y)).symm
  exact (Cert.PreRefIdeal.Value.ref3_apply _ _ _ _ _ _ _ _ _).symm

theorem one_row (y : S1x128x4096.Idx) : y = ix3 (0 : Fin 1) (⟨(y 1).val, (y 1).isLt⟩ : Fin 128) (⟨(y 2).val, (y 2).isLt⟩ : Fin 4096) := by
  funext a
  match a with
  | ⟨0, _⟩ => exact Fin.ext (Nat.lt_one_iff.mp (y 0).isLt)
  | ⟨1, _⟩ => rfl
  | ⟨2, _⟩ => rfl

/-- The tap that the kernel stores last is the new one. -/
theorem newest (c : Dev nD) (t : Fin cfg0.N) (p : Fin 128) (q : Fin 4096) :
    k0_pay7 (View.ld (iblk m c 0 t) r0_0) (ix3 (0 : Fin 1) p q) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (2 : Fin 3) p q) := by
  rw [Cert.PreRefIdeal.Value.ref1_new, ← x0_apply m c t]
  pointwise [k0_pay7]
  done

/-- The second tap moves to the middle. -/
theorem middle (c : Dev nD) (t : Fin cfg0.N) (p : Fin 128) (q : Fin 4096) :
    k0_pay6 (View.ld (iblk m c 1 t) r0_5) (ix3 (0 : Fin 1) p q) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (1 : Fin 3) p q) := by
  refine Eq.trans ?_ ((Cert.PreRefIdeal.Value.ref1_old (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 1 p q).trans (x1_apply m c t 2 p q).symm).symm
  pointwise [k0_pay6]
  done

/-- The middle tap moves to the front. -/
theorem oldest (c : Dev nD) (t : Fin cfg0.N) (p : Fin 128) (q : Fin 4096) :
    k0_pay5 (View.ld (iblk m c 1 t) r0_3) (ix3 (0 : Fin 1) p q) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (0 : Fin 3) p q) := by
  refine Eq.trans ?_ ((Cert.PreRefIdeal.Value.ref1_old (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 0 p q).trans (x1_apply m c t 1 p q).symm).symm
  pointwise [k0_pay5]
  done

/-- The taps that the kernel stores are the reference's. -/
theorem entry1 (c : Dev nD) (t : Fin cfg0.N) (y : S3x128x4096.Idx) :
    out0_8 (iblk m c 0 t) (iblk m c 1 t) (iblk m c 2 t) (iblk m c 3 t) (iblk m c 4 t) (iblk m c 5 t) (iblk m c 6 t) y = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y := by
  have key : ∀ z w : S3x128x4096.Idx, (∀ a, (z a).val = (w a).val) → REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) w :=
    fun z w h => congrArg _ (funext fun a => Fin.ext (h a))
  unfold out0_8
  canon_tiles y h
  case piece0 =>
    refine (congrArg _ (one_row y)).trans ((newest m c t _ _).trans (key _ _ fun a => ?_))
    match a with
    | ⟨0, _⟩ => exact (h0.trans (by omega : 2 + (y 0).val = 2)).symm
    | ⟨1, _⟩ => exact h1.symm
    | ⟨2, _⟩ => exact h2.symm
  case piece1 =>
    refine (congrArg _ (one_row y)).trans ((middle m c t _ _).trans (key _ _ fun a => ?_))
    match a with
    | ⟨0, _⟩ => exact (h0.trans (by omega : 1 + (y 0).val = 1)).symm
    | ⟨1, _⟩ => exact h1.symm
    | ⟨2, _⟩ => exact h2.symm
  case piece2 =>
    refine (congrArg _ (one_row y)).trans ((oldest m c t _ _).trans (key _ _ fun a => ?_))
    match a with
    | ⟨0, _⟩ => exact (h0.trans (by omega : (y 0).val = 0)).symm
    | ⟨1, _⟩ => exact h1.symm
    | ⟨2, _⟩ => exact h2.symm

theorem final0 (c : Dev nD) : (dats m 0 c).arrAt 7 (cfgs 0).N
    = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have he : ((cfg0.win 7).blk t).view.emb y = (y : S128x4096.Idx) := by
    funext a
    apply Fin.ext
    match a with
    | ⟨0, _⟩ => blk_simp [idx t]; first | done | rfl
    | ⟨1, _⟩ => blk_simp [idx t]; first | done | rfl
  exact (entry0 m c t y).trans (congrArg (REF0 _ _ _ _ _ _ _) he.symm)

theorem final1 (c : Dev nD) : (dats m 0 c).arrAt 8 (cfgs 0).N
    = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have he : ((cfg0.win 8).blk t).view.emb y = (y : S3x128x4096.Idx) := by
    funext a
    apply Fin.ext
    match a with
    | ⟨0, _⟩ => blk_simp [idx t]; first | done | rfl
    | ⟨1, _⟩ => blk_simp [idx t]; first | done | rfl
    | ⟨2, _⟩ => blk_simp [idx t]; first | done | rfl
  exact (entry1 m c t y).trans (congrArg (REF1 _ _ _ _ _ _ _) he.symm)

theorem final2 (c : Dev nD) : (dats m 0 c).arrAt 9 (cfgs 0).N
    = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  have he : ((cfg0.win 9).blk t).view.emb y = (y : S2048x128.Idx) := by
    funext a
    apply Fin.ext
    match a with
    | ⟨0, _⟩ => blk_simp [idx t]; first | done | rfl
    | ⟨1, _⟩ => blk_simp [idx t]; first | done | rfl
  exact (entry2 m c t y).trans (congrArg (REF2 _ _ _ _ _ _ _) he.symm)

theorem final3 (c : Dev nD) : (dats m 0 c).arrAt 10 (cfgs 0).N
    = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  have he : ((cfg0.win 10).blk t).view.emb y = (y : S2048x128.Idx) := by
    funext a
    apply Fin.ext
    match a with
    | ⟨0, _⟩ => blk_simp [idx t]; first | done | rfl
    | ⟨1, _⟩ => blk_simp [idx t]; first | done | rfl
  exact (entry3 m c t y).trans (congrArg (REF3 _ _ _ _ _ _ _) he.symm)

end Cert.PreIdeal.Value

end
-- ==== Proof.StepValue.lean ====
/- The value of the samples' step of the state: what the kernel leaves is the reference's new states and outputs. -/
module

public import proofs.«01_k».proof.Proof.Gen.StepIdeal.Frame
public import proofs.«01_k».proof.Proof.Gen.StepRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.StepRefIdeal.Value

open Cert.StepRefIdeal Cert.StepRefIdeal.Gen

/-- The new states of the samples. -/
def hnew (X0 : FVec Ideal S4x128x32x64x128 .f32) (X1 : FVec Ideal S2048x128 .f32) (X2 : FVec Ideal S2048x128 .f32) (X3 : FVec Ideal S128x4096 .f32) : FVec Ideal S128x8x4x64x128 .f32 :=
    addf (mulf (shapeCast _ (shapeCast _ (extractStridedSlice S1x128x32x64x128 ![1, 0, 0, 0, 0] X0
    slices_S4x128x32x64x128_S1x128x32x64x128_1_0_0_0_0) shapeCasts_S1x128x32x64x128_S128x32x64x128)
    shapeCasts_S128x32x64x128_S128x8x4x64x128) (broadcastInDim S128x8x4x64x128 ![0, 1, 2, 3, 4]
    bcast_S128x8x4x64x1_S128x8x4x64x128_0_1_2_3_4 (broadcastInDim S128x8x4x64x1 ![0, 1, 2, 3]
    bcast_S128x8x4x64_S128x8x4x64x1_0_1_2_3 (shapeCast _ (transpose S128x2048 [1, 0] X1
    transposes_S2048x128_S128x2048_1_0) shapeCasts_S128x2048_S128x8x4x64)))) (mulf (broadcastInDim
    S128x8x4x64x128 ![0, 1, 2, 3, 4] bcast_S128x8x4x64x1_S128x8x4x64x128_0_1_2_3_4 (broadcastInDim
    S128x8x4x64x1 ![0, 1, 2, 3] bcast_S128x8x4x64_S128x8x4x64x1_0_1_2_3 (shapeCast _ (transpose S128x2048 [1,
    0] X2 transposes_S2048x128_S128x2048_1_0) shapeCasts_S128x2048_S128x8x4x64))) (broadcastInDim
    S128x8x4x64x128 ![0, 1, 2, 3, 4] bcast_S128x8x1x1x128_S128x8x4x64x128_0_1_2_3_4 (broadcastInDim
    S128x8x1x1x128 ![0, 1, 4] bcast_S128x8x128_S128x8x1x1x128_0_1_4 (shapeCast _ (extractStridedSlice
    S128x1024 ![0, 2048] X3 slices_S128x4096_S128x1024_0_2048) shapeCasts_S128x1024_S128x8x128))))

/-- The reference's result 0 as a function of its argument arrays. -/
abbrev REF0 (X0 : FVec Ideal S4x128x32x64x128 .f32) (X1 : FVec Ideal S2048x128 .f32) (X2 : FVec Ideal S2048x128 .f32) (X3 : FVec Ideal S128x4096 .f32) (X4 : FVec Ideal S4x128x32x64x128 .f32) :
    FVec Ideal S4x128x2048x128 .f32 :=
    shapeCast _ ((concatenate S4x128x32x64x128 0 [⟨S1x128x32x64x128, ((extractStridedSlice S1x128x32x64x128
    ![0, 0, 0, 0, 0] X4 slices_S4x128x32x64x128_S1x128x32x64x128_0_0_0_0_0) : (⟨S1x128x32x64x128, .f32⟩ :
    BufTy).Contents (Elt Ideal))⟩, ⟨S1x128x32x64x128, ((shapeCast _ (hnew X0 X1 X2 X3)
    shapeCasts_S128x8x4x64x128_S1x128x32x64x128) : (⟨S1x128x32x64x128, .f32⟩ : BufTy).Contents (Elt Ideal))⟩,
    ⟨S2x128x32x64x128, ((extractStridedSlice S2x128x32x64x128 ![2, 0, 0, 0, 0] X4
    slices_S4x128x32x64x128_S2x128x32x64x128_2_0_0_0_0) : (⟨S2x128x32x64x128, .f32⟩ : BufTy).Contents (Elt
    Ideal))⟩] concatenates_S1x128x32x64x128_S1x128x32x64x128_S2x128x32x64x128_S4x128x32x64x128_d0 :
    (⟨S4x128x32x64x128, .f32⟩ : BufTy).Contents (Elt Ideal))) shapeCasts_S4x128x32x64x128_S4x128x2048x128

/-- The reference's result 1 as a function of its argument arrays. -/
abbrev REF1 (X0 : FVec Ideal S4x128x32x64x128 .f32) (X1 : FVec Ideal S2048x128 .f32) (X2 : FVec Ideal S2048x128 .f32) (X3 : FVec Ideal S128x4096 .f32) (X4 : FVec Ideal S4x128x32x64x128 .f32) :
    FVec Ideal S2048x128 .f32 :=
    transpose S2048x128 [1, 0] (shapeCast _ (Host.dotGeneral
    dot_S128x8x128_S128x8x4x64x128_S128x8x4x64_2_4_n_23_01_01 none (shapeCast _ (extractStridedSlice S128x1024
    ![0, 3072] X3 slices_S128x4096_S128x1024_0_3072) shapeCasts_S128x1024_S128x8x128) (hnew X0 X1 X2 X3))
    shapeCasts_S128x8x4x64_S128x2048) transposes_S128x2048_S2048x128_1_0

/-- The new state of a sample at one row and column. -/
def hval (X0 : FVec Ideal S4x128x32x64x128 .f32) (X1 : FVec Ideal S2048x128 .f32) (X2 : FVec Ideal S2048x128 .f32) (X3 : FVec Ideal S128x4096 .f32) (s : Fin 128) (r : Fin 2048) (n : Fin 128) : EReal :=
  X0 (ix5 (1 : Fin 4) s (⟨r.val / 64, by omega⟩ : Fin 32) (⟨r.val % 64, by omega⟩ : Fin 64) n) * X1 (ix2 r s)
    + X2 (ix2 r s) * X3 (ix2 s (⟨2048 + (r.val / 256 * 128 + n.val), by omega⟩ : Fin 4096))

/-- The output of a sample at one row. -/
def yval (X0 : FVec Ideal S4x128x32x64x128 .f32) (X1 : FVec Ideal S2048x128 .f32) (X2 : FVec Ideal S2048x128 .f32) (X3 : FVec Ideal S128x4096 .f32) (s : Fin 128) (r : Fin 2048) : EReal :=
  ∑ n : Fin 128, hval X0 X1 X2 X3 s r n * X3 (ix2 s (⟨3072 + (r.val / 256 * 128 + n.val), by omega⟩ : Fin 4096))

theorem hnew_apply (X0 : FVec Ideal S4x128x32x64x128 .f32) (X1 : FVec Ideal S2048x128 .f32) (X2 : FVec Ideal S2048x128 .f32) (X3 : FVec Ideal S128x4096 .f32) (s : Fin 128) (g : Fin 8) (e : Fin 4) (p : Fin 64) (n : Fin 128) :
    hnew X0 X1 X2 X3 (ix5 s g e p n) = hval X0 X1 X2 X3 s (⟨g.val * 256 + e.val * 64 + p.val, by omega⟩ : Fin 2048) n := by
  have h1 : (g.val * 256 + e.val * 64 + p.val) / 64 = g.val * 4 + e.val := by omega
  have h2 : (g.val * 256 + e.val * 64 + p.val) % 64 = p.val := by omega
  have h3 : (g.val * 256 + e.val * 64 + p.val) / 256 = g.val := by omega
  unfold hval
  simp only [h1, h2, h3]
  pointwise [hnew]
  done

theorem ref1_apply (X0 : FVec Ideal S4x128x32x64x128 .f32) (X1 : FVec Ideal S2048x128 .f32) (X2 : FVec Ideal S2048x128 .f32) (X3 : FVec Ideal S128x4096 .f32) (X4 : FVec Ideal S4x128x32x64x128 .f32) (r : Fin 2048) (s : Fin 128) :
    REF1 X0 X1 X2 X3 X4 (ix2 r s) = yval X0 X1 X2 X3 s r := by
  unfold yval
  pointwise [REF1]
  simp only [hnew_apply]
  have e : (⟨r.val / 256 * 256 + r.val / 64 % 4 * 64 + r.val % 64, by omega⟩ : Fin 2048) = r := Fin.ext (by show r.val / 256 * 256 + r.val / 64 % 4 * 64 + r.val % 64 = r.val; omega)
  rw [e]
  exact Finset.sum_congr rfl fun n _ => mul_comm _ _

theorem ref0_apply (X0 : FVec Ideal S4x128x32x64x128 .f32) (X1 : FVec Ideal S2048x128 .f32) (X2 : FVec Ideal S2048x128 .f32) (X3 : FVec Ideal S128x4096 .f32) (X4 : FVec Ideal S4x128x32x64x128 .f32) (s : Fin 128) (r : Fin 2048) (n : Fin 128) :
    REF0 X0 X1 X2 X3 X4 (ix4 (1 : Fin 4) s r n) = hval X0 X1 X2 X3 s r n := by
  pointwise [REF0]
  simp only [hnew_apply]
  have e : (⟨r.val / 64 / 4 * 256 + r.val / 64 % 4 * 64 + r.val % 64, by omega⟩ : Fin 2048) = r := Fin.ext (by show r.val / 64 / 4 * 256 + r.val / 64 % 4 * 64 + r.val % 64 = r.val; omega)
  rw [e]

theorem ref0_first (X0 : FVec Ideal S4x128x32x64x128 .f32) (X1 : FVec Ideal S2048x128 .f32) (X2 : FVec Ideal S2048x128 .f32) (X3 : FVec Ideal S128x4096 .f32) (X4 : FVec Ideal S4x128x32x64x128 .f32) (s : Fin 128) (r : Fin 2048) (n : Fin 128) :
    REF0 X0 X1 X2 X3 X4 (ix4 (0 : Fin 4) s r n) = X4 (ix5 (0 : Fin 4) s (⟨r.val / 64, by omega⟩ : Fin 32) (⟨r.val % 64, by omega⟩ : Fin 64) n) := by
  pointwise [REF0]
  done

theorem ref0_last (X0 : FVec Ideal S4x128x32x64x128 .f32) (X1 : FVec Ideal S2048x128 .f32) (X2 : FVec Ideal S2048x128 .f32) (X3 : FVec Ideal S128x4096 .f32) (X4 : FVec Ideal S4x128x32x64x128 .f32) (l : Fin 2) (s : Fin 128) (r : Fin 2048) (n : Fin 128) :
    REF0 X0 X1 X2 X3 X4 (ix4 (⟨2 + l.val, by omega⟩ : Fin 4) s r n) = X4 (ix5 (⟨2 + l.val, by omega⟩ : Fin 4) s (⟨r.val / 64, by omega⟩ : Fin 32) (⟨r.val % 64, by omega⟩ : Fin 64) n) := by
  have h : 2 + (2 + l.val - 1 - 1) = 2 + l.val := by omega
  pointwise [REF0]
  rw [dif_neg (by omega), dif_neg (by omega)]
  simp only [h]

end Cert.StepRefIdeal.Value

namespace Cert.StepIdeal.Value

open Cert.StepIdeal Cert.StepIdeal.Gen
open Cert.StepRefIdeal.Value (REF0 REF1)

variable (m : (ℓ : Loc nD τ sig) → Buf (Elt Ideal) ℓ)

open Cert.StepRefIdeal.Value (hval yval)

/-- Where each window's block starts at a grid point, for every point of the grid. -/
theorem idx : ∀ t : Fin cfg0.N,
    (win0_0.index t 0 = 1 ∧ win0_0.index t 1 = t.val ∧ win0_0.index t 2 = 0 ∧ win0_0.index t 3 = 0)
    ∧ (win0_1.index t 0 = 0 ∧ win0_1.index t 1 = 0)
    ∧ (win0_2.index t 0 = 0 ∧ win0_2.index t 1 = 0)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = 1 ∧ win0_5.index t 1 = t.val ∧ win0_5.index t 2 = 0 ∧ win0_5.index t 3 = 0)
    ∧ (win0_6.index t 0 = 0 ∧ win0_6.index t 1 = 0)
    ∧ (BitVec.ofNat 32 (grid0.coords t 0).val = BitVec.ofNat 32 t.val) :=
  (by decide +kernel : ∀ t : Fin grid0.N, _)

/-- The sample of a grid point. -/
abbrev smp (t : Fin cfg0.N) : Fin 128 := ⟨t.val, t.isLt⟩

theorem x0_apply (c : Dev nD) (t : Fin cfg0.N) (r : Fin 2048) (n : Fin 128) :
    iblk m c 0 t (ix4 (0 : Fin 1) (0 : Fin 1) r n) = (m ((c : Thread nD τ).loc main_arg0)) (ix5 (1 : Fin 4) (smp t) (⟨r.val / 64, by omega⟩ : Fin 32) (⟨r.val % 64, by omega⟩ : Fin 64) n) := by
  have e : iblk m c 0 t (ix4 (0 : Fin 1) (0 : Fin 1) r n) = (V m c main_v0 : FVec Ideal S4x128x2048x128 .f32) (ix4 (1 : Fin 4) (smp t) r n) := by blk_ext [iblk, idx t]
  rw [e]
  entry_read
  pointwise
theorem x1_apply (c : Dev nD) (t : Fin cfg0.N) (r : Fin 2048) (s : Fin 128) :
    iblk m c 1 t (ix2 r s) = (m ((c : Thread nD τ).loc main_arg1)) (ix2 r s) := by
  blk_ext [iblk, V, idx t]
theorem x2_apply (c : Dev nD) (t : Fin cfg0.N) (r : Fin 2048) (s : Fin 128) :
    iblk m c 2 t (ix2 r s) = (m ((c : Thread nD τ).loc main_arg2)) (ix2 r s) := by
  blk_ext [iblk, V, idx t]
theorem x3_apply (c : Dev nD) (t : Fin cfg0.N) (g : Fin 8) (n : Fin 128) :
    iblk m c 3 t (ix3 (0 : Fin 1) g n) = (m ((c : Thread nD τ).loc main_arg3)) (ix2 (smp t) (⟨2048 + (g.val * 128 + n.val), by omega⟩ : Fin 4096)) := by
  have e : iblk m c 3 t (ix3 (0 : Fin 1) g n) = (V m c main_v2 : FVec Ideal S128x8x128 .f32) (ix3 (smp t) g n) := by blk_ext [iblk, idx t]
  rw [e]
  entry_read
  pointwise
  rfl
theorem x4_apply (c : Dev nD) (t : Fin cfg0.N) (g : Fin 8) (n : Fin 128) :
    iblk m c 4 t (ix3 (0 : Fin 1) g n) = (m ((c : Thread nD τ).loc main_arg3)) (ix2 (smp t) (⟨3072 + (g.val * 128 + n.val), by omega⟩ : Fin 4096)) := by
  have e : iblk m c 4 t (ix3 (0 : Fin 1) g n) = (V m c main_v4 : FVec Ideal S128x8x128 .f32) (ix3 (smp t) g n) := by blk_ext [iblk, idx t]
  rw [e]
  entry_read
  pointwise
  rfl

/-- The test of a lane against a sample's number. -/
theorem lane_eq : ∀ k s : Fin 128, IntOp.cmpi .eq (BitVec.ofNat 32 k.val) (BitVec.ofNat 32 s.val) = BitVec.ofBool (decide (k = s)) := by decide +kernel

/-- A sum over the lanes with all but one masked to zero is the value of that lane. -/
theorem lane_sum (f : Fin 128 → EReal) (s : Fin 128) :
    (∑ k : Fin 128, if k = s then f k else 0) = f s := by
  rw [Finset.sum_ite_eq' Finset.univ s f, if_pos (Finset.mem_univ s)]

/-- The choice by the test of a lane against the sample of a grid point. -/
theorem lane_sel (t : Fin cfg0.N) (k : Fin 128) (a b : EReal) :
    Scalar.select (IntOp.cmpi .eq (BitVec.ofNat 32 k.val) (BitVec.ofNat 32 (grid0.coords t 0).val)) a b = if k = smp t then a else b := by
  have hc : BitVec.ofNat 32 (grid0.coords t 0).val = BitVec.ofNat 32 (smp t).val := (idx t).2.2.2.2.2.2.2
  rw [hc, lane_eq, Idealize.ShloMosaic.WordCmp.select_ofBool]
  exact if_congr (by simp) rfl rfl

theorem h_apply (c : Dev nD) (t : Fin cfg0.N) (r : Fin 2048) (n : Fin 128) :
    k0_pay3 (F := Ideal) (grid0.coords t) (iblk m c 1 t) (iblk m c 2 t) (iblk m c 0 t) (iblk m c 3 t) (ix2 r n)
      = hval (m ((c : Thread nD τ).loc main_arg0)) (m ((c : Thread nD τ).loc main_arg1)) (m ((c : Thread nD τ).loc main_arg2)) (m ((c : Thread nD τ).loc main_arg3)) (smp t) r n := by
  unfold hval
  pointwise [k0_pay3]
  simp only [x0_apply, x1_apply, x2_apply, x3_apply, lane_sel, lane_sum]

theorem state_apply (c : Dev nD) (t : Fin cfg0.N) (r : Fin 2048) (n : Fin 128) :
    (outsAt0 m c t.val t.isLt).1 (ix4 (0 : Fin 1) (0 : Fin 1) r n) = hval (m ((c : Thread nD τ).loc main_arg0)) (m ((c : Thread nD τ).loc main_arg1)) (m ((c : Thread nD τ).loc main_arg2)) (m ((c : Thread nD τ).loc main_arg3)) (smp t) r n := by
  by_cases h : t.val % 128 = 0
  · rw [outsAt0_A m c t h]
    frame_out
    pointwise [k0_pay4]
    exact h_apply m c t r n
  · rw [outsAt0_B m c t h]
    frame_out
    pointwise [k0_pay4]
    exact h_apply m c t r n

theorem y_first (c : Dev nD) (t : Fin cfg0.N) (h : t.val % 128 = 0) (r : Fin 2048) (l : Fin 128) :
    (outsAt0 m c t.val t.isLt).2 (ix2 r l) = if l = smp t then yval (m ((c : Thread nD τ).loc main_arg0)) (m ((c : Thread nD τ).loc main_arg1)) (m ((c : Thread nD τ).loc main_arg2)) (m ((c : Thread nD τ).loc main_arg3)) (smp t) r else 0 := by
  rw [outsAt0_A m c t h]
  frame_out
  unfold yval
  pointwise [k0_pay1, k0_pay2]
  simp only [h_apply, x4_apply, lane_sel]
  done

theorem y_next (c : Dev nD) (t : Fin cfg0.N) (h : ¬t.val % 128 = 0) (r : Fin 2048) (l : Fin 128) :
    (outsAt0 m c t.val t.isLt).2 (ix2 r l) = if l = smp t then yval (m ((c : Thread nD τ).loc main_arg0)) (m ((c : Thread nD τ).loc main_arg1)) (m ((c : Thread nD τ).loc main_arg2)) (m ((c : Thread nD τ).loc main_arg3)) (smp t) r
      else (outsAt0 m c (t.val - 1) (Nat.lt_of_le_of_lt (Nat.sub_le _ _) t.isLt)).2 (ix2 r l) := by
  rw [outsAt0_B m c t h]
  frame_out
  unfold yval
  pointwise [k0_pay1, k0_pay2]
  simp only [h_apply, x4_apply, lane_sel]
  done

/-- After a point the outputs of the samples up to its own stand in their lanes and the other lanes are zero. -/
theorem y_upto (c : Dev nD) : ∀ (n : ℕ) (hn : n < cfg0.N) (r : Fin 2048) (l : Fin 128),
    (outsAt0 m c n hn).2 (ix2 r l) = if l.val ≤ n then yval (m ((c : Thread nD τ).loc main_arg0)) (m ((c : Thread nD τ).loc main_arg1)) (m ((c : Thread nD τ).loc main_arg2)) (m ((c : Thread nD τ).loc main_arg3)) l r else 0
  | 0, hn, r, l => by
    refine (y_first m c ⟨0, hn⟩ (Nat.zero_mod _) r l).trans ?_
    by_cases e : l = (⟨0, by omega⟩ : Fin 128)
    · rw [if_pos e, if_pos (by rw [e])]
      subst e
      rfl
    · rw [if_neg e, if_neg (fun q => e (Fin.ext (Nat.le_zero.mp q)))]
  | n + 1, hn, r, l => by
    have hN : n + 1 < 128 := hn
    refine (y_next m c ⟨n + 1, hn⟩ (by show ¬(n + 1) % 128 = 0; omega) r l).trans ?_
    by_cases e : l = (⟨n + 1, hN⟩ : Fin 128)
    · rw [if_pos e, if_pos (by rw [e])]
      subst e
      rfl
    · have hv : l.val ≠ n + 1 := fun q => e (Fin.ext q)
      rw [if_neg e]
      refine (y_upto c n (Nat.lt_of_succ_lt hn) r l).trans ?_
      by_cases q : l.val ≤ n
      · rw [if_pos q, if_pos (by omega)]
      · rw [if_neg q, if_neg (by omega)]

theorem ref0_other (X0 : FVec Ideal S4x128x32x64x128 .f32) (X1 : FVec Ideal S2048x128 .f32) (X2 : FVec Ideal S2048x128 .f32) (X3 : FVec Ideal S128x4096 .f32) (X4 : FVec Ideal S4x128x32x64x128 .f32) (J : S4x128x2048x128.Idx) (hJ : (J 0).val ≠ 1) :
    REF0 X0 X1 X2 X3 X4 J = X4 (ix5 (J 0) (J 1) (⟨(J 2).val / 64, by have : (J 2).val < 2048 := (J 2).isLt; omega⟩ : Fin 32) (⟨(J 2).val % 64, by omega⟩ : Fin 64) (J 3)) := by
  have hl : (J 0).val < 4 := (J 0).isLt
  by_cases h0 : (J 0).val = 0
  · have e : J = ix4 (0 : Fin 4) (J 1) (J 2) (J 3) := by
      funext a
      match a with
      | ⟨0, _⟩ => exact Fin.ext h0
      | ⟨1, _⟩ => rfl
      | ⟨2, _⟩ => rfl
      | ⟨3, _⟩ => rfl
    have e0 : J 0 = (0 : Fin 4) := Fin.ext h0
    refine (congrArg (REF0 X0 X1 X2 X3 X4) e).trans ((Cert.StepRefIdeal.Value.ref0_first X0 X1 X2 X3 X4 (J 1) (J 2) (J 3)).trans ?_)
    rw [e0]
  · have e0 : J 0 = (⟨2 + (⟨(J 0).val - 2, by omega⟩ : Fin 2).val, by show 2 + ((J 0).val - 2) < 4; omega⟩ : Fin 4) := Fin.ext (by show (J 0).val = 2 + ((J 0).val - 2); omega)
    have e : J = ix4 (⟨2 + (⟨(J 0).val - 2, by omega⟩ : Fin 2).val, by show 2 + ((J 0).val - 2) < 4; omega⟩ : Fin 4) (J 1) (J 2) (J 3) := by
      funext a
      match a with
      | ⟨0, _⟩ => exact e0
      | ⟨1, _⟩ => rfl
      | ⟨2, _⟩ => rfl
      | ⟨3, _⟩ => rfl
    refine (congrArg (REF0 X0 X1 X2 X3 X4) e).trans ((Cert.StepRefIdeal.Value.ref0_last X0 X1 X2 X3 X4 ⟨(J 0).val - 2, by omega⟩ (J 1) (J 2) (J 3)).trans ?_)
    exact congrArg (fun z : Fin 4 => X4 (ix5 z (J 1) (⟨(J 2).val / 64, by have : (J 2).val < 2048 := (J 2).isLt; omega⟩ : Fin 32) (⟨(J 2).val % 64, by omega⟩ : Fin 64) (J 3))) e0.symm

/-- The input states in the output's layout. -/
theorem old_apply (c : Dev nD) (l : Fin 4) (s : Fin 128) (r : Fin 2048) (n : Fin 128) :
    (V m c main_v6_0 : FVec Ideal S4x128x2048x128 .f32) (ix4 l s r n) = (m ((c : Thread nD τ).loc main_arg4)) (ix5 l s (⟨r.val / 64, by omega⟩ : Fin 32) (⟨r.val % 64, by omega⟩ : Fin 64) n) := by
  entry_read
  pointwise
  done

/-- The whole result array 0 after the run. -/
theorem final0 (c : Dev nD) : (dats m 0 c).arrAt 5 (cfgs 0).N
    = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 5 _ (fun β => β 0 = 1) (by decide +kernel) (fun t _ y => ?_) (fun j hj => ?_)
  · blk_simp
    rw [after0_5]
    have h0 : (y 0).val < 1 := (y 0).isLt
    have h1 : (y 1).val < 1 := (y 1).isLt
    have he : ((cfg0.win 5).blk t).view.emb y = ix4 (1 : Fin 4) (smp t) (⟨(y 2).val, (y 2).isLt⟩ : Fin 2048) (⟨(y 3).val, (y 3).isLt⟩ : Fin 128) := by
      funext a
      apply Fin.ext
      match a with
      | ⟨0, _⟩ => blk_simp [idx t]; show _ = 1; omega
      | ⟨1, _⟩ => blk_simp [idx t]
      | ⟨2, _⟩ => blk_simp [idx t]; rfl
      | ⟨3, _⟩ => blk_simp [idx t]; rfl
    have hy : y = ix4 (0 : Fin 1) (0 : Fin 1) (⟨(y 2).val, (y 2).isLt⟩ : Fin 2048) (⟨(y 3).val, (y 3).isLt⟩ : Fin 128) := by
      funext a
      match a with
      | ⟨0, _⟩ => exact Fin.ext (Nat.lt_one_iff.mp (y 0).isLt)
      | ⟨1, _⟩ => exact Fin.ext (Nat.lt_one_iff.mp (y 1).isLt)
      | ⟨2, _⟩ => rfl
      | ⟨3, _⟩ => rfl
    exact (congrArg _ hy).trans ((state_apply m c t _ _).trans ((Cert.StepRefIdeal.Value.ref0_apply _ _ _ _ _ _ _ _).symm.trans (congrArg (REF0 _ _ _ _ _) he.symm)))
  · blk_simp [Pipeline.Window.cell_apply] at hj
    rw [A_eq]
    refine Eq.trans ?_ (ref0_other _ _ _ _ _ _ ?_).symm
    · exact old_apply m c _ _ _ _
    · blk_simp
      have : (j 0).val < 4 := (j 0).isLt
      omega

/-- The whole result array 1 after the run. -/
theorem final1 (c : Dev nD) : (dats m 0 c).arrAt 6 (cfgs 0).N
    = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t ht y => ?_
  blk_simp
  rw [after0_6]
  have hy : y = ix2 (⟨(y 0).val, (y 0).isLt⟩ : Fin 2048) (⟨(y 1).val, (y 1).isLt⟩ : Fin 128) := by
    funext a
    match a with
    | ⟨0, _⟩ => rfl
    | ⟨1, _⟩ => rfl
  have he : ((cfg0.win 6).blk t).view.emb y = ix2 (⟨(y 0).val, (y 0).isLt⟩ : Fin 2048) (⟨(y 1).val, (y 1).isLt⟩ : Fin 128) := by
    funext a
    apply Fin.ext
    match a with
    | ⟨0, _⟩ => blk_simp [idx t]; rfl
    | ⟨1, _⟩ => blk_simp [idx t]; rfl
  have hl : (y 1).val < 128 := (y 1).isLt
  have hlast : t.val = 127 := by
    have hf := (flush0_6 t).mp ht
    have hN : t.val < 128 := t.isLt
    omega
  refine (congrArg _ hy).trans ((y_upto m c t.val t.isLt _ _).trans ?_)
  rw [if_pos (by show (y 1).val ≤ t.val; omega)]
  exact (Cert.StepRefIdeal.Value.ref1_apply _ _ _ _ _ _ _).symm.trans (congrArg (REF1 _ _ _ _ _) he.symm)

end Cert.StepIdeal.Value

end
-- ==== Proof.PostValue.lean ====
/- The value of the samples' closing step: what the kernel leaves is the reference's gated and group-normed values. -/
module

public import proofs.«01_k».proof.Proof.Gen.PostIdeal.Frame
public import proofs.«01_k».proof.Proof.Gen.PostRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostRefIdeal.Value

open Cert.PostRefIdeal Cert.PostRefIdeal.Gen

/-- The samples' values times their gates. -/
def gated (X0 : FVec Ideal S2048x128 .f32) (X1 : FVec Ideal S128x4096 .f32) (X2 : FVec Ideal S8320x12288 .f32) (X3 : FVec Ideal S4x32 .f32) : FVec Ideal S128x2048 .f32 :=
    mulf (shapeCast _ (addf (shapeCast _ (transpose S128x2048 [1, 0] X0 transposes_S2048x128_S128x2048_1_0)
    shapeCasts_S128x2048_S128x32x64) (mulf (shapeCast _ (extractStridedSlice S128x2048 ![0, 0] X1
    slices_S128x4096_S128x2048_0_0) shapeCasts_S128x2048_S128x32x64) (broadcastInDim S128x32x64 ![0, 1, 2]
    bcast_S1x32x1_S128x32x64_0_1_2 (broadcastInDim S1x32x1 ![1, 2] bcast_S32x1_S1x32x1_1_2 (broadcastInDim
    S32x1 ![0] bcast_S32_S32x1_0 (shapeCast _ (extractStridedSlice S1x32 ![1, 0] X3 slices_S4x32_S1x32_1_0)
    shapeCasts_S1x32_S32)))))) shapeCasts_S128x32x64_S128x2048) (mulf (extractStridedSlice S128x2048 ![8192,
    6144] X2 slices_S8320x12288_S128x2048_8192_6144) (Host.divf (broadcastInDim S128x2048 ![]
    bcast_S_S128x2048 (constant (F := Ideal) S_ .f32 0x3F800000#32)) (addf (broadcastInDim S128x2048 ![]
    bcast_S_S128x2048 (constant (F := Ideal) S_ .f32 0x3F800000#32)) (Host.exp (Host.negf (extractStridedSlice
    S128x2048 ![8192, 6144] X2 slices_S8320x12288_S128x2048_8192_6144))))))

/-- One over the root mean square of each group of 256 columns. -/
def inv (Y : FVec Ideal S128x2048 .f32) : FVec Ideal S128x8x1 .f32 :=
    Host.rsqrt (addf (Host.divf (broadcastInDim S128x8x1 ![0, 1] bcast_S128x8_S128x8x1_0_1 (Host.reduceAdd
    (mulf (shapeCast _ Y shapeCasts_S128x2048_S128x8x256) (shapeCast _ Y shapeCasts_S128x2048_S128x8x256))
    (constant (F := Ideal) S_ .f32 0x00000000#32) reducesTo_S128x8x256_S128x8_d2 h_S_)) (broadcastInDim
    S128x8x1 ![] bcast_S_S128x8x1 (constant (F := Ideal) S_ .f32 0x43800000#32))) (broadcastInDim S128x8x1 ![]
    bcast_S_S128x8x1 (constant (F := Ideal) S_ .f32 0x358637BD#32)))

/-- The reference's result as a function of its argument arrays. -/
abbrev REF (X0 : FVec Ideal S2048x128 .f32) (X1 : FVec Ideal S128x4096 .f32) (X2 : FVec Ideal S8320x12288 .f32) (X3 : FVec Ideal S4x32 .f32) (X4 : FVec Ideal S4x2048 .f32) (X5 : FVec Ideal S8320x2048 .bf16) :
    FVec Ideal S8320x2048 .bf16 :=
    concatenate S8320x2048 0 [⟨S8192x2048, (extractStridedSlice S8192x2048 ![0, 0] X5
    slices_S8320x2048_S8192x2048_0_0)⟩, ⟨S128x2048, (truncf .bf16 (mulf (shapeCast _ (mulf (shapeCast _ (gated
    X0 X1 X2 X3) shapeCasts_S128x2048_S128x8x256) (broadcastInDim S128x8x256 ![0, 1, 2]
    bcast_S128x8x1_S128x8x256_0_1_2 (inv (gated X0 X1 X2 X3)))) shapeCasts_S128x8x256_S128x2048)
    (broadcastInDim S128x2048 ![0, 1] bcast_S1x2048_S128x2048_0_1 (broadcastInDim S1x2048 ![1]
    bcast_S2048_S1x2048_1 (shapeCast _ (extractStridedSlice S1x2048 ![1, 0] X4 slices_S4x2048_S1x2048_1_0)
    shapeCasts_S1x2048_S2048)))) bitsLt_bf16_f32)⟩] concatenates_S8192x2048_S128x2048_S8320x2048_d0

/-- The gated value of a sample at one column. -/
def gval (X0 : FVec Ideal S2048x128 .f32) (X1 : FVec Ideal S128x4096 .f32) (X2 : FVec Ideal S8320x12288 .f32) (X3 : FVec Ideal S4x32 .f32) (p : Fin 128) (j : Fin 2048) : EReal :=
  (X0 (ix2 j p) + X1 (ix2 p (⟨j.val, by omega⟩ : Fin 4096)) * X3 (ix2 (1 : Fin 4) (⟨j.val / 64, by omega⟩ : Fin 32)))
    * (X2 (ix2 (⟨8192 + p.val, by omega⟩ : Fin 8320) (⟨6144 + j.val, by omega⟩ : Fin 12288))
      * Ideal.div 1 (1 + Ideal.exp (-X2 (ix2 (⟨8192 + p.val, by omega⟩ : Fin 8320) (⟨6144 + j.val, by omega⟩ : Fin 12288)))))

/-- One over the root mean square of a group of columns. -/
def ginv (y : Fin 2048 → EReal) (g : Fin 8) : EReal :=
  Ideal.rsqrt (Ideal.div (∑ k : Fin 256, y ⟨256 * g.val + k.val, by omega⟩ * y ⟨256 * g.val + k.val, by omega⟩) (Ideal.ofBits .f32 0x43800000#32) + Ideal.ofBits .f32 0x358637BD#32)

theorem gated_apply (X0 : FVec Ideal S2048x128 .f32) (X1 : FVec Ideal S128x4096 .f32) (X2 : FVec Ideal S8320x12288 .f32) (X3 : FVec Ideal S4x32 .f32) (p : Fin 128) (j : Fin 2048) :
    gated X0 X1 X2 X3 (ix2 p j) = gval X0 X1 X2 X3 p j := by
  unfold gval
  pointwise [gated]
  done

theorem inv_apply (Y : FVec Ideal S128x2048 .f32) (p : Fin 128) (g : Fin 8) :
    inv Y (ix3 p g (0 : Fin 1)) = ginv (fun j => Y (ix2 p j)) g := by
  unfold ginv
  pointwise [inv]
  simp only [Nat.mul_comm g.val 256]

theorem ref_apply (X0 : FVec Ideal S2048x128 .f32) (X1 : FVec Ideal S128x4096 .f32) (X2 : FVec Ideal S8320x12288 .f32) (X3 : FVec Ideal S4x32 .f32) (X4 : FVec Ideal S4x2048 .f32) (X5 : FVec Ideal S8320x2048 .bf16)
    (p : Fin 128) (j : Fin 2048) :
    REF X0 X1 X2 X3 X4 X5 (ix2 (⟨8192 + p.val, by omega⟩ : Fin 8320) j)
      = gval X0 X1 X2 X3 p j * ginv (gval X0 X1 X2 X3 p) ⟨j.val / 256, by omega⟩ * X4 (ix2 (1 : Fin 4) j) := by
  pointwise [REF]
  simp only [gated_apply, inv_apply]
  done

theorem ref_keep (X0 : FVec Ideal S2048x128 .f32) (X1 : FVec Ideal S128x4096 .f32) (X2 : FVec Ideal S8320x12288 .f32) (X3 : FVec Ideal S4x32 .f32) (X4 : FVec Ideal S4x2048 .f32) (X5 : FVec Ideal S8320x2048 .bf16)
    (r : Fin 8192) (j : Fin 2048) :
    REF X0 X1 X2 X3 X4 X5 (ix2 (⟨r.val, by omega⟩ : Fin 8320) j) = X5 (ix2 (⟨r.val, by omega⟩ : Fin 8320) j) := by
  pointwise [REF]

end Cert.PostRefIdeal.Value

namespace Cert.PostIdeal.Value

open Cert.PostIdeal Cert.PostIdeal.Gen
open Cert.PostRefIdeal.Value (REF)

variable (m : (ℓ : Loc nD τ sig) → Buf (Elt Ideal) ℓ)

open Cert.PostRefIdeal.Value (gval ginv)

/-- Where each window's block starts at a grid point, for every point of the grid. -/
theorem idx : ∀ t : Fin cfg0.N,
    (win0_0.index t 0 = 0 ∧ win0_0.index t 1 = 0)
    ∧ (win0_1.index t 0 = 0 ∧ win0_1.index t 1 = 0)
    ∧ (win0_2.index t 0 = 64 ∧ win0_2.index t 1 = 3)
    ∧ (win0_3.index t 0 = 0 ∧ win0_3.index t 1 = 0)
    ∧ (win0_4.index t 0 = 0 ∧ win0_4.index t 1 = 0)
    ∧ (win0_5.index t 0 = 64 ∧ win0_5.index t 1 = 0) :=
  (by decide +kernel : ∀ t : Fin grid0.N, _)

/-- The row of the residual stream that holds a sample. -/
abbrev row (p : Fin 128) : Fin 8320 := ⟨8192 + p.val, by omega⟩

theorem x0_apply (c : Dev nD) (t : Fin cfg0.N) (j : Fin 2048) (p : Fin 128) :
    iblk m c 0 t (ix2 j p) = (m ((c : Thread nD τ).loc main_arg0)) (ix2 j p) := by
  blk_ext [iblk, V, idx t]
theorem x1_apply (c : Dev nD) (t : Fin cfg0.N) (p : Fin 128) (j : Fin 2048) :
    iblk m c 1 t (ix2 p j) = (m ((c : Thread nD τ).loc main_arg1)) (ix2 p (⟨j.val, by omega⟩ : Fin 4096)) := by
  blk_ext [iblk, V, idx t]
theorem x2_apply (c : Dev nD) (t : Fin cfg0.N) (p : Fin 128) (j : Fin 2048) :
    iblk m c 2 t (ix2 p j) = (m ((c : Thread nD τ).loc main_arg2)) (ix2 (row p) (⟨6144 + j.val, by omega⟩ : Fin 12288)) := by
  blk_ext [iblk, V, idx t]
theorem x3_apply (c : Dev nD) (t : Fin cfg0.N) (j : Fin 2048) :
    iblk m c 3 t (ix2 (0 : Fin 1) j) = (m ((c : Thread nD τ).loc main_arg3)) (ix2 (1 : Fin 4) (⟨j.val / 64, by omega⟩ : Fin 32)) := by
  have e : iblk m c 3 t (ix2 (0 : Fin 1) j) = (V m c main_v6 : FVec Ideal S1x2048 .f32) (ix2 (0 : Fin 1) j) := by blk_ext [iblk, idx t]
  rw [e]
  entry_read
  pointwise
theorem x4_apply (c : Dev nD) (t : Fin cfg0.N) (j : Fin 2048) :
    iblk m c 4 t (ix2 (0 : Fin 1) j) = (m ((c : Thread nD τ).loc main_arg4)) (ix2 (1 : Fin 4) j) := by
  have e : iblk m c 4 t (ix2 (0 : Fin 1) j) = (V m c main_v7 : FVec Ideal S1x2048 .f32) (ix2 (0 : Fin 1) j) := by blk_ext [iblk, idx t]
  rw [e]
  entry_read
  pointwise

theorem gated_blk (c : Dev nD) (t : Fin cfg0.N) (p : Fin 128) (j : Fin 2048) :
    k0_pay3 (F := Ideal) (iblk m c 0 t) (iblk m c 1 t) (iblk m c 3 t) (iblk m c 2 t) (ix2 p j)
      = gval (m ((c : Thread nD τ).loc main_arg0)) (m ((c : Thread nD τ).loc main_arg1)) (m ((c : Thread nD τ).loc main_arg2)) (m ((c : Thread nD τ).loc main_arg3)) p j := by
  unfold gval
  pointwise [k0_pay3]
  simp only [x0_apply, x1_apply, x2_apply, x3_apply]
  rw [zero_sub]

/-- A normed and scaled element, from the gated values and the weights of a sample. -/
def head (Y : FVec Ideal S128x2048 .f32) (w : FVec Ideal S1x2048 .f32) (g : Fin 8) (p : Fin 128) (d : Fin 256) : EReal :=
  Y (ix2 p (⟨256 * g.val + d.val, by omega⟩ : Fin 2048)) * Ideal.rsqrt (Ideal.div (∑ k : Fin 256, Y (ix2 p (⟨256 * g.val + k.val, by omega⟩ : Fin 2048)) * Y (ix2 p (⟨256 * g.val + k.val, by omega⟩ : Fin 2048)))
    (Ideal.ofBits .f32 0x43800000#32) + Ideal.ofBits .f32 0x358637BD#32) * w (ix2 (0 : Fin 1) (⟨256 * g.val + d.val, by omega⟩ : Fin 2048))

/-- A normed and scaled element of a group of columns. -/
abbrev at_col (f v : Fin 2048 → EReal) (g : Fin 8) (z : Fin 2048) : EReal := f z * ginv f g * v z

theorem head_eq (Y : FVec Ideal S128x2048 .f32) (w : FVec Ideal S1x2048 .f32) (g : Fin 8) (p : Fin 128) (d : Fin 256) (f v : Fin 2048 → EReal)
    (hY : ∀ j, Y (ix2 p j) = f j) (hw : ∀ j, w (ix2 (0 : Fin 1) j) = v j) :
    head Y w g p d = at_col f v g ⟨256 * g.val + d.val, by omega⟩ := by
  unfold head at_col ginv
  simp only [hY, hw]

/-- What the kernel stores, at one element. -/
theorem out_apply (c : Dev nD) (t : Fin cfg0.N) (y : S128x2048.Idx) :
    outsAt0 m c t y = head (k0_pay3 (F := Ideal) (iblk m c 0 t) (iblk m c 1 t) (iblk m c 3 t) (iblk m c 2 t)) (iblk m c 4 t)
      ⟨(y 1).val / 256, by have : (y 1).val < 2048 := (y 1).isLt; omega⟩ (y 0) ⟨(y 1).val % 256, by omega⟩ := by
  have key : ∀ (g : Fin 8) (p : Fin 128) (d : Fin 256), (y 0).val = p.val → (y 1).val = 256 * g.val + d.val →
      head (k0_pay3 (F := Ideal) (iblk m c 0 t) (iblk m c 1 t) (iblk m c 3 t) (iblk m c 2 t)) (iblk m c 4 t) g p d = head (k0_pay3 (F := Ideal) (iblk m c 0 t) (iblk m c 1 t) (iblk m c 3 t) (iblk m c 2 t)) (iblk m c 4 t)
      ⟨(y 1).val / 256, by have : (y 1).val < 2048 := (y 1).isLt; omega⟩ (y 0) ⟨(y 1).val % 256, by omega⟩ := by
    intro g p d e0 e1
    congr 1
    · exact Fin.ext (by show g.val = (y 1).val / 256; omega)
    · exact Fin.ext e0.symm
    · exact Fin.ext (by show d.val = (y 1).val % 256; omega)
  unfold outsAt0 out0_A_5
  frame_out
  canon_tiles y h
  case piece0 => exact Eq.trans (by pointwise [k0_pay1, k0_pay2, k0_pay4, k0_pay5, k0_pay6, k0_pay7, k0_pay8, k0_pay9, k0_pay10, k0_pay11, k0_pay12, head]) (key 7 (y 0) (y 1) (by omega) (by show _ = 256 * 7 + (y 1).val; omega))
  case piece1 => exact Eq.trans (by pointwise [k0_pay1, k0_pay2, k0_pay4, k0_pay5, k0_pay6, k0_pay7, k0_pay8, k0_pay9, k0_pay10, k0_pay11, k0_pay12, head]) (key 6 (y 0) (y 1) (by omega) (by show _ = 256 * 6 + (y 1).val; omega))
  case piece2 => exact Eq.trans (by pointwise [k0_pay1, k0_pay2, k0_pay4, k0_pay5, k0_pay6, k0_pay7, k0_pay8, k0_pay9, k0_pay10, k0_pay11, k0_pay12, head]) (key 5 (y 0) (y 1) (by omega) (by show _ = 256 * 5 + (y 1).val; omega))
  case piece3 => exact Eq.trans (by pointwise [k0_pay1, k0_pay2, k0_pay4, k0_pay5, k0_pay6, k0_pay7, k0_pay8, k0_pay9, k0_pay10, k0_pay11, k0_pay12, head]) (key 4 (y 0) (y 1) (by omega) (by show _ = 256 * 4 + (y 1).val; omega))
  case piece4 => exact Eq.trans (by pointwise [k0_pay1, k0_pay2, k0_pay4, k0_pay5, k0_pay6, k0_pay7, k0_pay8, k0_pay9, k0_pay10, k0_pay11, k0_pay12, head]) (key 3 (y 0) (y 1) (by omega) (by show _ = 256 * 3 + (y 1).val; omega))
  case piece5 => exact Eq.trans (by pointwise [k0_pay1, k0_pay2, k0_pay4, k0_pay5, k0_pay6, k0_pay7, k0_pay8, k0_pay9, k0_pay10, k0_pay11, k0_pay12, head]) (key 2 (y 0) (y 1) (by omega) (by show _ = 256 * 2 + (y 1).val; omega))
  case piece6 => exact Eq.trans (by pointwise [k0_pay1, k0_pay2, k0_pay4, k0_pay5, k0_pay6, k0_pay7, k0_pay8, k0_pay9, k0_pay10, k0_pay11, k0_pay12, head]) (key 1 (y 0) (y 1) (by omega) (by show _ = 256 * 1 + (y 1).val; omega))
  case piece7 => exact Eq.trans (by pointwise [k0_pay1, k0_pay2, k0_pay4, k0_pay5, k0_pay6, k0_pay7, k0_pay8, k0_pay9, k0_pay10, k0_pay11, k0_pay12, head]) (key 0 (y 0) (y 1) (by omega) (by show _ = 256 * 0 + (y 1).val; omega))

/-- The element that the kernel stores is the reference's element at that place of the result. -/
theorem entry (c : Dev nD) (t : Fin cfg0.N) (p : Fin 128) (j : Fin 2048) :
    outsAt0 m c t (ix2 p j) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row p) j) := by
  have e : (⟨256 * (j.val / 256) + j.val % 256, by omega⟩ : Fin 2048) = j := Fin.ext (by show 256 * (j.val / 256) + j.val % 256 = j.val; omega)
  have o := out_apply m c t (ix2 p j)
  have h := head_eq (k0_pay3 (F := Ideal) (iblk m c 0 t) (iblk m c 1 t) (iblk m c 3 t) (iblk m c 2 t)) (iblk m c 4 t) (⟨j.val / 256, by omega⟩ : Fin 8) p (⟨j.val % 256, by omega⟩ : Fin 256)
    (gval (m ((c : Thread nD τ).loc main_arg0)) (m ((c : Thread nD τ).loc main_arg1)) (m ((c : Thread nD τ).loc main_arg2)) (m ((c : Thread nD τ).loc main_arg3)) p)
    (fun z => m ((c : Thread nD τ).loc main_arg4) (ix2 (1 : Fin 4) z)) (fun z => gated_blk m c t p z) (fun z => x4_apply m c t z)
  refine o.trans (h.trans ?_)
  refine Eq.trans ?_ (Cert.PostRefIdeal.Value.ref_apply _ _ _ _ _ _ p j).symm
  exact congrArg (fun z => at_col (gval (m ((c : Thread nD τ).loc main_arg0)) (m ((c : Thread nD τ).loc main_arg1)) (m ((c : Thread nD τ).loc main_arg2)) (m ((c : Thread nD τ).loc main_arg3)) p)
    (fun z => m ((c : Thread nD τ).loc main_arg4) (ix2 (1 : Fin 4) z)) (⟨j.val / 256, by omega⟩ : Fin 8) z) e

theorem ref_head (X0 : FVec Ideal S2048x128 .f32) (X1 : FVec Ideal S128x4096 .f32) (X2 : FVec Ideal S8320x12288 .f32) (X3 : FVec Ideal S4x32 .f32) (X4 : FVec Ideal S4x2048 .f32) (X5 : FVec Ideal S8320x2048 .bf16)
    (J : S8320x2048.Idx) (hJ : (J 0).val < 8192) : REF X0 X1 X2 X3 X4 X5 J = X5 J := by
  have hz : J = ix2 (⟨(⟨(J 0).val, hJ⟩ : Fin 8192).val, by show (J 0).val < 8320; omega⟩ : Fin 8320) (J 1) := by
    funext a
    match a with
    | ⟨0, _⟩ => rfl
    | ⟨1, _⟩ => rfl
  rw [hz]
  exact Cert.PostRefIdeal.Value.ref_keep X0 X1 X2 X3 X4 X5 ⟨(J 0).val, hJ⟩ (J 1)

/-- The whole result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_coversWhere_of_agree 5 _ (fun β => β 0 = 64) (by decide +kernel) (fun t _ y => ?_) (fun j hj => ?_)
  · blk_simp
    rw [after0_5]
    have he : ((cfg0.win 5).blk t).view.emb y = ix2 (row ⟨(y 0).val, (y 0).isLt⟩) (⟨(y 1).val, (y 1).isLt⟩ : Fin 2048) := by
      funext a
      apply Fin.ext
      match a with
      | ⟨0, _⟩ => blk_simp [idx t]; rfl
      | ⟨1, _⟩ => blk_simp [idx t]; rfl
    have hy : y = ix2 (⟨(y 0).val, (y 0).isLt⟩ : Fin 128) (⟨(y 1).val, (y 1).isLt⟩ : Fin 2048) := by
      funext a
      match a with
      | ⟨0, _⟩ => rfl
      | ⟨1, _⟩ => rfl
    exact (congrArg _ hy).trans ((entry m c t _ _).trans (congrArg (REF _ _ _ _ _ _) he.symm))
  · blk_simp [Pipeline.Window.cell_apply] at hj
    rw [A_eq]
    refine Eq.trans ?_ (ref_head _ _ _ _ _ _ _ ?_).symm
    · show V m c main_v8 _ = _
      entry_read
      rfl
    · blk_simp
      have : (j 0).val < 8320 := (j 0).isLt
      omega

end Cert.PostIdeal.Value

end
-- ==== Proof.NormValue.lean ====
/- The layer's first norm: the result array after the run. -/
module

public import proofs.«01_k».proof.Proof.Gen.NormIdeal.Frame
public import proofs.«01_k».proof.Proof.Gen.NormRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormRefIdeal.Gen

/-- The reference's result as a function of its argument arrays. -/
abbrev REF (X0 : FVec Ideal S8320x4096 .f32) (X1 : FVec Ideal S4x4096 .f32) :
    FVec Ideal S8320x4096 .bf16 :=
    truncf .bf16 (mulf (mulf X0 (broadcastInDim S8320x4096 ![0, 1] bcast_S8320x1_S8320x4096_0_1 (Host.rsqrt
    (addf (Host.divf (broadcastInDim S8320x1 ![0] bcast_S8320_S8320x1_0 (Host.reduceAdd (mulf X0 X0) (constant
    S_ .f32 0x00000000#32) reducesTo_S8320x4096_S8320_d1 h_S_)) (broadcastInDim S8320x1 ![] bcast_S_S8320x1
    (constant S_ .f32 0x45800000#32))) (broadcastInDim S8320x1 ![] bcast_S_S8320x1 (constant S_ .f32
    0x358637BD#32)))))) (broadcastInDim S8320x4096 ![0, 1] bcast_S1x4096_S8320x4096_0_1 (broadcastInDim
    S1x4096 ![1] bcast_S4096_S1x4096_1 (shapeCast _ (extractStridedSlice S1x4096 ![1, 0] X1
    slices_S4x4096_S1x4096_1_0) shapeCasts_S1x4096_S4096)))) bitsLt_bf16_f32

end Cert.NormRefIdeal.Value

namespace Cert.NormIdeal.Value

open Cert.NormIdeal Cert.NormIdeal.Gen
open Cert.NormRefIdeal.Value (REF)

variable (m : (ℓ : Loc nD τ sig) → Buf (Elt Ideal) ℓ)

/-- Where each window's block starts at a grid point, for every point of the grid. -/
theorem idx : ∀ t : Fin cfg0.N,
    win0_0.index t = ![t.val, 0] ∧ win0_1.index t = ![0, 0]
      ∧ win0_2.index t = ![t.val, 0] :=
  (by decide +kernel : ∀ t : Fin grid0.N, _)

/-- The element that a grid point stores is the reference's element at that place of the result. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The whole result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

end
-- ==== Proof.lean ====
/- The certificate: every program's frame, the idealizations, and for each kernel its value against its reference. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.ProjValue
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesRefIdeal
public import proofs.«01_k».proof.Proof.Gen.GatesRefIdeal.Run
public import proofs.«01_k».proof.Proof.GatesValue
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.UpValue
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Run
public import proofs.«01_k».proof.Proof.DownValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.OutValue
public import proofs.«01_k».proof.Proof.Gen.Q
public import proofs.«01_k».proof.Proof.Gen.Q.Frame
public import proofs.«01_k».proof.Proof.Gen.QIdeal
public import proofs.«01_k».proof.Proof.Gen.QIdeal.Frame
public import proofs.«01_k».proof.Proof.Gen.QRefIdeal
public import proofs.«01_k».proof.Proof.Gen.QRefIdeal.Run
public import proofs.«01_k».proof.Proof.QValue
public import proofs.«01_k».proof.Proof.Gen.Yp
public import proofs.«01_k».proof.Proof.Gen.Yp.Frame
public import proofs.«01_k».proof.Proof.Gen.YpIdeal
public import proofs.«01_k».proof.Proof.Gen.YpIdeal.Frame
public import proofs.«01_k».proof.Proof.Gen.YpRefIdeal
public import proofs.«01_k».proof.Proof.Gen.YpRefIdeal.Run
public import proofs.«01_k».proof.Proof.YpValue
public import proofs.«01_k».proof.Proof.Gen.Ys
public import proofs.«01_k».proof.Proof.Gen.Ys.Frame
public import proofs.«01_k».proof.Proof.Gen.YsIdeal
public import proofs.«01_k».proof.Proof.Gen.YsIdeal.Frame
public import proofs.«01_k».proof.Proof.Gen.YsRefIdeal
public import proofs.«01_k».proof.Proof.Gen.YsRefIdeal.Run
public import proofs.«01_k».proof.Proof.YsValue
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.AttnPre
public import proofs.«01_k».proof.Proof.AttnValue
public import proofs.«01_k».proof.Proof.Gen.Small
public import proofs.«01_k».proof.Proof.Gen.Small.Frame
public import proofs.«01_k».proof.Proof.Gen.SmallIdeal
public import proofs.«01_k».proof.Proof.Gen.SmallIdeal.Frame
public import proofs.«01_k».proof.Proof.Gen.SmallRefIdeal
public import proofs.«01_k».proof.Proof.Gen.SmallRefIdeal.Run
public import proofs.«01_k».proof.Proof.SmallValue
public import proofs.«01_k».proof.Proof.Gen.Ql
public import proofs.«01_k».proof.Proof.Gen.Ql.Frame
public import proofs.«01_k».proof.Proof.Gen.QlIdeal
public import proofs.«01_k».proof.Proof.Gen.QlIdeal.Frame
public import proofs.«01_k».proof.Proof.Gen.QlRefIdeal
public import proofs.«01_k».proof.Proof.Gen.QlRefIdeal.Run
public import proofs.«01_k».proof.Proof.QlValue
public import proofs.«01_k».proof.Proof.Gen.Vup
public import proofs.«01_k».proof.Proof.Gen.Vup.Frame
public import proofs.«01_k».proof.Proof.Gen.VupIdeal
public import proofs.«01_k».proof.Proof.Gen.VupIdeal.Frame
public import proofs.«01_k».proof.Proof.Gen.VupRefIdeal
public import proofs.«01_k».proof.Proof.Gen.VupRefIdeal.Run
public import proofs.«01_k».proof.Proof.VupValue
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaRefIdeal
public import proofs.«01_k».proof.Proof.Gen.MlaRefIdeal.Run
public import proofs.«01_k».proof.Proof.MlaValue
public import proofs.«01_k».proof.Proof.Gen.Scp
public import proofs.«01_k».proof.Proof.Gen.Scp.Frame
public import proofs.«01_k».proof.Proof.Gen.ScpIdeal
public import proofs.«01_k».proof.Proof.Gen.ScpIdeal.Frame
public import proofs.«01_k».proof.Proof.Gen.ScpRefIdeal
public import proofs.«01_k».proof.Proof.Gen.ScpRefIdeal.Run
public import proofs.«01_k».proof.Proof.ScpValue
public import proofs.«01_k».proof.Proof.Gen.Scs
public import proofs.«01_k».proof.Proof.Gen.Scs.Frame
public import proofs.«01_k».proof.Proof.Gen.ScsIdeal
public import proofs.«01_k».proof.Proof.Gen.ScsIdeal.Frame
public import proofs.«01_k».proof.Proof.Gen.ScsRefIdeal
public import proofs.«01_k».proof.Proof.Gen.ScsRefIdeal.Run
public import proofs.«01_k».proof.Proof.ScsValue
public import proofs.«01_k».proof.Proof.Gen.Cvp
public import proofs.«01_k».proof.Proof.Gen.Cvp.Frame
public import proofs.«01_k».proof.Proof.Gen.CvpIdeal
public import proofs.«01_k».proof.Proof.Gen.CvpIdeal.Frame
public import proofs.«01_k».proof.Proof.Gen.CvpRefIdeal
public import proofs.«01_k».proof.Proof.Gen.CvpRefIdeal.Run
public import proofs.«01_k».proof.Proof.CvpValue
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.PreRefIdeal
public import proofs.«01_k».proof.Proof.Gen.PreRefIdeal.Run
public import proofs.«01_k».proof.Proof.PreValue
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepRefIdeal
public import proofs.«01_k».proof.Proof.Gen.StepRefIdeal.Run
public import proofs.«01_k».proof.Proof.StepValue
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.PostValue
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.NormValue
public import Idealize.ShloMosaic.Lib.Claim

@[expose] public section

set_option maxRecDepth 16384

open Idealize.ShloMosaic Idealize.ShloMosaic.TcCoe Idealize.SL.Sem

namespace Cert.Proof

/-- The host program of `Reference` runs and leaves its arguments as they were. -/
theorem frame_Reference : Cert.quiescent_ReferenceIdeal := by
  intro m g _
  exact (θ_run _ _ _).mono (fun r h => ⟨fun c => (h c).2, sem_eq_zero_of_no_sems (by decide) r.2⟩)
    (Cert.ReferenceIdeal.Value.run m g)

/-- `Kernel` and its reference leave the same result over the extended reals. -/
theorem value_Kernel : Cert.algebraic_KernelIdeal_ReferenceIdeal := by
  pair_intro
  · run_from Cert.KernelIdeal.Gen.run_main m g
  · run_from Cert.ReferenceIdeal.Value.run m' g'
    exact (Cert.KernelIdeal.Value.final m c).symm

/-- The host program of `GatesRef` runs and leaves its arguments as they were. -/
theorem frame_GatesRef : Cert.quiescent_GatesRefIdeal := by
  intro m g _
  exact (θ_run _ _ _).mono (fun r h => ⟨fun c => (h c).2, sem_eq_zero_of_no_sems (by decide) r.2⟩)
    (Cert.GatesRefIdeal.Value.run m g)

/-- `Gates` and its reference leave the same result over the extended reals. -/
theorem value_Gates : Cert.algebraic_GatesIdeal_GatesRefIdeal := by
  pair_intro
  · run_from Cert.GatesIdeal.Gen.run_main m g
  · run_from Cert.GatesRefIdeal.Value.run m' g'
    exact (Cert.GatesIdeal.Value.final m c).symm

/-- The host program of `UpRef` runs and leaves its arguments as they were. -/
theorem frame_UpRef : Cert.quiescent_UpRefIdeal := by
  intro m g _
  exact (θ_run _ _ _).mono (fun r h => ⟨fun c => (h c).2, sem_eq_zero_of_no_sems (by decide) r.2⟩)
    (Cert.UpRefIdeal.Value.run m g)

/-- `Up` and its reference leave the same result over the extended reals. -/
theorem value_Up : Cert.algebraic_UpIdeal_UpRefIdeal := by
  pair_intro
  · run_from Cert.UpIdeal.Gen.run_main m g
  · run_from Cert.UpRefIdeal.Value.run m' g'
    exact (Cert.UpIdeal.Value.final m c).symm

/-- The host program of `DownRef` runs and leaves its arguments as they were. -/
theorem frame_DownRef : Cert.quiescent_DownRefIdeal := by
  intro m g _
  exact (θ_run _ _ _).mono (fun r h => ⟨fun c => (h c).2, sem_eq_zero_of_no_sems (by decide) r.2⟩)
    (Cert.DownRefIdeal.Value.run m g)

/-- `Down` and its reference leave the same result over the extended reals. -/
theorem value_Down : Cert.algebraic_DownIdeal_DownRefIdeal := by
  pair_intro
  · run_from Cert.DownIdeal.Gen.run_main m g
  · run_from Cert.DownRefIdeal.Value.run m' g'
    exact (Cert.DownIdeal.Value.final m c).symm

/-- The host program of `MergeRef` runs and leaves its arguments as they were. -/
theorem frame_MergeRef : Cert.quiescent_MergeRefIdeal := by
  intro m g _
  exact (θ_run _ _ _).mono (fun r h => ⟨fun c => (h c).2, sem_eq_zero_of_no_sems (by decide) r.2⟩)
    (Cert.MergeRefIdeal.Value.run m g)

/-- `Merge` and its reference leave the same result over the extended reals. -/
theorem value_Merge : Cert.algebraic_MergeIdeal_MergeRefIdeal := by
  pair_intro
  · run_from Cert.MergeIdeal.Gen.run_main m g
  · run_from Cert.MergeRefIdeal.Value.run m' g'
    exact (Cert.MergeIdeal.Value.final m c).symm

/-- The host program of `OutRef` runs and leaves its arguments as they were. -/
theorem frame_OutRef : Cert.quiescent_OutRefIdeal := by
  intro m g _
  exact (θ_run _ _ _).mono (fun r h => ⟨fun c => (h c).2, sem_eq_zero_of_no_sems (by decide) r.2⟩)
    (Cert.OutRefIdeal.Value.run m g)

/-- `Out` and its reference leave the same result over the extended reals. -/
theorem value_Out : Cert.algebraic_OutIdeal_OutRefIdeal := by
  pair_intro
  · run_from Cert.OutIdeal.Gen.run_main m g
  · run_from Cert.OutRefIdeal.Value.run m' g'
    exact (Cert.OutIdeal.Value.final m c).symm

/-- The host program of `QRef` runs and leaves its arguments as they were. -/
theorem frame_QRef : Cert.quiescent_QRefIdeal := by
  intro m g _
  exact (θ_run _ _ _).mono (fun r h => ⟨fun c => (h c).2, sem_eq_zero_of_no_sems (by decide) r.2⟩)
    (Cert.QRefIdeal.Value.run m g)

/-- `Q` and its reference leave the same result over the extended reals. -/
theorem value_Q : Cert.algebraic_QIdeal_QRefIdeal := by
  pair_intro
  · run_from Cert.QIdeal.Gen.run_main m g
  · run_from Cert.QRefIdeal.Value.run m' g'
    exact (Cert.QIdeal.Value.final m c).symm

/-- The host program of `YpRef` runs and leaves its arguments as they were. -/
theorem frame_YpRef : Cert.quiescent_YpRefIdeal := by
  intro m g _
  exact (θ_run _ _ _).mono (fun r h => ⟨fun c => (h c).2, sem_eq_zero_of_no_sems (by decide) r.2⟩)
    (Cert.YpRefIdeal.Value.run m g)

/-- `Yp` and its reference leave the same result over the extended reals. -/
theorem value_Yp : Cert.algebraic_YpIdeal_YpRefIdeal := by
  pair_intro
  · run_from Cert.YpIdeal.Gen.run_main m g
  · run_from Cert.YpRefIdeal.Value.run m' g'
    exact (Cert.YpIdeal.Value.final m c).symm

/-- The host program of `YsRef` runs and leaves its arguments as they were. -/
theorem frame_YsRef : Cert.quiescent_YsRefIdeal := by
  intro m g _
  exact (θ_run _ _ _).mono (fun r h => ⟨fun c => (h c).2, sem_eq_zero_of_no_sems (by decide) r.2⟩)
    (Cert.YsRefIdeal.Value.run m g)

/-- `Ys` and its reference leave the same result over the extended reals. -/
theorem value_Ys : Cert.algebraic_YsIdeal_YsRefIdeal := by
  pair_intro
  · run_from Cert.YsIdeal.Gen.run_main m g
  · run_from Cert.YsRefIdeal.Value.run m' g'
    exact (Cert.YsIdeal.Value.final m c).symm

/-- The host program of `AttnRef` runs and leaves its arguments as they were. -/
theorem frame_AttnRef : Cert.quiescent_AttnRefIdeal := by
  intro m g _
  exact (θ_run _ _ _).mono (fun r h => ⟨fun c => (h c).2, sem_eq_zero_of_no_sems (by decide) r.2⟩)
    (Cert.AttnRefIdeal.Value.run m g)

/-- The scale's name has the value that its format rounds to the literal. -/
theorem preserves_Attn : Cert.preserves_Attn_AttnIdeal :=
  IdealRules.named_const.statement Cert.AttnIdeal.κ "scale_log2e" .f32 0x3DD53B95#32 (((Real.sqrt 192)⁻¹ * (Real.log 2)⁻¹ : ℝ) : EReal) rfl

/-- `Attn` and its reference leave the same result over the extended reals, from finite arrays. -/
theorem value_Attn : Cert.algebraic_AttnIdeal_AttnRefIdeal_pre_attn_finite (hPre_attn_finite := Cert.AttnPre.facts) := by
  pair_intro
  · run_from Cert.AttnIdeal.Gen.run_main m g
  · run_from Cert.AttnRefIdeal.Value.run m' g'
    haveI := Cert.AttnPre.facts
    obtain ⟨a0, a1, a2, a3, a4⟩ := hagree c
    refine (show Cert.AttnRefIdeal.Value.res_main_v43 m' c = Cert.AttnRefIdeal.Value.REF (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) from rfl).trans ?_
    rw [a0, a1, a2, a3, a4]
    exact (Cert.AttnIdeal.Value.final m c (Cert.AttnPre.finite _ _ _ _ _ (hpre c))).symm

theorem pf_Attn : Cert.quiescent_AttnIdeal_pre_attn_finite (hPre_attn_finite := Cert.AttnPre.facts) :=
  fun m ρ _ => Cert.AttnIdeal.Gen.frame m ρ

theorem pf_AttnRef : Cert.quiescent_AttnRefIdeal_pre_attn_finite (hPre_attn_finite := Cert.AttnPre.facts) :=
  fun m ρ _ => frame_AttnRef m ρ trivial

/-- The host program of `SmallRef` runs and leaves its arguments as they were. -/
theorem frame_SmallRef : Cert.quiescent_SmallRefIdeal := by
  intro m g _
  exact (θ_run _ _ _).mono (fun r h => ⟨fun c => (h c).2, sem_eq_zero_of_no_sems (by decide) r.2⟩)
    (Cert.SmallRefIdeal.Value.run m g)

/-- `Small` and its reference leave the same result over the extended reals. -/
theorem value_Small : Cert.algebraic_SmallIdeal_SmallRefIdeal := by
  pair_intro
  · run_from Cert.SmallIdeal.Gen.run_main m g
  · run_from Cert.SmallRefIdeal.Value.run m' g'
    exact (Cert.SmallIdeal.Value.final m c).symm

/-- The host program of `QlRef` runs and leaves its arguments as they were. -/
theorem frame_QlRef : Cert.quiescent_QlRefIdeal := by
  intro m g _
  exact (θ_run _ _ _).mono (fun r h => ⟨fun c => (h c).2, sem_eq_zero_of_no_sems (by decide) r.2⟩)
    (Cert.QlRefIdeal.Value.run m g)

/-- `Ql` and its reference leave the same result over the extended reals. -/
theorem value_Ql : Cert.algebraic_QlIdeal_QlRefIdeal := by
  pair_intro
  · run_from Cert.QlIdeal.Gen.run_main m g
  · run_from Cert.QlRefIdeal.Value.run m' g'
    exact (Cert.QlIdeal.Value.final m c).symm

/-- The host program of `VupRef` runs and leaves its arguments as they were. -/
theorem frame_VupRef : Cert.quiescent_VupRefIdeal := by
  intro m g _
  exact (θ_run _ _ _).mono (fun r h => ⟨fun c => (h c).2, sem_eq_zero_of_no_sems (by decide) r.2⟩)
    (Cert.VupRefIdeal.Value.run m g)

/-- `Vup` and its reference leave the same result over the extended reals. -/
theorem value_Vup : Cert.algebraic_VupIdeal_VupRefIdeal := by
  pair_intro
  · run_from Cert.VupIdeal.Gen.run_main m g
  · run_from Cert.VupRefIdeal.Value.run m' g'
    exact (Cert.VupIdeal.Value.final m c).symm

/-- The host program of `MlaRef` runs and leaves its arguments as they were. -/
theorem frame_MlaRef : Cert.quiescent_MlaRefIdeal := by
  intro m g _
  exact (θ_run _ _ _).mono (fun r h => ⟨fun c => (h c).2.2.2.2.2, sem_eq_zero_of_no_sems (by decide) r.2⟩)
    (Cert.MlaRefIdeal.Value.run m g)

set_option maxHeartbeats 2000000 in
/-- `Mla` and its reference leave the same results over the extended reals. -/
theorem value_Mla : Cert.algebraic_MlaIdeal_MlaRefIdeal := by
  pair_intro
  · run_from Cert.MlaIdeal.Gen.run_main m g
  · run_from Cert.MlaRefIdeal.Value.run m' g'
    · exact (Cert.MlaIdeal.Value.final0 m c).symm
    · exact (Cert.MlaIdeal.Value.final1 m c).symm
    · exact (Cert.MlaIdeal.Value.final2 m c).symm
    · obtain ⟨a0, a1, a2⟩ := hagree c
      refine (show Cert.MlaRefIdeal.Value.res_main_v100 m' c = Cert.MlaRefIdeal.Value.REF3 (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) from rfl).trans ?_
      rw [a0, a1, a2]
      exact (Cert.MlaIdeal.Value.final3 m c).symm
    · obtain ⟨a0, a1, a2⟩ := hagree c
      refine (show Cert.MlaRefIdeal.Value.res_main_v103 m' c = Cert.MlaRefIdeal.Value.REF4 (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) from rfl).trans ?_
      rw [a0, a1, a2]
      exact (Cert.MlaIdeal.Value.final4 m c).symm

/-- The host program of `ScpRef` runs and leaves its arguments as they were. -/
theorem frame_ScpRef : Cert.quiescent_ScpRefIdeal := by
  intro m g _
  exact (θ_run _ _ _).mono (fun r h => ⟨fun c => (h c).2.2, sem_eq_zero_of_no_sems (by decide) r.2⟩)
    (Cert.ScpRefIdeal.Value.run m g)

/-- `Scp` and its reference leave the same results over the extended reals. -/
theorem value_Scp : Cert.algebraic_ScpIdeal_ScpRefIdeal := by
  pair_intro
  · run_from Cert.ScpIdeal.Gen.run_main m g
  · run_from Cert.ScpRefIdeal.Value.run m' g'
    · obtain ⟨a0, a1, a2⟩ := hagree c
      refine (show Cert.ScpRefIdeal.Value.res_main_v37 m' c = Cert.ScpRefIdeal.Value.REF0 (m' ((c.tc : Thread Cert.ScpRefIdeal.nD Cert.ScpRefIdeal.τ).loc Cert.ScpRefIdeal.main_arg0)) (m' ((c.tc : Thread Cert.ScpRefIdeal.nD Cert.ScpRefIdeal.τ).loc Cert.ScpRefIdeal.main_arg1)) (m' ((c.tc : Thread Cert.ScpRefIdeal.nD Cert.ScpRefIdeal.τ).loc Cert.ScpRefIdeal.main_arg2)) from rfl).trans ?_
      rw [a0, a1, a2]
      exact (Cert.ScpIdeal.Value.final0 m c).symm
    · exact (Cert.ScpIdeal.Value.final1 m c).symm

/-- The host program of `ScsRef` runs and leaves its arguments as they were. -/
theorem frame_ScsRef : Cert.quiescent_ScsRefIdeal := by
  intro m g _
  exact (θ_run _ _ _).mono (fun r h => ⟨fun c => (h c).2.2, sem_eq_zero_of_no_sems (by decide) r.2⟩)
    (Cert.ScsRefIdeal.Value.run m g)

/-- `Scs` and its reference leave the same results over the extended reals. -/
theorem value_Scs : Cert.algebraic_ScsIdeal_ScsRefIdeal := by
  pair_intro
  · run_from Cert.ScsIdeal.Gen.run_main m g
  · run_from Cert.ScsRefIdeal.Value.run m' g'
    · obtain ⟨a0, a1, a2, a3⟩ := hagree c
      refine (show Cert.ScsRefIdeal.Value.res_main_v38 m' c = Cert.ScsRefIdeal.Value.REF0 (m' ((c.tc : Thread Cert.ScsRefIdeal.nD Cert.ScsRefIdeal.τ).loc Cert.ScsRefIdeal.main_arg0)) (m' ((c.tc : Thread Cert.ScsRefIdeal.nD Cert.ScsRefIdeal.τ).loc Cert.ScsRefIdeal.main_arg1)) (m' ((c.tc : Thread Cert.ScsRefIdeal.nD Cert.ScsRefIdeal.τ).loc Cert.ScsRefIdeal.main_arg2)) (m' ((c.tc : Thread Cert.ScsRefIdeal.nD Cert.ScsRefIdeal.τ).loc Cert.ScsRefIdeal.main_arg3)) from rfl).trans ?_
      rw [a0, a1, a2, a3]
      exact (Cert.ScsIdeal.Value.final0 m c).symm
    · exact (Cert.ScsIdeal.Value.final1 m c).symm

/-- The host program of `CvpRef` runs and leaves its arguments as they were. -/
theorem frame_CvpRef : Cert.quiescent_CvpRefIdeal := by
  intro m g _
  exact (θ_run _ _ _).mono (fun r h => ⟨fun c => (h c).2.2, sem_eq_zero_of_no_sems (by decide) r.2⟩)
    (Cert.CvpRefIdeal.Value.run m g)

/-- `Cvp` and its reference leave the same results over the extended reals. -/
theorem value_Cvp : Cert.algebraic_CvpIdeal_CvpRefIdeal := by
  pair_intro
  · run_from Cert.CvpIdeal.Gen.run_main m g
  · run_from Cert.CvpRefIdeal.Value.run m' g'
    · obtain ⟨a0, a1, a2⟩ := hagree c
      refine (show Cert.CvpRefIdeal.Value.res_main_v43 m' c = Cert.CvpRefIdeal.Value.REF0 (m' ((c.tc : Thread Cert.CvpRefIdeal.nD Cert.CvpRefIdeal.τ).loc Cert.CvpRefIdeal.main_arg0)) (m' ((c.tc : Thread Cert.CvpRefIdeal.nD Cert.CvpRefIdeal.τ).loc Cert.CvpRefIdeal.main_arg1)) (m' ((c.tc : Thread Cert.CvpRefIdeal.nD Cert.CvpRefIdeal.τ).loc Cert.CvpRefIdeal.main_arg2)) from rfl).trans ?_
      rw [a0, a1, a2]
      exact (Cert.CvpIdeal.Value.final0 m c).symm
    · exact (Cert.CvpIdeal.Value.final1 m c).symm

/-- The host program of `PreRef` runs and leaves its arguments as they were. -/
theorem frame_PreRef : Cert.quiescent_PreRefIdeal := by
  intro m g _
  exact (θ_run _ _ _).mono (fun r h => ⟨fun c => (h c).2.2.2.2, sem_eq_zero_of_no_sems (by decide) r.2⟩)
    (Cert.PreRefIdeal.Value.run m g)

set_option maxHeartbeats 2000000 in
/-- `Pre` and its reference leave the same results over the extended reals. -/
theorem value_Pre : Cert.algebraic_PreIdeal_PreRefIdeal := by
  pair_intro
  · run_from Cert.PreIdeal.Gen.run_main m g
  · run_from Cert.PreRefIdeal.Value.run m' g'
    · obtain ⟨a0, a1, a2, a3, a4, a5, a6⟩ := hagree c
      refine (show Cert.PreRefIdeal.Value.res_main_v44 m' c = Cert.PreRefIdeal.Value.REF0 (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2)) (m' ((c.tc : Thread Cert.PreRefIdeal.nD Cert.PreRefIdeal.τ).loc Cert.PreRefIdeal.main_arg3)) (m' ((c.tc : Thread Cert.PreRefIdeal.nD Cert.PreRefIdeal.τ).loc Cert.PreRefIdeal.main_arg4)) (m' ((c.tc : Thread Cert.PreRefIdeal.nD Cert.PreRefIdeal.τ).loc Cert.PreRefIdeal.main_arg5)) (m' ((c.tc : Thread Cert.PreRefIdeal.nD Cert.PreRefIdeal.τ).loc Cert.PreRefIdeal.main_arg6)) from rfl).trans ?_
      rw [a0, a1, a2, a3, a4, a5, a6]
      exact (Cert.PreIdeal.Value.final0 m c).symm
    · obtain ⟨a0, a1, a2, a3, a4, a5, a6⟩ := hagree c
      refine (show _ = Cert.PreRefIdeal.Value.REF1 (m ((c.tc : Thread Cert.PreIdeal.nD Cert.PreIdeal.τ).loc Cert.PreIdeal.main_arg0)) (m ((c.tc : Thread Cert.PreIdeal.nD Cert.PreIdeal.τ).loc Cert.PreIdeal.main_arg1)) (m' ((c.tc : Thread Cert.PreRefIdeal.nD Cert.PreRefIdeal.τ).loc Cert.PreRefIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6)) from rfl).trans ?_
      rw [a2]
      exact (Cert.PreIdeal.Value.final1 m c).symm
    · exact (Cert.PreIdeal.Value.final2 m c).symm
    · obtain ⟨a0, a1, a2, a3, a4, a5, a6⟩ := hagree c
      refine (show Cert.PreRefIdeal.Value.res_main_v71 m' c = Cert.PreRefIdeal.Value.REF3 (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2)) (m' ((c.tc : Thread Cert.PreRefIdeal.nD Cert.PreRefIdeal.τ).loc Cert.PreRefIdeal.main_arg3)) (m' ((c.tc : Thread Cert.PreRefIdeal.nD Cert.PreRefIdeal.τ).loc Cert.PreRefIdeal.main_arg4)) (m' ((c.tc : Thread Cert.PreRefIdeal.nD Cert.PreRefIdeal.τ).loc Cert.PreRefIdeal.main_arg5)) (m' ((c.tc : Thread Cert.PreRefIdeal.nD Cert.PreRefIdeal.τ).loc Cert.PreRefIdeal.main_arg6)) from rfl).trans ?_
      rw [a0, a1, a2, a3, a4, a5, a6]
      exact (Cert.PreIdeal.Value.final3 m c).symm

/-- The host program of `StepRef` runs and leaves its arguments as they were. -/
theorem frame_StepRef : Cert.quiescent_StepRefIdeal := by
  intro m g _
  exact (θ_run _ _ _).mono (fun r h => ⟨fun c => (h c).2.2, sem_eq_zero_of_no_sems (by decide) r.2⟩)
    (Cert.StepRefIdeal.Value.run m g)

/-- `Step` and its reference leave the same results over the extended reals. -/
theorem value_Step : Cert.algebraic_StepIdeal_StepRefIdeal := by
  pair_intro
  · run_from Cert.StepIdeal.Gen.run_main m g
  · run_from Cert.StepRefIdeal.Value.run m' g'
    · obtain ⟨a0, a1, a2, a3, a4⟩ := hagree c
      refine (show _ = Cert.StepRefIdeal.Value.REF0 (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m' ((c.tc : Thread Cert.StepRefIdeal.nD Cert.StepRefIdeal.τ).loc Cert.StepRefIdeal.main_arg4)) from rfl).trans ?_
      rw [a4]
      exact (Cert.StepIdeal.Value.final0 m c).symm
    · exact (Cert.StepIdeal.Value.final1 m c).symm

/-- The host program of `PostRef` runs and leaves its arguments as they were. -/
theorem frame_PostRef : Cert.quiescent_PostRefIdeal := by
  intro m g _
  exact (θ_run _ _ _).mono (fun r h => ⟨fun c => (h c).2, sem_eq_zero_of_no_sems (by decide) r.2⟩)
    (Cert.PostRefIdeal.Value.run m g)

/-- `Post` and its reference leave the same result over the extended reals. -/
theorem value_Post : Cert.algebraic_PostIdeal_PostRefIdeal := by
  pair_intro
  · run_from Cert.PostIdeal.Gen.run_main m g
  · run_from Cert.PostRefIdeal.Value.run m' g'
    obtain ⟨a0, a1, a2, a3, a4, a5⟩ := hagree c
    refine (show Cert.PostRefIdeal.Value.res_main_v34 m' c = Cert.PostRefIdeal.Value.REF (m' ((c.tc : Thread Cert.PostRefIdeal.nD Cert.PostRefIdeal.τ).loc Cert.PostRefIdeal.main_arg0)) (m' ((c.tc : Thread Cert.PostRefIdeal.nD Cert.PostRefIdeal.τ).loc Cert.PostRefIdeal.main_arg1)) (m' ((c.tc : Thread Cert.PostRefIdeal.nD Cert.PostRefIdeal.τ).loc Cert.PostRefIdeal.main_arg2)) (m' ((c.tc : Thread Cert.PostRefIdeal.nD Cert.PostRefIdeal.τ).loc Cert.PostRefIdeal.main_arg3)) (m' ((c.tc : Thread Cert.PostRefIdeal.nD Cert.PostRefIdeal.τ).loc Cert.PostRefIdeal.main_arg4)) (m' ((c.tc : Thread Cert.PostRefIdeal.nD Cert.PostRefIdeal.τ).loc Cert.PostRefIdeal.main_arg5)) from rfl).trans ?_
    rw [a0, a1, a2, a3, a4, a5]
    exact (Cert.PostIdeal.Value.final m c).symm

/-- The host program of `NormRef` runs and leaves its arguments as they were. -/
theorem frame_NormRef : Cert.quiescent_NormRefIdeal := by
  intro m g _
  exact (θ_run _ _ _).mono (fun r h => ⟨fun c => (h c).2, sem_eq_zero_of_no_sems (by decide) r.2⟩)
    (Cert.NormRefIdeal.Value.run m g)

/-- `Norm` and its reference leave the same result over the extended reals. -/
theorem value_Norm : Cert.algebraic_NormIdeal_NormRefIdeal := by
  pair_intro
  · run_from Cert.NormIdeal.Gen.run_main m g
  · run_from Cert.NormRefIdeal.Value.run m' g'
    exact (Cert.NormIdeal.Value.final m c).symm

theorem claim : Cert.Claim :=
  ⟨Cert.Kernel.Gen.facts,
   Cert.KernelIdeal.Gen.facts,
   Cert.ReferenceIdeal.Gen.facts,
   Cert.Gates.Gen.facts,
   Cert.GatesIdeal.Gen.facts,
   Cert.GatesRefIdeal.Gen.facts,
   Cert.Up.Gen.facts,
   Cert.UpIdeal.Gen.facts,
   Cert.UpRefIdeal.Gen.facts,
   Cert.Down.Gen.facts,
   Cert.DownIdeal.Gen.facts,
   Cert.DownRefIdeal.Gen.facts,
   Cert.Merge.Gen.facts,
   Cert.MergeIdeal.Gen.facts,
   Cert.MergeRefIdeal.Gen.facts,
   Cert.Out.Gen.facts,
   Cert.OutIdeal.Gen.facts,
   Cert.OutRefIdeal.Gen.facts,
   Cert.Q.Gen.facts,
   Cert.QIdeal.Gen.facts,
   Cert.QRefIdeal.Gen.facts,
   Cert.Yp.Gen.facts,
   Cert.YpIdeal.Gen.facts,
   Cert.YpRefIdeal.Gen.facts,
   Cert.Ys.Gen.facts,
   Cert.YsIdeal.Gen.facts,
   Cert.YsRefIdeal.Gen.facts,
   Cert.Attn.Gen.facts,
   Cert.AttnIdeal.Gen.facts,
   Cert.AttnRefIdeal.Gen.facts,
   Cert.Small.Gen.facts,
   Cert.SmallIdeal.Gen.facts,
   Cert.SmallRefIdeal.Gen.facts,
   Cert.Ql.Gen.facts,
   Cert.QlIdeal.Gen.facts,
   Cert.QlRefIdeal.Gen.facts,
   Cert.Vup.Gen.facts,
   Cert.VupIdeal.Gen.facts,
   Cert.VupRefIdeal.Gen.facts,
   Cert.Mla.Gen.facts,
   Cert.MlaIdeal.Gen.facts,
   Cert.MlaRefIdeal.Gen.facts,
   Cert.Scp.Gen.facts,
   Cert.ScpIdeal.Gen.facts,
   Cert.ScpRefIdeal.Gen.facts,
   Cert.Scs.Gen.facts,
   Cert.ScsIdeal.Gen.facts,
   Cert.ScsRefIdeal.Gen.facts,
   Cert.Cvp.Gen.facts,
   Cert.CvpIdeal.Gen.facts,
   Cert.CvpRefIdeal.Gen.facts,
   Cert.Pre.Gen.facts,
   Cert.PreIdeal.Gen.facts,
   Cert.PreRefIdeal.Gen.facts,
   Cert.Step.Gen.facts,
   Cert.StepIdeal.Gen.facts,
   Cert.StepRefIdeal.Gen.facts,
   Cert.Post.Gen.facts,
   Cert.PostIdeal.Gen.facts,
   Cert.PostRefIdeal.Gen.facts,
   Cert.Norm.Gen.facts,
   Cert.NormIdeal.Gen.facts,
   Cert.NormRefIdeal.Gen.facts,
   Cert.AttnPre.facts,
   fun m ρ _ => Cert.Kernel.Gen.frame m ρ,
   fun m ρ _ => Cert.KernelIdeal.Gen.frame m ρ,
   frame_Reference,
   fun m ρ _ => Cert.Gates.Gen.frame m ρ,
   fun m ρ _ => Cert.GatesIdeal.Gen.frame m ρ,
   frame_GatesRef,
   fun m ρ _ => Cert.Up.Gen.frame m ρ,
   fun m ρ _ => Cert.UpIdeal.Gen.frame m ρ,
   frame_UpRef,
   fun m ρ _ => Cert.Down.Gen.frame m ρ,
   fun m ρ _ => Cert.DownIdeal.Gen.frame m ρ,
   frame_DownRef,
   fun m ρ _ => Cert.Merge.Gen.frame m ρ,
   fun m ρ _ => Cert.MergeIdeal.Gen.frame m ρ,
   frame_MergeRef,
   fun m ρ _ => Cert.Out.Gen.frame m ρ,
   fun m ρ _ => Cert.OutIdeal.Gen.frame m ρ,
   frame_OutRef,
   fun m ρ _ => Cert.Q.Gen.frame m ρ,
   fun m ρ _ => Cert.QIdeal.Gen.frame m ρ,
   frame_QRef,
   fun m ρ _ => Cert.Yp.Gen.frame m ρ,
   fun m ρ _ => Cert.YpIdeal.Gen.frame m ρ,
   frame_YpRef,
   fun m ρ _ => Cert.Ys.Gen.frame m ρ,
   fun m ρ _ => Cert.YsIdeal.Gen.frame m ρ,
   frame_YsRef,
   fun m ρ _ => Cert.Attn.Gen.frame m ρ,
   fun m ρ _ => Cert.AttnIdeal.Gen.frame m ρ,
   pf_Attn,
   frame_AttnRef,
   pf_AttnRef,
   fun m ρ _ => Cert.Small.Gen.frame m ρ,
   fun m ρ _ => Cert.SmallIdeal.Gen.frame m ρ,
   frame_SmallRef,
   fun m ρ _ => Cert.Ql.Gen.frame m ρ,
   fun m ρ _ => Cert.QlIdeal.Gen.frame m ρ,
   frame_QlRef,
   fun m ρ _ => Cert.Vup.Gen.frame m ρ,
   fun m ρ _ => Cert.VupIdeal.Gen.frame m ρ,
   frame_VupRef,
   fun m ρ _ => Cert.Mla.Gen.frame m ρ,
   fun m ρ _ => Cert.MlaIdeal.Gen.frame m ρ,
   frame_MlaRef,
   fun m ρ _ => Cert.Scp.Gen.frame m ρ,
   fun m ρ _ => Cert.ScpIdeal.Gen.frame m ρ,
   frame_ScpRef,
   fun m ρ _ => Cert.Scs.Gen.frame m ρ,
   fun m ρ _ => Cert.ScsIdeal.Gen.frame m ρ,
   frame_ScsRef,
   fun m ρ _ => Cert.Cvp.Gen.frame m ρ,
   fun m ρ _ => Cert.CvpIdeal.Gen.frame m ρ,
   frame_CvpRef,
   fun m ρ _ => Cert.Pre.Gen.frame m ρ,
   fun m ρ _ => Cert.PreIdeal.Gen.frame m ρ,
   frame_PreRef,
   fun m ρ _ => Cert.Step.Gen.frame m ρ,
   fun m ρ _ => Cert.StepIdeal.Gen.frame m ρ,
   frame_StepRef,
   fun m ρ _ => Cert.Post.Gen.frame m ρ,
   fun m ρ _ => Cert.PostIdeal.Gen.frame m ρ,
   frame_PostRef,
   fun m ρ _ => Cert.Norm.Gen.frame m ρ,
   fun m ρ _ => Cert.NormIdeal.Gen.frame m ρ,
   frame_NormRef,
   trivial,
   value_Kernel,
   trivial,
   value_Gates,
   trivial,
   value_Up,
   trivial,
   value_Down,
   trivial,
   value_Merge,
   trivial,
   value_Out,
   trivial,
   value_Q,
   trivial,
   value_Yp,
   trivial,
   value_Ys,
   preserves_Attn,
   value_Attn,
   trivial,
   value_Small,
   trivial,
   value_Ql,
   trivial,
   value_Vup,
   trivial,
   value_Mla,
   trivial,
   value_Scp,
   trivial,
   value_Scs,
   trivial,
   value_Cvp,
   trivial,
   value_Pre,
   trivial,
   value_Step,
   trivial,
   value_Post,
   trivial,
   value_Norm⟩

end Cert.Proof

end
